-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_RefProjBIdeal (m : (ℓ : Loc Cert.RefProjBIdeal.nD Cert.RefProjBIdeal.τ Cert.RefProjBIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_RefMergeIdeal (m : (ℓ : Loc Cert.RefMergeIdeal.nD Cert.RefMergeIdeal.τ Cert.RefMergeIdeal.sig) → Buf (Elt Ideal) ℓ) : Prop :=
  True

def Pre_Misc (m : (ℓ : Loc Cert.Misc.nD Cert.Misc.τ Cert.Misc.sig) → Buf (Elt Bits) ℓ) : Prop :=
  True

def Pre_MiscIdeal (m : (ℓ : Loc Cert.MiscIdeal.nD Cert.MiscIdeal.τ Cert.MiscIdeal.sig) → Buf (Elt Ideal) ℓ) : Prop :=
  True

def Pre_MiscIdeal_finite_rows [hPre_finite_rows : Cert.Pre_finite_rows.Facts] (m : (ℓ : Loc Cert.MiscIdeal.nD Cert.MiscIdeal.τ Cert.MiscIdeal.sig) → Buf (Elt Ideal) ℓ) : Prop :=
  ∀ c : Dev Cert.MiscIdeal.nD,
    (Cert.Pre_finite_rows.fn (F := Ideal) (m ((c.tc : Thread Cert.MiscIdeal.nD Cert.MiscIdeal.τ).loc Cert.MiscIdeal.main_arg0)) (m ((c.tc : Thread Cert.MiscIdeal.nD Cert.MiscIdeal.τ).loc Cert.MiscIdeal.main_arg1))) = (fun _ => 1#1)

def Pre_RefMiscIdeal (m : (ℓ : Loc Cert.RefMiscIdeal.nD Cert.RefMiscIdeal.τ Cert.RefMiscIdeal.sig) → Buf (Elt Ideal) ℓ) : Prop :=
  True

def Pre_RefMiscIdeal_finite_rows [hPre_finite_rows : Cert.Pre_finite_rows.Facts] (m : (ℓ : Loc Cert.RefMiscIdeal.nD Cert.RefMiscIdeal.τ Cert.RefMiscIdeal.sig) → Buf (Elt Ideal) ℓ) : Prop :=
  ∀ c : Dev Cert.RefMiscIdeal.nD,
    (Cert.Pre_finite_rows.fn (F := Ideal) (m ((c.tc : Thread Cert.RefMiscIdeal.nD Cert.RefMiscIdeal.τ).loc Cert.RefMiscIdeal.main_arg0)) (m ((c.tc : Thread Cert.RefMiscIdeal.nD Cert.RefMiscIdeal.τ).loc Cert.RefMiscIdeal.main_arg1))) = (fun _ => 1#1)

def Pre_MiscB (m : (ℓ : Loc Cert.MiscB.nD Cert.MiscB.τ Cert.MiscB.sig) → Buf (Elt Bits) ℓ) : Prop :=
  True

def Pre_MiscBIdeal (m : (ℓ : Loc Cert.MiscBIdeal.nD Cert.MiscBIdeal.τ Cert.MiscBIdeal.sig) → Buf (Elt Ideal) ℓ) : Prop :=
  True

def Pre_MiscBIdeal_finite_rows1 [hPre_finite_rows1 : Cert.Pre_finite_rows1.Facts] (m : (ℓ : Loc Cert.MiscBIdeal.nD Cert.MiscBIdeal.τ Cert.MiscBIdeal.sig) → Buf (Elt Ideal) ℓ) : Prop :=
  ∀ c : Dev Cert.MiscBIdeal.nD,
    (Cert.Pre_finite_rows1.fn (F := Ideal) (m ((c.tc : Thread Cert.MiscBIdeal.nD Cert.MiscBIdeal.τ).loc Cert.MiscBIdeal.main_arg0)) (m ((c.tc : Thread Cert.MiscBIdeal.nD Cert.MiscBIdeal.τ).loc Cert.MiscBIdeal.main_arg1)) (m ((c.tc : Thread Cert.MiscBIdeal.nD Cert.MiscBIdeal.τ).loc Cert.MiscBIdeal.main_arg2))) = (fun _ => 1#1)

def Pre_RefMiscBIdeal (m : (ℓ : Loc Cert.RefMiscBIdeal.nD Cert.RefMiscBIdeal.τ Cert.RefMiscBIdeal.sig) → Buf (Elt Ideal) ℓ) : Prop :=
  True

def Pre_RefMiscBIdeal_finite_rows1 [hPre_finite_rows1 : Cert.Pre_finite_rows1.Facts] (m : (ℓ : Loc Cert.RefMiscBIdeal.nD Cert.RefMiscBIdeal.τ Cert.RefMiscBIdeal.sig) → Buf (Elt Ideal) ℓ) : Prop :=
  ∀ c : Dev Cert.RefMiscBIdeal.nD,
    (Cert.Pre_finite_rows1.fn (F := Ideal) (m ((c.tc : Thread Cert.RefMiscBIdeal.nD Cert.RefMiscBIdeal.τ).loc Cert.RefMiscBIdeal.main_arg0)) (m ((c.tc : Thread Cert.RefMiscBIdeal.nD Cert.RefMiscBIdeal.τ).loc Cert.RefMiscBIdeal.main_arg1)) (m ((c.tc : Thread Cert.RefMiscBIdeal.nD Cert.RefMiscBIdeal.τ).loc Cert.RefMiscBIdeal.main_arg2))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RefRopeIdeal (m : (ℓ : Loc Cert.RefRopeIdeal.nD Cert.RefRopeIdeal.τ Cert.RefRopeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ r.2.sem = fun _ => 0)

def quiescent_RefProjBIdeal [hRefProjBIdeal : Cert.RefProjBIdeal.Facts] : Prop :=
  ∀ (m : (ℓ : Loc Cert.RefProjBIdeal.nD Cert.RefProjBIdeal.τ Cert.RefProjBIdeal.sig) → Buf (Elt Ideal) ℓ) (g : Dev Cert.RefProjBIdeal.nD → PrngReg), Pre_RefProjBIdeal m →
    θ_run (Cert.RefProjBIdeal.defs (F := Ideal)) (onTc (τ := Cert.RefProjBIdeal.τ) (Cert.RefProjBIdeal.main (F := Ideal))) ⟨m, fun _ => 0, g⟩ (fun r => (∀ c : Dev Cert.RefProjBIdeal.nD,
      r.2.mem ((c.tc : Thread Cert.RefProjBIdeal.nD Cert.RefProjBIdeal.τ).loc Cert.RefProjBIdeal.main_arg0) = m ((c.tc : Thread Cert.RefProjBIdeal.nD Cert.RefProjBIdeal.τ).loc Cert.RefProjBIdeal.main_arg0)
      ∧ r.2.mem ((c.tc : Thread Cert.RefProjBIdeal.nD Cert.RefProjBIdeal.τ).loc Cert.RefProjBIdeal.main_arg1) = m ((c.tc : Thread Cert.RefProjBIdeal.nD Cert.RefProjBIdeal.τ).loc Cert.RefProjBIdeal.main_arg1)
      ∧ r.2.mem ((c.tc : Thread Cert.RefProjBIdeal.nD Cert.RefProjBIdeal.τ).loc Cert.RefProjBIdeal.main_arg2) = m ((c.tc : Thread Cert.RefProjBIdeal.nD Cert.RefProjBIdeal.τ).loc Cert.RefProjBIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_RefMergeIdeal [hRefMergeIdeal : Cert.RefMergeIdeal.Facts] : Prop :=
  ∀ (m : (ℓ : Loc Cert.RefMergeIdeal.nD Cert.RefMergeIdeal.τ Cert.RefMergeIdeal.sig) → Buf (Elt Ideal) ℓ) (g : Dev Cert.RefMergeIdeal.nD → PrngReg), Pre_RefMergeIdeal m →
    θ_run (Cert.RefMergeIdeal.defs (F := Ideal)) (onTc (τ := Cert.RefMergeIdeal.τ) (Cert.RefMergeIdeal.main (F := Ideal))) ⟨m, fun _ => 0, g⟩ (fun r => (∀ c : Dev Cert.RefMergeIdeal.nD,
      r.2.mem ((c.tc : Thread Cert.RefMergeIdeal.nD Cert.RefMergeIdeal.τ).loc Cert.RefMergeIdeal.main_arg0) = m ((c.tc : Thread Cert.RefMergeIdeal.nD Cert.RefMergeIdeal.τ).loc Cert.RefMergeIdeal.main_arg0)
      ∧ r.2.mem ((c.tc : Thread Cert.RefMergeIdeal.nD Cert.RefMergeIdeal.τ).loc Cert.RefMergeIdeal.main_arg1) = m ((c.tc : Thread Cert.RefMergeIdeal.nD Cert.RefMergeIdeal.τ).loc Cert.RefMergeIdeal.main_arg1)
      ∧ r.2.mem ((c.tc : Thread Cert.RefMergeIdeal.nD Cert.RefMergeIdeal.τ).loc Cert.RefMergeIdeal.main_arg2) = m ((c.tc : Thread Cert.RefMergeIdeal.nD Cert.RefMergeIdeal.τ).loc Cert.RefMergeIdeal.main_arg2)
      ∧ r.2.mem ((c.tc : Thread Cert.RefMergeIdeal.nD Cert.RefMergeIdeal.τ).loc Cert.RefMergeIdeal.main_arg3) = m ((c.tc : Thread Cert.RefMergeIdeal.nD Cert.RefMergeIdeal.τ).loc Cert.RefMergeIdeal.main_arg3)
      ∧ r.2.mem ((c.tc : Thread Cert.RefMergeIdeal.nD Cert.RefMergeIdeal.τ).loc Cert.RefMergeIdeal.main_arg4) = m ((c.tc : Thread Cert.RefMergeIdeal.nD Cert.RefMergeIdeal.τ).loc Cert.RefMergeIdeal.main_arg4)
      ∧ r.2.mem ((c.tc : Thread Cert.RefMergeIdeal.nD Cert.RefMergeIdeal.τ).loc Cert.RefMergeIdeal.main_arg5) = m ((c.tc : Thread Cert.RefMergeIdeal.nD Cert.RefMergeIdeal.τ).loc Cert.RefMergeIdeal.main_arg5)
      ∧ r.2.mem ((c.tc : Thread Cert.RefMergeIdeal.nD Cert.RefMergeIdeal.τ).loc Cert.RefMergeIdeal.main_arg6) = m ((c.tc : Thread Cert.RefMergeIdeal.nD Cert.RefMergeIdeal.τ).loc Cert.RefMergeIdeal.main_arg6)
      ∧ r.2.mem ((c.tc : Thread Cert.RefMergeIdeal.nD Cert.RefMergeIdeal.τ).loc Cert.RefMergeIdeal.main_arg7) = m ((c.tc : Thread Cert.RefMergeIdeal.nD Cert.RefMergeIdeal.τ).loc Cert.RefMergeIdeal.main_arg7))
      ∧ r.2.sem = fun _ => 0)

def quiescent_Misc [hMisc : Cert.Misc.Facts] : Prop :=
  ∀ (m : (ℓ : Loc Cert.Misc.nD Cert.Misc.τ Cert.Misc.sig) → Buf (Elt Bits) ℓ) (g : Dev Cert.Misc.nD → PrngReg), Pre_Misc m →
    θ_run (Cert.Misc.defs (F := Bits)) (onTc (τ := Cert.Misc.τ) (Cert.Misc.main (F := Bits))) ⟨m, fun _ => 0, g⟩ (fun r => (∀ c : Dev Cert.Misc.nD,
      r.2.mem ((c.tc : Thread Cert.Misc.nD Cert.Misc.τ).loc Cert.Misc.main_arg0) = m ((c.tc : Thread Cert.Misc.nD Cert.Misc.τ).loc Cert.Misc.main_arg0)
      ∧ r.2.mem ((c.tc : Thread Cert.Misc.nD Cert.Misc.τ).loc Cert.Misc.main_arg1) = m ((c.tc : Thread Cert.Misc.nD Cert.Misc.τ).loc Cert.Misc.main_arg1))
      ∧ r.2.sem = fun _ => 0)

def quiescent_MiscIdeal [hMiscIdeal : Cert.MiscIdeal.Facts] : Prop :=
  ∀ (m : (ℓ : Loc Cert.MiscIdeal.nD Cert.MiscIdeal.τ Cert.MiscIdeal.sig) → Buf (Elt Ideal) ℓ) (g : Dev Cert.MiscIdeal.nD → PrngReg), Pre_MiscIdeal m →
    θ_run (Cert.MiscIdeal.defs (F := Ideal)) (onTc (τ := Cert.MiscIdeal.τ) (Cert.MiscIdeal.main (F := Ideal))) ⟨m, fun _ => 0, g⟩ (fun r => (∀ c : Dev Cert.MiscIdeal.nD,
      r.2.mem ((c.tc : Thread Cert.MiscIdeal.nD Cert.MiscIdeal.τ).loc Cert.MiscIdeal.main_arg0) = m ((c.tc : Thread Cert.MiscIdeal.nD Cert.MiscIdeal.τ).loc Cert.MiscIdeal.main_arg0)
      ∧ r.2.mem ((c.tc : Thread Cert.MiscIdeal.nD Cert.MiscIdeal.τ).loc Cert.MiscIdeal.main_arg1) = m ((c.tc : Thread Cert.MiscIdeal.nD Cert.MiscIdeal.τ).loc Cert.MiscIdeal.main_arg1))
      ∧ r.2.sem = fun _ => 0)

def quiescent_MiscIdeal_pre_finite_rows [hMiscIdeal : Cert.MiscIdeal.Facts] [hPre_finite_rows : Cert.Pre_finite_rows.Facts] : Prop :=
  ∀ (m : (ℓ : Loc Cert.MiscIdeal.nD Cert.MiscIdeal.τ Cert.MiscIdeal.sig) → Buf (Elt Ideal) ℓ) (g : Dev Cert.MiscIdeal.nD → PrngReg), Pre_MiscIdeal_finite_rows m →
    θ_run (Cert.MiscIdeal.defs (F := Ideal)) (onTc (τ := Cert.MiscIdeal.τ) (Cert.MiscIdeal.main (F := Ideal))) ⟨m, fun _ => 0, g⟩ (fun r => (∀ c : Dev Cert.MiscIdeal.nD,
      r.2.mem ((c.tc : Thread Cert.MiscIdeal.nD Cert.MiscIdeal.τ).loc Cert.MiscIdeal.main_arg0) = m ((c.tc : Thread Cert.MiscIdeal.nD Cert.MiscIdeal.τ).loc Cert.MiscIdeal.main_arg0)
      ∧ r.2.mem ((c.tc : Thread Cert.MiscIdeal.nD Cert.MiscIdeal.τ).loc Cert.MiscIdeal.main_arg1) = m ((c.tc : Thread Cert.MiscIdeal.nD Cert.MiscIdeal.τ).loc Cert.MiscIdeal.main_arg1))
      ∧ r.2.sem = fun _ => 0)

def quiescent_RefMiscIdeal [hRefMiscIdeal : Cert.RefMiscIdeal.Facts] : Prop :=
  ∀ (m : (ℓ : Loc Cert.RefMiscIdeal.nD Cert.RefMiscIdeal.τ Cert.RefMiscIdeal.sig) → Buf (Elt Ideal) ℓ) (g : Dev Cert.RefMiscIdeal.nD → PrngReg), Pre_RefMiscIdeal m →
    θ_run (Cert.RefMiscIdeal.defs (F := Ideal)) (onTc (τ := Cert.RefMiscIdeal.τ) (Cert.RefMiscIdeal.main (F := Ideal))) ⟨m, fun _ => 0, g⟩ (fun r => (∀ c : Dev Cert.RefMiscIdeal.nD,
      r.2.mem ((c.tc : Thread Cert.RefMiscIdeal.nD Cert.RefMiscIdeal.τ).loc Cert.RefMiscIdeal.main_arg0) = m ((c.tc : Thread Cert.RefMiscIdeal.nD Cert.RefMiscIdeal.τ).loc Cert.RefMiscIdeal.main_arg0)
      ∧ r.2.mem ((c.tc : Thread Cert.RefMiscIdeal.nD Cert.RefMiscIdeal.τ).loc Cert.RefMiscIdeal.main_arg1) = m ((c.tc : Thread Cert.RefMiscIdeal.nD Cert.RefMiscIdeal.τ).loc Cert.RefMiscIdeal.main_arg1))
      ∧ r.2.sem = fun _ => 0)

def quiescent_RefMiscIdeal_pre_finite_rows [hRefMiscIdeal : Cert.RefMiscIdeal.Facts] [hPre_finite_rows : Cert.Pre_finite_rows.Facts] : Prop :=
  ∀ (m : (ℓ : Loc Cert.RefMiscIdeal.nD Cert.RefMiscIdeal.τ Cert.RefMiscIdeal.sig) → Buf (Elt Ideal) ℓ) (g : Dev Cert.RefMiscIdeal.nD → PrngReg), Pre_RefMiscIdeal_finite_rows m →
    θ_run (Cert.RefMiscIdeal.defs (F := Ideal)) (onTc (τ := Cert.RefMiscIdeal.τ) (Cert.RefMiscIdeal.main (F := Ideal))) ⟨m, fun _ => 0, g⟩ (fun r => (∀ c : Dev Cert.RefMiscIdeal.nD,
      r.2.mem ((c.tc : Thread Cert.RefMiscIdeal.nD Cert.RefMiscIdeal.τ).loc Cert.RefMiscIdeal.main_arg0) = m ((c.tc : Thread Cert.RefMiscIdeal.nD Cert.RefMiscIdeal.τ).loc Cert.RefMiscIdeal.main_arg0)
      ∧ r.2.mem ((c.tc : Thread Cert.RefMiscIdeal.nD Cert.RefMiscIdeal.τ).loc Cert.RefMiscIdeal.main_arg1) = m ((c.tc : Thread Cert.RefMiscIdeal.nD Cert.RefMiscIdeal.τ).loc Cert.RefMiscIdeal.main_arg1))
      ∧ r.2.sem = fun _ => 0)

def quiescent_MiscB [hMiscB : Cert.MiscB.Facts] : Prop :=
  ∀ (m : (ℓ : Loc Cert.MiscB.nD Cert.MiscB.τ Cert.MiscB.sig) → Buf (Elt Bits) ℓ) (g : Dev Cert.MiscB.nD → PrngReg), Pre_MiscB m →
    θ_run (Cert.MiscB.defs (F := Bits)) (onTc (τ := Cert.MiscB.τ) (Cert.MiscB.main (F := Bits))) ⟨m, fun _ => 0, g⟩ (fun r => (∀ c : Dev Cert.MiscB.nD,
      r.2.mem ((c.tc : Thread Cert.MiscB.nD Cert.MiscB.τ).loc Cert.MiscB.main_arg0) = m ((c.tc : Thread Cert.MiscB.nD Cert.MiscB.τ).loc Cert.MiscB.main_arg0)
      ∧ r.2.mem ((c.tc : Thread Cert.MiscB.nD Cert.MiscB.τ).loc Cert.MiscB.main_arg1) = m ((c.tc : Thread Cert.MiscB.nD Cert.MiscB.τ).loc Cert.MiscB.main_arg1)
      ∧ r.2.mem ((c.tc : Thread Cert.MiscB.nD Cert.MiscB.τ).loc Cert.MiscB.main_arg2) = m ((c.tc : Thread Cert.MiscB.nD Cert.MiscB.τ).loc Cert.MiscB.main_arg2))
      ∧ r.2.sem = fun _ => 0)

def quiescent_MiscBIdeal [hMiscBIdeal : Cert.MiscBIdeal.Facts] : Prop :=
  ∀ (m : (ℓ : Loc Cert.MiscBIdeal.nD Cert.MiscBIdeal.τ Cert.MiscBIdeal.sig) → Buf (Elt Ideal) ℓ) (g : Dev Cert.MiscBIdeal.nD → PrngReg), Pre_MiscBIdeal m →
    θ_run (Cert.MiscBIdeal.defs (F := Ideal)) (onTc (τ := Cert.MiscBIdeal.τ) (Cert.MiscBIdeal.main (F := Ideal))) ⟨m, fun _ => 0, g⟩ (fun r => (∀ c : Dev Cert.MiscBIdeal.nD,
      r.2.mem ((c.tc : Thread Cert.MiscBIdeal.nD Cert.MiscBIdeal.τ).loc Cert.MiscBIdeal.main_arg0) = m ((c.tc : Thread Cert.MiscBIdeal.nD Cert.MiscBIdeal.τ).loc Cert.MiscBIdeal.main_arg0)
      ∧ r.2.mem ((c.tc : Thread Cert.MiscBIdeal.nD Cert.MiscBIdeal.τ).loc Cert.MiscBIdeal.main_arg1) = m ((c.tc : Thread Cert.MiscBIdeal.nD Cert.MiscBIdeal.τ).loc Cert.MiscBIdeal.main_arg1)
      ∧ r.2.mem ((c.tc : Thread Cert.MiscBIdeal.nD Cert.MiscBIdeal.τ).loc Cert.MiscBIdeal.main_arg2) = m ((c.tc : Thread Cert.MiscBIdeal.nD Cert.MiscBIdeal.τ).loc Cert.MiscBIdeal.main_arg2))
      ∧ r.2.sem = fun _ => 0)

def quiescent_MiscBIdeal_pre_finite_rows1 [hMiscBIdeal : Cert.MiscBIdeal.Facts] [hPre_finite_rows1 : Cert.Pre_finite_rows1.Facts] : Prop :=
  ∀ (m : (ℓ : Loc Cert.MiscBIdeal.nD Cert.MiscBIdeal.τ Cert.MiscBIdeal.sig) → Buf (Elt Ideal) ℓ) (g : Dev Cert.MiscBIdeal.nD → PrngReg), Pre_MiscBIdeal_finite_rows1 m →
    θ_run (Cert.MiscBIdeal.defs (F := Ideal)) (onTc (τ := Cert.MiscBIdeal.τ) (Cert.MiscBIdeal.main (F := Ideal))) ⟨m, fun _ => 0, g⟩ (fun r => (∀ c : Dev Cert.MiscBIdeal.nD,
      r.2.mem ((c.tc : Thread Cert.MiscBIdeal.nD Cert.MiscBIdeal.τ).loc Cert.MiscBIdeal.main_arg0) = m ((c.tc : Thread Cert.MiscBIdeal.nD Cert.MiscBIdeal.τ).loc Cert.MiscBIdeal.main_arg0)
      ∧ r.2.mem ((c.tc : Thread Cert.MiscBIdeal.nD Cert.MiscBIdeal.τ).loc Cert.MiscBIdeal.main_arg1) = m ((c.tc : Thread Cert.MiscBIdeal.nD Cert.MiscBIdeal.τ).loc Cert.MiscBIdeal.main_arg1)
      ∧ r.2.mem ((c.tc : Thread Cert.MiscBIdeal.nD Cert.MiscBIdeal.τ).loc Cert.MiscBIdeal.main_arg2) = m ((c.tc : Thread Cert.MiscBIdeal.nD Cert.MiscBIdeal.τ).loc Cert.MiscBIdeal.main_arg2))
      ∧ r.2.sem = fun _ => 0)

def quiescent_RefMiscBIdeal [hRefMiscBIdeal : Cert.RefMiscBIdeal.Facts] : Prop :=
  ∀ (m : (ℓ : Loc Cert.RefMiscBIdeal.nD Cert.RefMiscBIdeal.τ Cert.RefMiscBIdeal.sig) → Buf (Elt Ideal) ℓ) (g : Dev Cert.RefMiscBIdeal.nD → PrngReg), Pre_RefMiscBIdeal m →
    θ_run (Cert.RefMiscBIdeal.defs (F := Ideal)) (onTc (τ := Cert.RefMiscBIdeal.τ) (Cert.RefMiscBIdeal.main (F := Ideal))) ⟨m, fun _ => 0, g⟩ (fun r => (∀ c : Dev Cert.RefMiscBIdeal.nD,
      r.2.mem ((c.tc : Thread Cert.RefMiscBIdeal.nD Cert.RefMiscBIdeal.τ).loc Cert.RefMiscBIdeal.main_arg0) = m ((c.tc : Thread Cert.RefMiscBIdeal.nD Cert.RefMiscBIdeal.τ).loc Cert.RefMiscBIdeal.main_arg0)
      ∧ r.2.mem ((c.tc : Thread Cert.RefMiscBIdeal.nD Cert.RefMiscBIdeal.τ).loc Cert.RefMiscBIdeal.main_arg1) = m ((c.tc : Thread Cert.RefMiscBIdeal.nD Cert.RefMiscBIdeal.τ).loc Cert.RefMiscBIdeal.main_arg1)
      ∧ r.2.mem ((c.tc : Thread Cert.RefMiscBIdeal.nD Cert.RefMiscBIdeal.τ).loc Cert.RefMiscBIdeal.main_arg2) = m ((c.tc : Thread Cert.RefMiscBIdeal.nD Cert.RefMiscBIdeal.τ).loc Cert.RefMiscBIdeal.main_arg2))
      ∧ r.2.sem = fun _ => 0)

def quiescent_RefMiscBIdeal_pre_finite_rows1 [hRefMiscBIdeal : Cert.RefMiscBIdeal.Facts] [hPre_finite_rows1 : Cert.Pre_finite_rows1.Facts] : Prop :=
  ∀ (m : (ℓ : Loc Cert.RefMiscBIdeal.nD Cert.RefMiscBIdeal.τ Cert.RefMiscBIdeal.sig) → Buf (Elt Ideal) ℓ) (g : Dev Cert.RefMiscBIdeal.nD → PrngReg), Pre_RefMiscBIdeal_finite_rows1 m →
    θ_run (Cert.RefMiscBIdeal.defs (F := Ideal)) (onTc (τ := Cert.RefMiscBIdeal.τ) (Cert.RefMiscBIdeal.main (F := Ideal))) ⟨m, fun _ => 0, g⟩ (fun r => (∀ c : Dev Cert.RefMiscBIdeal.nD,
      r.2.mem ((c.tc : Thread Cert.RefMiscBIdeal.nD Cert.RefMiscBIdeal.τ).loc Cert.RefMiscBIdeal.main_arg0) = m ((c.tc : Thread Cert.RefMiscBIdeal.nD Cert.RefMiscBIdeal.τ).loc Cert.RefMiscBIdeal.main_arg0)
      ∧ r.2.mem ((c.tc : Thread Cert.RefMiscBIdeal.nD Cert.RefMiscBIdeal.τ).loc Cert.RefMiscBIdeal.main_arg1) = m ((c.tc : Thread Cert.RefMiscBIdeal.nD Cert.RefMiscBIdeal.τ).loc Cert.RefMiscBIdeal.main_arg1)
      ∧ r.2.mem ((c.tc : Thread Cert.RefMiscBIdeal.nD Cert.RefMiscBIdeal.τ).loc Cert.RefMiscBIdeal.main_arg2) = m ((c.tc : Thread Cert.RefMiscBIdeal.nD Cert.RefMiscBIdeal.τ).loc Cert.RefMiscBIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RefRopeIdeal [hRefRopeIdeal : Cert.RefRopeIdeal.Facts] : Prop :=
  ∀ (m : (ℓ : Loc Cert.RefRopeIdeal.nD Cert.RefRopeIdeal.τ Cert.RefRopeIdeal.sig) → Buf (Elt Ideal) ℓ) (g : Dev Cert.RefRopeIdeal.nD → PrngReg), Pre_RefRopeIdeal m →
    θ_run (Cert.RefRopeIdeal.defs (F := Ideal)) (onTc (τ := Cert.RefRopeIdeal.τ) (Cert.RefRopeIdeal.main (F := Ideal))) ⟨m, fun _ => 0, g⟩ (fun r => (∀ c : Dev Cert.RefRopeIdeal.nD,
      r.2.mem ((c.tc : Thread Cert.RefRopeIdeal.nD Cert.RefRopeIdeal.τ).loc Cert.RefRopeIdeal.main_arg0) = m ((c.tc : Thread Cert.RefRopeIdeal.nD Cert.RefRopeIdeal.τ).loc Cert.RefRopeIdeal.main_arg0))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v25)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v25) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v15) = v0 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6_0)) (v1 : (c : Dev Cert.FfnIdeal.nD) → Buf (Elt Ideal) ((c.tc : Thread Cert.FfnIdeal.nD Cert.FfnIdeal.τ).loc Cert.FfnIdeal.main_v6_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6_0) = v0 c
          ∧ r.2.mem ((c.tc : Thread Cert.FfnIdeal.nD Cert.FfnIdeal.τ).loc Cert.FfnIdeal.main_v6_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v31) = v0 c
          ∧ r.2.mem ((c.tc : Thread Cert.RefFfnIdeal.nD Cert.RefFfnIdeal.τ).loc Cert.RefFfnIdeal.main_v32) = v1 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5))

def preserves_ProjB_ProjBIdeal : Prop :=
  True

def algebraic_ProjBIdeal_RefProjBIdeal [hProjBIdeal : Cert.ProjBIdeal.Facts] [hRefProjBIdeal : Cert.RefProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.RefProjBIdeal.nD Cert.RefProjBIdeal.τ Cert.RefProjBIdeal.sig) → Buf (Elt Ideal) ℓ) (g' : Dev Cert.RefProjBIdeal.nD → PrngReg), Pre_ProjBIdeal m →
    (∀ c : Dev Cert.ProjBIdeal.nD,
      m' ((c.tc : Thread Cert.RefProjBIdeal.nD Cert.RefProjBIdeal.τ).loc Cert.RefProjBIdeal.main_arg0) = m ((c.tc : Thread Cert.ProjBIdeal.nD Cert.ProjBIdeal.τ).loc Cert.ProjBIdeal.main_arg0)
      ∧ m' ((c.tc : Thread Cert.RefProjBIdeal.nD Cert.RefProjBIdeal.τ).loc Cert.RefProjBIdeal.main_arg1) = m ((c.tc : Thread Cert.ProjBIdeal.nD Cert.ProjBIdeal.τ).loc Cert.ProjBIdeal.main_arg1)
      ∧ m' ((c.tc : Thread Cert.RefProjBIdeal.nD Cert.RefProjBIdeal.τ).loc Cert.RefProjBIdeal.main_arg2) = m ((c.tc : Thread Cert.ProjBIdeal.nD Cert.ProjBIdeal.τ).loc Cert.ProjBIdeal.main_arg2)) →
    ∃ (v0 : (c : Dev Cert.ProjBIdeal.nD) → Buf (Elt Ideal) ((c.tc : Thread Cert.ProjBIdeal.nD Cert.ProjBIdeal.τ).loc Cert.ProjBIdeal.main_v25)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v25) = v0 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2))
      ∧ θ_run (Cert.RefProjBIdeal.defs (F := Ideal)) (onTc (τ := Cert.RefProjBIdeal.τ) (Cert.RefProjBIdeal.main (F := Ideal))) ⟨m', fun _ => 0, g'⟩ (fun r => ∀ c : Dev Cert.RefProjBIdeal.nD,
          r.2.mem ((c.tc : Thread Cert.RefProjBIdeal.nD Cert.RefProjBIdeal.τ).loc Cert.RefProjBIdeal.main_v15) = v0 c
          ∧ r.2.mem ((c.tc : Thread Cert.RefProjBIdeal.nD Cert.RefProjBIdeal.τ).loc Cert.RefProjBIdeal.main_arg0) = m' ((c.tc : Thread Cert.RefProjBIdeal.nD Cert.RefProjBIdeal.τ).loc Cert.RefProjBIdeal.main_arg0)
          ∧ r.2.mem ((c.tc : Thread Cert.RefProjBIdeal.nD Cert.RefProjBIdeal.τ).loc Cert.RefProjBIdeal.main_arg1) = m' ((c.tc : Thread Cert.RefProjBIdeal.nD Cert.RefProjBIdeal.τ).loc Cert.RefProjBIdeal.main_arg1)
          ∧ r.2.mem ((c.tc : Thread Cert.RefProjBIdeal.nD Cert.RefProjBIdeal.τ).loc Cert.RefProjBIdeal.main_arg2) = m' ((c.tc : Thread Cert.RefProjBIdeal.nD Cert.RefProjBIdeal.τ).loc Cert.RefProjBIdeal.main_arg2))

def preserves_Merge_MergeIdeal : Prop :=
  True

def algebraic_MergeIdeal_RefMergeIdeal [hMergeIdeal : Cert.MergeIdeal.Facts] [hRefMergeIdeal : Cert.RefMergeIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.RefMergeIdeal.nD Cert.RefMergeIdeal.τ Cert.RefMergeIdeal.sig) → Buf (Elt Ideal) ℓ) (g' : Dev Cert.RefMergeIdeal.nD → PrngReg), Pre_MergeIdeal m →
    (∀ c : Dev Cert.MergeIdeal.nD,
      m' ((c.tc : Thread Cert.RefMergeIdeal.nD Cert.RefMergeIdeal.τ).loc Cert.RefMergeIdeal.main_arg0) = m ((c.tc : Thread Cert.MergeIdeal.nD Cert.MergeIdeal.τ).loc Cert.MergeIdeal.main_arg0)
      ∧ m' ((c.tc : Thread Cert.RefMergeIdeal.nD Cert.RefMergeIdeal.τ).loc Cert.RefMergeIdeal.main_arg1) = m ((c.tc : Thread Cert.MergeIdeal.nD Cert.MergeIdeal.τ).loc Cert.MergeIdeal.main_arg1)
      ∧ m' ((c.tc : Thread Cert.RefMergeIdeal.nD Cert.RefMergeIdeal.τ).loc Cert.RefMergeIdeal.main_arg2) = m ((c.tc : Thread Cert.MergeIdeal.nD Cert.MergeIdeal.τ).loc Cert.MergeIdeal.main_arg2)
      ∧ m' ((c.tc : Thread Cert.RefMergeIdeal.nD Cert.RefMergeIdeal.τ).loc Cert.RefMergeIdeal.main_arg3) = m ((c.tc : Thread Cert.MergeIdeal.nD Cert.MergeIdeal.τ).loc Cert.MergeIdeal.main_arg3)
      ∧ m' ((c.tc : Thread Cert.RefMergeIdeal.nD Cert.RefMergeIdeal.τ).loc Cert.RefMergeIdeal.main_arg4) = m ((c.tc : Thread Cert.MergeIdeal.nD Cert.MergeIdeal.τ).loc Cert.MergeIdeal.main_arg4)
      ∧ m' ((c.tc : Thread Cert.RefMergeIdeal.nD Cert.RefMergeIdeal.τ).loc Cert.RefMergeIdeal.main_arg5) = m ((c.tc : Thread Cert.MergeIdeal.nD Cert.MergeIdeal.τ).loc Cert.MergeIdeal.main_arg5)
      ∧ m' ((c.tc : Thread Cert.RefMergeIdeal.nD Cert.RefMergeIdeal.τ).loc Cert.RefMergeIdeal.main_arg6) = m ((c.tc : Thread Cert.MergeIdeal.nD Cert.MergeIdeal.τ).loc Cert.MergeIdeal.main_arg6)
      ∧ m' ((c.tc : Thread Cert.RefMergeIdeal.nD Cert.RefMergeIdeal.τ).loc Cert.RefMergeIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.RefMergeIdeal.defs (F := Ideal)) (onTc (τ := Cert.RefMergeIdeal.τ) (Cert.RefMergeIdeal.main (F := Ideal))) ⟨m', fun _ => 0, g'⟩ (fun r => ∀ c : Dev Cert.RefMergeIdeal.nD,
          r.2.mem ((c.tc : Thread Cert.RefMergeIdeal.nD Cert.RefMergeIdeal.τ).loc Cert.RefMergeIdeal.main_v46) = v0 c
          ∧ r.2.mem ((c.tc : Thread Cert.RefMergeIdeal.nD Cert.RefMergeIdeal.τ).loc Cert.RefMergeIdeal.main_v47) = v1 c
          ∧ r.2.mem ((c.tc : Thread Cert.RefMergeIdeal.nD Cert.RefMergeIdeal.τ).loc Cert.RefMergeIdeal.main_arg0) = m' ((c.tc : Thread Cert.RefMergeIdeal.nD Cert.RefMergeIdeal.τ).loc Cert.RefMergeIdeal.main_arg0)
          ∧ r.2.mem ((c.tc : Thread Cert.RefMergeIdeal.nD Cert.RefMergeIdeal.τ).loc Cert.RefMergeIdeal.main_arg1) = m' ((c.tc : Thread Cert.RefMergeIdeal.nD Cert.RefMergeIdeal.τ).loc Cert.RefMergeIdeal.main_arg1)
          ∧ r.2.mem ((c.tc : Thread Cert.RefMergeIdeal.nD Cert.RefMergeIdeal.τ).loc Cert.RefMergeIdeal.main_arg2) = m' ((c.tc : Thread Cert.RefMergeIdeal.nD Cert.RefMergeIdeal.τ).loc Cert.RefMergeIdeal.main_arg2)
          ∧ r.2.mem ((c.tc : Thread Cert.RefMergeIdeal.nD Cert.RefMergeIdeal.τ).loc Cert.RefMergeIdeal.main_arg3) = m' ((c.tc : Thread Cert.RefMergeIdeal.nD Cert.RefMergeIdeal.τ).loc Cert.RefMergeIdeal.main_arg3)
          ∧ r.2.mem ((c.tc : Thread Cert.RefMergeIdeal.nD Cert.RefMergeIdeal.τ).loc Cert.RefMergeIdeal.main_arg4) = m' ((c.tc : Thread Cert.RefMergeIdeal.nD Cert.RefMergeIdeal.τ).loc Cert.RefMergeIdeal.main_arg4)
          ∧ r.2.mem ((c.tc : Thread Cert.RefMergeIdeal.nD Cert.RefMergeIdeal.τ).loc Cert.RefMergeIdeal.main_arg5) = m' ((c.tc : Thread Cert.RefMergeIdeal.nD Cert.RefMergeIdeal.τ).loc Cert.RefMergeIdeal.main_arg5)
          ∧ r.2.mem ((c.tc : Thread Cert.RefMergeIdeal.nD Cert.RefMergeIdeal.τ).loc Cert.RefMergeIdeal.main_arg6) = m' ((c.tc : Thread Cert.RefMergeIdeal.nD Cert.RefMergeIdeal.τ).loc Cert.RefMergeIdeal.main_arg6)
          ∧ r.2.mem ((c.tc : Thread Cert.RefMergeIdeal.nD Cert.RefMergeIdeal.τ).loc Cert.RefMergeIdeal.main_arg7) = m' ((c.tc : Thread Cert.RefMergeIdeal.nD Cert.RefMergeIdeal.τ).loc Cert.RefMergeIdeal.main_arg7))

def preserves_Misc_MiscIdeal : Prop :=
  True

def algebraic_MiscIdeal_RefMiscIdeal_pre_finite_rows [hMiscIdeal : Cert.MiscIdeal.Facts] [hRefMiscIdeal : Cert.RefMiscIdeal.Facts] [hPre_finite_rows : Cert.Pre_finite_rows.Facts] : Prop :=
  ∀ (m : (ℓ : Loc Cert.MiscIdeal.nD Cert.MiscIdeal.τ Cert.MiscIdeal.sig) → Buf (Elt Ideal) ℓ) (g : Dev Cert.MiscIdeal.nD → PrngReg)
    (m' : (ℓ : Loc Cert.RefMiscIdeal.nD Cert.RefMiscIdeal.τ Cert.RefMiscIdeal.sig) → Buf (Elt Ideal) ℓ) (g' : Dev Cert.RefMiscIdeal.nD → PrngReg), Pre_MiscIdeal_finite_rows m →
    (∀ c : Dev Cert.MiscIdeal.nD,
      m' ((c.tc : Thread Cert.RefMiscIdeal.nD Cert.RefMiscIdeal.τ).loc Cert.RefMiscIdeal.main_arg0) = m ((c.tc : Thread Cert.MiscIdeal.nD Cert.MiscIdeal.τ).loc Cert.MiscIdeal.main_arg0)
      ∧ m' ((c.tc : Thread Cert.RefMiscIdeal.nD Cert.RefMiscIdeal.τ).loc Cert.RefMiscIdeal.main_arg1) = m ((c.tc : Thread Cert.MiscIdeal.nD Cert.MiscIdeal.τ).loc Cert.MiscIdeal.main_arg1)) →
    ∃ (v0 : (c : Dev Cert.MiscIdeal.nD) → Buf (Elt Ideal) ((c.tc : Thread Cert.MiscIdeal.nD Cert.MiscIdeal.τ).loc Cert.MiscIdeal.main_v25)),
      θ_run (Cert.MiscIdeal.defs (F := Ideal)) (onTc (τ := Cert.MiscIdeal.τ) (Cert.MiscIdeal.main (F := Ideal))) ⟨m, fun _ => 0, g⟩ (fun r => ∀ c : Dev Cert.MiscIdeal.nD,
          r.2.mem ((c.tc : Thread Cert.MiscIdeal.nD Cert.MiscIdeal.τ).loc Cert.MiscIdeal.main_v25) = v0 c
          ∧ r.2.mem ((c.tc : Thread Cert.MiscIdeal.nD Cert.MiscIdeal.τ).loc Cert.MiscIdeal.main_arg0) = m ((c.tc : Thread Cert.MiscIdeal.nD Cert.MiscIdeal.τ).loc Cert.MiscIdeal.main_arg0)
          ∧ r.2.mem ((c.tc : Thread Cert.MiscIdeal.nD Cert.MiscIdeal.τ).loc Cert.MiscIdeal.main_arg1) = m ((c.tc : Thread Cert.MiscIdeal.nD Cert.MiscIdeal.τ).loc Cert.MiscIdeal.main_arg1))
      ∧ θ_run (Cert.RefMiscIdeal.defs (F := Ideal)) (onTc (τ := Cert.RefMiscIdeal.τ) (Cert.RefMiscIdeal.main (F := Ideal))) ⟨m', fun _ => 0, g'⟩ (fun r => ∀ c : Dev Cert.RefMiscIdeal.nD,
          r.2.mem ((c.tc : Thread Cert.RefMiscIdeal.nD Cert.RefMiscIdeal.τ).loc Cert.RefMiscIdeal.main_v22) = v0 c
          ∧ r.2.mem ((c.tc : Thread Cert.RefMiscIdeal.nD Cert.RefMiscIdeal.τ).loc Cert.RefMiscIdeal.main_arg0) = m' ((c.tc : Thread Cert.RefMiscIdeal.nD Cert.RefMiscIdeal.τ).loc Cert.RefMiscIdeal.main_arg0)
          ∧ r.2.mem ((c.tc : Thread Cert.RefMiscIdeal.nD Cert.RefMiscIdeal.τ).loc Cert.RefMiscIdeal.main_arg1) = m' ((c.tc : Thread Cert.RefMiscIdeal.nD Cert.RefMiscIdeal.τ).loc Cert.RefMiscIdeal.main_arg1))

def preserves_MiscB_MiscBIdeal : Prop :=
  True

def algebraic_MiscBIdeal_RefMiscBIdeal_pre_finite_rows1 [hMiscBIdeal : Cert.MiscBIdeal.Facts] [hRefMiscBIdeal : Cert.RefMiscBIdeal.Facts] [hPre_finite_rows1 : Cert.Pre_finite_rows1.Facts] : Prop :=
  ∀ (m : (ℓ : Loc Cert.MiscBIdeal.nD Cert.MiscBIdeal.τ Cert.MiscBIdeal.sig) → Buf (Elt Ideal) ℓ) (g : Dev Cert.MiscBIdeal.nD → PrngReg)
    (m' : (ℓ : Loc Cert.RefMiscBIdeal.nD Cert.RefMiscBIdeal.τ Cert.RefMiscBIdeal.sig) → Buf (Elt Ideal) ℓ) (g' : Dev Cert.RefMiscBIdeal.nD → PrngReg), Pre_MiscBIdeal_finite_rows1 m →
    (∀ c : Dev Cert.MiscBIdeal.nD,
      m' ((c.tc : Thread Cert.RefMiscBIdeal.nD Cert.RefMiscBIdeal.τ).loc Cert.RefMiscBIdeal.main_arg0) = m ((c.tc : Thread Cert.MiscBIdeal.nD Cert.MiscBIdeal.τ).loc Cert.MiscBIdeal.main_arg0)
      ∧ m' ((c.tc : Thread Cert.RefMiscBIdeal.nD Cert.RefMiscBIdeal.τ).loc Cert.RefMiscBIdeal.main_arg1) = m ((c.tc : Thread Cert.MiscBIdeal.nD Cert.MiscBIdeal.τ).loc Cert.MiscBIdeal.main_arg1)
      ∧ m' ((c.tc : Thread Cert.RefMiscBIdeal.nD Cert.RefMiscBIdeal.τ).loc Cert.RefMiscBIdeal.main_arg2) = m ((c.tc : Thread Cert.MiscBIdeal.nD Cert.MiscBIdeal.τ).loc Cert.MiscBIdeal.main_arg2)) →
    ∃ (v0 : (c : Dev Cert.MiscBIdeal.nD) → Buf (Elt Ideal) ((c.tc : Thread Cert.MiscBIdeal.nD Cert.MiscBIdeal.τ).loc Cert.MiscBIdeal.main_v25)),
      θ_run (Cert.MiscBIdeal.defs (F := Ideal)) (onTc (τ := Cert.MiscBIdeal.τ) (Cert.MiscBIdeal.main (F := Ideal))) ⟨m, fun _ => 0, g⟩ (fun r => ∀ c : Dev Cert.MiscBIdeal.nD,
          r.2.mem ((c.tc : Thread Cert.MiscBIdeal.nD Cert.MiscBIdeal.τ).loc Cert.MiscBIdeal.main_v25) = v0 c
          ∧ r.2.mem ((c.tc : Thread Cert.MiscBIdeal.nD Cert.MiscBIdeal.τ).loc Cert.MiscBIdeal.main_arg0) = m ((c.tc : Thread Cert.MiscBIdeal.nD Cert.MiscBIdeal.τ).loc Cert.MiscBIdeal.main_arg0)
          ∧ r.2.mem ((c.tc : Thread Cert.MiscBIdeal.nD Cert.MiscBIdeal.τ).loc Cert.MiscBIdeal.main_arg1) = m ((c.tc : Thread Cert.MiscBIdeal.nD Cert.MiscBIdeal.τ).loc Cert.MiscBIdeal.main_arg1)
          ∧ r.2.mem ((c.tc : Thread Cert.MiscBIdeal.nD Cert.MiscBIdeal.τ).loc Cert.MiscBIdeal.main_arg2) = m ((c.tc : Thread Cert.MiscBIdeal.nD Cert.MiscBIdeal.τ).loc Cert.MiscBIdeal.main_arg2))
      ∧ θ_run (Cert.RefMiscBIdeal.defs (F := Ideal)) (onTc (τ := Cert.RefMiscBIdeal.τ) (Cert.RefMiscBIdeal.main (F := Ideal))) ⟨m', fun _ => 0, g'⟩ (fun r => ∀ c : Dev Cert.RefMiscBIdeal.nD,
          r.2.mem ((c.tc : Thread Cert.RefMiscBIdeal.nD Cert.RefMiscBIdeal.τ).loc Cert.RefMiscBIdeal.main_v24) = v0 c
          ∧ r.2.mem ((c.tc : Thread Cert.RefMiscBIdeal.nD Cert.RefMiscBIdeal.τ).loc Cert.RefMiscBIdeal.main_arg0) = m' ((c.tc : Thread Cert.RefMiscBIdeal.nD Cert.RefMiscBIdeal.τ).loc Cert.RefMiscBIdeal.main_arg0)
          ∧ r.2.mem ((c.tc : Thread Cert.RefMiscBIdeal.nD Cert.RefMiscBIdeal.τ).loc Cert.RefMiscBIdeal.main_arg1) = m' ((c.tc : Thread Cert.RefMiscBIdeal.nD Cert.RefMiscBIdeal.τ).loc Cert.RefMiscBIdeal.main_arg1)
          ∧ r.2.mem ((c.tc : Thread Cert.RefMiscBIdeal.nD Cert.RefMiscBIdeal.τ).loc Cert.RefMiscBIdeal.main_arg2) = m' ((c.tc : Thread Cert.RefMiscBIdeal.nD Cert.RefMiscBIdeal.τ).loc Cert.RefMiscBIdeal.main_arg2))

def preserves_Rope_RopeIdeal : Prop :=
  True

def algebraic_RopeIdeal_RefRopeIdeal [hRopeIdeal : Cert.RopeIdeal.Facts] [hRefRopeIdeal : Cert.RefRopeIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RefRopeIdeal.nD Cert.RefRopeIdeal.τ Cert.RefRopeIdeal.sig) → Buf (Elt Ideal) ℓ) (g' : Dev Cert.RefRopeIdeal.nD → PrngReg), Pre_RopeIdeal m →
    (∀ c : Dev Cert.RopeIdeal.nD,
      m' ((c.tc : Thread Cert.RefRopeIdeal.nD Cert.RefRopeIdeal.τ).loc Cert.RefRopeIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v15_0)) (v1 : (c : Dev Cert.RopeIdeal.nD) → Buf (Elt Ideal) ((c.tc : Thread Cert.RopeIdeal.nD Cert.RopeIdeal.τ).loc Cert.RopeIdeal.main_v15_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v15_0) = v0 c
          ∧ r.2.mem ((c.tc : Thread Cert.RopeIdeal.nD Cert.RopeIdeal.τ).loc Cert.RopeIdeal.main_v15_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RefRopeIdeal.defs (F := Ideal)) (onTc (τ := Cert.RefRopeIdeal.τ) (Cert.RefRopeIdeal.main (F := Ideal))) ⟨m', fun _ => 0, g'⟩ (fun r => ∀ c : Dev Cert.RefRopeIdeal.nD,
          r.2.mem ((c.tc : Thread Cert.RefRopeIdeal.nD Cert.RefRopeIdeal.τ).loc Cert.RefRopeIdeal.main_v20) = v0 c
          ∧ r.2.mem ((c.tc : Thread Cert.RefRopeIdeal.nD Cert.RefRopeIdeal.τ).loc Cert.RefRopeIdeal.main_v22) = v1 c
          ∧ r.2.mem ((c.tc : Thread Cert.RefRopeIdeal.nD Cert.RefRopeIdeal.τ).loc Cert.RefRopeIdeal.main_arg0) = m' ((c.tc : Thread Cert.RefRopeIdeal.nD Cert.RefRopeIdeal.τ).loc Cert.RefRopeIdeal.main_arg0))

def Claim : Prop :=
  ∃ (hKernel : Cert.Kernel.Facts) (hKernelIdeal : Cert.KernelIdeal.Facts) (hReferenceIdeal : Cert.ReferenceIdeal.Facts) (hProj : Cert.Proj.Facts) (hProjIdeal : Cert.ProjIdeal.Facts) (hRefProjIdeal : Cert.RefProjIdeal.Facts) (hFfn : Cert.Ffn.Facts) (hFfnIdeal : Cert.FfnIdeal.Facts) (hRefFfnIdeal : Cert.RefFfnIdeal.Facts) (hProjB : Cert.ProjB.Facts) (hProjBIdeal : Cert.ProjBIdeal.Facts) (hRefProjBIdeal : Cert.RefProjBIdeal.Facts) (hMerge : Cert.Merge.Facts) (hMergeIdeal : Cert.MergeIdeal.Facts) (hRefMergeIdeal : Cert.RefMergeIdeal.Facts) (hMisc : Cert.Misc.Facts) (hMiscIdeal : Cert.MiscIdeal.Facts) (hRefMiscIdeal : Cert.RefMiscIdeal.Facts) (hMiscB : Cert.MiscB.Facts) (hMiscBIdeal : Cert.MiscBIdeal.Facts) (hRefMiscBIdeal : Cert.RefMiscBIdeal.Facts) (hRope : Cert.Rope.Facts) (hRopeIdeal : Cert.RopeIdeal.Facts) (hRefRopeIdeal : Cert.RefRopeIdeal.Facts) (hPre_finite_scores : Cert.Pre_finite_scores.Facts) (hPre_finite_rows : Cert.Pre_finite_rows.Facts) (hPre_finite_rows1 : Cert.Pre_finite_rows1.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Proj (hProj := hProj)
    ∧ quiescent_ProjIdeal (hProjIdeal := hProjIdeal)
    ∧ quiescent_RefProjIdeal (hRefProjIdeal := hRefProjIdeal)
    ∧ quiescent_Ffn (hFfn := hFfn)
    ∧ quiescent_FfnIdeal (hFfnIdeal := hFfnIdeal)
    ∧ quiescent_RefFfnIdeal (hRefFfnIdeal := hRefFfnIdeal)
    ∧ quiescent_ProjB (hProjB := hProjB)
    ∧ quiescent_ProjBIdeal (hProjBIdeal := hProjBIdeal)
    ∧ quiescent_RefProjBIdeal (hRefProjBIdeal := hRefProjBIdeal)
    ∧ quiescent_Merge (hMerge := hMerge)
    ∧ quiescent_MergeIdeal (hMergeIdeal := hMergeIdeal)
    ∧ quiescent_RefMergeIdeal (hRefMergeIdeal := hRefMergeIdeal)
    ∧ quiescent_Misc (hMisc := hMisc)
    ∧ quiescent_MiscIdeal (hMiscIdeal := hMiscIdeal)
    ∧ quiescent_MiscIdeal_pre_finite_rows (hMiscIdeal := hMiscIdeal) (hPre_finite_rows := hPre_finite_rows)
    ∧ quiescent_RefMiscIdeal (hRefMiscIdeal := hRefMiscIdeal)
    ∧ quiescent_RefMiscIdeal_pre_finite_rows (hRefMiscIdeal := hRefMiscIdeal) (hPre_finite_rows := hPre_finite_rows)
    ∧ quiescent_MiscB (hMiscB := hMiscB)
    ∧ quiescent_MiscBIdeal (hMiscBIdeal := hMiscBIdeal)
    ∧ quiescent_MiscBIdeal_pre_finite_rows1 (hMiscBIdeal := hMiscBIdeal) (hPre_finite_rows1 := hPre_finite_rows1)
    ∧ quiescent_RefMiscBIdeal (hRefMiscBIdeal := hRefMiscBIdeal)
    ∧ quiescent_RefMiscBIdeal_pre_finite_rows1 (hRefMiscBIdeal := hRefMiscBIdeal) (hPre_finite_rows1 := hPre_finite_rows1)
    ∧ quiescent_Rope (hRope := hRope)
    ∧ quiescent_RopeIdeal (hRopeIdeal := hRopeIdeal)
    ∧ quiescent_RefRopeIdeal (hRefRopeIdeal := hRefRopeIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Proj_ProjIdeal
    ∧ algebraic_ProjIdeal_RefProjIdeal (hProjIdeal := hProjIdeal) (hRefProjIdeal := hRefProjIdeal)
    ∧ preserves_Ffn_FfnIdeal
    ∧ algebraic_FfnIdeal_RefFfnIdeal (hFfnIdeal := hFfnIdeal) (hRefFfnIdeal := hRefFfnIdeal)
    ∧ preserves_ProjB_ProjBIdeal
    ∧ algebraic_ProjBIdeal_RefProjBIdeal (hProjBIdeal := hProjBIdeal) (hRefProjBIdeal := hRefProjBIdeal)
    ∧ preserves_Merge_MergeIdeal
    ∧ algebraic_MergeIdeal_RefMergeIdeal (hMergeIdeal := hMergeIdeal) (hRefMergeIdeal := hRefMergeIdeal)
    ∧ preserves_Misc_MiscIdeal
    ∧ algebraic_MiscIdeal_RefMiscIdeal_pre_finite_rows (hMiscIdeal := hMiscIdeal) (hRefMiscIdeal := hRefMiscIdeal) (hPre_finite_rows := hPre_finite_rows)
    ∧ preserves_MiscB_MiscBIdeal
    ∧ algebraic_MiscBIdeal_RefMiscBIdeal_pre_finite_rows1 (hMiscBIdeal := hMiscBIdeal) (hRefMiscBIdeal := hRefMiscBIdeal) (hPre_finite_rows1 := hPre_finite_rows1)
    ∧ preserves_Rope_RopeIdeal
    ∧ algebraic_RopeIdeal_RefRopeIdeal (hRopeIdeal := hRopeIdeal) (hRefRopeIdeal := hRefRopeIdeal)
-- ==== Pre_finite_rows.lean ====
abbrev S2x16384x2048 : Shape := ⟨3, ![2, 16384, 2048]⟩
abbrev S2048x18976 : Shape := ⟨2, ![2048, 18976]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  bcast_S_S2048x18976 : S_.BroadcastsInDim S2048x18976 (![] : Fin 0 → Fin S2048x18976.rank)
  reducesTo_S2048x18976_S_d0_1 : S2048x18976.ReducesTo [0, 1] S_

variable [Facts]

def fn {F : FTy → Type} [FloatOps F] (main_arg0 : FVec F S2x16384x2048 .f32) (main_arg1 : FVec F S2048x18976 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2048x18976 .f32 := Host.absf main_arg1
  let main_cst_0 : FVec F S_ .f32 := constant S_ .f32 0x7F800000#32
  let main_v5 : FVec F S2048x18976 .f32 := broadcastInDim S2048x18976 ![] bcast_S_S2048x18976 main_cst_0
  let main_v6 : IVec S2048x18976 1 := cmpf .olt main_v4 main_v5
  let main_c_1 : IVec S_ 1 := constantI S_ 1 1#1
  let main_v7 : IVec S_ 1 := (fun x v => Host.reduce IntOp.andi x v reducesTo_S2048x18976_S_d0_1 h_S_) main_v6 main_c_1
  let main_v8 : IVec S_ 1 := andi main_v3 main_v7
  main_v8
-- ==== Pre_finite_rows1.lean ====
abbrev S32768x2048 : Shape := ⟨2, ![32768, 2048]⟩
abbrev S2048x18976 : Shape := ⟨2, ![2048, 18976]⟩
abbrev S2048x64 : Shape := ⟨2, ![2048, 64]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048x18976 : S_.BroadcastsInDim S2048x18976 (![] : Fin 0 → Fin S2048x18976.rank)
  reducesTo_S2048x18976_S_d0_1 : S2048x18976.ReducesTo [0, 1] S_

variable [Facts]

def fn {F : FTy → Type} [FloatOps F] (main_arg0 : FVec F S32768x2048 .bf16) (main_arg1 : FVec F S2048x18976 .f32) (main_arg2 : FVec F S2048x64 .f32) : IVec S_ 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_c : IVec S_ 1 := constantI S_ 1 1#1
  let main_v4 : IVec S_ 1 := (fun x v => Host.reduce IntOp.andi x v reducesTo_S32768x2048_S_d0_1 h_S_) main_v3 main_c
  let main_v5 : FVec F S2048x18976 .f32 := Host.absf main_arg1
  let main_cst_0 : FVec F S_ .f32 := constant S_ .f32 0x7F800000#32
  let main_v6 : FVec F S2048x18976 .f32 := broadcastInDim S2048x18976 ![] bcast_S_S2048x18976 main_cst_0
  let main_v7 : IVec S2048x18976 1 := cmpf .olt main_v5 main_v6
  let main_c_1 : IVec S_ 1 := constantI S_ 1 1#1
  let main_v8 : IVec S_ 1 := (fun x v => Host.reduce IntOp.andi x v reducesTo_S2048x18976_S_d0_1 h_S_) main_v7 main_c_1
  let main_v9 : IVec S_ 1 := andi main_v4 main_v8
  main_v9
-- ==== Pre_finite_scores.lean ====
abbrev S2x16384x4096 : Shape := ⟨3, ![2, 16384, 4096]⟩
abbrev S2x2048x16384 : Shape := ⟨3, ![2, 2048, 16384]⟩
abbrev S2x128x16384 : Shape := ⟨3, ![2, 128, 16384]⟩
abbrev S2x16384x2048 : Shape := ⟨3, ![2, 16384, 2048]⟩
abbrev S_ : Shape := ⟨0, ![]⟩

class Facts : Prop where
  bitsLt_bf16_f32 : FTy.bits .bf16 < FTy.bits .f32
  bcast_S_S2x16384x4096 : S_.BroadcastsInDim S2x16384x4096 (![] : Fin 0 → Fin S2x16384x4096.rank)
  reducesTo_S2x16384x4096_S_d0_1_2 : S2x16384x4096.ReducesTo [0, 1, 2] S_
  h_S_ : 0 < S_.numel
  bcast_S_S2x2048x16384 : S_.BroadcastsInDim S2x2048x16384 (![] : Fin 0 → Fin S2x2048x16384.rank)
  reducesTo_S2x2048x16384_S_d0_1_2 : S2x2048x16384.ReducesTo [0, 1, 2] S_
  bcast_S_S2x128x16384 : S_.BroadcastsInDim S2x128x16384 (![] : Fin 0 → Fin S2x128x16384.rank)
  reducesTo_S2x128x16384_S_d0_1_2 : S2x128x16384.ReducesTo [0, 1, 2] S_

variable [Facts]

def fn {F : FTy → Type} [FloatOps F] (main_arg0 : FVec F S2x16384x4096 .bf16) (main_arg1 : FVec F S2x2048x16384 .bf16) (main_arg2 : FVec F S2x128x16384 .bf16) (main_arg3 : FVec F S2x16384x2048 .bf16) : IVec S_ 1 :=
  let main_v0 : FVec F S2x16384x4096 .f32 := (extf .f32 · bitsLt_bf16_f32) main_arg0
  let main_v1 : FVec F S2x16384x4096 .f32 := Host.absf main_v0
  let main_cst : FVec F S_ .f32 := constant S_ .f32 0x7F800000#32
  let main_v2 : FVec F S2x16384x4096 .f32 := broadcastInDim S2x16384x4096 ![] bcast_S_S2x16384x4096 main_cst
  let main_v3 : IVec S2x16384x4096 1 := cmpf .olt main_v1 main_v2
  let main_c : IVec S_ 1 := constantI S_ 1 1#1
  let main_v4 : IVec S_ 1 := (fun x v => Host.reduce IntOp.andi x v reducesTo_S2x16384x4096_S_d0_1_2 h_S_) main_v3 main_c
  let main_v5 : FVec F S2x2048x16384 .f32 := (extf .f32 · bitsLt_bf16_f32) main_arg1
  let main_v6 : FVec F S2x2048x16384 .f32 := Host.absf main_v5
  let main_cst_0 : FVec F S_ .f32 := constant S_ .f32 0x7F800000#32
  let main_v7 : FVec F S2x2048x16384 .f32 := broadcastInDim S2x2048x16384 ![] bcast_S_S2x2048x16384 main_cst_0
  let main_v8 : IVec S2x2048x16384 1 := cmpf .olt main_v6 main_v7
  let main_c_1 : IVec S_ 1 := constantI S_ 1 1#1
  let main_v9 : IVec S_ 1 := (fun x v => Host.reduce IntOp.andi x v reducesTo_S2x2048x16384_S_d0_1_2 h_S_) main_v8 main_c_1
  let main_v10 : IVec S_ 1 := andi main_v4 main_v9
  let main_v11 : FVec F S2x128x16384 .f32 := (extf .f32 · bitsLt_bf16_f32) main_arg2
  let main_v12 : FVec F S2x128x16384 .f32 := Host.absf main_v11
  let main_cst_2 : FVec F S_ .f32 := constant S_ .f32 0x7F800000#32
  let main_v13 : FVec F S2x128x16384 .f32 := broadcastInDim S2x128x16384 ![] bcast_S_S2x128x16384 main_cst_2
  let main_v14 : IVec S2x128x16384 1 := cmpf .olt main_v12 main_v13
  let main_c_3 : IVec S_ 1 := constantI S_ 1 1#1
  let main_v15 : IVec S_ 1 := (fun x v => Host.reduce IntOp.andi x v reducesTo_S2x128x16384_S_d0_1_2 h_S_) main_v14 main_c_3
  let main_v16 : IVec S_ 1 := andi main_v10 main_v15
  main_v16
-- ==== Kernel.lean ====
abbrev S2x16384x4096 : Shape := ⟨3, ![2, 16384, 4096]⟩
abbrev S2x2048x16384 : Shape := ⟨3, ![2, 2048, 16384]⟩
abbrev S2x128x16384 : Shape := ⟨3, ![2, 128, 16384]⟩
abbrev S2x16384x2048 : Shape := ⟨3, ![2, 16384, 2048]⟩
abbrev S20 : Shape := ⟨1, ![20]⟩
abbrev S1x4096x256 : Shape := ⟨3, ![1, 4096, 256]⟩
abbrev S1 : Shape := ⟨1, ![1]⟩
abbrev S1x128x2048 : Shape := ⟨3, ![1, 128, 2048]⟩
abbrev S1x2048x128 : Shape := ⟨3, ![1, 2048, 128]⟩
abbrev S1x4096x128 : Shape := ⟨3, ![1, 4096, 128]⟩
abbrev S4096x128 : Shape := ⟨2, ![4096, 128]⟩
abbrev S4096x256 : Shape := ⟨2, ![4096, 256]⟩
abbrev S128x2048 : Shape := ⟨2, ![128, 2048]⟩
abbrev S256x2048 : Shape := ⟨2, ![256, 2048]⟩
abbrev S2048x128 : Shape := ⟨2, ![2048, 128]⟩
abbrev S2048x256 : Shape := ⟨2, ![2048, 256]⟩
abbrev S1x1024x256 : Shape := ⟨3, ![1, 1024, 256]⟩
abbrev S1024x256 : Shape := ⟨2, ![1024, 256]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩
abbrev S1x512x256 : Shape := ⟨3, ![1, 512, 256]⟩
abbrev S512x256 : Shape := ⟨2, ![512, 256]⟩
abbrev S256x512 : Shape := ⟨2, ![256, 512]⟩
abbrev S512x512 : Shape := ⟨2, ![512, 512]⟩
abbrev S256x1024 : Shape := ⟨2, ![256, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S256x1536 : Shape := ⟨2, ![256, 1536]⟩
abbrev S512x1536 : Shape := ⟨2, ![512, 1536]⟩
abbrev S512x2048 : Shape := ⟨2, ![512, 2048]⟩
abbrev S1536x256 : Shape := ⟨2, ![1536, 256]⟩

abbrev nBuf : Space → Nat
  | .hbm => 5
  | .vmem => 12
  | .smem => 2
  | _ => 0

abbrev bufTy : (tb : Table) → Fin (tcTables nBuf tb) → BufTy
  | .hbm, ⟨0, _⟩ => ⟨S2x16384x4096, .bf16⟩
  | .hbm, ⟨1, _⟩ => ⟨S2x2048x16384, .bf16⟩
  | .hbm, ⟨2, _⟩ => ⟨S2x128x16384, .bf16⟩
  | .hbm, ⟨3, _⟩ => ⟨S2x16384x2048, .bf16⟩
  | .hbm, ⟨4, _⟩ => ⟨S2x16384x2048, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4096x128, .f32⟩
  | .local _ .vmem, ⟨11, _⟩ => ⟨S4096x256, .f32⟩
  | .local _ .smem, ⟨0, _⟩ => ⟨S20, .i32⟩
  | .local _ .smem, ⟨1, _⟩ => ⟨S20, .i32⟩
  | _, _ => ⟨S2x16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 20], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond5 (v1 : BitVec 32) (v3 : BitVec 32) : BitVec 1 :=
  let c1_i32_7 : BitVec 32 := 1#32
  let v21 : BitVec 32 := Scalar.addi v1 c1_i32_7
  let c2_i32_8 : BitVec 32 := 2#32
  let v22 : BitVec 32 := Scalar.muli v21 c2_i32_8
  let c1_i32_9 : BitVec 32 := 1#32
  let v23 : BitVec 32 := Scalar.subi v22 c1_i32_9
  let v24 : BitVec 1 := Scalar.cmpi .eq v3 v23
  let v25 : BitVec 32 := Scalar.extui v24
  let c0_i32_10 : BitVec 32 := 0#32
  let v26 : BitVec 1 := Scalar.cmpi .ne v25 c0_i32_10
  v26

def cc0_transform_0 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S20) ![v0.toNat] S1.size (k0_off1_inb i)) numel1_S1
  let c0_i32 : BitVec 32 := 0#32
  ![arg0.toNat, v1.toNat, arg1.toNat]

def cc0_transform_1 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S20) ![v0.toNat] S1.size (k0_off1_inb i)) numel1_S1
  let c0_i32 : BitVec 32 := 0#32
  ![arg0.toNat, arg1.toNat, v1.toNat]

def cc0_transform_2 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S20) ![v0.toNat] S1.size (k0_off1_inb i)) numel1_S1
  let c0_i32 : BitVec 32 := 0#32
  let c0_i32_0 : BitVec 32 := 0#32
  ![arg0.toNat, c0_i32.toNat, v1.toNat]

def cc0_transform_3 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S20) ![v0.toNat] S1.size (k0_off1_inb i)) numel1_S1
  let c0_i32 : BitVec 32 := 0#32
  ![arg0.toNat, v1.toNat, arg1.toNat]

def cc0_transform_4 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S20) ![v0.toNat] S1.size (k0_off1_inb i)) numel1_S1
  let c0_i32 : BitVec 32 := 0#32
  ![arg0.toNat, v1.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x16384x4096 : Shape := ⟨3, ![2, 16384, 4096]⟩
abbrev S2x2048x16384 : Shape := ⟨3, ![2, 2048, 16384]⟩
abbrev S2x128x16384 : Shape := ⟨3, ![2, 128, 16384]⟩
abbrev S2x16384x2048 : Shape := ⟨3, ![2, 16384, 2048]⟩
abbrev S2x16384x16x256 : Shape := ⟨4, ![2, 16384, 16, 256]⟩
abbrev S2x16384x16x128 : Shape := ⟨4, ![2, 16384, 16, 128]⟩
abbrev S2x16x128x16384 : Shape := ⟨4, ![2, 16, 128, 16384]⟩
abbrev S2x16x16384x16384 : Shape := ⟨4, ![2, 16, 16384, 16384]⟩
abbrev S2x16384x16384x16 : Shape := ⟨4, ![2, 16384, 16384, 16]⟩
abbrev S16384 : Shape := ⟨1, ![16384]⟩
abbrev S1x16384 : Shape := ⟨2, ![1, 16384]⟩
abbrev S16384x1 : Shape := ⟨2, ![16384, 1]⟩
abbrev S16384x16384 : Shape := ⟨2, ![16384, 16384]⟩
abbrev S_ : Shape := ⟨0, ![]⟩
abbrev S2x16x16384 : Shape := ⟨3, ![2, 16, 16384]⟩
abbrev S2x16x16384x1 : Shape := ⟨4, ![2, 16, 16384, 1]⟩

abbrev nBuf : Space → Nat
  | .hbm => 51
  | .vmem => 0
  | .smem => 0
  | _ => 0

abbrev bufTy : (tb : Table) → Fin (tcTables nBuf tb) → BufTy
  | .hbm, ⟨0, _⟩ => ⟨S2x16384x4096, .bf16⟩
  | .hbm, ⟨1, _⟩ => ⟨S2x2048x16384, .bf16⟩
  | .hbm, ⟨2, _⟩ => ⟨S2x128x16384, .bf16⟩
  | .hbm, ⟨3, _⟩ => ⟨S2x16384x2048, .bf16⟩
  | .hbm, ⟨4, _⟩ => ⟨S2x16384x4096, .f32⟩
  | .hbm, ⟨5, _⟩ => ⟨S2x16384x16x256, .f32⟩
  | .hbm, ⟨6, _⟩ => ⟨S2x16384x16x128, .f32⟩
  | .hbm, ⟨7, _⟩ => ⟨S2x16384x16x128, .f32⟩
  | .hbm, ⟨8, _⟩ => ⟨S2x2048x16384, .f32⟩
  | .hbm, ⟨9, _⟩ => ⟨S2x16x128x16384, .f32⟩
  | .hbm, ⟨10, _⟩ => ⟨S2x128x16384, .f32⟩
  | .hbm, ⟨11, _⟩ => ⟨S2x16384x2048, .f32⟩
  | .hbm, ⟨12, _⟩ => ⟨S2x16384x16x128, .f32⟩
  | .hbm, ⟨13, _⟩ => ⟨S2x16x16384x16384, .f32⟩
  | .hbm, ⟨14, _⟩ => ⟨S2x16x16384x16384, .bf16⟩
  | .hbm, ⟨15, _⟩ => ⟨S2x16384x16384x16, .f32⟩
  | .hbm, ⟨16, _⟩ => ⟨S2x16x16384x16384, .f32⟩
  | .hbm, ⟨17, _⟩ => ⟨S2x16x16384x16384, .bf16⟩
  | .hbm, ⟨18, _⟩ => ⟨S2x16x16384x16384, .bf16⟩
  | .hbm, ⟨19, _⟩ => ⟨S2x16x16384x16384, .f32⟩
  | .hbm, ⟨20, _⟩ => ⟨S16384, .i32⟩
  | .hbm, ⟨21, _⟩ => ⟨S1x16384, .i32⟩
  | .hbm, ⟨22, _⟩ => ⟨S16384x1, .i32⟩
  | .hbm, ⟨23, _⟩ => ⟨S16384x16384, .i32⟩
  | .hbm, ⟨24, _⟩ => ⟨S16384x16384, .i32⟩
  | .hbm, ⟨25, _⟩ => ⟨S16384x16384, .i1⟩
  | .hbm, ⟨26, _⟩ => ⟨S_, .f32⟩
  | .hbm, ⟨27, _⟩ => ⟨S_, .f32⟩
  | .hbm, ⟨28, _⟩ => ⟨S2x16x16384x16384, .i1⟩
  | .hbm, ⟨29, _⟩ => ⟨S2x16x16384x16384, .f32⟩
  | .hbm, ⟨30, _⟩ => ⟨S2x16x16384x16384, .f32⟩
  | .hbm, ⟨31, _⟩ => ⟨S_, .f32⟩
  | .hbm, ⟨32, _⟩ => ⟨S2x16x16384, .f32⟩
  | .hbm, ⟨33, _⟩ => ⟨S_, .f32⟩
  | .hbm, ⟨34, _⟩ => ⟨S2x16x16384, .f32⟩
  | .hbm, ⟨35, _⟩ => ⟨S2x16x16384, .f32⟩
  | .hbm, ⟨36, _⟩ => ⟨S2x16x16384x1, .f32⟩
  | .hbm, ⟨37, _⟩ => ⟨S2x16x16384x16384, .f32⟩
  | .hbm, ⟨38, _⟩ => ⟨S2x16x16384x16384, .f32⟩
  | .hbm, ⟨39, _⟩ => ⟨S2x16x16384x16384, .f32⟩
  | .hbm, ⟨40, _⟩ => ⟨S_, .f32⟩
  | .hbm, ⟨41, _⟩ => ⟨S2x16x16384, .f32⟩
  | .hbm, ⟨42, _⟩ => ⟨S2x16x16384x1, .f32⟩
  | .hbm, ⟨43, _⟩ => ⟨S2x16x16384x16384, .f32⟩
  | .hbm, ⟨44, _⟩ => ⟨S2x16x16384x16384, .f32⟩
  | .hbm, ⟨45, _⟩ => ⟨S2x16x16384x16384, .bf16⟩
  | .hbm, ⟨46, _⟩ => ⟨S2x16x16384x16384, .f32⟩
  | .hbm, ⟨47, _⟩ => ⟨S2x16x128x16384, .f32⟩
  | .hbm, ⟨48, _⟩ => ⟨S2x16384x16x128, .f32⟩
  | .hbm, ⟨49, _⟩ => ⟨S2x16384x2048, .f32⟩
  | .hbm, ⟨50, _⟩ => ⟨S2x16384x2048, .bf16⟩
  | _, _ => ⟨S2x16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proj.lean ====
abbrev S2x16384x2048 : Shape := ⟨3, ![2, 16384, 2048]⟩
abbrev S2048x18976 : Shape := ⟨2, ![2048, 18976]⟩
abbrev S32768x2048 : Shape := ⟨2, ![32768, 2048]⟩
abbrev S2048x6144 : Shape := ⟨2, ![2048, 6144]⟩
abbrev S2048x2048 : Shape := ⟨2, ![2048, 2048]⟩
abbrev S2048x3072 : Shape := ⟨2, ![2048, 3072]⟩
abbrev S2048x32 : Shape := ⟨2, ![2048, 32]⟩
abbrev S2048x512 : Shape := ⟨2, ![2048, 512]⟩
abbrev S2048x64 : Shape := ⟨2, ![2048, 64]⟩
abbrev S2048x96 : Shape := ⟨2, ![2048, 96]⟩
abbrev S2048x256 : Shape := ⟨2, ![2048, 256]⟩
abbrev S_ : Shape := ⟨0, ![]⟩
abbrev S2048x128 : Shape := ⟨2, ![2048, 128]⟩
abbrev S2048x896 : Shape := ⟨2, ![2048, 896]⟩
abbrev S2048x1024 : Shape := ⟨2, ![2048, 1024]⟩
abbrev S2048x19456 : Shape := ⟨2, ![2048, 19456]⟩
abbrev S2048x18432 : Shape := ⟨2, ![2048, 18432]⟩
abbrev S32768x18432 : Shape := ⟨2, ![32768, 18432]⟩
abbrev S1024x2048 : Shape := ⟨2, ![1024, 2048]⟩
abbrev S1024x1024 : Shape := ⟨2, ![1024, 1024]⟩

abbrev nBuf : Space → Nat
  | .hbm => 37
  | .vmem => 6
  | .smem => 0
  | _ => 0

abbrev bufTy : (tb : Table) → Fin (tcTables nBuf tb) → BufTy
  | .hbm, ⟨0, _⟩ => ⟨S2x16384x2048, .f32⟩
  | .hbm, ⟨1, _⟩ => ⟨S2048x18976, .f32⟩
  | .hbm, ⟨2, _⟩ => ⟨S32768x2048, .f32⟩
  | .hbm, ⟨3, _⟩ => ⟨S2048x18976, .bf16⟩
  | .hbm, ⟨4, _⟩ => ⟨S2048x6144, .bf16⟩
  | .hbm, ⟨5, _⟩ => ⟨S2048x2048, .bf16⟩
  | .hbm, ⟨6, _⟩ => ⟨S2048x3072, .bf16⟩
  | .hbm, ⟨7, _⟩ => ⟨S2048x32, .bf16⟩
  | .hbm, ⟨8, _⟩ => ⟨S2048x512, .bf16⟩
  | .hbm, ⟨9, _⟩ => ⟨S2048x512, .bf16⟩
  | .hbm, ⟨10, _⟩ => ⟨S2048x64, .bf16⟩
  | .hbm, ⟨11, _⟩ => ⟨S2048x6144, .bf16⟩
  | .hbm, ⟨12, _⟩ => ⟨S2048x96, .bf16⟩
  | .hbm, ⟨13, _⟩ => ⟨S2048x96, .bf16⟩
  | .hbm, ⟨14, _⟩ => ⟨S2048x256, .bf16⟩
  | .hbm, ⟨15, _⟩ => ⟨S_, .bf16⟩
  | .hbm, ⟨16, _⟩ => ⟨S2048x128, .bf16⟩
  | .hbm, ⟨17, _⟩ => ⟨S2048x32, .bf16⟩
  | .hbm, ⟨18, _⟩ => ⟨S2048x32, .bf16⟩
  | .hbm, ⟨19, _⟩ => ⟨S2048x32, .bf16⟩
  | .hbm, ⟨20, _⟩ => ⟨S2048x64, .bf16⟩
  | .hbm, ⟨21, _⟩ => ⟨S_, .i32⟩
  | .hbm, ⟨22, _⟩ => ⟨S_, .bf16⟩
  | .hbm, ⟨23, _⟩ => ⟨S2048x128, .bf16⟩
  | .hbm, ⟨24, _⟩ => ⟨S_, .i32⟩
  | .hbm, ⟨25, _⟩ => ⟨S_, .bf16⟩
  | .hbm, ⟨26, _⟩ => ⟨S2048x128, .bf16⟩
  | .hbm, ⟨27, _⟩ => ⟨S_, .i32⟩
  | .hbm, ⟨28, _⟩ => ⟨S_, .bf16⟩
  | .hbm, ⟨29, _⟩ => ⟨S2048x128, .bf16⟩
  | .hbm, ⟨30, _⟩ => ⟨S2048x896, .bf16⟩
  | .hbm, ⟨31, _⟩ => ⟨S_, .i32⟩
  | .hbm, ⟨32, _⟩ => ⟨S_, .bf16⟩
  | .hbm, ⟨33, _⟩ => ⟨S2048x1024, .bf16⟩
  | .hbm, ⟨34, _⟩ => ⟨S2048x19456, .bf16⟩
  | .hbm, ⟨35, _⟩ => ⟨S2048x18432, .bf16⟩
  | .hbm, ⟨36, _⟩ => ⟨S32768x18432, .bf16⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_c_0 : Ref sig .tc := ⟨.hbm, 24, rfl⟩
abbrev main_call1_v0 : Ref sig .tc := ⟨.hbm, 25, rfl⟩
abbrev main_v19 : Ref sig .tc := ⟨.hbm, 26, rfl⟩
abbrev main_c_1 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call3_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjIdeal.lean ====
abbrev S2x16384x2048 : Shape := ⟨3, ![2, 16384, 2048]⟩
abbrev S2048x18976 : Shape := ⟨2, ![2048, 18976]⟩
abbrev S2x16384x18976 : Shape := ⟨3, ![2, 16384, 18976]⟩
abbrev S2x16384x6144 : Shape := ⟨3, ![2, 16384, 6144]⟩
abbrev S2x16384x5152 : Shape := ⟨3, ![2, 16384, 5152]⟩
abbrev S2x16384x1088 : Shape := ⟨3, ![2, 16384, 1088]⟩
abbrev S2x16384x6592 : Shape := ⟨3, ![2, 16384, 6592]⟩
abbrev S2x16384x3072 : Shape := ⟨3, ![2, 16384, 3072]⟩
abbrev S2x16384x32 : Shape := ⟨3, ![2, 16384, 32]⟩
abbrev S2x16384x512 : Shape := ⟨3, ![2, 16384, 512]⟩
abbrev S2x16384x64 : Shape := ⟨3, ![2, 16384, 64]⟩
abbrev S2x16384x448 : Shape := ⟨3, ![2, 16384, 448]⟩
abbrev S2x16384x18432 : Shape := ⟨3, ![2, 16384, 18432]⟩
abbrev S32768x18432 : Shape := ⟨2, ![32768, 18432]⟩

abbrev nBuf : Space → Nat
  | .hbm => 18
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x18976, .f32⟩
  | .hbm, ⟨2, _⟩ => ⟨S2x16384x18976, .f32⟩
  | .hbm, ⟨3, _⟩ => ⟨S2x16384x6144, .f32⟩
  | .hbm, ⟨4, _⟩ => ⟨S2x16384x5152, .f32⟩
  | .hbm, ⟨5, _⟩ => ⟨S2x16384x1088, .f32⟩
  | .hbm, ⟨6, _⟩ => ⟨S2x16384x6592, .f32⟩
  | .hbm, ⟨7, _⟩ => ⟨S2x16384x2048, .f32⟩
  | .hbm, ⟨8, _⟩ => ⟨S2x16384x3072, .f32⟩
  | .hbm, ⟨9, _⟩ => ⟨S2x16384x32, .f32⟩
  | .hbm, ⟨10, _⟩ => ⟨S2x16384x512, .f32⟩
  | .hbm, ⟨11, _⟩ => ⟨S2x16384x512, .f32⟩
  | .hbm, ⟨12, _⟩ => ⟨S2x16384x64, .f32⟩
  | .hbm, ⟨13, _⟩ => ⟨S2x16384x6144, .f32⟩
  | .hbm, ⟨14, _⟩ => ⟨S2x16384x448, .f32⟩
  | .hbm, ⟨15, _⟩ => ⟨S2x16384x18432, .f32⟩
  | .hbm, ⟨16, _⟩ => ⟨S32768x18432, .f32⟩
  | .hbm, ⟨17, _⟩ => ⟨S32768x18432, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩

abbrev nD : Nat := 1
abbrev τ : Topo := Topo.v7x

variable {F : FTy → Type} [FloatOps F]
-- ==== Ffn.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S2048x256 : Shape := ⟨2, ![2048, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S32768x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S1x2048, .f32⟩
  | .hbm, ⟨12, _⟩ => ⟨S32768x2048, .f32⟩
  | .hbm, ⟨13, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v46 : BitVec 1 := Scalar.cmpi .eq arg1 c10_i32
  let v47 : BitVec 32 := Scalar.extui v46
  let c0_i32_25 : BitVec 32 := 0#32
  let v48 : BitVec 1 := Scalar.cmpi .ne v47 c0_i32_25
  v48

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== RefFfnIdeal.lean ====
abbrev S32768x2048 : Shape := ⟨2, ![32768, 2048]⟩
abbrev S2048x5632 : Shape := ⟨2, ![2048, 5632]⟩
abbrev S5632x2048 : Shape := ⟨2, ![5632, 2048]⟩
abbrev S2048 : Shape := ⟨1, ![2048]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S2048, .f32⟩
  | .hbm, ⟨5, _⟩ => ⟨S2048, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x2048, .f32⟩
  | .hbm, ⟨45, _⟩ => ⟨S32768x2048, .f32⟩
  | .hbm, ⟨46, _⟩ => ⟨S1x2048, .f32⟩
  | .hbm, ⟨47, _⟩ => ⟨S32768x2048, .f32⟩
  | .hbm, ⟨48, _⟩ => ⟨S32768x2048, .f32⟩
  | .hbm, ⟨49, _⟩ => ⟨S1x2048, .f32⟩
  | .hbm, ⟨50, _⟩ => ⟨S32768x2048, .f32⟩
  | .hbm, ⟨51, _⟩ => ⟨S32768x2048, .f32⟩
  | .hbm, ⟨52, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== ProjB.lean ====
abbrev S32768x2048 : Shape := ⟨2, ![32768, 2048]⟩
abbrev S2048x18976 : Shape := ⟨2, ![2048, 18976]⟩
abbrev S2048x64 : Shape := ⟨2, ![2048, 64]⟩
abbrev S2048x6144 : Shape := ⟨2, ![2048, 6144]⟩
abbrev S2048x2048 : Shape := ⟨2, ![2048, 2048]⟩
abbrev S2048x3072 : Shape := ⟨2, ![2048, 3072]⟩
abbrev S2048x32 : Shape := ⟨2, ![2048, 32]⟩
abbrev S2048x512 : Shape := ⟨2, ![2048, 512]⟩
abbrev S2048x96 : Shape := ⟨2, ![2048, 96]⟩
abbrev S2048x256 : Shape := ⟨2, ![2048, 256]⟩
abbrev S_ : Shape := ⟨0, ![]⟩
abbrev S2048x128 : Shape := ⟨2, ![2048, 128]⟩
abbrev S2048x896 : Shape := ⟨2, ![2048, 896]⟩
abbrev S2048x1024 : Shape := ⟨2, ![2048, 1024]⟩
abbrev S2048x19456 : Shape := ⟨2, ![2048, 19456]⟩
abbrev S2048x18432 : Shape := ⟨2, ![2048, 18432]⟩
abbrev S32768x18432 : Shape := ⟨2, ![32768, 18432]⟩

abbrev nBuf : Space → Nat
  | .hbm => 39
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x18976, .f32⟩
  | .hbm, ⟨2, _⟩ => ⟨S2048x64, .f32⟩
  | .hbm, ⟨3, _⟩ => ⟨S2048x18976, .bf16⟩
  | .hbm, ⟨4, _⟩ => ⟨S2048x64, .bf16⟩
  | .hbm, ⟨5, _⟩ => ⟨S2048x6144, .bf16⟩
  | .hbm, ⟨6, _⟩ => ⟨S2048x2048, .bf16⟩
  | .hbm, ⟨7, _⟩ => ⟨S2048x3072, .bf16⟩
  | .hbm, ⟨8, _⟩ => ⟨S2048x32, .bf16⟩
  | .hbm, ⟨9, _⟩ => ⟨S2048x512, .bf16⟩
  | .hbm, ⟨10, _⟩ => ⟨S2048x512, .bf16⟩
  | .hbm, ⟨11, _⟩ => ⟨S2048x64, .bf16⟩
  | .hbm, ⟨12, _⟩ => ⟨S2048x6144, .bf16⟩
  | .hbm, ⟨13, _⟩ => ⟨S2048x96, .bf16⟩
  | .hbm, ⟨14, _⟩ => ⟨S2048x96, .bf16⟩
  | .hbm, ⟨15, _⟩ => ⟨S2048x256, .bf16⟩
  | .hbm, ⟨16, _⟩ => ⟨S_, .i32⟩
  | .hbm, ⟨17, _⟩ => ⟨S_, .bf16⟩
  | .hbm, ⟨18, _⟩ => ⟨S2048x128, .bf16⟩
  | .hbm, ⟨19, _⟩ => ⟨S2048x32, .bf16⟩
  | .hbm, ⟨20, _⟩ => ⟨S2048x32, .bf16⟩
  | .hbm, ⟨21, _⟩ => ⟨S2048x32, .bf16⟩
  | .hbm, ⟨22, _⟩ => ⟨S2048x64, .bf16⟩
  | .hbm, ⟨23, _⟩ => ⟨S_, .i32⟩
  | .hbm, ⟨24, _⟩ => ⟨S_, .bf16⟩
  | .hbm, ⟨25, _⟩ => ⟨S2048x128, .bf16⟩
  | .hbm, ⟨26, _⟩ => ⟨S_, .i32⟩
  | .hbm, ⟨27, _⟩ => ⟨S_, .bf16⟩
  | .hbm, ⟨28, _⟩ => ⟨S2048x128, .bf16⟩
  | .hbm, ⟨29, _⟩ => ⟨S_, .i32⟩
  | .hbm, ⟨30, _⟩ => ⟨S_, .bf16⟩
  | .hbm, ⟨31, _⟩ => ⟨S2048x128, .bf16⟩
  | .hbm, ⟨32, _⟩ => ⟨S2048x896, .bf16⟩
  | .hbm, ⟨33, _⟩ => ⟨S_, .i32⟩
  | .hbm, ⟨34, _⟩ => ⟨S_, .bf16⟩
  | .hbm, ⟨35, _⟩ => ⟨S2048x1024, .bf16⟩
  | .hbm, ⟨36, _⟩ => ⟨S2048x19456, .bf16⟩
  | .hbm, ⟨37, _⟩ => ⟨S2048x18432, .bf16⟩
  | .hbm, ⟨38, _⟩ => ⟨S32768x18432, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_v18 : Ref sig .tc := ⟨.hbm, 25, rfl⟩
abbrev main_c_1 : Ref sig .tc := ⟨.hbm, 26, rfl⟩
abbrev main_call2_v0 : Ref sig .tc := ⟨.hbm, 27, rfl⟩
abbrev main_v19 : Ref sig .tc := ⟨.hbm, 28, rfl⟩
abbrev main_c_2 : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call4_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefProjBIdeal.lean ====
abbrev S32768x2048 : Shape := ⟨2, ![32768, 2048]⟩
abbrev S2048x18976 : Shape := ⟨2, ![2048, 18976]⟩
abbrev S2048x64 : Shape := ⟨2, ![2048, 64]⟩
abbrev S32768x18976 : Shape := ⟨2, ![32768, 18976]⟩
abbrev S32768x6144 : Shape := ⟨2, ![32768, 6144]⟩
abbrev S32768x5152 : Shape := ⟨2, ![32768, 5152]⟩
abbrev S32768x1088 : Shape := ⟨2, ![32768, 1088]⟩
abbrev S32768x6592 : Shape := ⟨2, ![32768, 6592]⟩
abbrev S32768x3072 : Shape := ⟨2, ![32768, 3072]⟩
abbrev S32768x32 : Shape := ⟨2, ![32768, 32]⟩
abbrev S32768x512 : Shape := ⟨2, ![32768, 512]⟩
abbrev S32768x64 : Shape := ⟨2, ![32768, 64]⟩
abbrev S32768x448 : Shape := ⟨2, ![32768, 448]⟩
abbrev S32768x18432 : Shape := ⟨2, ![32768, 18432]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x18976, .f32⟩
  | .hbm, ⟨2, _⟩ => ⟨S2048x64, .f32⟩
  | .hbm, ⟨3, _⟩ => ⟨S32768x2048, .f32⟩
  | .hbm, ⟨4, _⟩ => ⟨S32768x18976, .f32⟩
  | .hbm, ⟨5, _⟩ => ⟨S32768x6144, .f32⟩
  | .hbm, ⟨6, _⟩ => ⟨S32768x5152, .f32⟩
  | .hbm, ⟨7, _⟩ => ⟨S32768x1088, .f32⟩
  | .hbm, ⟨8, _⟩ => ⟨S32768x6592, .f32⟩
  | .hbm, ⟨9, _⟩ => ⟨S32768x2048, .f32⟩
  | .hbm, ⟨10, _⟩ => ⟨S32768x3072, .f32⟩
  | .hbm, ⟨11, _⟩ => ⟨S32768x32, .f32⟩
  | .hbm, ⟨12, _⟩ => ⟨S32768x512, .f32⟩
  | .hbm, ⟨13, _⟩ => ⟨S32768x512, .f32⟩
  | .hbm, ⟨14, _⟩ => ⟨S32768x64, .f32⟩
  | .hbm, ⟨15, _⟩ => ⟨S32768x6144, .f32⟩
  | .hbm, ⟨16, _⟩ => ⟨S32768x448, .f32⟩
  | .hbm, ⟨17, _⟩ => ⟨S32768x18432, .f32⟩
  | .hbm, ⟨18, _⟩ => ⟨S32768x18432, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Merge.lean ====
abbrev S32768x18432 : Shape := ⟨2, ![32768, 18432]⟩
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 21
  | .smem => 0
  | _ => 0

abbrev bufTy : (tb : Table) → Fin (tcTables nBuf tb) → BufTy
  | .hbm, ⟨0, _⟩ => ⟨S32768x18432, .bf16⟩
  | .hbm, ⟨1, _⟩ => ⟨S32768x2048, .bf16⟩
  | .hbm, ⟨2, _⟩ => ⟨S32768x2048, .bf16⟩
  | .hbm, ⟨3, _⟩ => ⟨S32768x2048, .bf16⟩
  | .hbm, ⟨4, _⟩ => ⟨S32768x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .f32⟩
  | .local _ .vmem, ⟨13, _⟩ => ⟨S256x2048, .f32⟩
  | .local _ .vmem, ⟨14, _⟩ => ⟨S2048x2048, .bf16⟩
  | .local _ .vmem, ⟨15, _⟩ => ⟨S1x2048, .f32⟩
  | .local _ .vmem, ⟨16, _⟩ => ⟨S1x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .bf16⟩
  | .local _ .vmem, ⟨20, _⟩ => ⟨S256x2048, .bf16⟩
  | _, _ => ⟨S32768x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RefMergeIdeal.lean ====
abbrev S32768x18432 : Shape := ⟨2, ![32768, 18432]⟩
abbrev S32768x2048 : Shape := ⟨2, ![32768, 2048]⟩
abbrev S2048x2048 : Shape := ⟨2, ![2048, 2048]⟩
abbrev S2048 : Shape := ⟨1, ![2048]⟩
abbrev S32768x6144 : Shape := ⟨2, ![32768, 6144]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 64
  | .vmem => 0
  | .smem => 0
  | _ => 0

abbrev bufTy : (tb : Table) → Fin (tcTables nBuf tb) → BufTy
  | .hbm, ⟨0, _⟩ => ⟨S32768x18432, .bf16⟩
  | .hbm, ⟨1, _⟩ => ⟨S32768x2048, .bf16⟩
  | .hbm, ⟨2, _⟩ => ⟨S32768x2048, .bf16⟩
  | .hbm, ⟨3, _⟩ => ⟨S32768x2048, .bf16⟩
  | .hbm, ⟨4, _⟩ => ⟨S32768x2048, .f32⟩
  | .hbm, ⟨5, _⟩ => ⟨S2048x2048, .f32⟩
  | .hbm, ⟨6, _⟩ => ⟨S2048, .f32⟩
  | .hbm, ⟨7, _⟩ => ⟨S2048, .f32⟩
  | .hbm, ⟨8, _⟩ => ⟨S32768x6144, .bf16⟩
  | .hbm, ⟨9, _⟩ => ⟨S32768x6144, .f32⟩
  | .hbm, ⟨10, _⟩ => ⟨S32768x6144, .f32⟩
  | .hbm, ⟨11, _⟩ => ⟨S32768x6144, .f32⟩
  | .hbm, ⟨12, _⟩ => ⟨S_, .f32⟩
  | .hbm, ⟨13, _⟩ => ⟨S32768x6144, .f32⟩
  | .hbm, ⟨14, _⟩ => ⟨S32768x6144, .f32⟩
  | .hbm, ⟨15, _⟩ => ⟨S_, .f32⟩
  | .hbm, ⟨16, _⟩ => ⟨S32768x6144, .f32⟩
  | .hbm, ⟨17, _⟩ => ⟨S32768x6144, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x2048, .f32⟩
  | .hbm, ⟨50, _⟩ => ⟨S32768x2048, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x2048, .f32⟩
  | .hbm, ⟨56, _⟩ => ⟨S32768x2048, .f32⟩
  | .hbm, ⟨57, _⟩ => ⟨S1x2048, .f32⟩
  | .hbm, ⟨58, _⟩ => ⟨S32768x2048, .f32⟩
  | .hbm, ⟨59, _⟩ => ⟨S32768x2048, .f32⟩
  | .hbm, ⟨60, _⟩ => ⟨S1x2048, .f32⟩
  | .hbm, ⟨61, _⟩ => ⟨S32768x2048, .f32⟩
  | .hbm, ⟨62, _⟩ => ⟨S32768x2048, .f32⟩
  | .hbm, ⟨63, _⟩ => ⟨S32768x2048, .bf16⟩
  | _, _ => ⟨S32768x18432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Misc.lean ====
abbrev S2x16384x2048 : Shape := ⟨3, ![2, 16384, 2048]⟩
abbrev S2048x18976 : Shape := ⟨2, ![2048, 18976]⟩
abbrev S32768x2048 : Shape := ⟨2, ![32768, 2048]⟩
abbrev S2048x6144 : Shape := ⟨2, ![2048, 6144]⟩
abbrev S2048x2048 : Shape := ⟨2, ![2048, 2048]⟩
abbrev S2048x3072 : Shape := ⟨2, ![2048, 3072]⟩
abbrev S2048x32 : Shape := ⟨2, ![2048, 32]⟩
abbrev S2048x512 : Shape := ⟨2, ![2048, 512]⟩
abbrev S2048x64 : Shape := ⟨2, ![2048, 64]⟩
abbrev S2048x96 : Shape := ⟨2, ![2048, 96]⟩
abbrev S2048x256 : Shape := ⟨2, ![2048, 256]⟩
abbrev S_ : Shape := ⟨0, ![]⟩
abbrev S2048x128 : Shape := ⟨2, ![2048, 128]⟩
abbrev S2048x896 : Shape := ⟨2, ![2048, 896]⟩
abbrev S2048x1024 : Shape := ⟨2, ![2048, 1024]⟩
abbrev S2048x19456 : Shape := ⟨2, ![2048, 19456]⟩
abbrev S32768x1024 : Shape := ⟨2, ![32768, 1024]⟩
abbrev S1024x2048 : Shape := ⟨2, ![1024, 2048]⟩
abbrev S1024x1024 : Shape := ⟨2, ![1024, 1024]⟩

abbrev nBuf : Space → Nat
  | .hbm => 37
  | .vmem => 5
  | .smem => 0
  | _ => 0

abbrev bufTy : (tb : Table) → Fin (tcTables nBuf tb) → BufTy
  | .hbm, ⟨0, _⟩ => ⟨S2x16384x2048, .f32⟩
  | .hbm, ⟨1, _⟩ => ⟨S2048x18976, .f32⟩
  | .hbm, ⟨2, _⟩ => ⟨S32768x2048, .f32⟩
  | .hbm, ⟨3, _⟩ => ⟨S2048x18976, .bf16⟩
  | .hbm, ⟨4, _⟩ => ⟨S2048x6144, .bf16⟩
  | .hbm, ⟨5, _⟩ => ⟨S2048x2048, .bf16⟩
  | .hbm, ⟨6, _⟩ => ⟨S2048x3072, .bf16⟩
  | .hbm, ⟨7, _⟩ => ⟨S2048x32, .bf16⟩
  | .hbm, ⟨8, _⟩ => ⟨S2048x512, .bf16⟩
  | .hbm, ⟨9, _⟩ => ⟨S2048x512, .bf16⟩
  | .hbm, ⟨10, _⟩ => ⟨S2048x64, .bf16⟩
  | .hbm, ⟨11, _⟩ => ⟨S2048x6144, .bf16⟩
  | .hbm, ⟨12, _⟩ => ⟨S2048x96, .bf16⟩
  | .hbm, ⟨13, _⟩ => ⟨S2048x96, .bf16⟩
  | .hbm, ⟨14, _⟩ => ⟨S2048x256, .bf16⟩
  | .hbm, ⟨15, _⟩ => ⟨S_, .bf16⟩
  | .hbm, ⟨16, _⟩ => ⟨S2048x128, .bf16⟩
  | .hbm, ⟨17, _⟩ => ⟨S2048x32, .bf16⟩
  | .hbm, ⟨18, _⟩ => ⟨S2048x32, .bf16⟩
  | .hbm, ⟨19, _⟩ => ⟨S2048x32, .bf16⟩
  | .hbm, ⟨20, _⟩ => ⟨S2048x64, .bf16⟩
  | .hbm, ⟨21, _⟩ => ⟨S_, .i32⟩
  | .hbm, ⟨22, _⟩ => ⟨S_, .bf16⟩
  | .hbm, ⟨23, _⟩ => ⟨S2048x128, .bf16⟩
  | .hbm, ⟨24, _⟩ => ⟨S_, .i32⟩
  | .hbm, ⟨25, _⟩ => ⟨S_, .bf16⟩
  | .hbm, ⟨26, _⟩ => ⟨S2048x128, .bf16⟩
  | .hbm, ⟨27, _⟩ => ⟨S_, .i32⟩
  | .hbm, ⟨28, _⟩ => ⟨S_, .bf16⟩
  | .hbm, ⟨29, _⟩ => ⟨S2048x128, .bf16⟩
  | .hbm, ⟨30, _⟩ => ⟨S2048x896, .bf16⟩
  | .hbm, ⟨31, _⟩ => ⟨S_, .i32⟩
  | .hbm, ⟨32, _⟩ => ⟨S_, .bf16⟩
  | .hbm, ⟨33, _⟩ => ⟨S2048x1024, .bf16⟩
  | .hbm, ⟨34, _⟩ => ⟨S2048x19456, .bf16⟩
  | .hbm, ⟨35, _⟩ => ⟨S2048x1024, .bf16⟩
  | .hbm, ⟨36, _⟩ => ⟨S32768x1024, .f32⟩
  | .local _ .vmem, ⟨0, _⟩ => ⟨S1024x2048, .f32⟩
  | .local _ .vmem, ⟨1, _⟩ => ⟨S1024x2048, .f32⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_c_0 : Ref sig .tc := ⟨.hbm, 24, rfl⟩
abbrev main_call1_v0 : Ref sig .tc := ⟨.hbm, 25, rfl⟩
abbrev main_v19 : Ref sig .tc := ⟨.hbm, 26, rfl⟩
abbrev main_c_1 : Ref sig .tc := ⟨.hbm, 27, rfl⟩
abbrev main_call2_v0 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_call3_v0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMiscIdeal.lean ====
abbrev S2x16384x2048 : Shape := ⟨3, ![2, 16384, 2048]⟩
abbrev S2048x18976 : Shape := ⟨2, ![2048, 18976]⟩
abbrev S2x16384x18976 : Shape := ⟨3, ![2, 16384, 18976]⟩
abbrev S2x16384x6144 : Shape := ⟨3, ![2, 16384, 6144]⟩
abbrev S2x16384x5152 : Shape := ⟨3, ![2, 16384, 5152]⟩
abbrev S2x16384x1088 : Shape := ⟨3, ![2, 16384, 1088]⟩
abbrev S2x16384x6592 : Shape := ⟨3, ![2, 16384, 6592]⟩
abbrev S2x16384x5120 : Shape := ⟨3, ![2, 16384, 5120]⟩
abbrev S2x16384x32 : Shape := ⟨3, ![2, 16384, 32]⟩
abbrev S2x16384x1024 : Shape := ⟨3, ![2, 16384, 1024]⟩
abbrev S2x16384x64 : Shape := ⟨3, ![2, 16384, 64]⟩
abbrev S2x16384x96 : Shape := ⟨3, ![2, 16384, 96]⟩
abbrev S2x16384x256 : Shape := ⟨3, ![2, 16384, 256]⟩
abbrev S_ : Shape := ⟨0, ![]⟩
abbrev S2x16384x128 : Shape := ⟨3, ![2, 16384, 128]⟩
abbrev S32768x1024 : Shape := ⟨2, ![32768, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048x18976, .f32⟩
  | .hbm, ⟨2, _⟩ => ⟨S2x16384x18976, .f32⟩
  | .hbm, ⟨3, _⟩ => ⟨S2x16384x6144, .f32⟩
  | .hbm, ⟨4, _⟩ => ⟨S2x16384x5152, .f32⟩
  | .hbm, ⟨5, _⟩ => ⟨S2x16384x1088, .f32⟩
  | .hbm, ⟨6, _⟩ => ⟨S2x16384x6592, .f32⟩
  | .hbm, ⟨7, _⟩ => ⟨S2x16384x5120, .f32⟩
  | .hbm, ⟨8, _⟩ => ⟨S2x16384x32, .f32⟩
  | .hbm, ⟨9, _⟩ => ⟨S2x16384x1024, .f32⟩
  | .hbm, ⟨10, _⟩ => ⟨S2x16384x64, .f32⟩
  | .hbm, ⟨11, _⟩ => ⟨S2x16384x6144, .f32⟩
  | .hbm, ⟨12, _⟩ => ⟨S2x16384x96, .f32⟩
  | .hbm, ⟨13, _⟩ => ⟨S2x16384x96, .f32⟩
  | .hbm, ⟨14, _⟩ => ⟨S2x16384x256, .f32⟩
  | .hbm, ⟨15, _⟩ => ⟨S2x16384x32, .f32⟩
  | .hbm, ⟨16, _⟩ => ⟨S2x16384x32, .f32⟩
  | .hbm, ⟨17, _⟩ => ⟨S_, .f32⟩
  | .hbm, ⟨18, _⟩ => ⟨S2x16384x32, .f32⟩
  | .hbm, ⟨19, _⟩ => ⟨S_, .f32⟩
  | .hbm, ⟨20, _⟩ => ⟨S2x16384x32, .f32⟩
  | .hbm, ⟨21, _⟩ => ⟨S_, .f32⟩
  | .hbm, ⟨22, _⟩ => ⟨S2x16384x128, .f32⟩
  | .hbm, ⟨23, _⟩ => ⟨S_, .f32⟩
  | .hbm, ⟨24, _⟩ => ⟨S2x16384x96, .f32⟩
  | .hbm, ⟨25, _⟩ => ⟨S2x16384x32, .f32⟩
  | .hbm, ⟨26, _⟩ => ⟨S_, .f32⟩
  | .hbm, ⟨27, _⟩ => ⟨S2x16384x128, .f32⟩
  | .hbm, ⟨28, _⟩ => ⟨S2x16384x1024, .f32⟩
  | .hbm, ⟨29, _⟩ => ⟨S32768x1024, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_cst : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== MiscB.lean ====
abbrev S32768x2048 : Shape := ⟨2, ![32768, 2048]⟩
abbrev S2048x18976 : Shape := ⟨2, ![2048, 18976]⟩
abbrev S2048x64 : Shape := ⟨2, ![2048, 64]⟩
abbrev S2048x6144 : Shape := ⟨2, ![2048, 6144]⟩
abbrev S2048x2048 : Shape := ⟨2, ![2048, 2048]⟩
abbrev S2048x3072 : Shape := ⟨2, ![2048, 3072]⟩
abbrev S2048x32 : Shape := ⟨2, ![2048, 32]⟩
abbrev S2048x512 : Shape := ⟨2, ![2048, 512]⟩
abbrev S2048x96 : Shape := ⟨2, ![2048, 96]⟩
abbrev S2048x256 : Shape := ⟨2, ![2048, 256]⟩
abbrev S_ : Shape := ⟨0, ![]⟩
abbrev S2048x128 : Shape := ⟨2, ![2048, 128]⟩
abbrev S2048x896 : Shape := ⟨2, ![2048, 896]⟩
abbrev S2048x1024 : Shape := ⟨2, ![2048, 1024]⟩
abbrev S2048x19456 : Shape := ⟨2, ![2048, 19456]⟩
abbrev S32768x1024 : Shape := ⟨2, ![32768, 1024]⟩

abbrev nBuf : Space → Nat
  | .hbm => 39
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x18976, .f32⟩
  | .hbm, ⟨2, _⟩ => ⟨S2048x64, .f32⟩
  | .hbm, ⟨3, _⟩ => ⟨S2048x18976, .bf16⟩
  | .hbm, ⟨4, _⟩ => ⟨S2048x64, .bf16⟩
  | .hbm, ⟨5, _⟩ => ⟨S2048x6144, .bf16⟩
  | .hbm, ⟨6, _⟩ => ⟨S2048x2048, .bf16⟩
  | .hbm, ⟨7, _⟩ => ⟨S2048x3072, .bf16⟩
  | .hbm, ⟨8, _⟩ => ⟨S2048x32, .bf16⟩
  | .hbm, ⟨9, _⟩ => ⟨S2048x512, .bf16⟩
  | .hbm, ⟨10, _⟩ => ⟨S2048x512, .bf16⟩
  | .hbm, ⟨11, _⟩ => ⟨S2048x64, .bf16⟩
  | .hbm, ⟨12, _⟩ => ⟨S2048x6144, .bf16⟩
  | .hbm, ⟨13, _⟩ => ⟨S2048x96, .bf16⟩
  | .hbm, ⟨14, _⟩ => ⟨S2048x96, .bf16⟩
  | .hbm, ⟨15, _⟩ => ⟨S2048x256, .bf16⟩
  | .hbm, ⟨16, _⟩ => ⟨S_, .i32⟩
  | .hbm, ⟨17, _⟩ => ⟨S_, .bf16⟩
  | .hbm, ⟨18, _⟩ => ⟨S2048x128, .bf16⟩
  | .hbm, ⟨19, _⟩ => ⟨S2048x32, .bf16⟩
  | .hbm, ⟨20, _⟩ => ⟨S2048x32, .bf16⟩
  | .hbm, ⟨21, _⟩ => ⟨S2048x32, .bf16⟩
  | .hbm, ⟨22, _⟩ => ⟨S2048x64, .bf16⟩
  | .hbm, ⟨23, _⟩ => ⟨S_, .i32⟩
  | .hbm, ⟨24, _⟩ => ⟨S_, .bf16⟩
  | .hbm, ⟨25, _⟩ => ⟨S2048x128, .bf16⟩
  | .hbm, ⟨26, _⟩ => ⟨S_, .i32⟩
  | .hbm, ⟨27, _⟩ => ⟨S_, .bf16⟩
  | .hbm, ⟨28, _⟩ => ⟨S2048x128, .bf16⟩
  | .hbm, ⟨29, _⟩ => ⟨S_, .i32⟩
  | .hbm, ⟨30, _⟩ => ⟨S_, .bf16⟩
  | .hbm, ⟨31, _⟩ => ⟨S2048x128, .bf16⟩
  | .hbm, ⟨32, _⟩ => ⟨S2048x896, .bf16⟩
  | .hbm, ⟨33, _⟩ => ⟨S_, .i32⟩
  | .hbm, ⟨34, _⟩ => ⟨S_, .bf16⟩
  | .hbm, ⟨35, _⟩ => ⟨S2048x1024, .bf16⟩
  | .hbm, ⟨36, _⟩ => ⟨S2048x19456, .bf16⟩
  | .hbm, ⟨37, _⟩ => ⟨S2048x1024, .bf16⟩
  | .hbm, ⟨38, _⟩ => ⟨S32768x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .f32⟩
  | .local _ .vmem, ⟨4, _⟩ => ⟨S2048x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_call1_v0 : Ref sig .tc := ⟨.hbm, 24, rfl⟩
abbrev main_v18 : Ref sig .tc := ⟨.hbm, 25, rfl⟩
abbrev main_c_1 : Ref sig .tc := ⟨.hbm, 26, rfl⟩
abbrev main_call2_v0 : Ref sig .tc := ⟨.hbm, 27, rfl⟩
abbrev main_v19 : Ref sig .tc := ⟨.hbm, 28, rfl⟩
abbrev main_c_2 : Ref sig .tc := ⟨.hbm, 29, rfl⟩
abbrev main_call3_v0 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_call4_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMiscBIdeal.lean ====
abbrev S32768x2048 : Shape := ⟨2, ![32768, 2048]⟩
abbrev S2048x18976 : Shape := ⟨2, ![2048, 18976]⟩
abbrev S2048x64 : Shape := ⟨2, ![2048, 64]⟩
abbrev S2048x19040 : Shape := ⟨2, ![2048, 19040]⟩
abbrev S32768x19040 : Shape := ⟨2, ![32768, 19040]⟩
abbrev S32768x6144 : Shape := ⟨2, ![32768, 6144]⟩
abbrev S32768x5152 : Shape := ⟨2, ![32768, 5152]⟩
abbrev S32768x1088 : Shape := ⟨2, ![32768, 1088]⟩
abbrev S32768x6656 : Shape := ⟨2, ![32768, 6656]⟩
abbrev S32768x5120 : Shape := ⟨2, ![32768, 5120]⟩
abbrev S32768x32 : Shape := ⟨2, ![32768, 32]⟩
abbrev S32768x1024 : Shape := ⟨2, ![32768, 1024]⟩
abbrev S32768x64 : Shape := ⟨2, ![32768, 64]⟩
abbrev S32768x96 : Shape := ⟨2, ![32768, 96]⟩
abbrev S32768x256 : Shape := ⟨2, ![32768, 256]⟩
abbrev S_ : Shape := ⟨0, ![]⟩
abbrev S32768x128 : Shape := ⟨2, ![32768, 128]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x18976, .f32⟩
  | .hbm, ⟨2, _⟩ => ⟨S2048x64, .f32⟩
  | .hbm, ⟨3, _⟩ => ⟨S32768x2048, .f32⟩
  | .hbm, ⟨4, _⟩ => ⟨S2048x19040, .f32⟩
  | .hbm, ⟨5, _⟩ => ⟨S32768x19040, .f32⟩
  | .hbm, ⟨6, _⟩ => ⟨S32768x6144, .f32⟩
  | .hbm, ⟨7, _⟩ => ⟨S32768x5152, .f32⟩
  | .hbm, ⟨8, _⟩ => ⟨S32768x1088, .f32⟩
  | .hbm, ⟨9, _⟩ => ⟨S32768x6656, .f32⟩
  | .hbm, ⟨10, _⟩ => ⟨S32768x5120, .f32⟩
  | .hbm, ⟨11, _⟩ => ⟨S32768x32, .f32⟩
  | .hbm, ⟨12, _⟩ => ⟨S32768x1024, .f32⟩
  | .hbm, ⟨13, _⟩ => ⟨S32768x64, .f32⟩
  | .hbm, ⟨14, _⟩ => ⟨S32768x6144, .f32⟩
  | .hbm, ⟨15, _⟩ => ⟨S32768x96, .f32⟩
  | .hbm, ⟨16, _⟩ => ⟨S32768x96, .f32⟩
  | .hbm, ⟨17, _⟩ => ⟨S32768x256, .f32⟩
  | .hbm, ⟨18, _⟩ => ⟨S32768x64, .f32⟩
  | .hbm, ⟨19, _⟩ => ⟨S32768x32, .f32⟩
  | .hbm, ⟨20, _⟩ => ⟨S32768x32, .f32⟩
  | .hbm, ⟨21, _⟩ => ⟨S_, .f32⟩
  | .hbm, ⟨22, _⟩ => ⟨S32768x32, .f32⟩
  | .hbm, ⟨23, _⟩ => ⟨S_, .f32⟩
  | .hbm, ⟨24, _⟩ => ⟨S32768x32, .f32⟩
  | .hbm, ⟨25, _⟩ => ⟨S_, .f32⟩
  | .hbm, ⟨26, _⟩ => ⟨S32768x64, .f32⟩
  | .hbm, ⟨27, _⟩ => ⟨S_, .f32⟩
  | .hbm, ⟨28, _⟩ => ⟨S32768x96, .f32⟩
  | .hbm, ⟨29, _⟩ => ⟨S32768x32, .f32⟩
  | .hbm, ⟨30, _⟩ => ⟨S_, .f32⟩
  | .hbm, ⟨31, _⟩ => ⟨S32768x128, .f32⟩
  | .hbm, ⟨32, _⟩ => ⟨S32768x1024, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Rope.lean ====
abbrev S2x16384 : Shape := ⟨2, ![2, 16384]⟩
abbrev S32768x1 : Shape := ⟨2, ![32768, 1]⟩
abbrev S32 : Shape := ⟨1, ![32]⟩
abbrev S_ : Shape := ⟨0, ![]⟩
abbrev S64 : Shape := ⟨1, ![64]⟩
abbrev S128 : Shape := ⟨1, ![128]⟩
abbrev S1x128 : Shape := ⟨2, ![1, 128]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 23
  | .vmem => 7
  | .smem => 0
  | _ => 0

abbrev bufTy : (tb : Table) → Fin (tcTables nBuf tb) → BufTy
  | .hbm, ⟨0, _⟩ => ⟨S2x16384, .i32⟩
  | .hbm, ⟨1, _⟩ => ⟨S32768x1, .i32⟩
  | .hbm, ⟨2, _⟩ => ⟨S32768x1, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S32768x128, .f32⟩
  | .hbm, ⟨22, _⟩ => ⟨S32768x128, .f32⟩
  | .local _ .vmem, ⟨0, _⟩ => ⟨S1024x1, .f32⟩
  | .local _ .vmem, ⟨1, _⟩ => ⟨S1024x1, .f32⟩
  | .local _ .vmem, ⟨2, _⟩ => ⟨S1x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | _, _ => ⟨S2x16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefRopeIdeal.lean ====
abbrev S2x16384 : Shape := ⟨2, ![2, 16384]⟩
abbrev S32 : Shape := ⟨1, ![32]⟩
abbrev S_ : Shape := ⟨0, ![]⟩
abbrev S2x16384x1 : Shape := ⟨3, ![2, 16384, 1]⟩
abbrev S1x1x32 : Shape := ⟨3, ![1, 1, 32]⟩
abbrev S2x16384x32 : Shape := ⟨3, ![2, 16384, 32]⟩
abbrev S2x16384x64 : Shape := ⟨3, ![2, 16384, 64]⟩
abbrev S2x16384x128 : Shape := ⟨3, ![2, 16384, 128]⟩
abbrev S32768x128 : Shape := ⟨2, ![32768, 128]⟩

abbrev nBuf : Space → Nat
  | .hbm => 29
  | .vmem => 0
  | .smem => 0
  | _ => 0

abbrev bufTy : (tb : Table) → Fin (tcTables nBuf tb) → BufTy
  | .hbm, ⟨0, _⟩ => ⟨S2x16384, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2x16384, .f32⟩
  | .hbm, ⟨16, _⟩ => ⟨S2x16384x1, .f32⟩
  | .hbm, ⟨17, _⟩ => ⟨S1x1x32, .f32⟩
  | .hbm, ⟨18, _⟩ => ⟨S2x16384x32, .f32⟩
  | .hbm, ⟨19, _⟩ => ⟨S2x16384x32, .f32⟩
  | .hbm, ⟨20, _⟩ => ⟨S2x16384x32, .f32⟩
  | .hbm, ⟨21, _⟩ => ⟨S2x16384x32, .f32⟩
  | .hbm, ⟨22, _⟩ => ⟨S2x16384x32, .f32⟩
  | .hbm, ⟨23, _⟩ => ⟨S_, .f32⟩
  | .hbm, ⟨24, _⟩ => ⟨S2x16384x64, .f32⟩
  | .hbm, ⟨25, _⟩ => ⟨S2x16384x128, .f32⟩
  | .hbm, ⟨26, _⟩ => ⟨S32768x128, .f32⟩
  | .hbm, ⟨27, _⟩ => ⟨S2x16384x128, .f32⟩
  | .hbm, ⟨28, _⟩ => ⟨S32768x128, .f32⟩
  | _, _ => ⟨S2x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Attn.Softmax.lean ====
module

public import Idealize.ShloMosaic.PureOps.Ideal
public import Idealize.ShloMosaic.Init

@[expose] public section

noncomputable section

/-! The softmax of one row, taken block by block: the running maximum and the running sums that a
    block of columns updates are those of the columns met so far. -/

namespace Cert.Attn

open Idealize.ShloMosaic

theorem exp_nonneg (x : EReal) : 0 ≤ Ideal.exp x := by
  induction x with
  | bot => simp
  | top => simp
  | coe r => rw [Ideal.exp_coe]; exact_mod_cast (Real.exp_pos r).le

theorem exp_sub_le_one {s m : EReal} (h : s ≤ m) : Ideal.exp (s - m) ≤ 1 := by
  induction s with
  | bot => simp
  | top => rw [top_le_iff.mp h]; simp
  | coe s =>
    induction m with
    | bot => exact absurd h (by simp)
    | top => simp
    | coe m =>
      rw [← EReal.coe_sub, Ideal.exp_coe]
      have hs : s ≤ m := by exact_mod_cast h
      exact_mod_cast Real.exp_le_one_iff.mpr (by linarith)

theorem exp_sub_ne_top {s m : EReal} (h : s ≤ m) : Ideal.exp (s - m) ≠ ⊤ := fun ht => by
  have := exp_sub_le_one h
  rw [ht] at this
  exact absurd this (by decide)

/-- Rescaling a weight from one maximum to a later one. -/
theorem exp_sub_mul_exp_sub {s m m' : EReal} (h : s ≤ m) (h' : m ≤ m') :
    Ideal.exp (s - m) * Ideal.exp (m - m') = Ideal.exp (s - m') := by
  induction s with
  | bot => simp
  | top => rw [top_le_iff.mp h] at h' ⊢; rw [top_le_iff.mp h']; simp
  | coe s =>
    induction m with
    | bot => exact absurd h (by simp)
    | top => rw [top_le_iff.mp h']; simp
    | coe m =>
      induction m' with
      | bot => exact absurd h' (by simp)
      | top => simp
      | coe m' =>
        rw [← EReal.coe_sub, ← EReal.coe_sub, ← EReal.coe_sub, Ideal.exp_coe, Ideal.exp_coe, Ideal.exp_coe,
          ← EReal.coe_mul, ← Real.exp_add]
        congr 2; ring

/-- A finite nonnegative factor goes into a sum. -/
theorem sum_mul {ι : Type} (t : Finset ι) (f : ι → EReal) {x : EReal} (hx : 0 ≤ x) (hx' : x ≠ ⊤) :
    (∑ i ∈ t, f i) * x = ∑ i ∈ t, f i * x := by
  classical
  induction t using Finset.induction_on with
  | empty => simp
  | insert a t ha ih =>
    rw [Finset.sum_insert ha, Finset.sum_insert ha, EReal.right_distrib_of_nonneg_of_ne_top hx hx', ih]

/-- The greatest of a row's first `n` scores. -/
def rowMax (s : ℕ → EReal) (n : ℕ) : EReal := (Finset.range n).sup s

/-- The sum of a row's first `n` weights, each against its value. -/
def rowSum (s w : ℕ → EReal) (n : ℕ) : EReal := ∑ k ∈ Finset.range n, Ideal.exp (s k - rowMax s n) * w k

theorem le_rowMax (s : ℕ → EReal) {n k : ℕ} (h : k < n) : s k ≤ rowMax s n :=
  Finset.le_sup (f := s) (Finset.mem_range.mpr h)

theorem rowMax_zero (s : ℕ → EReal) : rowMax s 0 = ⊥ := by simp [rowMax]

theorem rowSum_zero (s w : ℕ → EReal) : rowSum s w 0 = 0 := by simp [rowSum]

theorem rowMax_add (s : ℕ → EReal) (n l : ℕ) :
    rowMax s (n + l) = max (rowMax s n) ((Finset.range l).sup fun j => s (n + j)) := by
  apply le_antisymm
  · refine Finset.sup_le fun k hk => ?_
    rw [Finset.mem_range] at hk
    rcases Nat.lt_or_ge k n with h | h
    · exact le_max_of_le_left (le_rowMax s h)
    · refine le_max_of_le_right ?_
      have := Finset.le_sup (f := fun j => s (n + j)) (Finset.mem_range.mpr (show k - n < l by omega))
      simpa only [Nat.add_sub_cancel' h] using this
  · refine max_le (Finset.sup_le fun k hk => ?_) (Finset.sup_le fun k hk => ?_)
    · exact le_rowMax s (Nat.lt_add_right l (Finset.mem_range.mp hk))
    · exact le_rowMax s (Nat.add_lt_add_left (Finset.mem_range.mp hk) n)

theorem rowMax_mono (s : ℕ → EReal) (n l : ℕ) : rowMax s n ≤ rowMax s (n + l) := by
  rw [rowMax_add]; exact le_max_left _ _

/-- One block of columns: what was summed is rescaled, and the block's own weights are added. -/
theorem rowSum_add (s w : ℕ → EReal) (n l : ℕ) :
    rowSum s w (n + l) = rowSum s w n * Ideal.exp (rowMax s n - rowMax s (n + l))
      + ∑ j ∈ Finset.range l, Ideal.exp (s (n + j) - rowMax s (n + l)) * w (n + j) := by
  have hm := rowMax_mono s n l
  unfold rowSum
  rw [Finset.sum_range_add, sum_mul _ _ (exp_nonneg _) (exp_sub_ne_top hm)]
  congr 1
  refine Finset.sum_congr rfl fun k hk => ?_
  rw [mul_right_comm, exp_sub_mul_exp_sub (le_rowMax s (Finset.mem_range.mp hk)) hm]

/-- Columns whose score is `-∞` change nothing. -/
theorem rowMax_skip (s : ℕ → EReal) (n l : ℕ) (h : ∀ j < l, s (n + j) = ⊥) : rowMax s (n + l) = rowMax s n := by
  rw [rowMax_add, Finset.sup_congr rfl (g := fun _ => (⊥ : EReal)) (fun j hj => h j (Finset.mem_range.mp hj)), Finset.sup_bot]
  exact max_eq_left bot_le

theorem rowSum_skip (s w : ℕ → EReal) (n l : ℕ) (h : ∀ j < l, s (n + j) = ⊥) : rowSum s w (n + l) = rowSum s w n := by
  unfold rowSum
  rw [rowMax_skip s n l h, Finset.sum_range_add,
    Finset.sum_congr rfl (g := fun _ => (0 : EReal)) (s₁ := Finset.range l) (fun j hj => by
      rw [h j (Finset.mem_range.mp hj)]; simp), Finset.sum_const_zero, add_zero]

/-- A row's weights sum to a positive real, where the first score is finite and none is `+∞`. -/
theorem rowSum_one_pos (s : ℕ → EReal) (n : ℕ) (hn : 0 < n) (h0 : s 0 ≠ ⊥) (ht : ∀ k < n, s k ≠ ⊤) :
    ∃ r : ℝ, 0 < r ∧ rowSum s (fun _ => 1) n = r := by
  have hmb : rowMax s n ≠ ⊥ := fun h => h0 (le_bot_iff.mp (h ▸ le_rowMax s hn))
  have hmt : rowMax s n ≠ ⊤ := by
    apply ne_of_lt
    rw [rowMax, Finset.sup_lt_iff (by simp)]
    exact fun k hk => lt_top_iff_ne_top.mpr (ht k (Finset.mem_range.mp hk))
  have hs0 : s 0 ≠ ⊤ := ht 0 hn
  have hnn : ∀ k ∈ Finset.range n, 0 ≤ Ideal.exp (s k - rowMax s n) * 1 := fun k _ => by rw [mul_one]; exact exp_nonneg _
  have hpos : 0 < rowSum s (fun _ => 1) n := by
    refine lt_of_lt_of_le ?_ (Finset.single_le_sum hnn (Finset.mem_range.mpr hn))
    rw [mul_one]
    lift s 0 to ℝ using ⟨hs0, h0⟩ with a
    lift rowMax s n to ℝ using ⟨hmt, hmb⟩ with b
    rw [← EReal.coe_sub, Ideal.exp_coe]
    exact_mod_cast Real.exp_pos _
  have hle : rowSum s (fun _ => 1) n ≤ ((n : ℝ) : EReal) := by
    unfold rowSum
    refine (Finset.sum_le_sum (g := fun _ => (1 : EReal)) fun k hk => ?_).trans ?_
    · rw [mul_one]; exact exp_sub_le_one (le_rowMax s (Finset.mem_range.mp hk))
    · rw [Finset.sum_const, Finset.card_range, EReal.nsmul_eq_mul, mul_one]; exact le_of_eq (by norm_cast)
  have hnt : rowSum s (fun _ => 1) n ≠ ⊤ := fun h => by
    rw [h] at hle; exact absurd (top_le_iff.mp hle) (EReal.coe_ne_top _)
  have hnb : rowSum s (fun _ => 1) n ≠ ⊥ := fun h => by rw [h] at hpos; exact absurd hpos (by simp)
  refine ⟨(rowSum s (fun _ => 1) n).toReal, ?_, (EReal.coe_toReal hnt hnb).symm⟩
  rw [← EReal.coe_toReal hnt hnb] at hpos
  exact_mod_cast hpos

/-- Dividing the weighted sum is weighting by the divided weights. -/
theorem div_rowSum (s w : ℕ → EReal) (n : ℕ) {r : ℝ} (hr : 0 < r) :
    Ideal.div (rowSum s w n) r = ∑ k ∈ Finset.range n, w k * Ideal.div (Ideal.exp (s k - rowMax s n)) r := by
  have h0 : (0 : EReal) ≤ ((1 / r : ℝ) : EReal) := by exact_mod_cast (by positivity)
  rw [Ideal.div_coe hr.ne', rowSum, sum_mul _ _ h0 (EReal.coe_ne_top _)]
  refine Finset.sum_congr rfl fun k _ => ?_
  rw [Ideal.div_coe hr.ne', mul_comm (Ideal.exp _) (w k), mul_assoc]

end Cert.Attn

end
-- ==== Proof.Attn.Spec.lean ====
module

public import proofs.«01_k».proof.Proof.Attn.Softmax
public import Idealize.ShloMosaic.Lib.Pointwise

/-! What both programs compute: causal attention, read at one batch, head, row and value column. -/

@[expose] public section

noncomputable section

namespace Cert.Attn

open Idealize.ShloMosaic

/-- The contents of a three-axis array. -/
abbrev Arr3 (a b c : ℕ) := (⟨3, ![a, b, c]⟩ : Shape).Idx → EReal

variable (Q : Arr3 2 16384 4096) (K : Arr3 2 2048 16384) (P : Arr3 2 128 16384) (V : Arr3 2 16384 2048)

/-- The score of a query row against a key: 128 columns with the head's own keys, 128 with the shared ones. -/
def scoreAt (b : Fin 2) (h : Fin 16) (r k : Fin 16384) : EReal :=
  ∑ d : Fin 256, Q (ix3 b r ⟨h.val * 256 + d.val, by omega⟩)
    * (if hd : d.val < 128 then K (ix3 b ⟨h.val * 128 + d.val, by omega⟩ k) else P (ix3 b ⟨d.val - 128, by omega⟩ k))

/-- A row's scores, minus infinity beyond the row itself. -/
def rowScore (b : Fin 2) (h : Fin 16) (r : Fin 16384) (k : ℕ) : EReal :=
  if hk : k < 16384 then (if k ≤ r.val then scoreAt Q K P b h r ⟨k, hk⟩ else ⊥) else ⊥

/-- A head's value column. -/
def colVal (b : Fin 2) (h : Fin 16) (d : Fin 128) (k : ℕ) : EReal :=
  if hk : k < 16384 then V (ix3 b ⟨k, hk⟩ ⟨h.val * 128 + d.val, by omega⟩) else 1

/-- The attention: the values weighted by the exponentials of the scores, over the sum of those. -/
def attnAt (b : Fin 2) (h : Fin 16) (r : Fin 16384) (d : Fin 128) : EReal :=
  Ideal.div (rowSum (rowScore Q K P b h r) (colVal V b h d) 16384) (rowSum (rowScore Q K P b h r) (fun _ => 1) 16384)

/-- The attention as an array. -/
def attn : Arr3 2 16384 2048 := fun i =>
  attnAt Q K P V (i 0) ⟨(i 2).val / 128, by have : (i 2).val < 2048 := (i 2).isLt; omega⟩ (i 1) ⟨(i 2).val % 128, Nat.mod_lt _ (by decide)⟩

theorem attn_ix3 (b : Fin 2) (r : Fin 16384) (h : Fin 16) (d : Fin 128) :
    attn Q K P V (ix3 b r ⟨h.val * 128 + d.val, by omega⟩) = attnAt Q K P V b h r d := by
  have e1 : (⟨(h.val * 128 + d.val) / 128, by omega⟩ : Fin 16) = h := Fin.ext (by show (h.val * 128 + d.val) / 128 = h.val; omega)
  have e2 : (⟨(h.val * 128 + d.val) % 128, by omega⟩ : Fin 128) = d := Fin.ext (by show (h.val * 128 + d.val) % 128 = d.val; omega)
  show attnAt Q K P V b ⟨(h.val * 128 + d.val) / 128, _⟩ r ⟨(h.val * 128 + d.val) % 128, _⟩ = _
  rw [e1, e2]

theorem rowScore_above (b : Fin 2) (h : Fin 16) (r : Fin 16384) {k : ℕ} (hk : r.val < k) : rowScore Q K P b h r k = ⊥ := by
  unfold rowScore
  split
  · exact if_neg (by omega)
  · rfl

theorem rowScore_of (b : Fin 2) (h : Fin 16) (r k : Fin 16384) (n : ℕ) (hn : n = k.val) :
    rowScore Q K P b h r n = if k.val ≤ r.val then scoreAt Q K P b h r k else ⊥ := by
  subst hn
  exact dif_pos k.isLt

/-- Taking the columns only so far as the row block reaches. -/
theorem attnAt_eq (b : Fin 2) (h : Fin 16) (r : Fin 16384) (d : Fin 128) (n : ℕ) (hn : r.val < n) (hn' : n ≤ 16384) :
    Ideal.div (rowSum (rowScore Q K P b h r) (colVal V b h d) n) (rowSum (rowScore Q K P b h r) (fun _ => 1) n)
      = attnAt Q K P V b h r d := by
  have hs : ∀ j < 16384 - n, rowScore Q K P b h r (n + j) = ⊥ := fun j _ => rowScore_above Q K P b h r (by omega)
  unfold attnAt
  rw [← rowSum_skip _ _ n (16384 - n) hs, ← rowSum_skip _ _ n (16384 - n) hs, Nat.add_sub_cancel' hn']

end Cert.Attn

end
-- ==== Proof.InProj.Spec.lean ====
module

public import proofs.«01_k».proof.Proof.Attn.Spec

/-! What both programs of the input projection compute: a product whose columns are taken in another order. -/

@[expose] public section

noncomputable section

namespace Cert.InProj

open Idealize.ShloMosaic Cert.Attn

/-- The contents of a two-axis array. -/
abbrev Arr2 (a b : ℕ) := (⟨2, ![a, b]⟩ : Shape).Idx → EReal

/-- The column of the weights a column of the result is the product with: the gates and the gating columns first, then
the receptance, key and value columns, then the convolved columns, then the two latents. -/
def col (n : ℕ) : ℕ := if n < 8192 then n else if n < 14336 then n + 4192 else if n < 17408 then n - 6144 else n - 6112

theorem col_lt {n : ℕ} (h : n < 18432) : col n < 18976 := by
  unfold col
  split_ifs <;> omega

theorem eq_col {x n : ℕ} (h : n < 8192 ∧ x = n ∨ 8192 ≤ n ∧ n < 14336 ∧ x = n + 4192 ∨ 14336 ≤ n ∧ n < 17408 ∧ x + 6144 = n ∨ 17408 ≤ n ∧ x + 6112 = n) :
    x = col n := by
  unfold col
  split_ifs <;> omega

variable (X : Arr3 2 16384 2048) (W : Arr2 2048 18976)

/-- One element of the projection. -/
def projAt (r : Fin 32768) (n : Fin 18432) : EReal :=
  ∑ k : Fin 2048, X (ix3 ⟨r.val / 16384, by omega⟩ ⟨r.val % 16384, by omega⟩ k) * W (ix2 k ⟨col n.val, col_lt n.isLt⟩)

/-- The projection as an array. -/
def proj : Arr2 32768 18432 := fun i => projAt X W (i 0) (i 1)

end Cert.InProj

end
-- ==== Proof.InProj.Entry.lean ====
module

public import proofs.«01_k».proof.Proof.Gen.ProjIdeal.Value
public import proofs.«01_k».proof.Proof.InProj.Spec
public import Idealize.ShloMosaic.Lib.Pointwise
public import Idealize.ShloMosaic.Lib.StableHlo.ReadAt
public import Idealize.ShloMosaic.Lib.Claim

/-! What the projection's kernel finds in its operands: the rows of the activations, and the weights' columns in order. -/

@[expose] public section

set_option maxRecDepth 65536

noncomputable section

namespace Cert.ProjIdeal.InProj

open Cert.ProjIdeal Cert.ProjIdeal.Gen Cert.InProj Cert.Attn
open Idealize.ShloMosaic
open Idealize.ShloMosaic.TcCoe

variable (m : (ℓ : Loc nD τ sig) → Buf (Elt Ideal) ℓ) (c : Dev nD)

abbrev aX : Arr3 2 16384 2048 := m ((c.tc : Thread nD τ).loc main_arg0)
abbrev aW : Arr2 2048 18976 := m ((c.tc : Thread nD τ).loc main_arg1)

theorem entry_x (r : Fin 32768) (k : Fin 2048) :
    V m c main_v0 (ix2 r k) = aX m c (ix3 ⟨r.val / 16384, by omega⟩ ⟨r.val % 16384, by omega⟩ k) := by
  unfold V
  after_reads_at

set_option maxHeartbeats 2000000 in
theorem entry_w (k : Fin 2048) (n : Fin 18432) :
    V m c main_v24 (ix2 k n) = aW m c (ix2 k ⟨col n.val, col_lt n.isLt⟩) := by
  unfold V
  after_reads_at
  have hn := n.isLt
  split_ifs with h1 h2 h3 h4 h5 h6
  all_goals first
    | (exfalso; omega)
    | (after_reads_at
       refine congrArg (fun x : Fin 18976 => aW m c (ix2 k x)) (Fin.ext (eq_col ?_))
       dsimp only
       omega)

end Cert.ProjIdeal.InProj

end
-- ==== Proof.InProj.Kernel.lean ====
module

public import proofs.«01_k».proof.Proof.InProj.Entry
public import Idealize.ShloMosaic.Lib.Pipeline.ValueKit

/-! The projection's kernel: every grid point stores its block of the product, and the blocks fill the result. -/

@[expose] public section

set_option maxRecDepth 65536

noncomputable section

namespace Cert.ProjIdeal.InProj

open Cert.ProjIdeal Cert.ProjIdeal.Gen Cert.InProj Cert.Attn
open Idealize.ShloMosaic
open Idealize.ShloMosaic.TcCoe

variable (m : (ℓ : Loc nD τ sig) → Buf (Elt Ideal) ℓ) (c : Dev nD)

/-- The windows' blocks at one grid point. -/
abbrev PointAt (t : Fin cfg0.N) : Prop :=
  (cfg0.win (0 : Fin 3)).index t = ![t.val / 18, 0] ∧ (cfg0.win (1 : Fin 3)).index t = ![0, t.val % 18] ∧ (cfg0.win (2 : Fin 3)).index t = ![t.val / 18, t.val % 18]

theorem points : ∀ t : Fin cfg0.N, PointAt t := by decide +kernel

theorem cfg0_N : cfg0.N = 576 := by decide +kernel

theorem row_lt (t : Fin cfg0.N) : t.val / 18 < 32 := by have := t.isLt; have := cfg0_N; omega

theorem col_blk_lt (t : Fin cfg0.N) : t.val % 18 < 18 := Nat.mod_lt _ (by decide)

theorem iblk_0 (t : Fin cfg0.N) (a : Fin 1024) (k : Fin 2048) :
    iblk m c (0 : Fin 3) t (ix2 a k) = V m c main_v0 (ix2 (⟨t.val / 18 * 1024 + a.val, by have := row_lt t; omega⟩ : Fin 32768) k) := by
  refine congrArg (V m c main_v0) (funext fun x => Fin.ext ?_)
  refine ((cfg0.win (0 : Fin 3)).rect_emb_val t (ix2 a k) x).trans ?_
  rw [(points t).1]
  match x with
  | ⟨0, _⟩ => rfl
  | ⟨1, _⟩ => exact (congrArg (· + k.val) (Nat.zero_mul _)).trans (Nat.zero_add _)

theorem iblk_1 (t : Fin cfg0.N) (k : Fin 2048) (b : Fin 1024) :
    iblk m c (1 : Fin 3) t (ix2 k b) = V m c main_v24 (ix2 k (⟨t.val % 18 * 1024 + b.val, by have := col_blk_lt t; omega⟩ : Fin 18432)) := by
  refine congrArg (V m c main_v24) (funext fun x => Fin.ext ?_)
  refine ((cfg0.win (1 : Fin 3)).rect_emb_val t (ix2 k b) x).trans ?_
  rw [(points t).2.1]
  match x with
  | ⟨0, _⟩ => exact (congrArg (· + k.val) (Nat.zero_mul _)).trans (Nat.zero_add _)
  | ⟨1, _⟩ => rfl

/-- Where the result's window puts an element of its block. -/
theorem emb_2 (t : Fin cfg0.N) (a b : Fin 1024) :
    ((cfg0.win (2 : Fin 3)).blk t).view.emb (ix2 a b)
      = ix2 (⟨t.val / 18 * 1024 + a.val, by have := row_lt t; omega⟩ : Fin 32768) (⟨t.val % 18 * 1024 + b.val, by have := col_blk_lt t; omega⟩ : Fin 18432) := by
  refine funext fun x => Fin.ext ?_
  refine ((cfg0.win (2 : Fin 3)).rect_emb_val t (ix2 a b) x).trans ?_
  rw [(points t).2.2]
  match x with
  | ⟨0, _⟩ => rfl
  | ⟨1, _⟩ => rfl

theorem pay_ix2 (x : Vec Ideal S1024x2048 .f32) (w : Vec Ideal S2048x1024 .bf16) (a b : Fin 1024) :
    k0_pay1 x w (ix2 a b) = ∑ k : Fin 2048, (x (ix2 a k) * w (ix2 k b) : EReal) := by
  pointwise [k0_pay1]

theorem out_ix2 (x : Vec Ideal S1024x2048 .f32) (w : Vec Ideal S2048x1024 .bf16) (a b : Fin 1024) :
    out0_2 x w (ix2 a b) = ∑ k : Fin 2048, (x (ix2 a k) * w (ix2 k b) : EReal) := by
  unfold out0_2
  frame_out
  exact pay_ix2 x w a b

theorem stored (t : Fin cfg0.N) (a b : Fin 1024) :
    (Cert.ProjIdeal.Gen.dats m 0 c).flushed 2 t (ix2 a b)
      = projAt (aX m c) (aW m c) ⟨t.val / 18 * 1024 + a.val, by have := row_lt t; omega⟩ ⟨t.val % 18 * 1024 + b.val, by have := col_blk_lt t; omega⟩ := by
  rw [Value.flushed2]
  refine (out_ix2 _ _ a b).trans (Finset.sum_congr rfl fun k _ => ?_)
  rw [iblk_0, iblk_1, entry_x, entry_w]

/-- The result array. -/
theorem result : (dats m 0 c).arrAt (2 : Fin 3) cfg0.N = proj (aX m c) (aW m c) := by
  refine (dats m 0 c).arrAt_eq_of_cover (2 : Fin 3) (proj (aX m c) (aW m c)) (fun t hf => ?_) (fun i => ?_)
  · funext y
    obtain ⟨a, b, rfl⟩ : ∃ (a b : Fin 1024), y = ix2 a b := ⟨y 0, y 1, funext fun x => by
      match x with
      | ⟨0, _⟩ => rfl
      | ⟨1, _⟩ => rfl⟩
    refine (stored m c t a b).trans ?_
    exact (congrArg (proj (aX m c) (aW m c)) (emb_2 t a b)).symm
  · obtain ⟨r, n, rfl⟩ : ∃ (r : Fin 32768) (n : Fin 18432), i = ix2 r n := ⟨i 0, i 1, funext fun x => by
      match x with
      | ⟨0, _⟩ => rfl
      | ⟨1, _⟩ => rfl⟩
    have hN := cfg0_N
    have ht : r.val / 1024 * 18 + n.val / 1024 < cfg0.N := by omega
    refine ⟨⟨_, ht⟩, flush0_2 _, ?_⟩
    have hm := ((cfg0.win (2 : Fin 3)).blk ⟨_, ht⟩).view.emb_mem_set (ix2 (⟨r.val % 1024, Nat.mod_lt _ (by decide)⟩ : Fin 1024) (⟨n.val % 1024, Nat.mod_lt _ (by decide)⟩ : Fin 1024))
    rw [emb_2] at hm
    refine Eq.mp (congrArg (· ∈ _) (funext fun x => Fin.ext ?_)) hm
    match x with
    | ⟨0, _⟩ => show (r.val / 1024 * 18 + n.val / 1024) / 18 * 1024 + r.val % 1024 = r.val; omega
    | ⟨1, _⟩ => show (r.val / 1024 * 18 + n.val / 1024) % 18 * 1024 + n.val % 1024 = n.val; omega

end Cert.ProjIdeal.InProj

end
-- ==== Proof.InProj.Ref.lean ====
module

public import proofs.«01_k».proof.Proof.Gen.RefProjIdeal.Run
public import proofs.«01_k».proof.Proof.InProj.Spec
public import Idealize.ShloMosaic.Lib.Pointwise
public import Idealize.ShloMosaic.Lib.Quiescent

/-! The projection's reference: the product, its columns split, put in order and read as rows. -/

@[expose] public section

set_option maxRecDepth 65536

noncomputable section

namespace Cert.RefProjIdeal.InProj

open Cert.RefProjIdeal Cert.RefProjIdeal.Gen Cert.InProj Cert.Attn
open Idealize.ShloMosaic Idealize.SL.Sem
open Idealize.ShloMosaic.TcCoe

/-- The product. -/
def prod (X : FVec Ideal S2x16384x2048 .f32) (W : FVec Ideal S2048x18976 .f32) : FVec Ideal S2x16384x18976 .f32 :=
  Host.dotGeneral dot_S2x16384x2048_S2048x18976_S2x16384x18976_2_0_01_1_n_n none X W

theorem prod_ix3 (X : FVec Ideal S2x16384x2048 .f32) (W : FVec Ideal S2048x18976 .f32) (b : Fin 2) (r : Fin 16384) (n : Fin 18976) :
    prod X W (ix3 b r n) = ∑ k : Fin 2048, (X (ix3 b r k) * W (ix2 k n) : EReal) := by
  pointwise [prod]

/-- The product's columns in order, as rows. -/
def arrange (p : FVec Ideal S2x16384x18976 .f32) : FVec Ideal S32768x18432 .bf16 :=
  truncf .bf16 (shapeCast S32768x18432 (concatenate S2x16384x18432 2 [⟨S2x16384x6144, extractStridedSlice S2x16384x6144 ![0, 0, 0] p slices_S2x16384x18976_S2x16384x6144_0_0_0⟩,
    ⟨S2x16384x2048, extractStridedSlice S2x16384x2048 ![0, 0, 0] (extractStridedSlice S2x16384x5152 ![0, 0, 6144] p slices_S2x16384x18976_S2x16384x5152_0_0_6144) slices_S2x16384x5152_S2x16384x2048_0_0_0⟩,
    ⟨S2x16384x6144, extractStridedSlice S2x16384x6144 ![0, 0, 0] (extractStridedSlice S2x16384x6592 ![0, 0, 12384] p slices_S2x16384x18976_S2x16384x6592_0_0_12384) slices_S2x16384x6592_S2x16384x6144_0_0_0⟩,
    ⟨S2x16384x3072, extractStridedSlice S2x16384x3072 ![0, 0, 2048] (extractStridedSlice S2x16384x5152 ![0, 0, 6144] p slices_S2x16384x18976_S2x16384x5152_0_0_6144) slices_S2x16384x5152_S2x16384x3072_0_0_2048⟩,
    ⟨S2x16384x512, extractStridedSlice S2x16384x512 ![0, 0, 0] (extractStridedSlice S2x16384x1088 ![0, 0, 11296] p slices_S2x16384x18976_S2x16384x1088_0_0_11296) slices_S2x16384x1088_S2x16384x512_0_0_0⟩,
    ⟨S2x16384x512, extractStridedSlice S2x16384x512 ![0, 0, 512] (extractStridedSlice S2x16384x1088 ![0, 0, 11296] p slices_S2x16384x18976_S2x16384x1088_0_0_11296) slices_S2x16384x1088_S2x16384x512_0_0_512⟩]
    concatenates_S2x16384x6144_S2x16384x2048_S2x16384x6144_S2x16384x3072_S2x16384x512_S2x16384x512_S2x16384x18432_d2) shapeCasts_S2x16384x18432_S32768x18432) bitsLt_bf16_f32

set_option maxHeartbeats 2000000 in
theorem arrange_ix2 (p : FVec Ideal S2x16384x18976 .f32) (r : Fin 32768) (n : Fin 18432) :
    arrange p (ix2 r n) = p (ix3 ⟨r.val / 16384, by omega⟩ ⟨r.val % 16384, by omega⟩ ⟨col n.val, col_lt n.isLt⟩) := by
  pointwise [arrange]
  have hn := n.isLt
  split_ifs
  all_goals first
    | (exfalso; omega)
    | (refine congrArg (fun x : Fin 18976 => p (ix3 _ _ x)) (Fin.ext (eq_col ?_))
       dsimp only
       omega)

theorem term_eq (X : FVec Ideal S2x16384x2048 .f32) (W : FVec Ideal S2048x18976 .f32) : arrange (prod X W) = proj X W := by
  funext i
  obtain ⟨r, n, rfl⟩ : ∃ (r : Fin 32768) (n : Fin 18432), i = ix2 r n := ⟨i 0, i 1, funext fun x => by
    match x with
    | ⟨0, _⟩ => rfl
    | ⟨1, _⟩ => rfl⟩
  rw [arrange_ix2, prod_ix3]
  rfl

theorem value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (term_eq _ _), (h c).2⟩) (Value.run m g)

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (value m g)

end Cert.RefProjIdeal.InProj

end
-- ==== Proof.Dense.Spec.lean ====
module

public import proofs.«01_k».proof.Proof.InProj.Spec
public import Idealize.ShloMosaic.Lib.Pointwise

/-! What both programs of the dense feed-forward part compute: the gated hidden rows, their product with the third
matrix, the residual sum, and its layer norm. Also the sum over the hidden columns as a sum over blocks of them. -/

@[expose] public section

noncomputable section

namespace Cert.Dense

open Idealize.ShloMosaic Cert.Attn Cert.InProj

/-- The contents of a one-axis array. -/
abbrev Arr1 (a : ℕ) := (⟨1, ![a]⟩ : Shape).Idx → EReal

/-- A number times its logistic. -/
def gate (s : EReal) : EReal := s * Ideal.div 1 (1 + Ideal.exp (-s))

theorem gate_eq (s : EReal) : s * Ideal.div 1 (1 + Ideal.exp (0 - s)) = gate s := by
  rw [show (0 : EReal) - s = -s from zero_sub s]
  rfl

/-- The mean of a row. -/
def mean (y : Fin 2048 → EReal) : EReal := Ideal.div (∑ n : Fin 2048, y n) (Ideal.ofBits FTy.f32 0x45000000#32)

/-- One element of the layer norm of a row, with its weight and its bias. -/
def norm (y : Fin 2048 → EReal) (n : Fin 2048) (g b : EReal) : EReal :=
  (y n - mean y) * Ideal.rsqrt (mean (fun x => (y x - mean y) * (y x - mean y)) + Ideal.ofBits FTy.f32 0x3727C5AC#32) * g + b

/-- The residual sum: the input, scaled, and the part's own output. -/
def residual (x s : EReal) : EReal := Ideal.ofBits FTy.f32 0x3FB504F3#32 * x + s

variable (X : Arr2 32768 2048) (W1 W3 : Arr2 2048 5632) (W2 : Arr2 5632 2048) (g b : Arr1 2048)

/-- One element of the hidden rows. -/
def hid (r : Fin 32768) (j : Fin 5632) : EReal :=
  gate (∑ k : Fin 2048, X (ix2 r k) * W1 (ix2 k j)) * ∑ k : Fin 2048, X (ix2 r k) * W3 (ix2 k j)

/-- One element of the part's own output. -/
def own (r : Fin 32768) (n : Fin 2048) : EReal := ∑ j : Fin 5632, hid X W1 W3 r j * W2 (ix2 j n)

/-- One element of the result. -/
def denseAt (r : Fin 32768) (n : Fin 2048) : EReal :=
  norm (fun x => residual (X (ix2 r x)) (own X W1 W3 W2 r x)) n (g (ix1 n)) (b (ix1 n))

/-- The result as an array. -/
def dense : Arr2 32768 2048 := fun i => denseAt X W1 W3 W2 g b (i 0) (i 1)

/-- A term of the sum over the hidden columns, at any natural number. -/
def termAt (r : Fin 32768) (n : Fin 2048) (j : ℕ) : EReal := if h : j < 5632 then hid X W1 W3 r ⟨j, h⟩ * W2 (ix2 ⟨j, h⟩ n) else 0

theorem termAt_val (r : Fin 32768) (n : Fin 2048) (j : Fin 5632) : termAt X W1 W3 W2 r n j.val = hid X W1 W3 r j * W2 (ix2 j n) := by
  unfold termAt
  rw [dif_pos j.isLt]

theorem sum_blocks {β : Type*} [AddCommMonoid β] (f : ℕ → β) (w : ℕ) : ∀ q : ℕ, ∑ s ∈ Finset.range q, ∑ j ∈ Finset.range w, f (s * w + j) = ∑ j ∈ Finset.range (q * w), f j
  | 0 => by rw [Nat.zero_mul]; rfl
  | q + 1 => by rw [Finset.sum_range_succ, sum_blocks f w q, Nat.succ_mul, Finset.sum_range_add]

theorem own_eq (r : Fin 32768) (n : Fin 2048) :
    own X W1 W3 W2 r n = ∑ s ∈ Finset.range 11, ∑ j : Fin 512, termAt X W1 W3 W2 r n (s * 512 + j.val) := by
  have h := sum_blocks (termAt X W1 W3 W2 r n) 512 11
  rw [← Fin.sum_univ_eq_sum_range (termAt X W1 W3 W2 r n) (11 * 512)] at h
  refine Eq.trans ?_ (h.symm.trans (Finset.sum_congr rfl fun s _ => (Fin.sum_univ_eq_sum_range (fun j => termAt X W1 W3 W2 r n (s * 512 + j)) 512).symm))
  exact Finset.sum_congr rfl fun j _ => (termAt_val X W1 W3 W2 r n j).symm

end Cert.Dense

end
-- ==== Proof.Dense.Steps.lean ====
module

public import proofs.«01_k».proof.Proof.Gen.FfnIdeal.Value
public import proofs.«01_k».proof.Proof.Dense.Spec
public import Idealize.ShloMosaic.Lib.Pointwise
public import Idealize.ShloMosaic.Lib.StableHlo.ReadAt
public import Idealize.ShloMosaic.Lib.Claim
public import Idealize.ShloMosaic.Lib.Pipeline.ValueKit

/-! The dense part's kernel at one grid point: what its body adds to the accumulator, what the last block of a row of
blocks stores, and what its operands hold. -/

@[expose] public section

set_option maxRecDepth 65536

noncomputable section

namespace Cert.FfnIdeal.Dense

open Cert.FfnIdeal Cert.FfnIdeal.Gen Cert.InProj Cert.Attn Cert.Dense
open Idealize.ShloMosaic
open Idealize.ShloMosaic.TcCoe

/-- One element of the hidden rows of a block. -/
def hidB (x : Vec Ideal S512x2048 .bf16) (p q : Vec Ideal S2048x512 .bf16) (a : Fin 512) (j : Fin 512) : EReal :=
  gate (∑ k : Fin 2048, (x (ix2 a k) * p (ix2 k j) : EReal)) * ∑ k : Fin 2048, (x (ix2 a k) * q (ix2 k j) : EReal)

theorem ld_0 (p : Vec Ideal S2048x512 .bf16) (k : Fin 2048) (j : Fin 256) :
    View.ld p (Rect.unit ![0, 0] ![2048, 256] inb_S2048x512_S2048x256_0_0) (ix2 k j) = p (ix2 k (Fin.castAdd 256 j)) :=
  View.ld_unit_apply_of p _ _ _ _ _ fun x => by
    match x with
    | ⟨0, _⟩ => exact (Nat.zero_add k.val).symm
    | ⟨1, _⟩ => exact (Nat.zero_add j.val).symm

theorem ld_256 (p : Vec Ideal S2048x512 .bf16) (k : Fin 2048) (j : Fin 256) :
    View.ld p (Rect.unit ![0, 256] ![2048, 256] inb_S2048x512_S2048x256_0_256) (ix2 k j) = p (ix2 k (Fin.natAdd 256 j)) :=
  View.ld_unit_apply_of p _ _ _ _ _ fun x => by
    match x with
    | ⟨0, _⟩ => exact (Nat.zero_add k.val).symm
    | ⟨1, _⟩ => rfl

theorem pay6_ix2 (x : Vec Ideal S512x2048 .bf16) (u v : Vec Ideal S2048x256 .bf16) (a : Fin 512) (b : Fin 256) :
    k0_pay6 x u v (ix2 a b) = (gate (∑ k : Fin 2048, (x (ix2 a k) * u (ix2 k b) : EReal)) * ∑ k : Fin 2048, (x (ix2 a k) * v (ix2 k b) : EReal) : EReal) := by
  pointwise [k0_pay6, k0_pay5]
  rw [gate_eq]

theorem pay7_ix2 (x : Vec Ideal S512x2048 .bf16) (u : Vec Ideal S2048x256 .bf16) (a : Fin 512) (b : Fin 256) :
    k0_pay7 x u (ix2 a b) = gate (∑ k : Fin 2048, (x (ix2 a k) * u (ix2 k b) : EReal)) := by
  pointwise [k0_pay7, k0_pay5]
  rw [gate_eq]

theorem pay5_ix2 (x : Vec Ideal S512x2048 .bf16) (a : Fin 512) (k : Fin 2048) : k0_pay5 x (ix2 a k) = x (ix2 a k) := by
  pointwise [k0_pay5]

theorem pay1_ix2 (s : Vec Ideal S512x2048 .f32) (x : Vec Ideal S512x2048 .bf16) (h : FVec Ideal S512x256 .bf16) (h' : FVec Ideal S512x256 .f32) (w : Vec Ideal S2048x256 .bf16) (w2 : Vec Ideal S512x2048 .bf16)
    (a : Fin 512) (b : Fin 2048) :
    k0_pay1 s x h h' w w2 (ix2 a b) = (s (ix2 a b) + (∑ j : Fin 256, (h (ix2 a j) * w2 (ix2 (Fin.castAdd 256 j) b) : EReal)
      + ∑ j : Fin 256, ((h' (ix2 a j) * ∑ k : Fin 2048, (x (ix2 a k) * w (ix2 k j) : EReal)) * w2 (ix2 (Fin.natAdd 256 j) b) : EReal)) : EReal) := by
  pointwise [k0_pay1]
  rfl

theorem pay2_ix2 (x y : Vec Ideal S512x2048 .f32) (g c : Vec Ideal S1x2048 .f32) (a : Fin 512) (b : Fin 2048) :
    k0_pay2 x y g c (ix2 a b) = Cert.Dense.norm (fun n => residual (x (ix2 a n)) (y (ix2 a n))) b (g (ix2 0 b)) (c (ix2 0 b)) := by
  pointwise [k0_pay2]
  rfl

theorem pay3_ix2 (x y : Vec Ideal S512x2048 .f32) (g c : Vec Ideal S1x2048 .f32) (a : Fin 512) (b : Fin 2048) :
    k0_pay3 x y g c (ix2 a b) = k0_pay2 x y g c (ix2 a b) := by
  pointwise [k0_pay3]

theorem pay4_ix2 (a : Fin 512) (b : Fin 2048) : k0_pay4 (F := Ideal) (ix2 a b) = (0 : EReal) := by
  pointwise [k0_pay4]

/-- The body's new accumulator, from the accumulator before and the four blocks. -/
def step (s : Vec Ideal S512x2048 .f32) (x : Vec Ideal S512x2048 .bf16) (p q : Vec Ideal S2048x512 .bf16) (w : Vec Ideal S512x2048 .bf16) : Vec Ideal S512x2048 .f32 :=
  k0_pay1 s (k0_pay5 x)
    (k0_pay6 x (View.ld p (Rect.unit ![0, 0] ![2048, 256] inb_S2048x512_S2048x256_0_0)) (View.ld q (Rect.unit ![0, 0] ![2048, 256] inb_S2048x512_S2048x256_0_0)))
    (k0_pay7 x (View.ld p (Rect.unit ![0, 256] ![2048, 256] inb_S2048x512_S2048x256_0_256)))
    (View.ld q (Rect.unit ![0, 256] ![2048, 256] inb_S2048x512_S2048x256_0_256)) w

theorem step_ix2 (s : Vec Ideal S512x2048 .f32) (x : Vec Ideal S512x2048 .bf16) (p q : Vec Ideal S2048x512 .bf16) (w : Vec Ideal S512x2048 .bf16) (a : Fin 512) (b : Fin 2048) :
    step s x p q w (ix2 a b) = (s (ix2 a b) + ∑ j : Fin 512, hidB x p q a j * w (ix2 j b) : EReal) := by
  refine (pay1_ix2 _ _ _ _ _ _ a b).trans (congrArg (s (ix2 a b) + ·) ?_)
  refine Eq.trans ?_ (Fin.sum_univ_add (a := 256) (b := 256) fun j : Fin 512 => hidB x p q a j * w (ix2 j b)).symm
  congr 1
  · refine Finset.sum_congr rfl fun j _ => congrArg (· * w (ix2 (Fin.castAdd 256 j) b)) ((pay6_ix2 _ _ _ a j).trans ?_)
    have e : ∀ z : Vec Ideal S2048x512 .bf16, (∑ k : Fin 2048, (x (ix2 a k) * View.ld z (Rect.unit ![0, 0] ![2048, 256] inb_S2048x512_S2048x256_0_0) (ix2 k j) : EReal))
        = ∑ k : Fin 2048, (x (ix2 a k) * z (ix2 k (Fin.castAdd 256 j)) : EReal) := fun z => Finset.sum_congr rfl fun k _ => congrArg (x (ix2 a k) * ·) (ld_0 z k j)
    exact congrArg₂ (fun s t => gate s * t) (e p) (e q)
  · refine Finset.sum_congr rfl fun j _ => congrArg (· * w (ix2 (Fin.natAdd 256 j) b)) ?_
    have e : ∀ z : Vec Ideal S2048x512 .bf16, (∑ k : Fin 2048, (x (ix2 a k) * View.ld z (Rect.unit ![0, 256] ![2048, 256] inb_S2048x512_S2048x256_0_256) (ix2 k j) : EReal))
        = ∑ k : Fin 2048, (x (ix2 a k) * z (ix2 k (Fin.natAdd 256 j)) : EReal) := fun z => Finset.sum_congr rfl fun k _ => congrArg (x (ix2 a k) * ·) (ld_256 z k j)
    have e' : ∀ u : Vec Ideal S2048x256 .bf16, (∑ k : Fin 2048, (k0_pay5 x (ix2 a k) * u (ix2 k j) : EReal)) = ∑ k : Fin 2048, (x (ix2 a k) * u (ix2 k j) : EReal) :=
      fun u => Finset.sum_congr rfl fun k _ => congrArg (· * u (ix2 k j)) (pay5_ix2 x a k)
    exact congrArg₂ (fun s t => s * t) ((pay7_ix2 _ _ a j).trans (congrArg gate (e p))) ((e' _).trans (e q))

variable (m : (ℓ : Loc nD τ sig) → Buf (Elt Ideal) ℓ) (c : Dev nD)

set_option maxHeartbeats 2000000 in
theorem first (n : ℕ) (hb : n < cfg0.N) (h0 : n % 11 = 0) (s : Vec Ideal S512x2048 .f32) :
    Value.scAt0_0 m c n hb s = step (k0_pay4 (F := Ideal)) (iblk m c 0 ⟨n, hb⟩) (iblk m c 2 ⟨n, hb⟩) (iblk m c 3 ⟨n, hb⟩) (iblk m c 4 ⟨n, hb⟩) := by
  unfold Value.scAt0_0
  rw [dif_pos h0, dif_neg (by omega)]
  unfold sout0_A_0
  frame_out
  rfl

set_option maxHeartbeats 2000000 in
theorem later (n : ℕ) (hb : n < cfg0.N) (h0 : ¬ n % 11 = 0) (s : Vec Ideal S512x2048 .f32) :
    Value.scAt0_0 m c n hb s = step s (iblk m c 0 ⟨n, hb⟩) (iblk m c 2 ⟨n, hb⟩) (iblk m c 3 ⟨n, hb⟩) (iblk m c 4 ⟨n, hb⟩) := by
  unfold Value.scAt0_0
  rw [dif_neg h0]
  by_cases h1 : n % 11 = 10
  · rw [dif_pos h1]
    unfold sout0_C_0
    frame_out
    exact congrArg (fun z => step z (iblk m c 0 ⟨n, hb⟩) (iblk m c 2 ⟨n, hb⟩) (iblk m c 3 ⟨n, hb⟩) (iblk m c 4 ⟨n, hb⟩)) ((Memref.isWhole_whole cc0_scratch0).read_unread s)
  · rw [dif_neg h1]
    unfold sout0_B_0
    frame_out
    exact congrArg (fun z => step z (iblk m c 0 ⟨n, hb⟩) (iblk m c 2 ⟨n, hb⟩) (iblk m c 3 ⟨n, hb⟩) (iblk m c 4 ⟨n, hb⟩)) ((Memref.isWhole_whole cc0_scratch0).read_unread s)

/-- The accumulator after the last block is the body's new accumulator. -/
theorem last_acc (t : Fin cfg0.N) (h1 : t.val % 11 = 10) :
    (outsAt0 m c t.val t.isLt).2.2 = step (outsAt0 m c (t.val - 1) (Nat.lt_of_le_of_lt (Nat.sub_le _ _) t.isLt)).2.2 (iblk m c 0 t) (iblk m c 2 t) (iblk m c 3 t) (iblk m c 4 t) := by
  have h0 : ¬ t.val % 11 = 0 := by omega
  rw [← later m c t.val t.isLt h0, outsAt0_C m c t h0 h1]
  unfold Value.scAt0_0
  rw [dif_neg h0, dif_pos h1]

set_option maxHeartbeats 2000000 in
theorem flushed_7 (t : Fin cfg0.N) (h1 : t.val % 11 = 10) (a : Fin 512) (b : Fin 2048) :
    (dats m 0 c).flushed 7 t (ix2 a b) = k0_pay2 (iblk m c 1 t) (outsAt0 m c t.val t.isLt).2.2 (iblk m c 5 t) (iblk m c 6 t) (ix2 a b) := by
  have h0 : ¬ t.val % 11 = 0 := by omega
  rw [Value.flushed7_C m c t h0 h1, last_acc m c t h1]
  unfold out0_C_7
  frame_out
  exact congrArg (fun z => k0_pay2 (iblk m c 1 t) (step z (iblk m c 0 t) (iblk m c 2 t) (iblk m c 3 t) (iblk m c 4 t)) (iblk m c 5 t) (iblk m c 6 t) (ix2 a b)) ((Memref.isWhole_whole cc0_scratch0).read_unread _)

set_option maxHeartbeats 2000000 in
theorem flushed_8 (t : Fin cfg0.N) (h1 : t.val % 11 = 10) (a : Fin 512) (b : Fin 2048) :
    (dats m 0 c).flushed 8 t (ix2 a b) = k0_pay2 (iblk m c 1 t) (outsAt0 m c t.val t.isLt).2.2 (iblk m c 5 t) (iblk m c 6 t) (ix2 a b) := by
  have h0 : ¬ t.val % 11 = 0 := by omega
  rw [Value.flushed8_C m c t h0 h1, last_acc m c t h1]
  unfold out0_C_8
  frame_out
  refine Eq.trans ?_ (pay3_ix2 _ _ _ _ a b)
  exact congrArg (fun z => k0_pay3 (iblk m c 1 t) (step z (iblk m c 0 t) (iblk m c 2 t) (iblk m c 3 t) (iblk m c 4 t)) (iblk m c 5 t) (iblk m c 6 t) (ix2 a b)) ((Memref.isWhole_whole cc0_scratch0).read_unread _)

end Cert.FfnIdeal.Dense

end
-- ==== Proof.Dense.Kernel.lean ====
module

public import proofs.«01_k».proof.Proof.Dense.Steps

/-! The dense part's kernel over the grid: what the blocks are in the arrays, the accumulator as a sum over the hidden
columns, and the two result arrays. -/

@[expose] public section

set_option maxRecDepth 65536

noncomputable section

namespace Cert.FfnIdeal.Dense

open Cert.FfnIdeal Cert.FfnIdeal.Gen Cert.InProj Cert.Attn Cert.Dense
open Idealize.ShloMosaic
open Idealize.ShloMosaic.TcCoe

variable (m : (ℓ : Loc nD τ sig) → Buf (Elt Ideal) ℓ) (c : Dev nD)

abbrev aX : Arr2 32768 2048 := m ((c.tc : Thread nD τ).loc main_arg0)
abbrev aW1 : Arr2 2048 5632 := m ((c.tc : Thread nD τ).loc main_arg1)
abbrev aW3 : Arr2 2048 5632 := m ((c.tc : Thread nD τ).loc main_arg2)
abbrev aW2 : Arr2 5632 2048 := m ((c.tc : Thread nD τ).loc main_arg3)
abbrev aG : Arr1 2048 := m ((c.tc : Thread nD τ).loc main_arg4)
abbrev aB : Arr1 2048 := m ((c.tc : Thread nD τ).loc main_arg5)

theorem entry_xb (r : Fin 32768) (k : Fin 2048) : V m c main_v0 (ix2 r k) = aX m c (ix2 r k) := by
  unfold V
  after_reads_at

theorem entry_x (r : Fin 32768) (k : Fin 2048) : V m c main_arg0 (ix2 r k) = aX m c (ix2 r k) := by
  unfold V
  after_reads_at

theorem entry_w1 (k : Fin 2048) (j : Fin 5632) : V m c main_v1 (ix2 k j) = aW1 m c (ix2 k j) := by
  unfold V
  after_reads_at

theorem entry_w3 (k : Fin 2048) (j : Fin 5632) : V m c main_v2 (ix2 k j) = aW3 m c (ix2 k j) := by
  unfold V
  after_reads_at

theorem entry_w2 (j : Fin 5632) (n : Fin 2048) : V m c main_v3 (ix2 j n) = aW2 m c (ix2 j n) := by
  unfold V
  after_reads_at

theorem entry_g (n : Fin 2048) : V m c main_v4 (ix2 (0 : Fin 1) n) = aG m c (ix1 n) := by
  unfold V
  after_reads_at

theorem entry_b (n : Fin 2048) : V m c main_v5 (ix2 (0 : Fin 1) n) = aB m c (ix1 n) := by
  unfold V
  after_reads_at

/-- The windows' blocks at one grid point. -/
abbrev PointAt (t : Fin cfg0.N) : Prop :=
  (cfg0.win (0 : Fin 9)).index t = ![t.val / 11, 0] ∧ (cfg0.win (1 : Fin 9)).index t = ![t.val / 11, 0]
    ∧ (cfg0.win (2 : Fin 9)).index t = ![0, t.val % 11] ∧ (cfg0.win (3 : Fin 9)).index t = ![0, t.val % 11] ∧ (cfg0.win (4 : Fin 9)).index t = ![t.val % 11, 0]
    ∧ (cfg0.win (5 : Fin 9)).index t = ![0, 0] ∧ (cfg0.win (6 : Fin 9)).index t = ![0, 0]
    ∧ (cfg0.win (7 : Fin 9)).index t = ![t.val / 11, 0] ∧ (cfg0.win (8 : Fin 9)).index t = ![t.val / 11, 0]

theorem points : ∀ t : Fin cfg0.N, PointAt t := by decide +kernel

theorem cfg0_N : cfg0.N = 704 := by decide +kernel

theorem row_lt (t : Fin cfg0.N) : t.val / 11 < 64 := by have := t.isLt; have := cfg0_N; omega

theorem blk_lt (t : Fin cfg0.N) : t.val % 11 < 11 := Nat.mod_lt _ (by decide)

/-- The row of the arrays a block's row is. -/
abbrev row (t : Fin cfg0.N) (a : Fin 512) : Fin 32768 := ⟨t.val / 11 * 512 + a.val, by have := row_lt t; omega⟩

/-- The hidden column a block's column is. -/
abbrev hcol (t : Fin cfg0.N) (j : Fin 512) : Fin 5632 := ⟨t.val % 11 * 512 + j.val, by have := blk_lt t; omega⟩

theorem iblk_0 (t : Fin cfg0.N) (a : Fin 512) (k : Fin 2048) :
    iblk m c (0 : Fin 9) t (ix2 a k) = V m c main_v0 (ix2 (row t a) k) := by
  refine congrArg (V m c main_v0) (funext fun x => Fin.ext ?_)
  refine ((cfg0.win (0 : Fin 9)).rect_emb_val t (ix2 a k) x).trans ?_
  rw [(points t).1]
  match x with
  | ⟨0, _⟩ => rfl
  | ⟨1, _⟩ => exact (congrArg (· + k.val) (Nat.zero_mul _)).trans (Nat.zero_add _)

theorem iblk_1 (t : Fin cfg0.N) (a : Fin 512) (k : Fin 2048) :
    iblk m c (1 : Fin 9) t (ix2 a k) = V m c main_arg0 (ix2 (row t a) k) := by
  refine congrArg (V m c main_arg0) (funext fun x => Fin.ext ?_)
  refine ((cfg0.win (1 : Fin 9)).rect_emb_val t (ix2 a k) x).trans ?_
  rw [(points t).2.1]
  match x with
  | ⟨0, _⟩ => rfl
  | ⟨1, _⟩ => exact (congrArg (· + k.val) (Nat.zero_mul _)).trans (Nat.zero_add _)

theorem iblk_2 (t : Fin cfg0.N) (k : Fin 2048) (j : Fin 512) :
    iblk m c (2 : Fin 9) t (ix2 k j) = V m c main_v1 (ix2 k (hcol t j)) := by
  refine congrArg (V m c main_v1) (funext fun x => Fin.ext ?_)
  refine ((cfg0.win (2 : Fin 9)).rect_emb_val t (ix2 k j) x).trans ?_
  rw [(points t).2.2.1]
  match x with
  | ⟨0, _⟩ => exact (congrArg (· + k.val) (Nat.zero_mul _)).trans (Nat.zero_add _)
  | ⟨1, _⟩ => rfl

theorem iblk_3 (t : Fin cfg0.N) (k : Fin 2048) (j : Fin 512) :
    iblk m c (3 : Fin 9) t (ix2 k j) = V m c main_v2 (ix2 k (hcol t j)) := by
  refine congrArg (V m c main_v2) (funext fun x => Fin.ext ?_)
  refine ((cfg0.win (3 : Fin 9)).rect_emb_val t (ix2 k j) x).trans ?_
  rw [(points t).2.2.2.1]
  match x with
  | ⟨0, _⟩ => exact (congrArg (· + k.val) (Nat.zero_mul _)).trans (Nat.zero_add _)
  | ⟨1, _⟩ => rfl

theorem iblk_4 (t : Fin cfg0.N) (j : Fin 512) (n : Fin 2048) :
    iblk m c (4 : Fin 9) t (ix2 j n) = V m c main_v3 (ix2 (hcol t j) n) := by
  refine congrArg (V m c main_v3) (funext fun x => Fin.ext ?_)
  refine ((cfg0.win (4 : Fin 9)).rect_emb_val t (ix2 j n) x).trans ?_
  rw [(points t).2.2.2.2.1]
  match x with
  | ⟨0, _⟩ => rfl
  | ⟨1, _⟩ => exact (congrArg (· + n.val) (Nat.zero_mul _)).trans (Nat.zero_add _)

theorem iblk_5 (t : Fin cfg0.N) (z : Fin 1) (n : Fin 2048) :
    iblk m c (5 : Fin 9) t (ix2 z n) = V m c main_v4 (ix2 z n) := by
  refine congrArg (V m c main_v4) (funext fun x => Fin.ext ?_)
  refine ((cfg0.win (5 : Fin 9)).rect_emb_val t (ix2 z n) x).trans ?_
  rw [(points t).2.2.2.2.2.1]
  match x with
  | ⟨0, _⟩ => exact (congrArg (· + z.val) (Nat.zero_mul _)).trans (Nat.zero_add _)
  | ⟨1, _⟩ => exact (congrArg (· + n.val) (Nat.zero_mul _)).trans (Nat.zero_add _)

theorem iblk_6 (t : Fin cfg0.N) (z : Fin 1) (n : Fin 2048) :
    iblk m c (6 : Fin 9) t (ix2 z n) = V m c main_v5 (ix2 z n) := by
  refine congrArg (V m c main_v5) (funext fun x => Fin.ext ?_)
  refine ((cfg0.win (6 : Fin 9)).rect_emb_val t (ix2 z n) x).trans ?_
  rw [(points t).2.2.2.2.2.2.1]
  match x with
  | ⟨0, _⟩ => exact (congrArg (· + z.val) (Nat.zero_mul _)).trans (Nat.zero_add _)
  | ⟨1, _⟩ => exact (congrArg (· + n.val) (Nat.zero_mul _)).trans (Nat.zero_add _)

theorem emb_7 (t : Fin cfg0.N) (a : Fin 512) (n : Fin 2048) : ((cfg0.win (7 : Fin 9)).blk t).view.emb (ix2 a n) = ix2 (row t a) n := by
  refine funext fun x => Fin.ext ?_
  refine ((cfg0.win (7 : Fin 9)).rect_emb_val t (ix2 a n) x).trans ?_
  rw [(points t).2.2.2.2.2.2.2.1]
  match x with
  | ⟨0, _⟩ => rfl
  | ⟨1, _⟩ => exact (congrArg (· + n.val) (Nat.zero_mul _)).trans (Nat.zero_add _)

theorem emb_8 (t : Fin cfg0.N) (a : Fin 512) (n : Fin 2048) : ((cfg0.win (8 : Fin 9)).blk t).view.emb (ix2 a n) = ix2 (row t a) n := by
  refine funext fun x => Fin.ext ?_
  refine ((cfg0.win (8 : Fin 9)).rect_emb_val t (ix2 a n) x).trans ?_
  rw [(points t).2.2.2.2.2.2.2.2]
  match x with
  | ⟨0, _⟩ => rfl
  | ⟨1, _⟩ => exact (congrArg (· + n.val) (Nat.zero_mul _)).trans (Nat.zero_add _)

/-- A block's hidden rows are the arrays'. -/
theorem hidB_eq (t : Fin cfg0.N) (a j : Fin 512) :
    hidB (iblk m c (0 : Fin 9) t) (iblk m c (2 : Fin 9) t) (iblk m c (3 : Fin 9) t) a j = hid (aX m c) (aW1 m c) (aW3 m c) (row t a) (hcol t j) := by
  unfold hidB hid
  refine congrArg₂ (fun s u => gate s * u) (Finset.sum_congr rfl fun k _ => ?_) (Finset.sum_congr rfl fun k _ => ?_)
  · rw [iblk_0, iblk_2, entry_xb, entry_w1]
  · rw [iblk_0, iblk_3, entry_xb, entry_w3]

/-- What a grid point adds to an element of the accumulator. -/
def addendAt (n : ℕ) (a : Fin 512) (x : Fin 2048) : EReal :=
  if h : n / 11 * 512 + a.val < 32768 then
    ∑ j : Fin 512, termAt (aX m c) (aW1 m c) (aW3 m c) (aW2 m c) ⟨n / 11 * 512 + a.val, h⟩ x (n % 11 * 512 + j.val)
  else 0

/-- The same, by the index. -/
def addend (n : ℕ) (i : S512x2048.Idx) : EReal := addendAt m c n (i 0) (i 1)

theorem addend_eq (t : Fin cfg0.N) (a : Fin 512) (n : Fin 2048) :
    (∑ j : Fin 512, (hidB (iblk m c (0 : Fin 9) t) (iblk m c (2 : Fin 9) t) (iblk m c (3 : Fin 9) t) a j * iblk m c (4 : Fin 9) t (ix2 j n) : EReal)) = addend m c t.val (ix2 a n) := by
  show _ = addendAt m c t.val a n
  have hr : t.val / 11 * 512 + a.val < 32768 := (row t a).isLt
  unfold addendAt
  rw [dif_pos hr]
  refine Finset.sum_congr rfl fun j _ => ?_
  refine Eq.trans ?_ (termAt_val (aX m c) (aW1 m c) (aW3 m c) (aW2 m c) (row t a) n (hcol t j)).symm
  rw [hidB_eq, iblk_4, entry_w2]

theorem ix2_eta {p q : ℕ} (i : (⟨2, ![p, q]⟩ : Shape).Idx) : i = ix2 (i 0) (i 1) := funext fun x => by
  match x with
  | ⟨0, _⟩ => rfl
  | ⟨1, _⟩ => rfl

/-- The accumulator after the last block of a row of blocks. -/
theorem acc_eq (t : Fin cfg0.N) (h1 : t.val % 11 = 10) (a : Fin 512) (n : Fin 2048) :
    (outsAt0 m c t.val t.isLt).2.2 (ix2 a n) = own (aX m c) (aW1 m c) (aW3 m c) (aW2 m c) (row t a) n := by
  have ht := t.isLt
  rw [Value.soutsAt0_0_eq m c t]
  refine (Pipeline.accAt_add_apply (β := EReal) _ _ (fun _ => 0) (addend m c) (11 * (t.val / 11)) 10 (fun h i => ?_) (fun u h s i hu hu' => ?_) (t.val % 11) (by omega) _ (ix2 a n)).trans ?_
  · obtain ⟨a', n', rfl⟩ : ∃ (a' : Fin 512) (n' : Fin 2048), i = ix2 a' n' := ⟨i 0, i 1, ix2_eta i⟩
    rw [first m c _ h (by omega), ← addend_eq m c ⟨_, h⟩ a' n']
    exact (step_ix2 _ _ _ _ _ a' n').trans (congrArg (· + _) (pay4_ix2 a' n'))
  · obtain ⟨a', n', rfl⟩ : ∃ (a' : Fin 512) (n' : Fin 2048), i = ix2 a' n' := ⟨i 0, i 1, ix2_eta i⟩
    rw [later m c u h (by omega), ← addend_eq m c ⟨u, h⟩ a' n']
    exact step_ix2 _ _ _ _ _ a' n'
  · rw [zero_add, own_eq, h1]
    refine Finset.sum_congr rfl fun s hs => ?_
    have hs' := Finset.mem_range.mp hs
    have e1 : (11 * (t.val / 11) + s) / 11 = t.val / 11 := by omega
    have e2 : (11 * (t.val / 11) + s) % 11 = s := by omega
    show addendAt m c _ a n = _
    unfold addendAt
    have hr : (11 * (t.val / 11) + s) / 11 * 512 + a.val < 32768 := by rw [e1]; exact (row t a).isLt
    rw [dif_pos hr, e2]
    refine Finset.sum_congr rfl fun j _ => ?_
    exact congrArg (fun r => termAt (aX m c) (aW1 m c) (aW3 m c) (aW2 m c) r n (s * 512 + j.val)) (Fin.ext (by show (11 * (t.val / 11) + s) / 11 * 512 + a.val = t.val / 11 * 512 + a.val; rw [e1]))

/-- What a last block stores, in either result. -/
theorem stored (t : Fin cfg0.N) (h1 : t.val % 11 = 10) (a : Fin 512) (n : Fin 2048) :
    k0_pay2 (iblk m c (1 : Fin 9) t) (outsAt0 m c t.val t.isLt).2.2 (iblk m c (5 : Fin 9) t) (iblk m c (6 : Fin 9) t) (ix2 a n)
      = denseAt (aX m c) (aW1 m c) (aW3 m c) (aW2 m c) (aG m c) (aB m c) (row t a) n := by
  refine (pay2_ix2 _ _ _ _ a n).trans ?_
  unfold denseAt
  have e : (fun x => residual (iblk m c (1 : Fin 9) t (ix2 a x)) ((outsAt0 m c t.val t.isLt).2.2 (ix2 a x)))
      = fun x => residual (aX m c (ix2 (row t a) x)) (own (aX m c) (aW1 m c) (aW3 m c) (aW2 m c) (row t a) x) :=
    funext fun x => congrArg₂ residual ((iblk_1 m c t a x).trans (entry_x m c _ x)) (acc_eq m c t h1 a x)
  rw [e, iblk_5, iblk_6, entry_g, entry_b]

/-- The first result array. -/
theorem result_7 : (dats m 0 c).arrAt (7 : Fin 9) cfg0.N = dense (aX m c) (aW1 m c) (aW3 m c) (aW2 m c) (aG m c) (aB m c) := by
  refine (dats m 0 c).arrAt_eq_of_cover (7 : Fin 9) (dense (aX m c) (aW1 m c) (aW3 m c) (aW2 m c) (aG m c) (aB m c)) (fun t hf => ?_) (fun i => ?_)
  · have h1 := (flush0_7 t).mp hf
    funext y
    obtain ⟨a, n, rfl⟩ : ∃ (a : Fin 512) (n : Fin 2048), y = ix2 a n := ⟨y 0, y 1, ix2_eta y⟩
    refine ((flushed_7 m c t h1 a n).trans (stored m c t h1 a n)).trans ?_
    exact (congrArg (dense (aX m c) (aW1 m c) (aW3 m c) (aW2 m c) (aG m c) (aB m c)) (emb_7 t a n)).symm
  · obtain ⟨r, n, rfl⟩ : ∃ (r : Fin 32768) (n : Fin 2048), i = ix2 r n := ⟨i 0, i 1, ix2_eta i⟩
    have hN := cfg0_N
    have ht : r.val / 512 * 11 + 10 < cfg0.N := by omega
    refine ⟨⟨_, ht⟩, (flush0_7 _).mpr (by show (r.val / 512 * 11 + 10) % 11 = 10; omega), ?_⟩
    have hm := ((cfg0.win (7 : Fin 9)).blk ⟨_, ht⟩).view.emb_mem_set (ix2 (⟨r.val % 512, Nat.mod_lt _ (by decide)⟩ : Fin 512) n)
    rw [emb_7] at hm
    refine Eq.mp (congrArg (· ∈ _) (funext fun x => Fin.ext ?_)) hm
    match x with
    | ⟨0, _⟩ => show (r.val / 512 * 11 + 10) / 11 * 512 + r.val % 512 = r.val; omega
    | ⟨1, _⟩ => rfl

/-- The second result array. -/
theorem result_8 : (dats m 0 c).arrAt (8 : Fin 9) cfg0.N = dense (aX m c) (aW1 m c) (aW3 m c) (aW2 m c) (aG m c) (aB m c) := by
  refine (dats m 0 c).arrAt_eq_of_cover (8 : Fin 9) (dense (aX m c) (aW1 m c) (aW3 m c) (aW2 m c) (aG m c) (aB m c)) (fun t hf => ?_) (fun i => ?_)
  · have h1 := (flush0_8 t).mp hf
    funext y
    obtain ⟨a, n, rfl⟩ : ∃ (a : Fin 512) (n : Fin 2048), y = ix2 a n := ⟨y 0, y 1, ix2_eta y⟩
    refine ((flushed_8 m c t h1 a n).trans (stored m c t h1 a n)).trans ?_
    exact (congrArg (dense (aX m c) (aW1 m c) (aW3 m c) (aW2 m c) (aG m c) (aB m c)) (emb_8 t a n)).symm
  · obtain ⟨r, n, rfl⟩ : ∃ (r : Fin 32768) (n : Fin 2048), i = ix2 r n := ⟨i 0, i 1, ix2_eta i⟩
    have hN := cfg0_N
    have ht : r.val / 512 * 11 + 10 < cfg0.N := by omega
    refine ⟨⟨_, ht⟩, (flush0_8 _).mpr (by show (r.val / 512 * 11 + 10) % 11 = 10; omega), ?_⟩
    have hm := ((cfg0.win (8 : Fin 9)).blk ⟨_, ht⟩).view.emb_mem_set (ix2 (⟨r.val % 512, Nat.mod_lt _ (by decide)⟩ : Fin 512) n)
    rw [emb_8] at hm
    refine Eq.mp (congrArg (· ∈ _) (funext fun x => Fin.ext ?_)) hm
    match x with
    | ⟨0, _⟩ => show (r.val / 512 * 11 + 10) / 11 * 512 + r.val % 512 = r.val; omega
    | ⟨1, _⟩ => rfl

end Cert.FfnIdeal.Dense

end
-- ==== Proof.Dense.Ref.lean ====
module

public import proofs.«01_k».proof.Proof.Gen.RefFfnIdeal.Run
public import proofs.«01_k».proof.Proof.Dense.Spec
public import Idealize.ShloMosaic.Lib.Pointwise
public import Idealize.ShloMosaic.Lib.Quiescent

/-! The dense part's reference: its operations named and read at an index, and its run. -/

@[expose] public section

set_option maxRecDepth 65536

noncomputable section

namespace Cert.RefFfnIdeal.Dense

open Cert.RefFfnIdeal Cert.RefFfnIdeal.Gen Cert.InProj Cert.Attn
open Idealize.ShloMosaic Idealize.SL.Sem
open Idealize.ShloMosaic.TcCoe

/-- The product with the first or the second matrix. -/
def mm (X : FVec Ideal S32768x2048 .f32) (W : FVec Ideal S2048x5632 .f32) : FVec Ideal S32768x5632 .f32 :=
  Host.dotGeneral dot_S32768x2048_S2048x5632_S32768x5632_1_0_0_1_n_n none X W

theorem mm_ix2 (X : FVec Ideal S32768x2048 .f32) (W : FVec Ideal S2048x5632 .f32) (r : Fin 32768) (j : Fin 5632) :
    mm X W (ix2 r j) = ∑ k : Fin 2048, (X (ix2 r k) * W (ix2 k j) : EReal) := by
  pointwise [mm]

/-- The hidden rows, from the two products. -/
def hidden (u v : FVec Ideal S32768x5632 .f32) : FVec Ideal S32768x5632 .f32 :=
  mulf (mulf u (Host.divf (broadcastInDim S32768x5632 ![] bcast_S_S32768x5632 (constant S_ .f32 0x3F800000#32))
    (addf (broadcastInDim S32768x5632 ![] bcast_S_S32768x5632 (constant S_ .f32 0x3F800000#32)) (Host.exp (Host.negf u))))) v

theorem hidden_ix2 (u v : FVec Ideal S32768x5632 .f32) (r : Fin 32768) (j : Fin 5632) :
    hidden u v (ix2 r j) = (Cert.Dense.gate (u (ix2 r j)) * v (ix2 r j) : EReal) := by
  pointwise [hidden]
  rfl

/-- The residual sum. -/
def total (X : FVec Ideal S32768x2048 .f32) (h : FVec Ideal S32768x5632 .f32) (W : FVec Ideal S5632x2048 .f32) : FVec Ideal S32768x2048 .f32 :=
  addf (mulf (broadcastInDim S32768x2048 ![] bcast_S_S32768x2048 (constant S_ .f32 0x3FB504F3#32)) X) (Host.dotGeneral dot_S32768x5632_S5632x2048_S32768x2048_1_0_0_1_n_n none h W)

theorem total_ix2 (X : FVec Ideal S32768x2048 .f32) (h : FVec Ideal S32768x5632 .f32) (W : FVec Ideal S5632x2048 .f32) (r : Fin 32768) (n : Fin 2048) :
    total X h W (ix2 r n) = Cert.Dense.residual (X (ix2 r n)) (∑ j : Fin 5632, (h (ix2 r j) * W (ix2 j n) : EReal)) := by
  pointwise [total]
  rfl

/-- The mean of each row. -/
def means (y : FVec Ideal S32768x2048 .f32) : FVec Ideal S32768x1 .f32 :=
  Host.divf (broadcastInDim S32768x1 ![0] bcast_S32768_S32768x1_0 (Host.reduceAdd y (constant S_ .f32 0x00000000#32) reducesTo_S32768x2048_S32768_d1 h_S_))
    (broadcastInDim S32768x1 ![] bcast_S_S32768x1 (constant S_ .f32 0x45000000#32))

theorem means_ix2 (y : FVec Ideal S32768x2048 .f32) (r : Fin 32768) : means y (ix2 r 0) = Cert.Dense.mean (fun n => y (ix2 r n)) := by
  pointwise [means]
  rfl

/-- The differences of the elements of each row from the row's own number. -/
def diff (y : FVec Ideal S32768x2048 .f32) (u : FVec Ideal S32768x1 .f32) : FVec Ideal S32768x2048 .f32 :=
  subf y (broadcastInDim S32768x2048 ![0, 1] bcast_S32768x1_S32768x2048_0_1 u)

theorem diff_ix2 (y : FVec Ideal S32768x2048 .f32) (u : FVec Ideal S32768x1 .f32) (r : Fin 32768) (n : Fin 2048) :
    diff y u (ix2 r n) = (y (ix2 r n) - u (ix2 r 0) : EReal) := by
  pointwise [diff]

/-- The squares. -/
def squares (d : FVec Ideal S32768x2048 .f32) : FVec Ideal S32768x2048 .f32 := mulf d d

theorem squares_ix2 (d : FVec Ideal S32768x2048 .f32) (r : Fin 32768) (n : Fin 2048) : squares d (ix2 r n) = (d (ix2 r n) * d (ix2 r n) : EReal) := by
  pointwise [squares]

/-- The differences over the root of the variances, by the weights, plus the biases. -/
def scaled (d : FVec Ideal S32768x2048 .f32) (v : FVec Ideal S32768x1 .f32) (g b : FVec Ideal S2048 .f32) : FVec Ideal S32768x2048 .f32 :=
  addf (mulf (mulf d (broadcastInDim S32768x2048 ![0, 1] bcast_S32768x1_S32768x2048_0_1 (Host.rsqrt (addf v (broadcastInDim S32768x1 ![] bcast_S_S32768x1 (constant S_ .f32 0x3727C5AC#32))))))
    (broadcastInDim S32768x2048 ![0, 1] bcast_S1x2048_S32768x2048_0_1 (broadcastInDim S1x2048 ![1] bcast_S2048_S1x2048_1 g)))
    (broadcastInDim S32768x2048 ![0, 1] bcast_S1x2048_S32768x2048_0_1 (broadcastInDim S1x2048 ![1] bcast_S2048_S1x2048_1 b))

theorem scaled_ix2 (d : FVec Ideal S32768x2048 .f32) (v : FVec Ideal S32768x1 .f32) (g b : FVec Ideal S2048 .f32) (r : Fin 32768) (n : Fin 2048) :
    scaled d v g b (ix2 r n) = (d (ix2 r n) * Ideal.rsqrt (v (ix2 r 0) + Ideal.ofBits FTy.f32 0x3727C5AC#32) * g (ix1 n) + b (ix1 n) : EReal) := by
  pointwise [scaled]

/-- The layer norm. -/
def normed (y : FVec Ideal S32768x2048 .f32) (g b : FVec Ideal S2048 .f32) : FVec Ideal S32768x2048 .f32 :=
  scaled (diff y (means y)) (means (squares (diff y (means y)))) g b

theorem normed_ix2 (y : FVec Ideal S32768x2048 .f32) (g b : FVec Ideal S2048 .f32) (r : Fin 32768) (n : Fin 2048) :
    normed y g b (ix2 r n) = Cert.Dense.norm (fun x => y (ix2 r x)) n (g (ix1 n)) (b (ix1 n)) := by
  unfold normed Cert.Dense.norm
  rw [scaled_ix2, means_ix2, diff_ix2, means_ix2]
  simp only [squares_ix2, diff_ix2, means_ix2]

/-- The part as the reference writes it. -/
def layer (X : FVec Ideal S32768x2048 .f32) (W1 W3 : FVec Ideal S2048x5632 .f32) (W2 : FVec Ideal S5632x2048 .f32) (g b : FVec Ideal S2048 .f32) : FVec Ideal S32768x2048 .f32 :=
  normed (total X (hidden (mm X W1) (mm X W3)) W2) g b

theorem layer_eq (X : FVec Ideal S32768x2048 .f32) (W1 W3 : FVec Ideal S2048x5632 .f32) (W2 : FVec Ideal S5632x2048 .f32) (g b : FVec Ideal S2048 .f32) :
    layer X W1 W3 W2 g b = Cert.Dense.dense X W1 W3 W2 g b := by
  funext i
  obtain ⟨r, n, rfl⟩ : ∃ (r : Fin 32768) (n : Fin 2048), i = ix2 r n := ⟨i 0, i 1, funext fun x => by
    match x with
    | ⟨0, _⟩ => rfl
    | ⟨1, _⟩ => rfl⟩
  unfold layer
  rw [normed_ix2]
  simp only [total_ix2, hidden_ix2, mm_ix2]
  rfl

theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v31) = Cert.Dense.dense (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_v32) = Cert.Dense.dense (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c => ⟨(h c).1.trans (layer_eq _ _ _ _ _ _), (h c).2.1.trans (layer_eq _ _ _ _ _ _), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run _ _ _).mono (fun r h => ⟨fun c => (h c).2.2, sem_eq_zero_of_no_sems (by decide) r.2⟩) (value m ρ)

end Cert.RefFfnIdeal.Dense

end
-- ==== Proof.InProjB.Spec.lean ====
module

public import proofs.«01_k».proof.Proof.InProj.Spec

/-! The product of the input projection where the activations are rows already. -/

@[expose] public section

noncomputable section

namespace Cert.InProj

open Idealize.ShloMosaic Cert.Attn

variable (X : Arr2 32768 2048) (W : Arr2 2048 18976)

/-- One element of the projection of the rows. -/
def projRowsAt (r : Fin 32768) (n : Fin 18432) : EReal := ∑ k : Fin 2048, X (ix2 r k) * W (ix2 k ⟨col n.val, col_lt n.isLt⟩)

/-- The projection of the rows as an array. -/
def projRows : Arr2 32768 18432 := fun i => projRowsAt X W (i 0) (i 1)

end Cert.InProj

end
-- ==== Proof.InProjB.Entry.lean ====
module

public import proofs.«01_k».proof.Proof.Gen.ProjBIdeal.Value
public import proofs.«01_k».proof.Proof.InProjB.Spec
public import Idealize.ShloMosaic.Lib.Pointwise
public import Idealize.ShloMosaic.Lib.StableHlo.ReadAt
public import Idealize.ShloMosaic.Lib.Claim

/-! What the second layer's projection finds in its operands: the weights' columns in order. -/

@[expose] public section

set_option maxRecDepth 65536

noncomputable section

namespace Cert.ProjBIdeal.InProj

open Cert.ProjBIdeal Cert.ProjBIdeal.Gen Cert.InProj Cert.Attn
open Idealize.ShloMosaic
open Idealize.ShloMosaic.TcCoe

variable (m : (ℓ : Loc nD τ sig) → Buf (Elt Ideal) ℓ) (c : Dev nD)

abbrev aX : Arr2 32768 2048 := m ((c.tc : Thread nD τ).loc main_arg0)
abbrev aW : Arr2 2048 18976 := m ((c.tc : Thread nD τ).loc main_arg1)

theorem entry_x (r : Fin 32768) (k : Fin 2048) : V m c main_arg0 (ix2 r k) = aX m c (ix2 r k) := by
  unfold V
  after_reads_at

set_option maxHeartbeats 2000000 in
theorem entry_w (k : Fin 2048) (n : Fin 18432) :
    V m c main_v24 (ix2 k n) = aW m c (ix2 k ⟨col n.val, col_lt n.isLt⟩) := by
  unfold V
  after_reads_at
  have hn := n.isLt
  split_ifs with h1 h2 h3 h4 h5 h6
  all_goals first
    | (exfalso; omega)
    | (after_reads_at
       refine congrArg (fun x : Fin 18976 => aW m c (ix2 k x)) (Fin.ext (eq_col ?_))
       dsimp only
       omega)

end Cert.ProjBIdeal.InProj

end
-- ==== Proof.InProjB.Kernel.lean ====
module

public import proofs.«01_k».proof.Proof.InProjB.Entry
public import Idealize.ShloMosaic.Lib.Pipeline.ValueKit

/-! The second layer's projection: every grid point stores its block of the product, and the blocks fill the result. -/

@[expose] public section

set_option maxRecDepth 65536

noncomputable section

namespace Cert.ProjBIdeal.InProj

open Cert.ProjBIdeal Cert.ProjBIdeal.Gen Cert.InProj Cert.Attn
open Idealize.ShloMosaic
open Idealize.ShloMosaic.TcCoe

variable (m : (ℓ : Loc nD τ sig) → Buf (Elt Ideal) ℓ) (c : Dev nD)

/-- The windows' blocks at one grid point. -/
abbrev PointAt (t : Fin cfg0.N) : Prop :=
  (cfg0.win (0 : Fin 3)).index t = ![t.val / 18, 0] ∧ (cfg0.win (1 : Fin 3)).index t = ![0, t.val % 18] ∧ (cfg0.win (2 : Fin 3)).index t = ![t.val / 18, t.val % 18]

theorem points : ∀ t : Fin cfg0.N, PointAt t := by decide +kernel

theorem cfg0_N : cfg0.N = 288 := by decide +kernel

theorem row_lt (t : Fin cfg0.N) : t.val / 18 < 16 := by have := t.isLt; have := cfg0_N; omega

theorem col_blk_lt (t : Fin cfg0.N) : t.val % 18 < 18 := Nat.mod_lt _ (by decide)

theorem iblk_0 (t : Fin cfg0.N) (a : Fin 2048) (k : Fin 2048) :
    iblk m c (0 : Fin 3) t (ix2 a k) = V m c main_arg0 (ix2 (⟨t.val / 18 * 2048 + a.val, by have := row_lt t; omega⟩ : Fin 32768) k) := by
  refine congrArg (V m c main_arg0) (funext fun x => Fin.ext ?_)
  refine ((cfg0.win (0 : Fin 3)).rect_emb_val t (ix2 a k) x).trans ?_
  rw [(points t).1]
  match x with
  | ⟨0, _⟩ => rfl
  | ⟨1, _⟩ => exact (congrArg (· + k.val) (Nat.zero_mul _)).trans (Nat.zero_add _)

theorem iblk_1 (t : Fin cfg0.N) (k : Fin 2048) (b : Fin 1024) :
    iblk m c (1 : Fin 3) t (ix2 k b) = V m c main_v24 (ix2 k (⟨t.val % 18 * 1024 + b.val, by have := col_blk_lt t; omega⟩ : Fin 18432)) := by
  refine congrArg (V m c main_v24) (funext fun x => Fin.ext ?_)
  refine ((cfg0.win (1 : Fin 3)).rect_emb_val t (ix2 k b) x).trans ?_
  rw [(points t).2.1]
  match x with
  | ⟨0, _⟩ => exact (congrArg (· + k.val) (Nat.zero_mul _)).trans (Nat.zero_add _)
  | ⟨1, _⟩ => rfl

/-- Where the result's window puts an element of its block. -/
theorem emb_2 (t : Fin cfg0.N) (a : Fin 2048) (b : Fin 1024) :
    ((cfg0.win (2 : Fin 3)).blk t).view.emb (ix2 a b)
      = ix2 (⟨t.val / 18 * 2048 + a.val, by have := row_lt t; omega⟩ : Fin 32768) (⟨t.val % 18 * 1024 + b.val, by have := col_blk_lt t; omega⟩ : Fin 18432) := by
  refine funext fun x => Fin.ext ?_
  refine ((cfg0.win (2 : Fin 3)).rect_emb_val t (ix2 a b) x).trans ?_
  rw [(points t).2.2]
  match x with
  | ⟨0, _⟩ => rfl
  | ⟨1, _⟩ => rfl

theorem pay_ix2 (x : Vec Ideal S2048x2048 .bf16) (w : Vec Ideal S2048x1024 .bf16) (a : Fin 2048) (b : Fin 1024) :
    k0_pay1 x w (ix2 a b) = ∑ k : Fin 2048, (x (ix2 a k) * w (ix2 k b) : EReal) := by
  pointwise [k0_pay1]

theorem out_ix2 (x : Vec Ideal S2048x2048 .bf16) (w : Vec Ideal S2048x1024 .bf16) (a : Fin 2048) (b : Fin 1024) :
    out0_2 x w (ix2 a b) = ∑ k : Fin 2048, (x (ix2 a k) * w (ix2 k b) : EReal) := by
  unfold out0_2
  frame_out
  exact pay_ix2 x w a b

theorem stored (t : Fin cfg0.N) (a : Fin 2048) (b : Fin 1024) :
    (Cert.ProjBIdeal.Gen.dats m 0 c).flushed 2 t (ix2 a b)
      = projRowsAt (aX m c) (aW m c) ⟨t.val / 18 * 2048 + a.val, by have := row_lt t; omega⟩ ⟨t.val % 18 * 1024 + b.val, by have := col_blk_lt t; omega⟩ := by
  rw [Value.flushed2]
  refine (out_ix2 _ _ a b).trans (Finset.sum_congr rfl fun k _ => ?_)
  rw [iblk_0, iblk_1, entry_x, entry_w]

/-- The result array. -/
theorem result : (dats m 0 c).arrAt (2 : Fin 3) cfg0.N = projRows (aX m c) (aW m c) := by
  refine (dats m 0 c).arrAt_eq_of_cover (2 : Fin 3) (projRows (aX m c) (aW m c)) (fun t hf => ?_) (fun i => ?_)
  · funext y
    obtain ⟨a, b, rfl⟩ : ∃ (a : Fin 2048) (b : Fin 1024), y = ix2 a b := ⟨y 0, y 1, funext fun x => by
      match x with
      | ⟨0, _⟩ => rfl
      | ⟨1, _⟩ => rfl⟩
    refine (stored m c t a b).trans ?_
    exact (congrArg (projRows (aX m c) (aW m c)) (emb_2 t a b)).symm
  · obtain ⟨r, n, rfl⟩ : ∃ (r : Fin 32768) (n : Fin 18432), i = ix2 r n := ⟨i 0, i 1, funext fun x => by
      match x with
      | ⟨0, _⟩ => rfl
      | ⟨1, _⟩ => rfl⟩
    have hN := cfg0_N
    have ht : r.val / 2048 * 18 + n.val / 1024 < cfg0.N := by omega
    refine ⟨⟨_, ht⟩, flush0_2 _, ?_⟩
    have hm := ((cfg0.win (2 : Fin 3)).blk ⟨_, ht⟩).view.emb_mem_set (ix2 (⟨r.val % 2048, Nat.mod_lt _ (by decide)⟩ : Fin 2048) (⟨n.val % 1024, Nat.mod_lt _ (by decide)⟩ : Fin 1024))
    rw [emb_2] at hm
    refine Eq.mp (congrArg (· ∈ _) (funext fun x => Fin.ext ?_)) hm
    match x with
    | ⟨0, _⟩ => show (r.val / 2048 * 18 + n.val / 1024) / 18 * 2048 + r.val % 2048 = r.val; omega
    | ⟨1, _⟩ => show (r.val / 2048 * 18 + n.val / 1024) % 18 * 1024 + n.val % 1024 = n.val; omega

end Cert.ProjBIdeal.InProj

end
-- ==== Proof.InProjB.Ref.lean ====
module

public import proofs.«01_k».proof.Proof.Gen.RefProjBIdeal.Run
public import proofs.«01_k».proof.Proof.InProjB.Spec
public import Idealize.ShloMosaic.Lib.Pointwise
public import Idealize.ShloMosaic.Lib.Quiescent

/-! The second layer's projection, the reference: the product, its columns split and put in order. -/

@[expose] public section

set_option maxRecDepth 65536

noncomputable section

namespace Cert.RefProjBIdeal.InProj

open Cert.RefProjBIdeal Cert.RefProjBIdeal.Gen Cert.InProj Cert.Attn
open Idealize.ShloMosaic Idealize.SL.Sem
open Idealize.ShloMosaic.TcCoe

/-- The product. -/
def prod (X : FVec Ideal S32768x2048 .bf16) (W : FVec Ideal S2048x18976 .f32) : FVec Ideal S32768x18976 .f32 :=
  Host.dotGeneral dot_S32768x2048_S2048x18976_S32768x18976_1_0_0_1_n_n none (extf .f32 X bitsLt_bf16_f32) W

theorem prod_ix2 (X : FVec Ideal S32768x2048 .bf16) (W : FVec Ideal S2048x18976 .f32) (r : Fin 32768) (n : Fin 18976) :
    prod X W (ix2 r n) = ∑ k : Fin 2048, (X (ix2 r k) * W (ix2 k n) : EReal) := by
  pointwise [prod]

/-- The product's columns in order. -/
def arrange (p : FVec Ideal S32768x18976 .f32) : FVec Ideal S32768x18432 .bf16 :=
  truncf .bf16 (concatenate S32768x18432 1 [⟨S32768x6144, extractStridedSlice S32768x6144 ![0, 0] p slices_S32768x18976_S32768x6144_0_0⟩,
    ⟨S32768x2048, extractStridedSlice S32768x2048 ![0, 0] (extractStridedSlice S32768x5152 ![0, 6144] p slices_S32768x18976_S32768x5152_0_6144) slices_S32768x5152_S32768x2048_0_0⟩,
    ⟨S32768x6144, extractStridedSlice S32768x6144 ![0, 0] (extractStridedSlice S32768x6592 ![0, 12384] p slices_S32768x18976_S32768x6592_0_12384) slices_S32768x6592_S32768x6144_0_0⟩,
    ⟨S32768x3072, extractStridedSlice S32768x3072 ![0, 2048] (extractStridedSlice S32768x5152 ![0, 6144] p slices_S32768x18976_S32768x5152_0_6144) slices_S32768x5152_S32768x3072_0_2048⟩,
    ⟨S32768x512, extractStridedSlice S32768x512 ![0, 0] (extractStridedSlice S32768x1088 ![0, 11296] p slices_S32768x18976_S32768x1088_0_11296) slices_S32768x1088_S32768x512_0_0⟩,
    ⟨S32768x512, extractStridedSlice S32768x512 ![0, 512] (extractStridedSlice S32768x1088 ![0, 11296] p slices_S32768x18976_S32768x1088_0_11296) slices_S32768x1088_S32768x512_0_512⟩]
    concatenates_S32768x6144_S32768x2048_S32768x6144_S32768x3072_S32768x512_S32768x512_S32768x18432_d1) bitsLt_bf16_f32

set_option maxHeartbeats 2000000 in
theorem arrange_ix2 (p : FVec Ideal S32768x18976 .f32) (r : Fin 32768) (n : Fin 18432) :
    arrange p (ix2 r n) = p (ix2 r ⟨col n.val, col_lt n.isLt⟩) := by
  pointwise [arrange]
  have hn := n.isLt
  split_ifs
  all_goals first
    | (exfalso; omega)
    | (refine congrArg (fun x : Fin 18976 => p (ix2 _ x)) (Fin.ext (eq_col ?_))
       dsimp only
       omega)

theorem term_eq (X : FVec Ideal S32768x2048 .bf16) (W : FVec Ideal S2048x18976 .f32) : arrange (prod X W) = projRows X W := by
  funext i
  obtain ⟨r, n, rfl⟩ : ∃ (r : Fin 32768) (n : Fin 18432), i = ix2 r n := ⟨i 0, i 1, funext fun x => by
    match x with
    | ⟨0, _⟩ => rfl
    | ⟨1, _⟩ => rfl⟩
  rw [arrange_ix2, prod_ix2]
  rfl

theorem value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v15) = projRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1.trans (term_eq _ _), (h c).2⟩) (Value.run m g)

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (value m g)

end Cert.RefProjBIdeal.InProj

end
-- ==== Proof.Merge.Spec.lean ====
module

public import proofs.«01_k».proof.Proof.Dense.Spec

/-! What both programs of the merge compute: the three mixers' rows by their gates, the output projection, the residual
sum, and its layer norm. -/

@[expose] public section

noncomputable section

namespace Cert.Merge

open Idealize.ShloMosaic Cert.Attn Cert.InProj Cert.Dense

/-- The logistic of a number. -/
def logistic (s : EReal) : EReal := Ideal.div 1 (1 + Ideal.exp (-s))

theorem logistic_eq (s : EReal) : Ideal.div 1 (1 + Ideal.exp (0 - s)) = logistic s := by
  rw [show (0 : EReal) - s = -s from zero_sub s]
  rfl

/-- Three numbers, each by the logistic of its gate, added. -/
def mix (s u t v w z : EReal) : EReal := logistic s * u + logistic t * v + logistic w * z

variable (P : Arr2 32768 18432) (Y0 Y1 Y2 : Arr2 32768 2048) (X : Arr2 32768 2048) (W : Arr2 2048 2048) (g b : Arr1 2048)

/-- One element of the merged rows: the gates are the first columns of the projected rows. -/
def merged (r : Fin 32768) (k : Fin 2048) : EReal :=
  mix (P (ix2 r ⟨k.val, by omega⟩)) (Y0 (ix2 r k)) (P (ix2 r ⟨2048 + k.val, by omega⟩)) (Y1 (ix2 r k)) (P (ix2 r ⟨4096 + k.val, by omega⟩)) (Y2 (ix2 r k))

/-- One element of the result. -/
def outAt (r : Fin 32768) (n : Fin 2048) : EReal :=
  norm (fun x => residual (X (ix2 r x)) (∑ k : Fin 2048, merged P Y0 Y1 Y2 r k * W (ix2 k x))) n (g (ix1 n)) (b (ix1 n))

/-- The result as an array. -/
def out : Arr2 32768 2048 := fun i => outAt P Y0 Y1 Y2 X W g b (i 0) (i 1)

end Cert.Merge

end
-- ==== Proof.Merge.Kernel.lean ====
module

public import proofs.«01_k».proof.Proof.Gen.MergeIdeal.Value
public import proofs.«01_k».proof.Proof.Merge.Spec
public import Idealize.ShloMosaic.Lib.Pointwise
public import Idealize.ShloMosaic.Lib.StableHlo.ReadAt
public import Idealize.ShloMosaic.Lib.Claim
public import Idealize.ShloMosaic.Lib.Pipeline.ValueKit

/-! The merge's kernel: every grid point stores its block of rows, in both results, and the blocks fill the arrays. -/

@[expose] public section

set_option maxRecDepth 65536

noncomputable section

namespace Cert.MergeIdeal.Merge

open Cert.MergeIdeal Cert.MergeIdeal.Gen Cert.InProj Cert.Attn Cert.Dense Cert.Merge
open Idealize.ShloMosaic
open Idealize.ShloMosaic.TcCoe

variable (m : (ℓ : Loc nD τ sig) → Buf (Elt Ideal) ℓ) (c : Dev nD)

abbrev aP : Arr2 32768 18432 := m ((c.tc : Thread nD τ).loc main_arg0)
abbrev aY0 : Arr2 32768 2048 := m ((c.tc : Thread nD τ).loc main_arg1)
abbrev aY1 : Arr2 32768 2048 := m ((c.tc : Thread nD τ).loc main_arg2)
abbrev aY2 : Arr2 32768 2048 := m ((c.tc : Thread nD τ).loc main_arg3)
abbrev aX : Arr2 32768 2048 := m ((c.tc : Thread nD τ).loc main_arg4)
abbrev aW : Arr2 2048 2048 := m ((c.tc : Thread nD τ).loc main_arg5)
abbrev aG : Arr1 2048 := m ((c.tc : Thread nD τ).loc main_arg6)
abbrev aB : Arr1 2048 := m ((c.tc : Thread nD τ).loc main_arg7)

/-- The two results, from the arguments. -/
abbrev whole : Arr2 32768 2048 := out (aP m c) (aY0 m c) (aY1 m c) (aY2 m c) (aX m c) (aW m c) (aG m c) (aB m c)

theorem entry_p (r : Fin 32768) (n : Fin 18432) : V m c main_arg0 (ix2 r n) = aP m c (ix2 r n) := by
  unfold V
  after_reads_at

theorem entry_y0 (r : Fin 32768) (n : Fin 2048) : V m c main_arg1 (ix2 r n) = aY0 m c (ix2 r n) := by
  unfold V
  after_reads_at

theorem entry_y1 (r : Fin 32768) (n : Fin 2048) : V m c main_arg2 (ix2 r n) = aY1 m c (ix2 r n) := by
  unfold V
  after_reads_at

theorem entry_y2 (r : Fin 32768) (n : Fin 2048) : V m c main_arg3 (ix2 r n) = aY2 m c (ix2 r n) := by
  unfold V
  after_reads_at

theorem entry_x (r : Fin 32768) (n : Fin 2048) : V m c main_arg4 (ix2 r n) = aX m c (ix2 r n) := by
  unfold V
  after_reads_at

theorem entry_w (k n : Fin 2048) : V m c main_v0 (ix2 k n) = aW m c (ix2 k n) := by
  unfold V
  after_reads_at

theorem entry_g (n : Fin 2048) : V m c main_v1 (ix2 (0 : Fin 1) n) = aG m c (ix1 n) := by
  unfold V
  after_reads_at

theorem entry_b (n : Fin 2048) : V m c main_v2 (ix2 (0 : Fin 1) n) = aB m c (ix1 n) := by
  unfold V
  after_reads_at

/-- The windows' blocks at one grid point. -/
abbrev PointAt (t : Fin cfg0.N) : Prop :=
  (cfg0.win (0 : Fin 12)).index t = ![t.val, 0]
    ∧ (cfg0.win (1 : Fin 12)).index t = ![t.val, 1]
    ∧ (cfg0.win (2 : Fin 12)).index t = ![t.val, 2]
    ∧ (cfg0.win (3 : Fin 12)).index t = ![t.val, 0]
    ∧ (cfg0.win (4 : Fin 12)).index t = ![t.val, 0]
    ∧ (cfg0.win (5 : Fin 12)).index t = ![t.val, 0]
    ∧ (cfg0.win (6 : Fin 12)).index t = ![t.val, 0]
    ∧ (cfg0.win (7 : Fin 12)).index t = ![0, 0]
    ∧ (cfg0.win (8 : Fin 12)).index t = ![0, 0]
    ∧ (cfg0.win (9 : Fin 12)).index t = ![0, 0]
    ∧ (cfg0.win (10 : Fin 12)).index t = ![t.val, 0]
    ∧ (cfg0.win (11 : Fin 12)).index t = ![t.val, 0]

theorem points : ∀ t : Fin cfg0.N, PointAt t := by decide +kernel

theorem cfg0_N : cfg0.N = 128 := by decide +kernel

theorem point_lt (t : Fin cfg0.N) : t.val < 128 := by have := t.isLt; have := cfg0_N; omega

/-- The row of the arrays a block's row is. -/
abbrev row (t : Fin cfg0.N) (a : Fin 256) : Fin 32768 := ⟨t.val * 256 + a.val, by have := point_lt t; omega⟩

theorem iblk_0 (t : Fin cfg0.N) (a : Fin 256) (n : Fin 2048) : iblk m c (0 : Fin 12) t (ix2 a n) = V m c main_arg0 (ix2 (row t a) (⟨n.val, by omega⟩ : Fin 18432)) := by
  refine congrArg (V m c main_arg0) (funext fun x => Fin.ext ?_)
  refine ((cfg0.win (0 : Fin 12)).rect_emb_val t (ix2 a n) x).trans ?_
  rw [(points t).1]
  match x with
  | ⟨0, _⟩ => rfl
  | ⟨1, _⟩ => exact (congrArg (· + n.val) (Nat.zero_mul _)).trans (Nat.zero_add _)

theorem iblk_1 (t : Fin cfg0.N) (a : Fin 256) (n : Fin 2048) : iblk m c (1 : Fin 12) t (ix2 a n) = V m c main_arg0 (ix2 (row t a) (⟨2048 + n.val, by omega⟩ : Fin 18432)) := by
  refine congrArg (V m c main_arg0) (funext fun x => Fin.ext ?_)
  refine ((cfg0.win (1 : Fin 12)).rect_emb_val t (ix2 a n) x).trans ?_
  rw [(points t).2.1]
  match x with
  | ⟨0, _⟩ => rfl
  | ⟨1, _⟩ => exact congrArg (· + n.val) (Nat.one_mul 2048)

theorem iblk_2 (t : Fin cfg0.N) (a : Fin 256) (n : Fin 2048) : iblk m c (2 : Fin 12) t (ix2 a n) = V m c main_arg0 (ix2 (row t a) (⟨4096 + n.val, by omega⟩ : Fin 18432)) := by
  refine congrArg (V m c main_arg0) (funext fun x => Fin.ext ?_)
  refine ((cfg0.win (2 : Fin 12)).rect_emb_val t (ix2 a n) x).trans ?_
  rw [(points t).2.2.1]
  match x with
  | ⟨0, _⟩ => rfl
  | ⟨1, _⟩ => rfl

theorem iblk_3 (t : Fin cfg0.N) (a : Fin 256) (n : Fin 2048) : iblk m c (3 : Fin 12) t (ix2 a n) = V m c main_arg1 (ix2 (row t a) n) := by
  refine congrArg (V m c main_arg1) (funext fun x => Fin.ext ?_)
  refine ((cfg0.win (3 : Fin 12)).rect_emb_val t (ix2 a n) x).trans ?_
  rw [(points t).2.2.2.1]
  match x with
  | ⟨0, _⟩ => rfl
  | ⟨1, _⟩ => exact (congrArg (· + n.val) (Nat.zero_mul _)).trans (Nat.zero_add _)

theorem iblk_4 (t : Fin cfg0.N) (a : Fin 256) (n : Fin 2048) : iblk m c (4 : Fin 12) t (ix2 a n) = V m c main_arg2 (ix2 (row t a) n) := by
  refine congrArg (V m c main_arg2) (funext fun x => Fin.ext ?_)
  refine ((cfg0.win (4 : Fin 12)).rect_emb_val t (ix2 a n) x).trans ?_
  rw [(points t).2.2.2.2.1]
  match x with
  | ⟨0, _⟩ => rfl
  | ⟨1, _⟩ => exact (congrArg (· + n.val) (Nat.zero_mul _)).trans (Nat.zero_add _)

theorem iblk_5 (t : Fin cfg0.N) (a : Fin 256) (n : Fin 2048) : iblk m c (5 : Fin 12) t (ix2 a n) = V m c main_arg3 (ix2 (row t a) n) := by
  refine congrArg (V m c main_arg3) (funext fun x => Fin.ext ?_)
  refine ((cfg0.win (5 : Fin 12)).rect_emb_val t (ix2 a n) x).trans ?_
  rw [(points t).2.2.2.2.2.1]
  match x with
  | ⟨0, _⟩ => rfl
  | ⟨1, _⟩ => exact (congrArg (· + n.val) (Nat.zero_mul _)).trans (Nat.zero_add _)

theorem iblk_6 (t : Fin cfg0.N) (a : Fin 256) (n : Fin 2048) : iblk m c (6 : Fin 12) t (ix2 a n) = V m c main_arg4 (ix2 (row t a) n) := by
  refine congrArg (V m c main_arg4) (funext fun x => Fin.ext ?_)
  refine ((cfg0.win (6 : Fin 12)).rect_emb_val t (ix2 a n) x).trans ?_
  rw [(points t).2.2.2.2.2.2.1]
  match x with
  | ⟨0, _⟩ => rfl
  | ⟨1, _⟩ => exact (congrArg (· + n.val) (Nat.zero_mul _)).trans (Nat.zero_add _)

theorem iblk_7 (t : Fin cfg0.N) (k n : Fin 2048) : iblk m c (7 : Fin 12) t (ix2 k n) = V m c main_v0 (ix2 k n) := by
  refine congrArg (V m c main_v0) (funext fun x => Fin.ext ?_)
  refine ((cfg0.win (7 : Fin 12)).rect_emb_val t (ix2 k n) x).trans ?_
  rw [(points t).2.2.2.2.2.2.2.1]
  match x with
  | ⟨0, _⟩ => exact (congrArg (· + k.val) (Nat.zero_mul _)).trans (Nat.zero_add _)
  | ⟨1, _⟩ => exact (congrArg (· + n.val) (Nat.zero_mul _)).trans (Nat.zero_add _)

theorem iblk_8 (t : Fin cfg0.N) (z : Fin 1) (n : Fin 2048) : iblk m c (8 : Fin 12) t (ix2 z n) = V m c main_v1 (ix2 z n) := by
  refine congrArg (V m c main_v1) (funext fun x => Fin.ext ?_)
  refine ((cfg0.win (8 : Fin 12)).rect_emb_val t (ix2 z n) x).trans ?_
  rw [(points t).2.2.2.2.2.2.2.2.1]
  match x with
  | ⟨0, _⟩ => exact (congrArg (· + z.val) (Nat.zero_mul _)).trans (Nat.zero_add _)
  | ⟨1, _⟩ => exact (congrArg (· + n.val) (Nat.zero_mul _)).trans (Nat.zero_add _)

theorem iblk_9 (t : Fin cfg0.N) (z : Fin 1) (n : Fin 2048) : iblk m c (9 : Fin 12) t (ix2 z n) = V m c main_v2 (ix2 z n) := by
  refine congrArg (V m c main_v2) (funext fun x => Fin.ext ?_)
  refine ((cfg0.win (9 : Fin 12)).rect_emb_val t (ix2 z n) x).trans ?_
  rw [(points t).2.2.2.2.2.2.2.2.2.1]
  match x with
  | ⟨0, _⟩ => exact (congrArg (· + z.val) (Nat.zero_mul _)).trans (Nat.zero_add _)
  | ⟨1, _⟩ => exact (congrArg (· + n.val) (Nat.zero_mul _)).trans (Nat.zero_add _)

theorem emb_10 (t : Fin cfg0.N) (a : Fin 256) (n : Fin 2048) : ((cfg0.win (10 : Fin 12)).blk t).view.emb (ix2 a n) = ix2 (row t a) n := by
  refine funext fun x => Fin.ext ?_
  refine ((cfg0.win (10 : Fin 12)).rect_emb_val t (ix2 a n) x).trans ?_
  rw [(points t).2.2.2.2.2.2.2.2.2.2.1]
  match x with
  | ⟨0, _⟩ => rfl
  | ⟨1, _⟩ => exact (congrArg (· + n.val) (Nat.zero_mul _)).trans (Nat.zero_add _)

theorem emb_11 (t : Fin cfg0.N) (a : Fin 256) (n : Fin 2048) : ((cfg0.win (11 : Fin 12)).blk t).view.emb (ix2 a n) = ix2 (row t a) n := by
  refine funext fun x => Fin.ext ?_
  refine ((cfg0.win (11 : Fin 12)).rect_emb_val t (ix2 a n) x).trans ?_
  rw [(points t).2.2.2.2.2.2.2.2.2.2.2]
  match x with
  | ⟨0, _⟩ => rfl
  | ⟨1, _⟩ => exact (congrArg (· + n.val) (Nat.zero_mul _)).trans (Nat.zero_add _)

theorem pay3_ix2 (s u t v w z : Vec Ideal S256x2048 .bf16) (a : Fin 256) (n : Fin 2048) :
    k0_pay3 s u t v w z (ix2 a n) = mix (s (ix2 a n)) (u (ix2 a n)) (t (ix2 a n)) (v (ix2 a n)) (w (ix2 a n)) (z (ix2 a n)) := by
  pointwise [k0_pay3]
  rw [logistic_eq, logistic_eq, logistic_eq]
  rfl

theorem pay1_ix2 (h : FVec Ideal S256x2048 .f32) (x : Vec Ideal S256x2048 .f32) (w : Vec Ideal S2048x2048 .bf16) (g b : Vec Ideal S1x2048 .f32) (a : Fin 256) (n : Fin 2048) :
    k0_pay1 h x w g b (ix2 a n)
      = Cert.Dense.norm (fun j => residual (x (ix2 a j)) (∑ k : Fin 2048, (h (ix2 a k) * w (ix2 k j) : EReal))) n (g (ix2 0 n)) (b (ix2 0 n)) := by
  pointwise [k0_pay1]
  rfl

theorem pay2_ix2 (h : FVec Ideal S256x2048 .f32) (x : Vec Ideal S256x2048 .f32) (w : Vec Ideal S2048x2048 .bf16) (g b : Vec Ideal S1x2048 .f32) (a : Fin 256) (n : Fin 2048) :
    k0_pay2 h x w g b (ix2 a n) = k0_pay1 h x w g b (ix2 a n) := by
  pointwise [k0_pay2]

/-- What a grid point computes from its blocks. -/
def blockAt (p0 p1 p2 y0 y1 y2 : Vec Ideal S256x2048 .bf16) (x : Vec Ideal S256x2048 .f32) (w : Vec Ideal S2048x2048 .bf16) (g b : Vec Ideal S1x2048 .f32) (a : Fin 256) (n : Fin 2048) : EReal :=
  Cert.Dense.norm (fun j => residual (x (ix2 a j))
    (∑ k : Fin 2048, (mix (p0 (ix2 a k)) (y0 (ix2 a k)) (p1 (ix2 a k)) (y1 (ix2 a k)) (p2 (ix2 a k)) (y2 (ix2 a k)) * w (ix2 k j) : EReal))) n (g (ix2 0 n)) (b (ix2 0 n))

theorem pay_ix2 (p0 p1 p2 y0 y1 y2 : Vec Ideal S256x2048 .bf16) (x : Vec Ideal S256x2048 .f32) (w : Vec Ideal S2048x2048 .bf16) (g b : Vec Ideal S1x2048 .f32) (a : Fin 256) (n : Fin 2048) :
    k0_pay1 (k0_pay3 p0 y0 p1 y1 p2 y2) x w g b (ix2 a n) = blockAt p0 p1 p2 y0 y1 y2 x w g b a n := by
  rw [pay1_ix2]
  unfold blockAt
  simp only [pay3_ix2]

set_option maxHeartbeats 2000000 in
theorem out_10 (p0 p1 p2 y0 y1 y2 : Vec Ideal S256x2048 .bf16) (x : Vec Ideal S256x2048 .f32) (w : Vec Ideal S2048x2048 .bf16) (g b : Vec Ideal S1x2048 .f32) (a : Fin 256) (n : Fin 2048) :
    out0_10 p0 p1 p2 y0 y1 y2 x w g b (ix2 a n) = blockAt p0 p1 p2 y0 y1 y2 x w g b a n := by
  unfold out0_10 k0_pay4
  frame_out
  exact pay_ix2 p0 p1 p2 y0 y1 y2 x w g b a n

set_option maxHeartbeats 2000000 in
theorem out_11 (p0 p1 p2 y0 y1 y2 : Vec Ideal S256x2048 .bf16) (x : Vec Ideal S256x2048 .f32) (w : Vec Ideal S2048x2048 .bf16) (g b : Vec Ideal S1x2048 .f32) (a : Fin 256) (n : Fin 2048) :
    out0_11 p0 p1 p2 y0 y1 y2 x w g b (ix2 a n) = blockAt p0 p1 p2 y0 y1 y2 x w g b a n := by
  unfold out0_11 k0_pay4
  frame_out
  exact (pay2_ix2 _ _ _ _ _ a n).trans (pay_ix2 p0 p1 p2 y0 y1 y2 x w g b a n)

theorem merged_eq (t : Fin cfg0.N) (a : Fin 256) (k : Fin 2048) :
    mix (iblk m c (0 : Fin 12) t (ix2 a k)) (iblk m c (3 : Fin 12) t (ix2 a k)) (iblk m c (1 : Fin 12) t (ix2 a k)) (iblk m c (4 : Fin 12) t (ix2 a k))
      (iblk m c (2 : Fin 12) t (ix2 a k)) (iblk m c (5 : Fin 12) t (ix2 a k)) = merged (aP m c) (aY0 m c) (aY1 m c) (aY2 m c) (row t a) k := by
  unfold merged
  rw [iblk_0, iblk_1, iblk_2, iblk_3, iblk_4, iblk_5, entry_p, entry_p, entry_p, entry_y0, entry_y1, entry_y2]

/-- What a grid point computes is its block of the result. -/
theorem block_eq (t : Fin cfg0.N) (a : Fin 256) (n : Fin 2048) :
    blockAt (iblk m c (0 : Fin 12) t) (iblk m c (1 : Fin 12) t) (iblk m c (2 : Fin 12) t) (iblk m c (3 : Fin 12) t) (iblk m c (4 : Fin 12) t) (iblk m c (5 : Fin 12) t)
      (iblk m c (6 : Fin 12) t) (iblk m c (7 : Fin 12) t) (iblk m c (8 : Fin 12) t) (iblk m c (9 : Fin 12) t) a n
      = outAt (aP m c) (aY0 m c) (aY1 m c) (aY2 m c) (aX m c) (aW m c) (aG m c) (aB m c) (row t a) n := by
  unfold blockAt outAt
  rw [iblk_8, iblk_9, entry_g, entry_b]
  refine congrArg (fun f => Cert.Dense.norm f n (aG m c (ix1 n)) (aB m c (ix1 n))) (funext fun j => ?_)
  refine congrArg₂ residual ((iblk_6 m c t a j).trans (entry_x m c _ j)) (Finset.sum_congr rfl fun k _ => ?_)
  exact congrArg₂ (· * ·) (merged_eq m c t a k) ((iblk_7 m c t k j).trans (entry_w m c k j))

theorem ix2_eta {p q : ℕ} (i : (⟨2, ![p, q]⟩ : Shape).Idx) : i = ix2 (i 0) (i 1) := funext fun x => by
  match x with
  | ⟨0, _⟩ => rfl
  | ⟨1, _⟩ => rfl

/-- The first result array. -/
theorem result_10 : (dats m 0 c).arrAt (10 : Fin 12) cfg0.N = whole m c := by
  refine (dats m 0 c).arrAt_eq_of_cover (10 : Fin 12) (whole m c) (fun t hf => ?_) (fun i => ?_)
  · funext y
    obtain ⟨a, n, rfl⟩ : ∃ (a : Fin 256) (n : Fin 2048), y = ix2 a n := ⟨y 0, y 1, ix2_eta y⟩
    rw [Value.flushed10]
    refine ((out_10 _ _ _ _ _ _ _ _ _ _ a n).trans (block_eq m c t a n)).trans ?_
    exact (congrArg (whole m c) (emb_10 t a n)).symm
  · obtain ⟨r, n, rfl⟩ : ∃ (r : Fin 32768) (n : Fin 2048), i = ix2 r n := ⟨i 0, i 1, ix2_eta i⟩
    have hN := cfg0_N
    have ht : r.val / 256 < cfg0.N := by omega
    refine ⟨⟨_, ht⟩, flush0_10 _, ?_⟩
    have hm := ((cfg0.win (10 : Fin 12)).blk ⟨_, ht⟩).view.emb_mem_set (ix2 (⟨r.val % 256, Nat.mod_lt _ (by decide)⟩ : Fin 256) n)
    rw [emb_10] at hm
    refine Eq.mp (congrArg (· ∈ _) (funext fun x => Fin.ext ?_)) hm
    match x with
    | ⟨0, _⟩ => show r.val / 256 * 256 + r.val % 256 = r.val; omega
    | ⟨1, _⟩ => rfl

/-- The second result array. -/
theorem result_11 : (dats m 0 c).arrAt (11 : Fin 12) cfg0.N = whole m c := by
  refine (dats m 0 c).arrAt_eq_of_cover (11 : Fin 12) (whole m c) (fun t hf => ?_) (fun i => ?_)
  · funext y
    obtain ⟨a, n, rfl⟩ : ∃ (a : Fin 256) (n : Fin 2048), y = ix2 a n := ⟨y 0, y 1, ix2_eta y⟩
    rw [Value.flushed11]
    refine ((out_11 _ _ _ _ _ _ _ _ _ _ a n).trans (block_eq m c t a n)).trans ?_
    exact (congrArg (whole m c) (emb_11 t a n)).symm
  · obtain ⟨r, n, rfl⟩ : ∃ (r : Fin 32768) (n : Fin 2048), i = ix2 r n := ⟨i 0, i 1, ix2_eta i⟩
    have hN := cfg0_N
    have ht : r.val / 256 < cfg0.N := by omega
    refine ⟨⟨_, ht⟩, flush0_11 _, ?_⟩
    have hm := ((cfg0.win (11 : Fin 12)).blk ⟨_, ht⟩).view.emb_mem_set (ix2 (⟨r.val % 256, Nat.mod_lt _ (by decide)⟩ : Fin 256) n)
    rw [emb_11] at hm
    refine Eq.mp (congrArg (· ∈ _) (funext fun x => Fin.ext ?_)) hm
    match x with
    | ⟨0, _⟩ => show r.val / 256 * 256 + r.val % 256 = r.val; omega
    | ⟨1, _⟩ => rfl

end Cert.MergeIdeal.Merge

end
-- ==== Proof.Merge.Ref.lean ====
module

public import proofs.«01_k».proof.Proof.Gen.RefMergeIdeal.Run
public import proofs.«01_k».proof.Proof.Merge.Spec
public import Idealize.ShloMosaic.Lib.Pointwise
public import Idealize.ShloMosaic.Lib.Quiescent

/-! The merge's reference: its operations named and read at an index, and its run. -/

@[expose] public section

set_option maxRecDepth 65536

noncomputable section

namespace Cert.RefMergeIdeal.Merge

open Cert.RefMergeIdeal Cert.RefMergeIdeal.Gen Cert.InProj Cert.Attn
open Idealize.ShloMosaic Idealize.SL.Sem
open Idealize.ShloMosaic.TcCoe

/-- The logistic of the gates, the first columns of the projected rows. -/
def gates (P : FVec Ideal S32768x18432 .bf16) : FVec Ideal S32768x6144 .f32 :=
  Host.divf (broadcastInDim S32768x6144 ![] bcast_S_S32768x6144 (constant S_ .f32 0x3F800000#32))
    (addf (broadcastInDim S32768x6144 ![] bcast_S_S32768x6144 (constant S_ .f32 0x3F800000#32))
      (Host.exp (Host.negf (extf .f32 (extractStridedSlice S32768x6144 ![0, 0] P slices_S32768x18432_S32768x6144_0_0) bitsLt_bf16_f32))))

theorem gates_ix2 (P : FVec Ideal S32768x18432 .bf16) (r : Fin 32768) (n : Fin 6144) :
    gates P (ix2 r n) = Cert.Merge.logistic (P (ix2 r ⟨n.val, by omega⟩)) := by
  pointwise [gates]
  rfl

/-- The mixers' rows by their gates, added. -/
def mixed (q : FVec Ideal S32768x6144 .f32) (Y0 Y1 Y2 : FVec Ideal S32768x2048 .bf16) : FVec Ideal S32768x2048 .f32 :=
  addf (addf (mulf (extractStridedSlice S32768x2048 ![0, 0] q slices_S32768x6144_S32768x2048_0_0) (extf .f32 Y0 bitsLt_bf16_f32))
    (mulf (extractStridedSlice S32768x2048 ![0, 2048] q slices_S32768x6144_S32768x2048_0_2048) (extf .f32 Y1 bitsLt_bf16_f32)))
    (mulf (extractStridedSlice S32768x2048 ![0, 4096] q slices_S32768x6144_S32768x2048_0_4096) (extf .f32 Y2 bitsLt_bf16_f32))

theorem mixed_ix2 (q : FVec Ideal S32768x6144 .f32) (Y0 Y1 Y2 : FVec Ideal S32768x2048 .bf16) (r : Fin 32768) (n : Fin 2048) :
    mixed q Y0 Y1 Y2 (ix2 r n) = (q (ix2 r ⟨n.val, by omega⟩) * Y0 (ix2 r n) + q (ix2 r ⟨2048 + n.val, by omega⟩) * Y1 (ix2 r n)
      + q (ix2 r ⟨4096 + n.val, by omega⟩) * Y2 (ix2 r n) : EReal) := by
  pointwise [mixed]

/-- The residual sum. -/
def total (X h : FVec Ideal S32768x2048 .f32) (W : FVec Ideal S2048x2048 .f32) : FVec Ideal S32768x2048 .f32 :=
  addf (mulf (broadcastInDim S32768x2048 ![] bcast_S_S32768x2048 (constant S_ .f32 0x3FB504F3#32)) X) (Host.dotGeneral dot_S32768x2048_S2048x2048_S32768x2048_1_0_0_1_n_n none h W)

theorem total_ix2 (X h : FVec Ideal S32768x2048 .f32) (W : FVec Ideal S2048x2048 .f32) (r : Fin 32768) (n : Fin 2048) :
    total X h W (ix2 r n) = Cert.Dense.residual (X (ix2 r n)) (∑ k : Fin 2048, (h (ix2 r k) * W (ix2 k n) : EReal)) := by
  pointwise [total]
  rfl

/-- The mean of each row. -/
def means (y : FVec Ideal S32768x2048 .f32) : FVec Ideal S32768x1 .f32 :=
  Host.divf (broadcastInDim S32768x1 ![0] bcast_S32768_S32768x1_0 (Host.reduceAdd y (constant S_ .f32 0x00000000#32) reducesTo_S32768x2048_S32768_d1 h_S_))
    (broadcastInDim S32768x1 ![] bcast_S_S32768x1 (constant S_ .f32 0x45000000#32))

theorem means_ix2 (y : FVec Ideal S32768x2048 .f32) (r : Fin 32768) : means y (ix2 r 0) = Cert.Dense.mean (fun n => y (ix2 r n)) := by
  pointwise [means]
  rfl

/-- The differences of the elements of each row from the row's own number. -/
def diff (y : FVec Ideal S32768x2048 .f32) (u : FVec Ideal S32768x1 .f32) : FVec Ideal S32768x2048 .f32 :=
  subf y (broadcastInDim S32768x2048 ![0, 1] bcast_S32768x1_S32768x2048_0_1 u)

theorem diff_ix2 (y : FVec Ideal S32768x2048 .f32) (u : FVec Ideal S32768x1 .f32) (r : Fin 32768) (n : Fin 2048) :
    diff y u (ix2 r n) = (y (ix2 r n) - u (ix2 r 0) : EReal) := by
  pointwise [diff]

/-- The squares. -/
def squares (d : FVec Ideal S32768x2048 .f32) : FVec Ideal S32768x2048 .f32 := mulf d d

theorem squares_ix2 (d : FVec Ideal S32768x2048 .f32) (r : Fin 32768) (n : Fin 2048) : squares d (ix2 r n) = (d (ix2 r n) * d (ix2 r n) : EReal) := by
  pointwise [squares]

/-- The differences over the root of the variances, by the weights, plus the biases. -/
def scaled (d : FVec Ideal S32768x2048 .f32) (v : FVec Ideal S32768x1 .f32) (g b : FVec Ideal S2048 .f32) : FVec Ideal S32768x2048 .f32 :=
  addf (mulf (mulf d (broadcastInDim S32768x2048 ![0, 1] bcast_S32768x1_S32768x2048_0_1 (Host.rsqrt (addf v (broadcastInDim S32768x1 ![] bcast_S_S32768x1 (constant S_ .f32 0x3727C5AC#32))))))
    (broadcastInDim S32768x2048 ![0, 1] bcast_S1x2048_S32768x2048_0_1 (broadcastInDim S1x2048 ![1] bcast_S2048_S1x2048_1 g)))
    (broadcastInDim S32768x2048 ![0, 1] bcast_S1x2048_S32768x2048_0_1 (broadcastInDim S1x2048 ![1] bcast_S2048_S1x2048_1 b))

theorem scaled_ix2 (d : FVec Ideal S32768x2048 .f32) (v : FVec Ideal S32768x1 .f32) (g b : FVec Ideal S2048 .f32) (r : Fin 32768) (n : Fin 2048) :
    scaled d v g b (ix2 r n) = (d (ix2 r n) * Ideal.rsqrt (v (ix2 r 0) + Ideal.ofBits FTy.f32 0x3727C5AC#32) * g (ix1 n) + b (ix1 n) : EReal) := by
  pointwise [scaled]

/-- The layer norm. -/
def normed (y : FVec Ideal S32768x2048 .f32) (g b : FVec Ideal S2048 .f32) : FVec Ideal S32768x2048 .f32 :=
  scaled (diff y (means y)) (means (squares (diff y (means y)))) g b

theorem normed_ix2 (y : FVec Ideal S32768x2048 .f32) (g b : FVec Ideal S2048 .f32) (r : Fin 32768) (n : Fin 2048) :
    normed y g b (ix2 r n) = Cert.Dense.norm (fun x => y (ix2 r x)) n (g (ix1 n)) (b (ix1 n)) := by
  unfold normed Cert.Dense.norm
  rw [scaled_ix2, means_ix2, diff_ix2, means_ix2]
  simp only [squares_ix2, diff_ix2, means_ix2]

/-- The part as the reference writes it. -/
def layer (P : FVec Ideal S32768x18432 .bf16) (Y0 Y1 Y2 : FVec Ideal S32768x2048 .bf16) (X : FVec Ideal S32768x2048 .f32) (W : FVec Ideal S2048x2048 .f32) (g b : FVec Ideal S2048 .f32) : FVec Ideal S32768x2048 .f32 :=
  normed (total X (mixed (gates P) Y0 Y1 Y2) W) g b

theorem layer_eq (P : FVec Ideal S32768x18432 .bf16) (Y0 Y1 Y2 : FVec Ideal S32768x2048 .bf16) (X : FVec Ideal S32768x2048 .f32) (W : FVec Ideal S2048x2048 .f32) (g b : FVec Ideal S2048 .f32) :
    layer P Y0 Y1 Y2 X W g b = Cert.Merge.out P Y0 Y1 Y2 X W g b := by
  funext i
  obtain ⟨r, n, rfl⟩ : ∃ (r : Fin 32768) (n : Fin 2048), i = ix2 r n := ⟨i 0, i 1, funext fun x => by
    match x with
    | ⟨0, _⟩ => rfl
    | ⟨1, _⟩ => rfl⟩
  unfold layer
  rw [normed_ix2]
  simp only [total_ix2, mixed_ix2, gates_ix2]
  rfl

theorem value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v46) = Cert.Merge.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v47) = Cert.Merge.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run _ _ _).mono (fun _ h c => ⟨(h c).1.trans (layer_eq _ _ _ _ _ _ _ _), (h c).2.1.trans (layer_eq _ _ _ _ _ _ _ _), (h c).2.2⟩) (Value.run m ρ)

theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run _ _ _).mono (fun r h => ⟨fun c => (h c).2.2, sem_eq_zero_of_no_sems (by decide) r.2⟩) (value m ρ)

end Cert.RefMergeIdeal.Merge

end
-- ==== Proof.Misc.Spec.lean ====
module

public import proofs.«01_k».proof.Proof.InProj.Spec

/-! What both programs of the projection's narrow columns compute: products with single columns of the weights, with negated
columns, and zeros in the places between. -/

@[expose] public section

noncomputable section

namespace Cert.Misc

open Idealize.ShloMosaic Cert.Attn Cert.InProj

/-- The weights' column of a place, where it has one. -/
def src (n : ℕ) : ℕ :=
  if n < 96 then n + 18528 else if n < 224 then n + 18496 else if n < 512 then n + 18464 else if n < 672 then n + 10624
  else if n < 832 then n + 11552 else if n < 864 then n + 11520 else if n < 896 then n + 11456 else 0

theorem src_lt {n : ℕ} (h : n < 1024) : src n < 18976 := by
  unfold src
  split_ifs <;> omega

/-- The places between. -/
abbrev Gap (n : ℕ) : Prop :=
  96 ≤ n ∧ n < 128 ∨ 224 ≤ n ∧ n < 256 ∨ 576 ≤ n ∧ n < 640 ∨ 672 ≤ n ∧ n < 768 ∨ 896 ≤ n

/-- The columns in order, in a width of 1024: the decay, the rate, the gate, the value's mixing (where there is one), the time
step, the key's position columns, and those columns rotated, the first half negated. -/
def pick (w : Fin 18976 → EReal) (v : Fin 64 → EReal) (n : Fin 1024) : EReal :=
  if Gap n.val then 0
  else if h : 512 ≤ n.val ∧ n.val < 576 then v ⟨n.val - 512, by omega⟩
  else if 832 ≤ n.val ∧ n.val < 864 then -w ⟨src n.val, src_lt n.isLt⟩
  else w ⟨src n.val, src_lt n.isLt⟩

variable (w : Fin 18976 → EReal) (v : Fin 64 → EReal) (n : Fin 1024)

theorem pick_pos (x : Fin 18976) (h : n.val < 96 ∧ x.val = n.val + 18528 ∨ 128 ≤ n.val ∧ n.val < 224 ∧ x.val = n.val + 18496
      ∨ 256 ≤ n.val ∧ n.val < 512 ∧ x.val = n.val + 18464 ∨ 640 ≤ n.val ∧ n.val < 672 ∧ x.val = n.val + 10624
      ∨ 768 ≤ n.val ∧ n.val < 832 ∧ x.val = n.val + 11552 ∨ 864 ≤ n.val ∧ n.val < 896 ∧ x.val = n.val + 11456) :
    w x = pick w v n := by
  unfold pick
  rw [if_neg (by unfold Gap; omega), dif_neg (by omega), if_neg (by omega)]
  refine congrArg w (Fin.ext ?_)
  show x.val = src n.val
  unfold src
  split_ifs <;> omega

theorem pick_neg (x : Fin 18976) (h : 832 ≤ n.val ∧ n.val < 864 ∧ x.val = n.val + 11520) : -w x = pick w v n := by
  unfold pick
  rw [if_neg (by unfold Gap; omega), dif_neg (by omega), if_pos (by omega)]
  refine congrArg (fun y => -w y) (Fin.ext ?_)
  show x.val = src n.val
  unfold src
  split_ifs <;> omega

theorem pick_v (x : Fin 64) (h : 512 ≤ n.val ∧ n.val < 576 ∧ x.val + 512 = n.val) : v x = pick w v n := by
  unfold pick
  rw [if_neg (by unfold Gap; omega), dif_pos (by omega)]
  refine congrArg v (Fin.ext ?_)
  show x.val = n.val - 512
  omega

theorem pick_zero (h : Gap n.val) : (0 : EReal) = pick w v n := by
  unfold pick
  rw [if_pos h]

theorem pick_zero_v (h : 512 ≤ n.val ∧ n.val < 640) : (0 : EReal) = pick w (fun _ => 0) n := by
  unfold pick
  by_cases hg : Gap n.val
  · rw [if_pos hg]
  · rw [if_neg hg, dif_pos (by unfold Gap at hg; omega)]

theorem coe_sum (a : Fin 2048 → ℝ) : ((∑ k, a k : ℝ) : EReal) = ∑ k, (a k : EReal) :=
  map_sum (⟨⟨fun x : ℝ => (x : EReal), EReal.coe_zero⟩, EReal.coe_add⟩ : ℝ →+ EReal) a Finset.univ

/-- Picking and summing may be exchanged where every term is a real. -/
theorem pick_sum (x : Fin 2048 → EReal) (W : Fin 2048 → Fin 18976 → EReal) (U : Fin 2048 → Fin 64 → EReal)
    (hx : ∀ k, x k ≠ ⊥ ∧ x k ≠ ⊤) (hW : ∀ k n, W k n ≠ ⊥ ∧ W k n ≠ ⊤) :
    pick (fun j => ∑ k, x k * W k j) (fun j => ∑ k, x k * U k j) n = ∑ k, x k * pick (W k) (U k) n := by
  have hneg : ∀ j, -(∑ k, x k * W k j) = ∑ k, x k * -W k j := by
    intro j
    have e : ∀ k, ∃ a : ℝ, x k * W k j = (a : EReal) := fun k => by
      have h1 := hx k
      have h2 := hW k j
      lift x k to ℝ using ⟨h1.2, h1.1⟩ with a
      lift W k j to ℝ using ⟨h2.2, h2.1⟩ with b
      exact ⟨a * b, (EReal.coe_mul a b).symm⟩
    choose a ha using e
    have e1 : (∑ k, x k * W k j) = ((∑ k, a k : ℝ) : EReal) := by
      rw [coe_sum]
      exact Finset.sum_congr rfl fun k _ => ha k
    have e2 : (∑ k, x k * -W k j) = ((∑ k, -a k : ℝ) : EReal) := by
      rw [coe_sum]
      exact Finset.sum_congr rfl fun k _ => by rw [mul_neg, ha k, EReal.coe_neg]
    rw [e1, e2, Finset.sum_neg_distrib, EReal.coe_neg]
  unfold pick
  by_cases h1 : Gap n.val
  · simp only [if_pos h1]
    exact (Finset.sum_eq_zero fun k _ => mul_zero (x k)).symm
  by_cases h2 : 512 ≤ n.val ∧ n.val < 576
  · simp only [if_neg h1, dif_pos h2]
  by_cases h3 : 832 ≤ n.val ∧ n.val < 864
  · simp only [if_neg h1, dif_neg h2, if_pos h3]
    exact hneg _
  · simp only [if_neg h1, dif_neg h2, if_neg h3]

/-- One element of the first layer's narrow columns. -/
def miscAt (X : Arr3 2 16384 2048) (W : Arr2 2048 18976) (r : Fin 32768) (n : Fin 1024) : EReal :=
  ∑ k : Fin 2048, X (ix3 ⟨r.val / 16384, by omega⟩ ⟨r.val % 16384, by omega⟩ k) * pick (fun j => W (ix2 k j)) (fun _ => 0) n

/-- The first layer's narrow columns. -/
def misc (X : Arr3 2 16384 2048) (W : Arr2 2048 18976) : Arr2 32768 1024 := fun i => miscAt X W (i 0) (i 1)

/-- One element of the second layer's narrow columns. -/
def miscRowsAt (X : Arr2 32768 2048) (W : Arr2 2048 18976) (U : Arr2 2048 64) (r : Fin 32768) (n : Fin 1024) : EReal :=
  ∑ k : Fin 2048, X (ix2 r k) * pick (fun j => W (ix2 k j)) (fun j => U (ix2 k j)) n

/-- The second layer's narrow columns. -/
def miscRows (X : Arr2 32768 2048) (W : Arr2 2048 18976) (U : Arr2 2048 64) : Arr2 32768 1024 := fun i => miscRowsAt X W U (i 0) (i 1)

end Cert.Misc

end
-- ==== Proof.Misc.Entry.lean ====
module

public import proofs.«01_k».proof.Proof.Gen.MiscIdeal.Value
public import proofs.«01_k».proof.Proof.Misc.Spec
public import Idealize.ShloMosaic.Lib.Pointwise
public import Idealize.ShloMosaic.Lib.StableHlo.ReadAt
public import Idealize.ShloMosaic.Lib.Claim

/-! What the projection's kernel finds in its operands: the rows of the activations, and the weights' columns in order. -/

@[expose] public section

set_option maxRecDepth 65536

noncomputable section

namespace Cert.MiscIdeal.Misc

open Cert.MiscIdeal Cert.MiscIdeal.Gen Cert.InProj Cert.Attn Cert.Misc
open Idealize.ShloMosaic
open Idealize.ShloMosaic.TcCoe

variable (m : (ℓ : Loc nD τ sig) → Buf (Elt Ideal) ℓ) (c : Dev nD)

abbrev aX : Arr3 2 16384 2048 := m ((c.tc : Thread nD τ).loc main_arg0)
abbrev aW : Arr2 2048 18976 := m ((c.tc : Thread nD τ).loc main_arg1)

theorem entry_x (r : Fin 32768) (k : Fin 2048) :
    V m c main_v0 (ix2 r k) = aX m c (ix3 ⟨r.val / 16384, by omega⟩ ⟨r.val % 16384, by omega⟩ k) := by
  unfold V
  after_reads_at

theorem zero_bf16 : FloatOps.sitofp (F := Ideal) (w := 32) FTy.bf16 0#32 = (0 : EReal) := by
  show (((0#32 : BitVec 32).toInt : ℝ) : EReal) = 0
  simp

set_option maxHeartbeats 8000000 in
theorem entry_w (k : Fin 2048) (n : Fin 1024) :
    V m c main_v24 (ix2 k n) = pick (fun j => aW m c (ix2 k j)) (fun _ => 0) n := by
  unfold V
  after_reads_at
  have hn := n.isLt
  iterate 6 refine (dif_neg (by omega)).trans ?_
  after_reads_at
  by_cases c0 : n.val < 896
  swap
  · refine (dif_neg (by omega)).trans ?_
    exact zero_bf16.trans (pick_zero _ _ n (by unfold Gap; omega))
  refine (dif_pos (by omega)).trans ?_
  by_cases c1 : n.val < 128
  · refine (dif_pos (by omega)).trans ?_
    after_reads_at
    by_cases d : n.val < 96
    · refine (dif_pos (by omega)).trans ?_
      refine pick_pos (fun j => aW m c (ix2 k j)) _ n _ ?_
      dsimp only
      omega
    · refine (dif_neg (by omega)).trans ?_
      exact zero_bf16.trans (pick_zero _ _ n (by unfold Gap; omega))
  refine (dif_neg (by omega)).trans ?_
  by_cases c2 : n.val < 256
  · refine (dif_pos (by omega)).trans ?_
    after_reads_at
    by_cases d : n.val < 224
    · refine (dif_pos (by omega)).trans ?_
      refine pick_pos (fun j => aW m c (ix2 k j)) _ n _ ?_
      dsimp only
      omega
    · refine (dif_neg (by omega)).trans ?_
      exact zero_bf16.trans (pick_zero _ _ n (by unfold Gap; omega))
  refine (dif_neg (by omega)).trans ?_
  by_cases c3 : n.val < 512
  · refine (dif_pos (by omega)).trans ?_
    after_reads_at
    refine pick_pos (fun j => aW m c (ix2 k j)) _ n _ ?_
    dsimp only
    omega
  refine (dif_neg (by omega)).trans ?_
  by_cases c4 : n.val < 640
  · refine (dif_pos (by omega)).trans ?_
    after_reads_at
    exact pick_zero_v _ n (by omega)
  refine (dif_neg (by omega)).trans ?_
  by_cases c5 : n.val < 768
  · refine (dif_pos (by omega)).trans ?_
    after_reads_at
    by_cases d : n.val < 672
    · refine (dif_pos (by omega)).trans ?_
      refine pick_pos (fun j => aW m c (ix2 k j)) _ n _ ?_
      dsimp only
      omega
    · refine (dif_neg (by omega)).trans ?_
      exact zero_bf16.trans (pick_zero _ _ n (by unfold Gap; omega))
  refine (dif_neg (by omega)).trans ?_
  by_cases c6 : n.val < 832
  · refine (dif_pos (by omega)).trans ?_
    after_reads_at
    refine pick_pos (fun j => aW m c (ix2 k j)) _ n _ ?_
    dsimp only
    omega
  refine (dif_neg (by omega)).trans ?_
  after_reads_at
  by_cases d : n.val < 864
  · refine (dif_pos (by omega)).trans ?_
    refine pick_neg (fun j => aW m c (ix2 k j)) _ n _ ?_
    dsimp only
    omega
  · refine (dif_neg (by omega)).trans ?_
    refine pick_pos (fun j => aW m c (ix2 k j)) _ n _ ?_
    dsimp only
    omega

end Cert.MiscIdeal.Misc

end
-- ==== Proof.Misc.Kernel.lean ====
module

public import proofs.«01_k».proof.Proof.Misc.Entry
public import Idealize.ShloMosaic.Lib.Pipeline.ValueKit

/-! The projection's kernel: every grid point stores its block of the product, and the blocks fill the result. -/

@[expose] public section

set_option maxRecDepth 65536

noncomputable section

namespace Cert.MiscIdeal.Misc

open Cert.MiscIdeal Cert.MiscIdeal.Gen Cert.InProj Cert.Attn Cert.Misc
open Idealize.ShloMosaic
open Idealize.ShloMosaic.TcCoe

variable (m : (ℓ : Loc nD τ sig) → Buf (Elt Ideal) ℓ) (c : Dev nD)

/-- The windows' blocks at one grid point. -/
abbrev PointAt (t : Fin cfg0.N) : Prop :=
  (cfg0.win (0 : Fin 3)).index t = ![t.val / 1, 0] ∧ (cfg0.win (1 : Fin 3)).index t = ![0, t.val % 1] ∧ (cfg0.win (2 : Fin 3)).index t = ![t.val / 1, t.val % 1]

theorem points : ∀ t : Fin cfg0.N, PointAt t := by decide +kernel

theorem cfg0_N : cfg0.N = 32 := by decide +kernel

theorem row_lt (t : Fin cfg0.N) : t.val / 1 < 32 := by have := t.isLt; have := cfg0_N; omega

theorem col_blk_lt (t : Fin cfg0.N) : t.val % 1 < 1 := Nat.mod_lt _ (by decide)

theorem iblk_0 (t : Fin cfg0.N) (a : Fin 1024) (k : Fin 2048) :
    iblk m c (0 : Fin 3) t (ix2 a k) = V m c main_v0 (ix2 (⟨t.val / 1 * 1024 + a.val, by have := row_lt t; omega⟩ : Fin 32768) k) := by
  refine congrArg (V m c main_v0) (funext fun x => Fin.ext ?_)
  refine ((cfg0.win (0 : Fin 3)).rect_emb_val t (ix2 a k) x).trans ?_
  rw [(points t).1]
  match x with
  | ⟨0, _⟩ => rfl
  | ⟨1, _⟩ => exact (congrArg (· + k.val) (Nat.zero_mul _)).trans (Nat.zero_add _)

theorem iblk_1 (t : Fin cfg0.N) (k : Fin 2048) (b : Fin 1024) :
    iblk m c (1 : Fin 3) t (ix2 k b) = V m c main_v24 (ix2 k (⟨t.val % 1 * 1024 + b.val, by have := col_blk_lt t; omega⟩ : Fin 1024)) := by
  refine congrArg (V m c main_v24) (funext fun x => Fin.ext ?_)
  refine ((cfg0.win (1 : Fin 3)).rect_emb_val t (ix2 k b) x).trans ?_
  rw [(points t).2.1]
  match x with
  | ⟨0, _⟩ => exact (congrArg (· + k.val) (Nat.zero_mul _)).trans (Nat.zero_add _)
  | ⟨1, _⟩ => rfl

/-- Where the result's window puts an element of its block. -/
theorem emb_2 (t : Fin cfg0.N) (a b : Fin 1024) :
    ((cfg0.win (2 : Fin 3)).blk t).view.emb (ix2 a b)
      = ix2 (⟨t.val / 1 * 1024 + a.val, by have := row_lt t; omega⟩ : Fin 32768) (⟨t.val % 1 * 1024 + b.val, by have := col_blk_lt t; omega⟩ : Fin 1024) := by
  refine funext fun x => Fin.ext ?_
  refine ((cfg0.win (2 : Fin 3)).rect_emb_val t (ix2 a b) x).trans ?_
  rw [(points t).2.2]
  match x with
  | ⟨0, _⟩ => rfl
  | ⟨1, _⟩ => rfl

theorem pay_ix2 (x : Vec Ideal S1024x2048 .f32) (w : Vec Ideal S2048x1024 .bf16) (a b : Fin 1024) :
    k0_pay1 x w (ix2 a b) = ∑ k : Fin 2048, (x (ix2 a k) * w (ix2 k b) : EReal) := by
  pointwise [k0_pay1]

theorem out_ix2 (x : Vec Ideal S1024x2048 .f32) (w : Vec Ideal S2048x1024 .bf16) (a b : Fin 1024) :
    out0_2 x w (ix2 a b) = ∑ k : Fin 2048, (x (ix2 a k) * w (ix2 k b) : EReal) := by
  unfold out0_2
  frame_out
  exact pay_ix2 x w a b

theorem stored (t : Fin cfg0.N) (a b : Fin 1024) :
    (Cert.MiscIdeal.Gen.dats m 0 c).flushed 2 t (ix2 a b)
      = miscAt (aX m c) (aW m c) ⟨t.val / 1 * 1024 + a.val, by have := row_lt t; omega⟩ ⟨t.val % 1 * 1024 + b.val, by have := col_blk_lt t; omega⟩ := by
  rw [Value.flushed2]
  refine (out_ix2 _ _ a b).trans (Finset.sum_congr rfl fun k _ => ?_)
  rw [iblk_0, iblk_1, entry_x, entry_w]

/-- The result array. -/
theorem result : (dats m 0 c).arrAt (2 : Fin 3) cfg0.N = misc (aX m c) (aW m c) := by
  refine (dats m 0 c).arrAt_eq_of_cover (2 : Fin 3) (misc (aX m c) (aW m c)) (fun t hf => ?_) (fun i => ?_)
  · funext y
    obtain ⟨a, b, rfl⟩ : ∃ (a b : Fin 1024), y = ix2 a b := ⟨y 0, y 1, funext fun x => by
      match x with
      | ⟨0, _⟩ => rfl
      | ⟨1, _⟩ => rfl⟩
    refine (stored m c t a b).trans ?_
    exact (congrArg (misc (aX m c) (aW m c)) (emb_2 t a b)).symm
  · obtain ⟨r, n, rfl⟩ : ∃ (r : Fin 32768) (n : Fin 1024), i = ix2 r n := ⟨i 0, i 1, funext fun x => by
      match x with
      | ⟨0, _⟩ => rfl
      | ⟨1, _⟩ => rfl⟩
    have hN := cfg0_N
    have ht : r.val / 1024 * 1 + n.val / 1024 < cfg0.N := by omega
    refine ⟨⟨_, ht⟩, flush0_2 _, ?_⟩
    have hm := ((cfg0.win (2 : Fin 3)).blk ⟨_, ht⟩).view.emb_mem_set (ix2 (⟨r.val % 1024, Nat.mod_lt _ (by decide)⟩ : Fin 1024) (⟨n.val % 1024, Nat.mod_lt _ (by decide)⟩ : Fin 1024))
    rw [emb_2] at hm
    refine Eq.mp (congrArg (· ∈ _) (funext fun x => Fin.ext ?_)) hm
    match x with
    | ⟨0, _⟩ => show (r.val / 1024 * 1 + n.val / 1024) / 1 * 1024 + r.val % 1024 = r.val; omega
    | ⟨1, _⟩ => show (r.val / 1024 * 1 + n.val / 1024) % 1 * 1024 + n.val % 1024 = n.val; omega

end Cert.MiscIdeal.Misc

end
-- ==== Proof.Attn.Pre.lean ====
module

public import proofs.«01_k».proof.Pre_finite_scores
public import proofs.«01_k».proof.Proof.Attn.Spec
public import Idealize.ShloMosaic.Lib.ReduceAll
public import Idealize.ShloMosaic.Lib.Pointwise

@[expose] public section

noncomputable section

namespace Cert.Pre_finite_scores

open Cert.Attn
open Idealize.ShloMosaic

theorem facts : Facts where
  bitsLt_bf16_f32 := by decide
  bcast_S_S2x16384x4096 := by decide
  reducesTo_S2x16384x4096_S_d0_1_2 := by decide
  h_S_ := by decide
  bcast_S_S2x2048x16384 := by decide
  reducesTo_S2x2048x16384_S_d0_1_2 := by decide
  bcast_S_S2x128x16384 := by decide
  reducesTo_S2x128x16384_S_d0_1_2 := by decide

theorem ofBits_inf : FloatOps.ofBits (F := Ideal) .f32 0x7F800000#32 = (⊤ : EReal) := by
  show Ideal.ofBits .f32 0x7F800000#32 = ⊤
  simp [Ideal.ofBits, Ideal.ieee]

/-- An extended real that is a real. -/
def Real' (x : EReal) : Prop := x ≠ ⊥ ∧ x ≠ ⊤

theorem real_of_cmp (x : EReal) (h : Ideal.cmp .olt (max x (-x)) (⊤ : EReal) = 1#1) : Real' x := by
  have h' : max x (-x) < ⊤ := by
    by_contra hc
    simp [Ideal.cmp, hc] at h
  refine ⟨fun e => ?_, fun e => ?_⟩
  · rw [e] at h'; simp at h'
  · rw [e] at h'; simp at h'

theorem cmp_at {s : Shape} (x : FVec Ideal s .bf16) (hb : FTy.bits .bf16 < FTy.bits .f32) (w : BitVec 32) (h : S_.BroadcastsInDim s ![]) (i : s.Idx) :
    cmpf .olt (Host.absf (extf .f32 x hb)) (broadcastInDim s ![] h (constant (F := Ideal) S_ .f32 w)) i
      = Ideal.cmp .olt (max (x i : EReal) (-x i)) (FloatOps.ofBits (F := Ideal) .f32 w) := rfl

instance : Subsingleton S_.Idx := ⟨fun a b => by funext x; exact x.elim0⟩

theorem all_real {s : Shape} {axes : List (Fin s.rank)} (x : FVec Ideal s .bf16) (hb : FTy.bits .bf16 < FTy.bits .f32) (h : S_.BroadcastsInDim s ![])
    (hr : s.ReducesTo axes S_) (hu : 0 < S_.numel) (c : IVec S_ 1) (j : S_.Idx)
    (e : Host.reduce IntOp.andi (cmpf .olt (Host.absf (extf .f32 x hb)) (broadcastInDim s ![] h (constant (F := Ideal) S_ .f32 0x7F800000#32))) c hr hu j = 1#1)
    (i : s.Idx) : Real' (x i) := by
  have e' := Host.reduce_andi_all _ _ _ _ _ e i
  rw [cmp_at, ofBits_inf] at e'
  exact real_of_cmp _ e'

theorem Real'.mul {x y : EReal} (hx : Real' x) (hy : Real' y) : Real' (x * y) := by
  lift x to ℝ using ⟨hx.2, hx.1⟩
  lift y to ℝ using ⟨hy.2, hy.1⟩
  rw [← EReal.coe_mul]
  exact ⟨EReal.coe_ne_bot _, EReal.coe_ne_top _⟩

theorem Real'.add {x y : EReal} (hx : Real' x) (hy : Real' y) : Real' (x + y) := by
  lift x to ℝ using ⟨hx.2, hx.1⟩
  lift y to ℝ using ⟨hy.2, hy.1⟩
  rw [← EReal.coe_add]
  exact ⟨EReal.coe_ne_bot _, EReal.coe_ne_top _⟩

theorem Real'.sum {ι : Type} (t : Finset ι) (f : ι → EReal) (hf : ∀ i, Real' (f i)) : Real' (∑ i ∈ t, f i) := by
  classical
  induction t using Finset.induction_on with
  | empty => rw [Finset.sum_empty]; exact ⟨by simp, by simp⟩
  | insert a t ha ih => rw [Finset.sum_insert ha]; exact (hf a).add ih

/-- What the precondition says: every score is a real. -/
theorem scores [Facts] (Q : FVec Ideal S2x16384x4096 .bf16) (K : FVec Ideal S2x2048x16384 .bf16) (P : FVec Ideal S2x128x16384 .bf16)
    (V : FVec Ideal S2x16384x2048 .bf16) (j : S_.Idx) (h : fn (F := Ideal) Q K P V j = 1#1) (b : Fin 2) (hd : Fin 16) (r k : Fin 16384) :
    scoreAt Q K P b hd r k ≠ ⊥ ∧ scoreAt Q K P b hd r k ≠ ⊤ := by
  obtain ⟨h12, h3⟩ := IntOp.andi_eq_one.1 h
  obtain ⟨h1, h2⟩ := IntOp.andi_eq_one.1 h12
  have hQ := all_real Q _ _ _ _ _ j h1
  have hK := all_real K _ _ _ _ _ j h2
  have hP := all_real P _ _ _ _ _ j h3
  refine Real'.sum _ _ fun d => (hQ _).mul ?_
  split
  · exact hK _
  · exact hP _

end Cert.Pre_finite_scores

end
-- ==== Proof.Misc.Pre.lean ====
module

public import proofs.«01_k».proof.Pre_finite_rows
public import proofs.«01_k».proof.Proof.Attn.Pre
public import Idealize.ShloMosaic.Lib.ReduceAll
public import Idealize.ShloMosaic.Lib.Pointwise

/-! What the precondition of the narrow columns says: the rows and the weights are reals. -/

@[expose] public section

noncomputable section

namespace Cert.Pre_finite_rows

open Idealize.ShloMosaic

theorem facts : Facts where
  bcast_S_S2x16384x2048 := by decide
  reducesTo_S2x16384x2048_S_d0_1_2 := by decide
  h_S_ := by decide
  bcast_S_S2048x18976 := by decide
  reducesTo_S2048x18976_S_d0_1 := by decide

theorem all_real {s : Shape} {axes : List (Fin s.rank)} (x : FVec Ideal s .f32) (h : S_.BroadcastsInDim s ![])
    (hr : s.ReducesTo axes S_) (hu : 0 < S_.numel) (c : IVec S_ 1) (j : S_.Idx)
    (e : Host.reduce IntOp.andi (cmpf .olt (Host.absf x) (broadcastInDim s ![] h (constant (F := Ideal) S_ .f32 0x7F800000#32))) c hr hu j = 1#1)
    (i : s.Idx) : Cert.Pre_finite_scores.Real' (x i) := by
  haveI : Subsingleton S_.Idx := ⟨fun a b => by funext y; exact y.elim0⟩
  have e' : Ideal.cmp .olt (max (x i : EReal) (-x i)) (FloatOps.ofBits (F := Ideal) .f32 0x7F800000#32) = 1#1 := Host.reduce_andi_all _ _ _ _ _ e i
  rw [Cert.Pre_finite_scores.ofBits_inf] at e'
  exact Cert.Pre_finite_scores.real_of_cmp _ e'

theorem reals [Facts] (X : FVec Ideal S2x16384x2048 .f32) (W : FVec Ideal S2048x18976 .f32) (j : S_.Idx) (h : fn (F := Ideal) X W j = 1#1) :
    (∀ i, (X i : EReal) ≠ ⊥ ∧ (X i : EReal) ≠ ⊤) ∧ ∀ i, (W i : EReal) ≠ ⊥ ∧ (W i : EReal) ≠ ⊤ := by
  obtain ⟨h1, h2⟩ := IntOp.andi_eq_one.1 h
  exact ⟨fun i => all_real X _ _ _ _ j h1 i, fun i => all_real W _ _ _ _ j h2 i⟩

end Cert.Pre_finite_rows

end
-- ==== Proof.Misc.Ref.lean ====
module

public import proofs.«01_k».proof.Proof.Gen.RefMiscIdeal.Run
public import proofs.«01_k».proof.Proof.Misc.Spec
public import Idealize.ShloMosaic.Lib.Pointwise
public import Idealize.ShloMosaic.Lib.Quiescent

/-! The reference of the narrow columns: the product, its columns split, put in order with zeros between, and read as rows. -/

@[expose] public section

set_option maxRecDepth 65536

noncomputable section

namespace Cert.RefMiscIdeal.Misc

open Cert.RefMiscIdeal Cert.RefMiscIdeal.Gen Cert.InProj Cert.Attn Cert.Misc
open Idealize.ShloMosaic Idealize.SL.Sem
open Idealize.ShloMosaic.TcCoe

/-- The product's columns in order. -/
def arrange (p : FVec Ideal S2x16384x18976 .f32) : FVec Ideal S32768x1024 .f32 :=
  shapeCast S32768x1024 ((concatenate S2x16384x1024 2 [⟨S2x16384x96, ((extractStridedSlice S2x16384x96 ![0, 0, 6144] (extractStridedSlice S2x16384x6592 ![0, 0, 12384] p slices_S2x16384x18976_S2x16384x6592_0_0_12384) slices_S2x16384x6592_S2x16384x96_0_0_6144) : (⟨S2x16384x96, .f32⟩ : BufTy).Contents (Elt Ideal))⟩, ⟨S2x16384x32, ((broadcastInDim S2x16384x32 ![] bcast_S_S2x16384x32 (constant (F := Ideal) S_ .f32 0x00000000#32)) : (⟨S2x16384x32, .f32⟩ : BufTy).Contents (Elt Ideal))⟩, ⟨S2x16384x96, ((extractStridedSlice S2x16384x96 ![0, 0, 6240] (extractStridedSlice S2x16384x6592 ![0, 0, 12384] p slices_S2x16384x18976_S2x16384x6592_0_0_12384) slices_S2x16384x6592_S2x16384x96_0_0_6240) : (⟨S2x16384x96, .f32⟩ : BufTy).Contents (Elt Ideal))⟩, ⟨S2x16384x32, ((broadcastInDim S2x16384x32 ![] bcast_S_S2x16384x32 (constant (F := Ideal) S_ .f32 0x00000000#32)) : (⟨S2x16384x32, .f32⟩ : BufTy).Contents (Elt Ideal))⟩, ⟨S2x16384x256, ((extractStridedSlice S2x16384x256 ![0, 0, 6336] (extractStridedSlice S2x16384x6592 ![0, 0, 12384] p slices_S2x16384x18976_S2x16384x6592_0_0_12384) slices_S2x16384x6592_S2x16384x256_0_0_6336) : (⟨S2x16384x256, .f32⟩ : BufTy).Contents (Elt Ideal))⟩, ⟨S2x16384x128, ((broadcastInDim S2x16384x128 ![] bcast_S_S2x16384x128 (constant (F := Ideal) S_ .f32 0x00000000#32)) : (⟨S2x16384x128, .f32⟩ : BufTy).Contents (Elt Ideal))⟩, ⟨S2x16384x32, ((extractStridedSlice S2x16384x32 ![0, 0, 5120] (extractStridedSlice S2x16384x5152 ![0, 0, 6144] p slices_S2x16384x18976_S2x16384x5152_0_0_6144) slices_S2x16384x5152_S2x16384x32_0_0_5120) : (⟨S2x16384x32, .f32⟩ : BufTy).Contents (Elt Ideal))⟩, ⟨S2x16384x96, ((broadcastInDim S2x16384x96 ![] bcast_S_S2x16384x96 (constant (F := Ideal) S_ .f32 0x00000000#32)) : (⟨S2x16384x96, .f32⟩ : BufTy).Contents (Elt Ideal))⟩, ⟨S2x16384x32, ((extractStridedSlice S2x16384x32 ![0, 0, 0] (extractStridedSlice S2x16384x64 ![0, 0, 1024] (extractStridedSlice S2x16384x1088 ![0, 0, 11296] p slices_S2x16384x18976_S2x16384x1088_0_0_11296) slices_S2x16384x1088_S2x16384x64_0_0_1024) slices_S2x16384x64_S2x16384x32_0_0_0) : (⟨S2x16384x32, .f32⟩ : BufTy).Contents (Elt Ideal))⟩, ⟨S2x16384x32, ((extractStridedSlice S2x16384x32 ![0, 0, 32] (extractStridedSlice S2x16384x64 ![0, 0, 1024] (extractStridedSlice S2x16384x1088 ![0, 0, 11296] p slices_S2x16384x18976_S2x16384x1088_0_0_11296) slices_S2x16384x1088_S2x16384x64_0_0_1024) slices_S2x16384x64_S2x16384x32_0_0_32) : (⟨S2x16384x32, .f32⟩ : BufTy).Contents (Elt Ideal))⟩, ⟨S2x16384x32, ((Host.negf (extractStridedSlice S2x16384x32 ![0, 0, 32] (extractStridedSlice S2x16384x64 ![0, 0, 1024] (extractStridedSlice S2x16384x1088 ![0, 0, 11296] p slices_S2x16384x18976_S2x16384x1088_0_0_11296) slices_S2x16384x1088_S2x16384x64_0_0_1024) slices_S2x16384x64_S2x16384x32_0_0_32)) : (⟨S2x16384x32, .f32⟩ : BufTy).Contents (Elt Ideal))⟩, ⟨S2x16384x32, ((extractStridedSlice S2x16384x32 ![0, 0, 0] (extractStridedSlice S2x16384x64 ![0, 0, 1024] (extractStridedSlice S2x16384x1088 ![0, 0, 11296] p slices_S2x16384x18976_S2x16384x1088_0_0_11296) slices_S2x16384x1088_S2x16384x64_0_0_1024) slices_S2x16384x64_S2x16384x32_0_0_0) : (⟨S2x16384x32, .f32⟩ : BufTy).Contents (Elt Ideal))⟩, ⟨S2x16384x128, ((broadcastInDim S2x16384x128 ![] bcast_S_S2x16384x128 (constant (F := Ideal) S_ .f32 0x00000000#32)) : (⟨S2x16384x128, .f32⟩ : BufTy).Contents (Elt Ideal))⟩] concatenates_S2x16384x96_S2x16384x32_S2x16384x96_S2x16384x32_S2x16384x256_S2x16384x128_S2x16384x32_S2x16384x96_S2x16384x32_S2x16384x32_S2x16384x32_S2x16384x32_S2x16384x128_S2x16384x1024_d2 : (⟨S2x16384x1024, .f32⟩ : BufTy).Contents (Elt Ideal))) shapeCasts_S2x16384x1024_S32768x1024

set_option maxHeartbeats 4000000 in
theorem arrange_ix2 (p : FVec Ideal S2x16384x18976 .f32) (r : Fin 32768) (n : Fin 1024) :
    arrange p (ix2 r n) = pick (fun j : Fin 18976 => p (ix3 ⟨r.val / 16384, by omega⟩ ⟨r.val % 16384, by omega⟩ j)) (fun _ => 0) n := by
  pointwise [arrange]
  have hn := n.isLt
  by_cases c0 : n.val < 96
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  by_cases c1 : n.val < 128
  · refine (dif_pos (by omega)).trans ?_
    exact (pick_zero _ _ n (by unfold Gap; omega))
  refine (dif_neg (by omega)).trans ?_
  by_cases c2 : n.val < 224
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  by_cases c3 : n.val < 256
  · refine (dif_pos (by omega)).trans ?_
    exact (pick_zero _ _ n (by unfold Gap; omega))
  refine (dif_neg (by omega)).trans ?_
  by_cases c4 : n.val < 512
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  by_cases c5 : n.val < 640
  · refine (dif_pos (by omega)).trans ?_
    exact (pick_zero_v _ n (by omega))
  refine (dif_neg (by omega)).trans ?_
  by_cases c6 : n.val < 672
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  by_cases c7 : n.val < 768
  · refine (dif_pos (by omega)).trans ?_
    exact (pick_zero _ _ n (by unfold Gap; omega))
  refine (dif_neg (by omega)).trans ?_
  by_cases c8 : n.val < 800
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  by_cases c9 : n.val < 832
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  by_cases c10 : n.val < 864
  · refine (dif_pos (by omega)).trans ?_
    refine pick_neg (fun j : Fin 18976 => p (ix3 ⟨r.val / 16384, by omega⟩ ⟨r.val % 16384, by omega⟩ j)) _ n _ ?_
    dsimp only
    omega
  refine (dif_neg (by omega)).trans ?_
  by_cases c11 : n.val < 896
  · refine (dif_pos (by omega)).trans ?_
    refine pick_pos (fun j : Fin 18976 => p (ix3 ⟨r.val / 16384, by omega⟩ ⟨r.val % 16384, by omega⟩ j)) _ n _ ?_
    dsimp only
    omega
  refine (dif_neg (by omega)).trans ?_
  exact (pick_zero _ _ n (by unfold Gap; omega))

/-- The product. -/
def prod (X : FVec Ideal S2x16384x2048 .f32) (W : FVec Ideal S2048x18976 .f32) : FVec Ideal S2x16384x18976 .f32 :=
  Host.dotGeneral dot_S2x16384x2048_S2048x18976_S2x16384x18976_2_0_01_1_n_n none X W

theorem prod_ix3 (X : FVec Ideal S2x16384x2048 .f32) (W : FVec Ideal S2048x18976 .f32) (b : Fin 2) (r : Fin 16384) (n : Fin 18976) :
    prod X W (ix3 b r n) = ∑ k : Fin 2048, (X (ix3 b r k) * W (ix2 k n) : EReal) := by
  pointwise [prod]

theorem term_eq (X : FVec Ideal S2x16384x2048 .f32) (W : FVec Ideal S2048x18976 .f32)
    (hX : ∀ i, (X i : EReal) ≠ (⊥ : EReal) ∧ (X i : EReal) ≠ (⊤ : EReal)) (hW : ∀ i, (W i : EReal) ≠ (⊥ : EReal) ∧ (W i : EReal) ≠ (⊤ : EReal)) : arrange (prod X W) = misc X W := by
  funext i
  obtain ⟨r, n, rfl⟩ : ∃ (r : Fin 32768) (n : Fin 1024), i = ix2 r n := ⟨i 0, i 1, funext fun x => by
    match x with
    | ⟨0, _⟩ => rfl
    | ⟨1, _⟩ => rfl⟩
  rw [arrange_ix2]
  simp only [prod_ix3]
  refine Eq.trans ?_ (pick_sum n (fun k => X (ix3 ⟨r.val / 16384, by omega⟩ ⟨r.val % 16384, by omega⟩ k)) (fun k j => W (ix2 k j)) (fun _ _ => 0) (fun k => hX _) (fun k j => hW _))
  refine congrArg (fun v => pick _ v n) (funext fun j => ?_)
  exact (Finset.sum_eq_zero fun k _ => mul_zero _).symm

theorem value (m : (ℓ : Loc nD τ sig) → Buf (Elt Ideal) ℓ) (g : Dev nD → PrngReg)
    (hX : ∀ (c : Dev nD) i, ((m ((c.tc : Thread nD τ).loc main_arg0) : FVec Ideal S2x16384x2048 .f32) i : EReal) ≠ (⊥ : EReal) ∧ ((m ((c.tc : Thread nD τ).loc main_arg0) : FVec Ideal S2x16384x2048 .f32) i : EReal) ≠ (⊤ : EReal))
    (hW : ∀ (c : Dev nD) i, ((m ((c.tc : Thread nD τ).loc main_arg1) : FVec Ideal S2048x18976 .f32) i : EReal) ≠ (⊥ : EReal) ∧ ((m ((c.tc : Thread nD τ).loc main_arg1) : FVec Ideal S2048x18976 .f32) i : EReal) ≠ (⊤ : EReal)) :
    θ_run (defs (F := Ideal)) (onTc (τ := τ) (main (F := Ideal))) ⟨m, fun _ => 0, g⟩ (fun r => ∀ c : Dev nD,
      r.2.mem ((c.tc : Thread nD τ).loc main_v22) = misc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c => ⟨(h c).1.trans (term_eq _ _ (hX c) (hW c)), (h c).2⟩) (Value.run m g)

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run _ _ _).mono (fun r h => ⟨fun c => (h c).2, sem_eq_zero_of_no_sems (by decide) r.2⟩) (Value.run m g)

end Cert.RefMiscIdeal.Misc

end
-- ==== Proof.MiscB.Entry.lean ====
module

public import proofs.«01_k».proof.Proof.Gen.MiscBIdeal.Value
public import proofs.«01_k».proof.Proof.Misc.Spec
public import Idealize.ShloMosaic.Lib.Pointwise
public import Idealize.ShloMosaic.Lib.StableHlo.ReadAt
public import Idealize.ShloMosaic.Lib.Claim

/-! What the second layer's projection finds in its operands: the weights' columns in order. -/

@[expose] public section

set_option maxRecDepth 65536

noncomputable section

namespace Cert.MiscBIdeal.Misc

open Cert.MiscBIdeal Cert.MiscBIdeal.Gen Cert.InProj Cert.Attn Cert.Misc
open Idealize.ShloMosaic
open Idealize.ShloMosaic.TcCoe

variable (m : (ℓ : Loc nD τ sig) → Buf (Elt Ideal) ℓ) (c : Dev nD)

abbrev aX : Arr2 32768 2048 := m ((c.tc : Thread nD τ).loc main_arg0)
abbrev aW : Arr2 2048 18976 := m ((c.tc : Thread nD τ).loc main_arg1)

abbrev aU : Arr2 2048 64 := m ((c.tc : Thread nD τ).loc main_arg2)

theorem entry_x (r : Fin 32768) (k : Fin 2048) : V m c main_arg0 (ix2 r k) = aX m c (ix2 r k) := by
  unfold V
  after_reads_at

theorem zero_bf16 : FloatOps.sitofp (F := Ideal) (w := 32) FTy.bf16 0#32 = (0 : EReal) := by
  show (((0#32 : BitVec 32).toInt : ℝ) : EReal) = 0
  simp

set_option maxHeartbeats 8000000 in
theorem entry_w (k : Fin 2048) (n : Fin 1024) :
    V m c main_v24 (ix2 k n) = pick (fun j => aW m c (ix2 k j)) (fun j => aU m c (ix2 k j)) n := by
  unfold V
  after_reads_at
  have hn := n.isLt
  iterate 6 refine (dif_neg (by omega)).trans ?_
  after_reads_at
  by_cases c0 : n.val < 896
  swap
  · refine (dif_neg (by omega)).trans ?_
    exact zero_bf16.trans (pick_zero _ _ n (by unfold Gap; omega))
  refine (dif_pos (by omega)).trans ?_
  by_cases c1 : n.val < 128
  · refine (dif_pos (by omega)).trans ?_
    after_reads_at
    by_cases d : n.val < 96
    · refine (dif_pos (by omega)).trans ?_
      refine pick_pos (fun j => aW m c (ix2 k j)) _ n _ ?_
      dsimp only
      omega
    · refine (dif_neg (by omega)).trans ?_
      exact zero_bf16.trans (pick_zero _ _ n (by unfold Gap; omega))
  refine (dif_neg (by omega)).trans ?_
  by_cases c2 : n.val < 256
  · refine (dif_pos (by omega)).trans ?_
    after_reads_at
    by_cases d : n.val < 224
    · refine (dif_pos (by omega)).trans ?_
      refine pick_pos (fun j => aW m c (ix2 k j)) _ n _ ?_
      dsimp only
      omega
    · refine (dif_neg (by omega)).trans ?_
      exact zero_bf16.trans (pick_zero _ _ n (by unfold Gap; omega))
  refine (dif_neg (by omega)).trans ?_
  by_cases c3 : n.val < 512
  · refine (dif_pos (by omega)).trans ?_
    after_reads_at
    refine pick_pos (fun j => aW m c (ix2 k j)) _ n _ ?_
    dsimp only
    omega
  refine (dif_neg (by omega)).trans ?_
  by_cases c4 : n.val < 640
  · refine (dif_pos (by omega)).trans ?_
    after_reads_at
    by_cases d : n.val < 576
    · refine (dif_pos (by omega)).trans ?_
      refine pick_v _ (fun j => aU m c (ix2 k j)) n _ ?_
      dsimp only
      omega
    · refine (dif_neg (by omega)).trans ?_
      exact zero_bf16.trans (pick_zero _ _ n (by unfold Gap; omega))
  refine (dif_neg (by omega)).trans ?_
  by_cases c5 : n.val < 768
  · refine (dif_pos (by omega)).trans ?_
    after_reads_at
    by_cases d : n.val < 672
    · refine (dif_pos (by omega)).trans ?_
      refine pick_pos (fun j => aW m c (ix2 k j)) _ n _ ?_
      dsimp only
      omega
    · refine (dif_neg (by omega)).trans ?_
      exact zero_bf16.trans (pick_zero _ _ n (by unfold Gap; omega))
  refine (dif_neg (by omega)).trans ?_
  by_cases c6 : n.val < 832
  · refine (dif_pos (by omega)).trans ?_
    after_reads_at
    refine pick_pos (fun j => aW m c (ix2 k j)) _ n _ ?_
    dsimp only
    omega
  refine (dif_neg (by omega)).trans ?_
  after_reads_at
  by_cases d : n.val < 864
  · refine (dif_pos (by omega)).trans ?_
    refine pick_neg (fun j => aW m c (ix2 k j)) _ n _ ?_
    dsimp only
    omega
  · refine (dif_neg (by omega)).trans ?_
    refine pick_pos (fun j => aW m c (ix2 k j)) _ n _ ?_
    dsimp only
    omega

end Cert.MiscBIdeal.Misc

end
-- ==== Proof.MiscB.Kernel.lean ====
module

public import proofs.«01_k».proof.Proof.MiscB.Entry
public import Idealize.ShloMosaic.Lib.Pipeline.ValueKit

/-! The second layer's projection: every grid point stores its block of the product, and the blocks fill the result. -/

@[expose] public section

set_option maxRecDepth 65536

noncomputable section

namespace Cert.MiscBIdeal.Misc

open Cert.MiscBIdeal Cert.MiscBIdeal.Gen Cert.InProj Cert.Attn Cert.Misc
open Idealize.ShloMosaic
open Idealize.ShloMosaic.TcCoe

variable (m : (ℓ : Loc nD τ sig) → Buf (Elt Ideal) ℓ) (c : Dev nD)

/-- The windows' blocks at one grid point. -/
abbrev PointAt (t : Fin cfg0.N) : Prop :=
  (cfg0.win (0 : Fin 3)).index t = ![t.val / 1, 0] ∧ (cfg0.win (1 : Fin 3)).index t = ![0, t.val % 1] ∧ (cfg0.win (2 : Fin 3)).index t = ![t.val / 1, t.val % 1]

theorem points : ∀ t : Fin cfg0.N, PointAt t := by decide +kernel

theorem cfg0_N : cfg0.N = 16 := by decide +kernel

theorem row_lt (t : Fin cfg0.N) : t.val / 1 < 16 := by have := t.isLt; have := cfg0_N; omega

theorem col_blk_lt (t : Fin cfg0.N) : t.val % 1 < 1 := Nat.mod_lt _ (by decide)

theorem iblk_0 (t : Fin cfg0.N) (a : Fin 2048) (k : Fin 2048) :
    iblk m c (0 : Fin 3) t (ix2 a k) = V m c main_arg0 (ix2 (⟨t.val / 1 * 2048 + a.val, by have := row_lt t; omega⟩ : Fin 32768) k) := by
  refine congrArg (V m c main_arg0) (funext fun x => Fin.ext ?_)
  refine ((cfg0.win (0 : Fin 3)).rect_emb_val t (ix2 a k) x).trans ?_
  rw [(points t).1]
  match x with
  | ⟨0, _⟩ => rfl
  | ⟨1, _⟩ => exact (congrArg (· + k.val) (Nat.zero_mul _)).trans (Nat.zero_add _)

theorem iblk_1 (t : Fin cfg0.N) (k : Fin 2048) (b : Fin 1024) :
    iblk m c (1 : Fin 3) t (ix2 k b) = V m c main_v24 (ix2 k (⟨t.val % 1 * 1024 + b.val, by have := col_blk_lt t; omega⟩ : Fin 1024)) := by
  refine congrArg (V m c main_v24) (funext fun x => Fin.ext ?_)
  refine ((cfg0.win (1 : Fin 3)).rect_emb_val t (ix2 k b) x).trans ?_
  rw [(points t).2.1]
  match x with
  | ⟨0, _⟩ => exact (congrArg (· + k.val) (Nat.zero_mul _)).trans (Nat.zero_add _)
  | ⟨1, _⟩ => rfl

/-- Where the result's window puts an element of its block. -/
theorem emb_2 (t : Fin cfg0.N) (a : Fin 2048) (b : Fin 1024) :
    ((cfg0.win (2 : Fin 3)).blk t).view.emb (ix2 a b)
      = ix2 (⟨t.val / 1 * 2048 + a.val, by have := row_lt t; omega⟩ : Fin 32768) (⟨t.val % 1 * 1024 + b.val, by have := col_blk_lt t; omega⟩ : Fin 1024) := by
  refine funext fun x => Fin.ext ?_
  refine ((cfg0.win (2 : Fin 3)).rect_emb_val t (ix2 a b) x).trans ?_
  rw [(points t).2.2]
  match x with
  | ⟨0, _⟩ => rfl
  | ⟨1, _⟩ => rfl

theorem pay_ix2 (x : Vec Ideal S2048x2048 .bf16) (w : Vec Ideal S2048x1024 .bf16) (a : Fin 2048) (b : Fin 1024) :
    k0_pay1 x w (ix2 a b) = ∑ k : Fin 2048, (x (ix2 a k) * w (ix2 k b) : EReal) := by
  pointwise [k0_pay1]

theorem out_ix2 (x : Vec Ideal S2048x2048 .bf16) (w : Vec Ideal S2048x1024 .bf16) (a : Fin 2048) (b : Fin 1024) :
    out0_2 x w (ix2 a b) = ∑ k : Fin 2048, (x (ix2 a k) * w (ix2 k b) : EReal) := by
  unfold out0_2
  frame_out
  exact pay_ix2 x w a b

theorem stored (t : Fin cfg0.N) (a : Fin 2048) (b : Fin 1024) :
    (Cert.MiscBIdeal.Gen.dats m 0 c).flushed 2 t (ix2 a b)
      = miscRowsAt (aX m c) (aW m c) (aU m c) ⟨t.val / 1 * 2048 + a.val, by have := row_lt t; omega⟩ ⟨t.val % 1 * 1024 + b.val, by have := col_blk_lt t; omega⟩ := by
  rw [Value.flushed2]
  refine (out_ix2 _ _ a b).trans (Finset.sum_congr rfl fun k _ => ?_)
  rw [iblk_0, iblk_1, entry_x, entry_w]

/-- The result array. -/
theorem result : (dats m 0 c).arrAt (2 : Fin 3) cfg0.N = miscRows (aX m c) (aW m c) (aU m c) := by
  refine (dats m 0 c).arrAt_eq_of_cover (2 : Fin 3) (miscRows (aX m c) (aW m c) (aU m c)) (fun t hf => ?_) (fun i => ?_)
  · funext y
    obtain ⟨a, b, rfl⟩ : ∃ (a : Fin 2048) (b : Fin 1024), y = ix2 a b := ⟨y 0, y 1, funext fun x => by
      match x with
      | ⟨0, _⟩ => rfl
      | ⟨1, _⟩ => rfl⟩
    refine (stored m c t a b).trans ?_
    exact (congrArg (miscRows (aX m c) (aW m c) (aU m c)) (emb_2 t a b)).symm
  · obtain ⟨r, n, rfl⟩ : ∃ (r : Fin 32768) (n : Fin 1024), i = ix2 r n := ⟨i 0, i 1, funext fun x => by
      match x with
      | ⟨0, _⟩ => rfl
      | ⟨1, _⟩ => rfl⟩
    have hN := cfg0_N
    have ht : r.val / 2048 * 1 + n.val / 1024 < cfg0.N := by omega
    refine ⟨⟨_, ht⟩, flush0_2 _, ?_⟩
    have hm := ((cfg0.win (2 : Fin 3)).blk ⟨_, ht⟩).view.emb_mem_set (ix2 (⟨r.val % 2048, Nat.mod_lt _ (by decide)⟩ : Fin 2048) (⟨n.val % 1024, Nat.mod_lt _ (by decide)⟩ : Fin 1024))
    rw [emb_2] at hm
    refine Eq.mp (congrArg (· ∈ _) (funext fun x => Fin.ext ?_)) hm
    match x with
    | ⟨0, _⟩ => show (r.val / 2048 * 1 + n.val / 1024) / 1 * 2048 + r.val % 2048 = r.val; omega
    | ⟨1, _⟩ => show (r.val / 2048 * 1 + n.val / 1024) % 1 * 1024 + n.val % 1024 = n.val; omega

end Cert.MiscBIdeal.Misc

end
-- ==== Proof.MiscB.Pre.lean ====
module

public import proofs.«01_k».proof.Pre_finite_rows1
public import proofs.«01_k».proof.Proof.Attn.Pre
public import Idealize.ShloMosaic.Lib.ReduceAll
public import Idealize.ShloMosaic.Lib.Pointwise

/-! What the precondition of the narrow columns says: the rows and the weights are reals. -/

@[expose] public section

noncomputable section

namespace Cert.Pre_finite_rows1

open Idealize.ShloMosaic

theorem facts : Facts where
  bitsLt_bf16_f32 := by decide
  bcast_S_S32768x2048 := by decide
  reducesTo_S32768x2048_S_d0_1 := by decide
  h_S_ := by decide
  bcast_S_S2048x18976 := by decide
  reducesTo_S2048x18976_S_d0_1 := by decide

theorem all_real {s : Shape} {axes : List (Fin s.rank)} (x : FVec Ideal s .f32) (h : S_.BroadcastsInDim s ![])
    (hr : s.ReducesTo axes S_) (hu : 0 < S_.numel) (c : IVec S_ 1) (j : S_.Idx)
    (e : Host.reduce IntOp.andi (cmpf .olt (Host.absf x) (broadcastInDim s ![] h (constant (F := Ideal) S_ .f32 0x7F800000#32))) c hr hu j = 1#1)
    (i : s.Idx) : Cert.Pre_finite_scores.Real' (x i) := by
  haveI : Subsingleton S_.Idx := ⟨fun a b => by funext y; exact y.elim0⟩
  have e' : Ideal.cmp .olt (max (x i : EReal) (-x i)) (FloatOps.ofBits (F := Ideal) .f32 0x7F800000#32) = 1#1 := Host.reduce_andi_all _ _ _ _ _ e i
  rw [Cert.Pre_finite_scores.ofBits_inf] at e'
  exact Cert.Pre_finite_scores.real_of_cmp _ e'

theorem reals [Facts] (X : FVec Ideal S32768x2048 .bf16) (W : FVec Ideal S2048x18976 .f32) (U : FVec Ideal S2048x64 .f32) (j : S_.Idx) (h : fn (F := Ideal) X W U j = 1#1) :
    (∀ i, (X i : EReal) ≠ ⊥ ∧ (X i : EReal) ≠ ⊤) ∧ ∀ i, (W i : EReal) ≠ ⊥ ∧ (W i : EReal) ≠ ⊤ := by
  obtain ⟨h1, h2⟩ := IntOp.andi_eq_one.1 h
  exact ⟨fun i => all_real (extf .f32 X Facts.bitsLt_bf16_f32) _ _ _ _ j h1 i, fun i => all_real W _ _ _ _ j h2 i⟩

end Cert.Pre_finite_rows1

end
-- ==== Proof.MiscB.Ref.lean ====
module

public import proofs.«01_k».proof.Proof.Gen.RefMiscBIdeal.Run
public import proofs.«01_k».proof.Proof.Misc.Spec
public import Idealize.ShloMosaic.Lib.Pointwise
public import Idealize.ShloMosaic.Lib.Quiescent

/-! The reference of the narrow columns: the product, its columns split, put in order with zeros between, and read as rows. -/

@[expose] public section

set_option maxRecDepth 65536

noncomputable section

namespace Cert.RefMiscBIdeal.Misc

open Cert.RefMiscBIdeal Cert.RefMiscBIdeal.Gen Cert.InProj Cert.Attn Cert.Misc
open Idealize.ShloMosaic Idealize.SL.Sem
open Idealize.ShloMosaic.TcCoe

/-- The product's columns in order. -/
def arrange (p : FVec Ideal S32768x19040 .f32) : FVec Ideal S32768x1024 .f32 :=
  (concatenate S32768x1024 1 [⟨S32768x96, ((extractStridedSlice S32768x96 ![0, 6144] (extractStridedSlice S32768x6656 ![0, 12384] p slices_S32768x19040_S32768x6656_0_12384) slices_S32768x6656_S32768x96_0_6144) : (⟨S32768x96, .f32⟩ : BufTy).Contents (Elt Ideal))⟩, ⟨S32768x32, ((broadcastInDim S32768x32 ![] bcast_S_S32768x32 (constant (F := Ideal) S_ .f32 0x00000000#32)) : (⟨S32768x32, .f32⟩ : BufTy).Contents (Elt Ideal))⟩, ⟨S32768x96, ((extractStridedSlice S32768x96 ![0, 6240] (extractStridedSlice S32768x6656 ![0, 12384] p slices_S32768x19040_S32768x6656_0_12384) slices_S32768x6656_S32768x96_0_6240) : (⟨S32768x96, .f32⟩ : BufTy).Contents (Elt Ideal))⟩, ⟨S32768x32, ((broadcastInDim S32768x32 ![] bcast_S_S32768x32 (constant (F := Ideal) S_ .f32 0x00000000#32)) : (⟨S32768x32, .f32⟩ : BufTy).Contents (Elt Ideal))⟩, ⟨S32768x256, ((extractStridedSlice S32768x256 ![0, 6336] (extractStridedSlice S32768x6656 ![0, 12384] p slices_S32768x19040_S32768x6656_0_12384) slices_S32768x6656_S32768x256_0_6336) : (⟨S32768x256, .f32⟩ : BufTy).Contents (Elt Ideal))⟩, ⟨S32768x64, ((extractStridedSlice S32768x64 ![0, 6592] (extractStridedSlice S32768x6656 ![0, 12384] p slices_S32768x19040_S32768x6656_0_12384) slices_S32768x6656_S32768x64_0_6592) : (⟨S32768x64, .f32⟩ : BufTy).Contents (Elt Ideal))⟩, ⟨S32768x64, ((broadcastInDim S32768x64 ![] bcast_S_S32768x64 (constant (F := Ideal) S_ .f32 0x00000000#32)) : (⟨S32768x64, .f32⟩ : BufTy).Contents (Elt Ideal))⟩, ⟨S32768x32, ((extractStridedSlice S32768x32 ![0, 5120] (extractStridedSlice S32768x5152 ![0, 6144] p slices_S32768x19040_S32768x5152_0_6144) slices_S32768x5152_S32768x32_0_5120) : (⟨S32768x32, .f32⟩ : BufTy).Contents (Elt Ideal))⟩, ⟨S32768x96, ((broadcastInDim S32768x96 ![] bcast_S_S32768x96 (constant (F := Ideal) S_ .f32 0x00000000#32)) : (⟨S32768x96, .f32⟩ : BufTy).Contents (Elt Ideal))⟩, ⟨S32768x32, ((extractStridedSlice S32768x32 ![0, 0] (extractStridedSlice S32768x64 ![0, 1024] (extractStridedSlice S32768x1088 ![0, 11296] p slices_S32768x19040_S32768x1088_0_11296) slices_S32768x1088_S32768x64_0_1024) slices_S32768x64_S32768x32_0_0) : (⟨S32768x32, .f32⟩ : BufTy).Contents (Elt Ideal))⟩, ⟨S32768x32, ((extractStridedSlice S32768x32 ![0, 32] (extractStridedSlice S32768x64 ![0, 1024] (extractStridedSlice S32768x1088 ![0, 11296] p slices_S32768x19040_S32768x1088_0_11296) slices_S32768x1088_S32768x64_0_1024) slices_S32768x64_S32768x32_0_32) : (⟨S32768x32, .f32⟩ : BufTy).Contents (Elt Ideal))⟩, ⟨S32768x32, ((Host.negf (extractStridedSlice S32768x32 ![0, 32] (extractStridedSlice S32768x64 ![0, 1024] (extractStridedSlice S32768x1088 ![0, 11296] p slices_S32768x19040_S32768x1088_0_11296) slices_S32768x1088_S32768x64_0_1024) slices_S32768x64_S32768x32_0_32)) : (⟨S32768x32, .f32⟩ : BufTy).Contents (Elt Ideal))⟩, ⟨S32768x32, ((extractStridedSlice S32768x32 ![0, 0] (extractStridedSlice S32768x64 ![0, 1024] (extractStridedSlice S32768x1088 ![0, 11296] p slices_S32768x19040_S32768x1088_0_11296) slices_S32768x1088_S32768x64_0_1024) slices_S32768x64_S32768x32_0_0) : (⟨S32768x32, .f32⟩ : BufTy).Contents (Elt Ideal))⟩, ⟨S32768x128, ((broadcastInDim S32768x128 ![] bcast_S_S32768x128 (constant (F := Ideal) S_ .f32 0x00000000#32)) : (⟨S32768x128, .f32⟩ : BufTy).Contents (Elt Ideal))⟩] concatenates_S32768x96_S32768x32_S32768x96_S32768x32_S32768x256_S32768x64_S32768x64_S32768x32_S32768x96_S32768x32_S32768x32_S32768x32_S32768x32_S32768x128_S32768x1024_d1 : (⟨S32768x1024, .f32⟩ : BufTy).Contents (Elt Ideal))

set_option maxHeartbeats 4000000 in
theorem arrange_ix2 (p : FVec Ideal S32768x19040 .f32) (r : Fin 32768) (n : Fin 1024) :
    arrange p (ix2 r n) = pick (fun j : Fin 18976 => p (ix2 r ⟨j.val, by omega⟩)) (fun j : Fin 64 => p (ix2 r ⟨j.val + 18976, by omega⟩)) n := by
  pointwise [arrange]
  have hn := n.isLt
  by_cases c0 : n.val < 96
  · refine (dif_pos (by omega)).trans ?_
    refine (congrArg p (congrArg (ix2 r) (Fin.ext ?_))).trans (pick_pos (fun j : Fin 18976 => p (ix2 r ⟨j.val, by omega⟩)) _ n ⟨n.val + 18528, by omega⟩ ?_) <;> dsimp only <;> omega
  refine (dif_neg (by omega)).trans ?_
  by_cases c1 : n.val < 128
  · refine (dif_pos (by omega)).trans ?_
    exact (pick_zero _ _ n (by unfold Gap; omega))
  refine (dif_neg (by omega)).trans ?_
  by_cases c2 : n.val < 224
  · refine (dif_pos (by omega)).trans ?_
    refine (congrArg p (congrArg (ix2 r) (Fin.ext ?_))).trans (pick_pos (fun j : Fin 18976 => p (ix2 r ⟨j.val, by omega⟩)) _ n ⟨n.val + 18496, by omega⟩ ?_) <;> dsimp only <;> omega
  refine (dif_neg (by omega)).trans ?_
  by_cases c3 : n.val < 256
  · refine (dif_pos (by omega)).trans ?_
    exact (pick_zero _ _ n (by unfold Gap; omega))
  refine (dif_neg (by omega)).trans ?_
  by_cases c4 : n.val < 512
  · refine (dif_pos (by omega)).trans ?_
    refine (congrArg p (congrArg (ix2 r) (Fin.ext ?_))).trans (pick_pos (fun j : Fin 18976 => p (ix2 r ⟨j.val, by omega⟩)) _ n ⟨n.val + 18464, by omega⟩ ?_) <;> dsimp only <;> omega
  refine (dif_neg (by omega)).trans ?_
  by_cases c5 : n.val < 576
  · refine (dif_pos (by omega)).trans ?_
    refine (congrArg p (congrArg (ix2 r) (Fin.ext ?_))).trans (pick_v _ (fun j : Fin 64 => p (ix2 r ⟨j.val + 18976, by omega⟩)) n ⟨n.val - 512, by omega⟩ ?_) <;> dsimp only <;> omega
  refine (dif_neg (by omega)).trans ?_
  by_cases c6 : n.val < 640
  · refine (dif_pos (by omega)).trans ?_
    exact (pick_zero _ _ n (by unfold Gap; omega))
  refine (dif_neg (by omega)).trans ?_
  by_cases c7 : n.val < 672
  · refine (dif_pos (by omega)).trans ?_
    refine (congrArg p (congrArg (ix2 r) (Fin.ext ?_))).trans (pick_pos (fun j : Fin 18976 => p (ix2 r ⟨j.val, by omega⟩)) _ n ⟨n.val + 10624, by omega⟩ ?_) <;> dsimp only <;> omega
  refine (dif_neg (by omega)).trans ?_
  by_cases c8 : n.val < 768
  · refine (dif_pos (by omega)).trans ?_
    exact (pick_zero _ _ n (by unfold Gap; omega))
  refine (dif_neg (by omega)).trans ?_
  by_cases c9 : n.val < 800
  · refine (dif_pos (by omega)).trans ?_
    refine (congrArg p (congrArg (ix2 r) (Fin.ext ?_))).trans (pick_pos (fun j : Fin 18976 => p (ix2 r ⟨j.val, by omega⟩)) _ n ⟨n.val + 11552, by omega⟩ ?_) <;> dsimp only <;> omega
  refine (dif_neg (by omega)).trans ?_
  by_cases c10 : n.val < 832
  · refine (dif_pos (by omega)).trans ?_
    refine (congrArg p (congrArg (ix2 r) (Fin.ext ?_))).trans (pick_pos (fun j : Fin 18976 => p (ix2 r ⟨j.val, by omega⟩)) _ n ⟨n.val + 11552, by omega⟩ ?_) <;> dsimp only <;> omega
  refine (dif_neg (by omega)).trans ?_
  by_cases c11 : n.val < 864
  · refine (dif_pos (by omega)).trans ?_
    refine (congrArg (fun i => -p i) (congrArg (ix2 r) (Fin.ext ?_))).trans (pick_neg (fun j : Fin 18976 => p (ix2 r ⟨j.val, by omega⟩)) _ n ⟨n.val + 11520, by omega⟩ ?_) <;> dsimp only <;> omega
  refine (dif_neg (by omega)).trans ?_
  by_cases c12 : n.val < 896
  · refine (dif_pos (by omega)).trans ?_
    refine (congrArg p (congrArg (ix2 r) (Fin.ext ?_))).trans (pick_pos (fun j : Fin 18976 => p (ix2 r ⟨j.val, by omega⟩)) _ n ⟨n.val + 11456, by omega⟩ ?_) <;> dsimp only <;> omega
  refine (dif_neg (by omega)).trans ?_
  exact (pick_zero _ _ n (by unfold Gap; omega))

/-- The product. -/
def prod (X : FVec Ideal S32768x2048 .bf16) (W : FVec Ideal S2048x18976 .f32) (U : FVec Ideal S2048x64 .f32) : FVec Ideal S32768x19040 .f32 :=
  Host.dotGeneral dot_S32768x2048_S2048x19040_S32768x19040_1_0_0_1_n_n none (extf .f32 X bitsLt_bf16_f32) (concatenate S2048x19040 1 [⟨S2048x18976, W⟩, ⟨S2048x64, U⟩] concatenates_S2048x18976_S2048x64_S2048x19040_d1)

theorem prod_w (X : FVec Ideal S32768x2048 .bf16) (W : FVec Ideal S2048x18976 .f32) (U : FVec Ideal S2048x64 .f32) (r : Fin 32768) (n : Fin 18976) :
    prod X W U (ix2 r ⟨n.val, by omega⟩) = ∑ k : Fin 2048, (X (ix2 r k) * W (ix2 k n) : EReal) := by
  pointwise [prod]

theorem prod_u (X : FVec Ideal S32768x2048 .bf16) (W : FVec Ideal S2048x18976 .f32) (U : FVec Ideal S2048x64 .f32) (r : Fin 32768) (n : Fin 64) :
    prod X W U (ix2 r ⟨n.val + 18976, by omega⟩) = ∑ k : Fin 2048, (X (ix2 r k) * U (ix2 k n) : EReal) := by
  pointwise [prod]
  refine Finset.sum_congr rfl fun k _ => congrArg _ ((dif_neg (by omega)).trans (congrArg U (congrArg (ix2 k) (Fin.ext ?_))))
  show n.val + 18976 - 18976 = n.val
  omega

theorem term_eq (X : FVec Ideal S32768x2048 .bf16) (W : FVec Ideal S2048x18976 .f32) (U : FVec Ideal S2048x64 .f32)
    (hX : ∀ i, (X i : EReal) ≠ (⊥ : EReal) ∧ (X i : EReal) ≠ (⊤ : EReal)) (hW : ∀ i, (W i : EReal) ≠ (⊥ : EReal) ∧ (W i : EReal) ≠ (⊤ : EReal)) : arrange (prod X W U) = miscRows X W U := by
  funext i
  obtain ⟨r, n, rfl⟩ : ∃ (r : Fin 32768) (n : Fin 1024), i = ix2 r n := ⟨i 0, i 1, funext fun x => by
    match x with
    | ⟨0, _⟩ => rfl
    | ⟨1, _⟩ => rfl⟩
  rw [arrange_ix2]
  simp only [prod_w, prod_u]
  exact pick_sum n (fun k => X (ix2 r k)) (fun k j => W (ix2 k j)) (fun k j => U (ix2 k j)) (fun k => hX _) (fun k j => hW _)

theorem value (m : (ℓ : Loc nD τ sig) → Buf (Elt Ideal) ℓ) (g : Dev nD → PrngReg)
    (hX : ∀ (c : Dev nD) i, ((m ((c.tc : Thread nD τ).loc main_arg0) : FVec Ideal S32768x2048 .bf16) i : EReal) ≠ (⊥ : EReal) ∧ ((m ((c.tc : Thread nD τ).loc main_arg0) : FVec Ideal S32768x2048 .bf16) i : EReal) ≠ (⊤ : EReal))
    (hW : ∀ (c : Dev nD) i, ((m ((c.tc : Thread nD τ).loc main_arg1) : FVec Ideal S2048x18976 .f32) i : EReal) ≠ (⊥ : EReal) ∧ ((m ((c.tc : Thread nD τ).loc main_arg1) : FVec Ideal S2048x18976 .f32) i : EReal) ≠ (⊤ : EReal)) :
    θ_run (defs (F := Ideal)) (onTc (τ := τ) (main (F := Ideal))) ⟨m, fun _ => 0, g⟩ (fun r => ∀ c : Dev nD,
      r.2.mem ((c.tc : Thread nD τ).loc main_v24) = miscRows (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun _ h c => ⟨(h c).1.trans (term_eq _ _ _ (hX c) (hW c)), (h c).2⟩) (Value.run m g)

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run _ _ _).mono (fun r h => ⟨fun c => (h c).2, sem_eq_zero_of_no_sems (by decide) r.2⟩) (Value.run m g)

end Cert.RefMiscBIdeal.Misc

end
-- ==== Proof.Rope.Spec.lean ====
module

public import proofs.«01_k».proof.Proof.InProj.Spec
public import Idealize.ShloMosaic.Lib.Pointwise

/-! What both programs of the position tables compute: a function of the angles, each angle twice, and zeros behind. -/

@[expose] public section

noncomputable section

namespace Cert.Rope

open Idealize.ShloMosaic Cert.Attn Cert.InProj

/-- One frequency: 10000 to the power of minus twice its number over 64. -/
def freq (n : ℕ) : EReal :=
  Ideal.pow (Ideal.ofBits FTy.f32 0x461C4000#32)
    (Ideal.div (-(Ideal.ofBits FTy.f32 0x40000000#32 * FloatOps.sitofp (F := Ideal) FTy.f32 (BitVec.ofNat 32 n))) (Ideal.ofBits FTy.f32 0x42800000#32))

/-- One angle: the position by the frequency. -/
def angle (p : BitVec 32) (n : ℕ) : EReal := (FloatOps.sitofp (F := Ideal) FTy.f32 p : EReal) * freq n

variable (f : EReal → EReal) (P : IVec ⟨2, ![2, 16384]⟩ 32)

/-- One element of a row of 128. -/
def lane (p : BitVec 32) (n : ℕ) : EReal :=
  if n < 32 then f (angle p n) else if n < 64 then f (angle p (n - 32)) else 0

/-- One element of the table. -/
def tableAt (r : Fin 32768) (n : Fin 128) : EReal :=
  lane f (P (ix2 (⟨r.val / 16384, by omega⟩ : Fin 2) (⟨r.val % 16384, by omega⟩ : Fin 16384))) n.val

/-- The table as an array. -/
def table : Arr2 32768 128 := fun i => tableAt f P (i 0) (i 1)

end Cert.Rope

end
-- ==== Proof.Rope.Kernel.lean ====
module

public import proofs.«01_k».proof.Proof.Gen.RopeIdeal.Value
public import proofs.«01_k».proof.Proof.Rope.Spec
public import Idealize.ShloMosaic.Lib.Pointwise
public import Idealize.ShloMosaic.Lib.StableHlo.ReadAt
public import Idealize.ShloMosaic.Lib.Claim
public import Idealize.ShloMosaic.Lib.Pipeline.ValueKit

/-! The tables' kernel: every grid point stores its block of rows, in both results, and the blocks fill the arrays. -/

@[expose] public section

set_option maxRecDepth 65536

noncomputable section

namespace Cert.RopeIdeal.Rope

open Cert.RopeIdeal Cert.RopeIdeal.Gen Cert.InProj Cert.Attn Cert.Rope
open Idealize.ShloMosaic
open Idealize.ShloMosaic.TcCoe

variable (m : (ℓ : Loc nD τ sig) → Buf (Elt Ideal) ℓ) (c : Dev nD)

/-- The positions. -/
abbrev aP : IVec S2x16384 32 := m ((c.tc : Thread nD τ).loc main_arg0)

theorem entry_p (r : Fin 32768) (z : Fin 1) : V m c main_v1 (ix2 r z)
    = FloatOps.sitofp (F := Ideal) FTy.f32 (aP m c (ix2 (⟨r.val / 16384, by omega⟩ : Fin 2) (⟨r.val % 16384, by omega⟩ : Fin 16384))) := by
  obtain rfl : z = 0 := Subsingleton.elim _ _
  unfold V
  after_reads_at

/-- The prepared frequencies. -/
def freqLane (n : ℕ) : EReal := if n < 32 then freq n else if n < 64 then freq (n - 32) else 0

theorem entry_f (z : Fin 1) (n : Fin 128) : V m c main_v14 (ix2 z n) = freqLane n.val := by
  obtain rfl : z = 0 := Subsingleton.elim _ _
  unfold V freqLane
  after_reads_at
  by_cases c0 : n.val < 32
  · refine (dif_pos c0).trans (Eq.trans ?_ (if_pos c0).symm)
    after_reads_at
    rfl
  · refine (dif_neg c0).trans (Eq.trans ?_ (if_neg c0).symm)
    by_cases c1 : n.val < 64
    · refine (dif_pos (by omega)).trans (Eq.trans ?_ (if_pos c1).symm)
      after_reads_at
      rfl
    · refine (dif_neg (by omega)).trans (Eq.trans ?_ (if_neg c1).symm)
      after_reads_at

abbrev PointAt (t : Fin cfg0.N) : Prop :=
  (cfg0.win (0 : Fin 4)).index t = ![t.val, 0]
    ∧ (cfg0.win (1 : Fin 4)).index t = ![0, 0]
    ∧ (cfg0.win (2 : Fin 4)).index t = ![t.val, 0]
    ∧ (cfg0.win (3 : Fin 4)).index t = ![t.val, 0]

theorem points : ∀ t : Fin cfg0.N, PointAt t := by decide +kernel

theorem cfg0_N : cfg0.N = 32 := by decide +kernel

theorem point_lt (t : Fin cfg0.N) : t.val < 32 := by have := t.isLt; have := cfg0_N; omega

/-- The row of the arrays a block's row is. -/
abbrev row (t : Fin cfg0.N) (a : Fin 1024) : Fin 32768 := ⟨t.val * 1024 + a.val, by have := point_lt t; omega⟩

theorem iblk_0 (t : Fin cfg0.N) (a : Fin 1024) (z : Fin 1) : iblk m c (0 : Fin 4) t (ix2 a z) = V m c main_v1 (ix2 (row t a) z) := by
  refine congrArg (V m c main_v1) (funext fun x => Fin.ext ?_)
  refine ((cfg0.win (0 : Fin 4)).rect_emb_val t (ix2 a z) x).trans ?_
  rw [(points t).1]
  match x with
  | ⟨0, _⟩ => rfl
  | ⟨1, _⟩ => exact (congrArg (· + z.val) (Nat.zero_mul _)).trans (Nat.zero_add _)

theorem iblk_1 (t : Fin cfg0.N) (z : Fin 1) (n : Fin 128) : iblk m c (1 : Fin 4) t (ix2 z n) = V m c main_v14 (ix2 z n) := by
  refine congrArg (V m c main_v14) (funext fun x => Fin.ext ?_)
  refine ((cfg0.win (1 : Fin 4)).rect_emb_val t (ix2 z n) x).trans ?_
  rw [(points t).2.1]
  match x with
  | ⟨0, _⟩ => exact (congrArg (· + z.val) (Nat.zero_mul _)).trans (Nat.zero_add _)
  | ⟨1, _⟩ => exact (congrArg (· + n.val) (Nat.zero_mul _)).trans (Nat.zero_add _)

theorem emb_2 (t : Fin cfg0.N) (a : Fin 1024) (n : Fin 128) : ((cfg0.win (2 : Fin 4)).blk t).view.emb (ix2 a n) = ix2 (row t a) n := by
  refine funext fun x => Fin.ext ?_
  refine ((cfg0.win (2 : Fin 4)).rect_emb_val t (ix2 a n) x).trans ?_
  rw [(points t).2.2.1]
  match x with
  | ⟨0, _⟩ => rfl
  | ⟨1, _⟩ => exact (congrArg (· + n.val) (Nat.zero_mul _)).trans (Nat.zero_add _)

theorem emb_3 (t : Fin cfg0.N) (a : Fin 1024) (n : Fin 128) : ((cfg0.win (3 : Fin 4)).blk t).view.emb (ix2 a n) = ix2 (row t a) n := by
  refine funext fun x => Fin.ext ?_
  refine ((cfg0.win (3 : Fin 4)).rect_emb_val t (ix2 a n) x).trans ?_
  rw [(points t).2.2.2]
  match x with
  | ⟨0, _⟩ => rfl
  | ⟨1, _⟩ => exact (congrArg (· + n.val) (Nat.zero_mul _)).trans (Nat.zero_add _)

theorem lane_lt : ∀ n : Fin 128, IntOp.cmpi .slt (BitVec.ofNat 32 n.val) 64#32 = if n.val < 64 then 1#1 else 0#1 := by decide +kernel

theorem pay2_ix2 (a : Fin 1024) (n : Fin 128) : k0_pay2 (ix2 a n) = if n.val < 64 then 1#1 else 0#1 := by
  pointwise [k0_pay2]
  exact lane_lt n

theorem pay3_ix2 (v : Vec Ideal S1024x1 .f32) (w : Vec Ideal S1x128 .f32) (a : Fin 1024) (n : Fin 128) :
    k0_pay3 v w (ix2 a n) = if n.val < 64 then Ideal.cos (v (ix2 a 0) * w (ix2 0 n) : EReal) else 0 := by
  pointwise [k0_pay3, k0_pay1]
  rw [pay2_ix2]
  by_cases h : n.val < 64
  · rw [if_pos h, if_pos h]
    rfl
  · rw [if_neg h, if_neg h]
    rfl

set_option maxHeartbeats 2000000 in
theorem out_2 (v : Vec Ideal S1024x1 .f32) (w : Vec Ideal S1x128 .f32) (a : Fin 1024) (n : Fin 128) :
    out0_2 v w (ix2 a n) = if n.val < 64 then Ideal.cos (v (ix2 a 0) * w (ix2 0 n) : EReal) else 0 := by
  unfold out0_2
  frame_out
  exact pay3_ix2 v w a n

theorem pay4_ix2 (v : Vec Ideal S1024x1 .f32) (w : Vec Ideal S1x128 .f32) (a : Fin 1024) (n : Fin 128) :
    k0_pay4 v w (ix2 a n) = if n.val < 64 then Ideal.sin (v (ix2 a 0) * w (ix2 0 n) : EReal) else 0 := by
  pointwise [k0_pay4, k0_pay1]
  rw [pay2_ix2]
  by_cases h : n.val < 64
  · rw [if_pos h, if_pos h]
    rfl
  · rw [if_neg h, if_neg h]
    rfl

set_option maxHeartbeats 2000000 in
theorem out_3 (v : Vec Ideal S1024x1 .f32) (w : Vec Ideal S1x128 .f32) (a : Fin 1024) (n : Fin 128) :
    out0_3 v w (ix2 a n) = if n.val < 64 then Ideal.sin (v (ix2 a 0) * w (ix2 0 n) : EReal) else 0 := by
  unfold out0_3
  frame_out
  exact pay4_ix2 v w a n

theorem ix2_eta {p q : ℕ} (i : (⟨2, ![p, q]⟩ : Shape).Idx) : i = ix2 (i 0) (i 1) := funext fun x => by
  match x with
  | ⟨0, _⟩ => rfl
  | ⟨1, _⟩ => rfl

/-- What a grid point computes is its block of the table. -/
theorem block_eq (f : EReal → EReal) (t : Fin cfg0.N) (a : Fin 1024) (n : Fin 128) :
    (if n.val < 64 then f (@HMul.hMul EReal EReal EReal _ (iblk m c (0 : Fin 4) t (ix2 a 0)) (iblk m c (1 : Fin 4) t (ix2 0 n))) else 0) = tableAt f (aP m c) (row t a) n := by
  rw [iblk_0, iblk_1, entry_p, entry_f]
  unfold tableAt lane angle freqLane
  by_cases c0 : n.val < 32
  · rw [if_pos (by omega), if_pos c0, if_pos c0]
  · rw [if_neg c0, if_neg c0]
    by_cases c1 : n.val < 64
    · rw [if_pos c1, if_pos c1, if_pos c1]
    · rw [if_neg c1, if_neg c1]

/-- The first result array. -/
theorem result_2 : (dats m 0 c).arrAt (2 : Fin 4) cfg0.N = table Ideal.cos (aP m c) := by
  refine (dats m 0 c).arrAt_eq_of_cover (2 : Fin 4) (table Ideal.cos (aP m c)) (fun t hf => ?_) (fun i => ?_)
  · funext y
    obtain ⟨a, n, rfl⟩ : ∃ (a : Fin 1024) (n : Fin 128), y = ix2 a n := ⟨y 0, y 1, ix2_eta y⟩
    rw [Value.flushed2]
    refine ((out_2 _ _ a n).trans (block_eq m c Ideal.cos t a n)).trans ?_
    exact (congrArg (table Ideal.cos (aP m c)) (emb_2 t a n)).symm
  · obtain ⟨r, n, rfl⟩ : ∃ (r : Fin 32768) (n : Fin 128), i = ix2 r n := ⟨i 0, i 1, ix2_eta i⟩
    have hN := cfg0_N
    have ht : r.val / 1024 < cfg0.N := by omega
    refine ⟨⟨_, ht⟩, flush0_2 _, ?_⟩
    have hm := ((cfg0.win (2 : Fin 4)).blk ⟨_, ht⟩).view.emb_mem_set (ix2 (⟨r.val % 1024, Nat.mod_lt _ (by decide)⟩ : Fin 1024) n)
    rw [emb_2] at hm
    refine Eq.mp (congrArg (· ∈ _) (funext fun x => Fin.ext ?_)) hm
    match x with
    | ⟨0, _⟩ => show r.val / 1024 * 1024 + r.val % 1024 = r.val; omega
    | ⟨1, _⟩ => rfl

/-- The second result array. -/
theorem result_3 : (dats m 0 c).arrAt (3 : Fin 4) cfg0.N = table Ideal.sin (aP m c) := by
  refine (dats m 0 c).arrAt_eq_of_cover (3 : Fin 4) (table Ideal.sin (aP m c)) (fun t hf => ?_) (fun i => ?_)
  · funext y
    obtain ⟨a, n, rfl⟩ : ∃ (a : Fin 1024) (n : Fin 128), y = ix2 a n := ⟨y 0, y 1, ix2_eta y⟩
    rw [Value.flushed3]
    refine ((out_3 _ _ a n).trans (block_eq m c Ideal.sin t a n)).trans ?_
    exact (congrArg (table Ideal.sin (aP m c)) (emb_3 t a n)).symm
  · obtain ⟨r, n, rfl⟩ : ∃ (r : Fin 32768) (n : Fin 128), i = ix2 r n := ⟨i 0, i 1, ix2_eta i⟩
    have hN := cfg0_N
    have ht : r.val / 1024 < cfg0.N := by omega
    refine ⟨⟨_, ht⟩, flush0_3 _, ?_⟩
    have hm := ((cfg0.win (3 : Fin 4)).blk ⟨_, ht⟩).view.emb_mem_set (ix2 (⟨r.val % 1024, Nat.mod_lt _ (by decide)⟩ : Fin 1024) n)
    rw [emb_3] at hm
    refine Eq.mp (congrArg (· ∈ _) (funext fun x => Fin.ext ?_)) hm
    match x with
    | ⟨0, _⟩ => show r.val / 1024 * 1024 + r.val % 1024 = r.val; omega
    | ⟨1, _⟩ => rfl

end Cert.RopeIdeal.Rope

end
-- ==== Proof.Rope.Ref.lean ====
module

public import proofs.«01_k».proof.Proof.Gen.RefRopeIdeal.Run
public import proofs.«01_k».proof.Proof.Rope.Spec
public import Idealize.ShloMosaic.Lib.Pointwise
public import Idealize.ShloMosaic.Lib.Quiescent

/-! The tables' reference: its operations named and read at an index, and its run. -/

@[expose] public section

set_option maxRecDepth 65536

noncomputable section

namespace Cert.RefRopeIdeal.Rope

open Cert.RefRopeIdeal Cert.RefRopeIdeal.Gen Cert.InProj Cert.Attn
open Idealize.ShloMosaic Idealize.SL.Sem
open Idealize.ShloMosaic.TcCoe

/-- The frequencies. -/
def freqs : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

theorem freqs_ix1 (n : Fin 32) : freqs (ix1 n) = Cert.Rope.freq n.val := by
  pointwise [freqs]
  rfl

/-- The angles. -/
def angles (P : IVec S2x16384 32) : FVec Ideal S2x16384x32 .f32 :=
  mulf (broadcastInDim S2x16384x32 ![0, 1, 2] bcast_S2x16384x1_S2x16384x32_0_1_2 (broadcastInDim S2x16384x1 ![0, 1] bcast_S2x16384_S2x16384x1_0_1 (sitofp .f32 P))) (broadcastInDim S2x16384x32 ![0, 1, 2] bcast_S1x1x32_S2x16384x32_0_1_2 (broadcastInDim S1x1x32 ![2] bcast_S32_S1x1x32_2 freqs))

theorem angles_ix3 (P : IVec S2x16384 32) (b : Fin 2) (s : Fin 16384) (n : Fin 32) : angles P (ix3 b s n) = Cert.Rope.angle (P (ix2 b s)) n.val := by
  pointwise [angles]
  rw [freqs_ix1]
  rfl

/-- The rows of a table. -/
def rows (f : FVec Ideal S2x16384x32 .f32) : FVec Ideal S32768x128 .f32 :=
  shapeCast S32768x128 ((concatenate S2x16384x128 2 [⟨S2x16384x32, (f : (⟨S2x16384x32, .f32⟩ : BufTy).Contents (Elt Ideal))⟩, ⟨S2x16384x32, (f : (⟨S2x16384x32, .f32⟩ : BufTy).Contents (Elt Ideal))⟩, ⟨S2x16384x64, ((broadcastInDim S2x16384x64 ![] bcast_S_S2x16384x64 (constant (F := Ideal) S_ .f32 0x00000000#32)) : (⟨S2x16384x64, .f32⟩ : BufTy).Contents (Elt Ideal))⟩] concatenates_S2x16384x32_S2x16384x32_S2x16384x64_S2x16384x128_d2 : (⟨S2x16384x128, .f32⟩ : BufTy).Contents (Elt Ideal))) shapeCasts_S2x16384x128_S32768x128

theorem rows_ix2 (f : FVec Ideal S2x16384x32 .f32) (g : EReal → EReal) (P : IVec S2x16384 32)
    (hf : ∀ (b : Fin 2) (s : Fin 16384) (n : Fin 32), f (ix3 b s n) = g (Cert.Rope.angle (P (ix2 b s)) n.val)) (r : Fin 32768) (n : Fin 128) :
    rows f (ix2 r n) = Cert.Rope.tableAt g P r n := by
  unfold Cert.Rope.tableAt Cert.Rope.lane
  pointwise [rows]
  by_cases c0 : n.val < 32
  · refine (dif_pos c0).trans ((hf _ _ _).trans ?_)
    exact (if_pos c0).symm
  · refine (dif_neg c0).trans (Eq.trans ?_ (if_neg c0).symm)
    by_cases c1 : n.val < 64
    · refine (dif_pos (by omega)).trans ((hf _ _ _).trans ?_)
      exact (if_pos c1).symm
    · exact (dif_neg (by omega)).trans (if_neg c1).symm

/-- The cosines and the sines of the angles. -/
def cosines (P : IVec S2x16384 32) : FVec Ideal S2x16384x32 .f32 := Host.cos (angles P)

def sines (P : IVec S2x16384 32) : FVec Ideal S2x16384x32 .f32 := Host.sin (angles P)

theorem cosines_ix3 (P : IVec S2x16384 32) (b : Fin 2) (s : Fin 16384) (n : Fin 32) :
    cosines P (ix3 b s n) = Ideal.cos (Cert.Rope.angle (P (ix2 b s)) n.val) := by
  pointwise [cosines]
  rw [angles_ix3]

theorem sines_ix3 (P : IVec S2x16384 32) (b : Fin 2) (s : Fin 16384) (n : Fin 32) :
    sines P (ix3 b s n) = Ideal.sin (Cert.Rope.angle (P (ix2 b s)) n.val) := by
  pointwise [sines]
  rw [angles_ix3]

theorem rows_eq (f : FVec Ideal S2x16384x32 .f32) (g : EReal → EReal) (P : IVec S2x16384 32)
    (hf : ∀ (b : Fin 2) (s : Fin 16384) (n : Fin 32), f (ix3 b s n) = g (Cert.Rope.angle (P (ix2 b s)) n.val)) : rows f = Cert.Rope.table g P := by
  funext i
  obtain ⟨r, n, rfl⟩ : ∃ (r : Fin 32768) (n : Fin 128), i = ix2 r n := ⟨i 0, i 1, funext fun x => by
    match x with
    | ⟨0, _⟩ => rfl
    | ⟨1, _⟩ => rfl⟩
  exact rows_ix2 f g P hf r n

theorem value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v20) = Cert.Rope.table Ideal.cos (m ((c.tc : Thread nD τ).loc main_arg0))
      ∧ r.2.mem ((c.tc : Thread nD τ).loc main_v22) = Cert.Rope.table Ideal.sin (m ((c.tc : Thread nD τ).loc main_arg0))
      ∧ r.2.mem ((c.tc : Thread nD τ).loc main_arg0) = m ((c.tc : Thread nD τ).loc main_arg0)) :=
  (θ_run _ _ _).mono (fun _ h c => ⟨(h c).1.trans (rows_eq (cosines _) _ _ (cosines_ix3 _)), (h c).2.1.trans (rows_eq (sines _) _ _ (sines_ix3 _)), (h c).2.2⟩) (Value.run m g)

theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)) ∧ r.2.sem = fun _ => 0) :=
  (θ_run _ _ _).mono (fun r h => ⟨fun c => (h c).2.2, sem_eq_zero_of_no_sems (by decide) r.2⟩) (value m g)

end Cert.RefRopeIdeal.Rope

end
-- ==== Proof.Attn.Kernel.Tables.lean ====
module

public import proofs.«01_k».proof.Defs
public import proofs.«01_k».proof.Proof.Gen.Kernel
public import proofs.«01_k».proof.Proof.Gen.Kernel.Launch
public import proofs.«01_k».proof.Proof.Gen.Kernel.Skeleton
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Quiescent
public import Idealize.ShloMosaic.Lib.Claim
public import Idealize.ShloMosaic.PureOps.BitExact
public import Idealize.ShloMosaic.Adequacy
public import Idealize.ShloMosaic.Init

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev tbM0_0 : Memref sig .tc .smem S20 .i32 := Memref.whole main_c
abbrev tbM0_1 : Memref sig .tc .smem S20 .i32 := Memref.whole main_c_0
abbrev scM0_0 : Memref sig .tc .vmem S4096x128 .f32 := Memref.whole cc0_scratch0
abbrev scM0_1 : Memref sig .tc .vmem S4096x256 .f32 := Memref.whole cc0_scratch1

def pinT_0 : S20.Idx → BitVec 32 := fun x => (([0#32, 0#32, 1#32, 1#32, 1#32, 1#32, 2#32, 2#32, 2#32, 2#32, 2#32, 2#32, 3#32, 3#32, 3#32, 3#32, 3#32, 3#32, 3#32, 3#32] : List (BitVec 32)).getD ((x 0).val) 0#32)

def pinT_1 : S20.Idx → BitVec 32 := fun x => (([0#32, 1#32, 0#32, 1#32, 2#32, 3#32, 0#32, 1#32, 2#32, 3#32, 4#32, 5#32, 0#32, 1#32, 2#32, 3#32, 4#32, 5#32, 6#32, 7#32] : List (BitVec 32)).getD ((x 0).val) 0#32)

set_option backward.proofsInPublic true in
def pfN : pre0.Contents (Elt Bits) := fun | ⟨0, _⟩ => pinT_0 | ⟨1, _⟩ => pinT_1 | ⟨_ + 2, h⟩ => absurd h (by simp)
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- At this point the pair table names the first key block of a row block: the accumulators start afresh. -/
abbrev cFirst (T0 T1 : S20.Idx → BitVec 32) (i : grid0.Coords) : Prop :=
  Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) 0#32)) 0#32 = 1#1

/-- At this point the pair table names a key block wholly below the diagonal. -/
abbrev cFull (T0 T1 : S20.Idx → BitVec 32) (i : grid0.Coords) : Prop :=
  Scalar.cmpi .ne (Scalar.extui (Scalar.cmpi .slt (View.readAt (Elt Bits) (tbM0_1).view (Rect.unit (s := S20) (k0_off1 i) S1.size (k0_off1_inb i)).toLoadRect T1 (Shape.Idx.first (numel1_S1.symm ▸ Nat.one_pos))) (Scalar.muli (View.readAt (Elt Bits) (tbM0_0).view (Rect.unit (s := S20) (k0_off1 i) S1.size (k0_off1_inb i)).toLoadRect T0 (Shape.Idx.first (numel1_S1.symm ▸ Nat.one_pos))) 2#32))) 0#32 = 1#1

/-- At this point the pair table names the first key block on the diagonal. -/
abbrev cDiag0 (T0 T1 : S20.Idx → BitVec 32) (i : grid0.Coords) : Prop :=
  Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) (Scalar.addi (Scalar.muli (View.readAt (Elt Bits) (tbM0_0).view (Rect.unit (s := S20) (k0_off1 i) S1.size (k0_off1_inb i)).toLoadRect T0 (Shape.Idx.first (numel1_S1.symm ▸ Nat.one_pos))) 2#32) 0#32))) 0#32 = 1#1

/-- At this point the pair table names the second key block on the diagonal. -/
abbrev cDiag1 (T0 T1 : S20.Idx → BitVec 32) (i : grid0.Coords) : Prop :=
  Scalar.cmpi .ne (Scalar.extui (Scalar.cmpi .eq (View.readAt (Elt Bits) (tbM0_1).view (Rect.unit (s := S20) (k0_off1 i) S1.size (k0_off1_inb i)).toLoadRect T1 (Shape.Idx.first (numel1_S1.symm ▸ Nat.one_pos))) (Scalar.addi (Scalar.muli (View.readAt (Elt Bits) (tbM0_0).view (Rect.unit (s := S20) (k0_off1 i) S1.size (k0_off1_inb i)).toLoadRect T0 (Shape.Idx.first (numel1_S1.symm ▸ Nat.one_pos))) 2#32) 1#32))) 0#32 = 1#1

/-- At this point the pair table names the last key block of a row block: the result is stored. -/
abbrev cLast (T0 T1 : S20.Idx → BitVec 32) (i : grid0.Coords) : Prop :=
  k0_cond5 (View.readAt (Elt Bits) (tbM0_0).view (Rect.unit (s := S20) (k0_off1 i) S1.size (k0_off1_inb i)).toLoadRect T0 (Shape.Idx.first (numel1_S1.symm ▸ Nat.one_pos))) (View.readAt (Elt Bits) (tbM0_1).view (Rect.unit (s := S20) (k0_off1 i) S1.size (k0_off1_inb i)).toLoadRect T1 (Shape.Idx.first (numel1_S1.symm ▸ Nat.one_pos))) = 1#1

theorem ok_pfN_0_0_inb : ∀ i : grid0.Coords, ∀ a, (cc0_transform_0 k0_off1_inb numel1_S1 pfN i a + 1) * S1x4096x256.size a ≤ S2x16384x4096.size a := by decide +kernel
theorem ok_pfN_0_0 : (∀ i : grid0.Coords, ∃ h : (∀ a, (cc0_transform_0 k0_off1_inb numel1_S1 pfN i a + 1) * S1x4096x256.size a ≤ S2x16384x4096.size a), EltTy.bits .bf16 = 32 ∨ (Rect.block (s := S2x16384x4096) S1x4096x256.size (cc0_transform_0 k0_off1_inb numel1_S1 pfN i) h).WholeWords (EltTy.packing .bf16)) := fun i => ⟨ok_pfN_0_0_inb i, .inr (Affine.block_words_dvd (s := S2x16384x4096) (p := EltTy.packing .bf16) (by decide) (by decide))⟩
theorem ok_pfN_0_1_inb : ∀ i : grid0.Coords, ∀ a, (cc0_transform_1 k0_off1_inb numel1_S1 pfN i a + 1) * S1x128x2048.size a ≤ S2x2048x16384.size a := by decide +kernel
theorem ok_pfN_0_1 : (∀ i : grid0.Coords, ∃ h : (∀ a, (cc0_transform_1 k0_off1_inb numel1_S1 pfN i a + 1) * S1x128x2048.size a ≤ S2x2048x16384.size a), EltTy.bits .bf16 = 32 ∨ (Rect.block (s := S2x2048x16384) S1x128x2048.size (cc0_transform_1 k0_off1_inb numel1_S1 pfN i) h).WholeWords (EltTy.packing .bf16)) := fun i => ⟨ok_pfN_0_1_inb i, .inr (Affine.block_words_dvd (s := S2x2048x16384) (p := EltTy.packing .bf16) (by decide) (by decide))⟩
theorem ok_pfN_0_2_inb : ∀ i : grid0.Coords, ∀ a, (cc0_transform_2 k0_off1_inb numel1_S1 pfN i a + 1) * S1x128x2048.size a ≤ S2x128x16384.size a := by decide +kernel
theorem ok_pfN_0_2 : (∀ i : grid0.Coords, ∃ h : (∀ a, (cc0_transform_2 k0_off1_inb numel1_S1 pfN i a + 1) * S1x128x2048.size a ≤ S2x128x16384.size a), EltTy.bits .bf16 = 32 ∨ (Rect.block (s := S2x128x16384) S1x128x2048.size (cc0_transform_2 k0_off1_inb numel1_S1 pfN i) h).WholeWords (EltTy.packing .bf16)) := fun i => ⟨ok_pfN_0_2_inb i, .inr (Affine.block_words_dvd (s := S2x128x16384) (p := EltTy.packing .bf16) (by decide) (by decide))⟩
theorem ok_pfN_0_3_inb : ∀ i : grid0.Coords, ∀ a, (cc0_transform_3 k0_off1_inb numel1_S1 pfN i a + 1) * S1x2048x128.size a ≤ S2x16384x2048.size a := by decide +kernel
theorem ok_pfN_0_3 : (∀ i : grid0.Coords, ∃ h : (∀ a, (cc0_transform_3 k0_off1_inb numel1_S1 pfN i a + 1) * S1x2048x128.size a ≤ S2x16384x2048.size a), EltTy.bits .bf16 = 32 ∨ (Rect.block (s := S2x16384x2048) S1x2048x128.size (cc0_transform_3 k0_off1_inb numel1_S1 pfN i) h).WholeWords (EltTy.packing .bf16)) := fun i => ⟨ok_pfN_0_3_inb i, .inr (Affine.block_words_dvd (s := S2x16384x2048) (p := EltTy.packing .bf16) (by decide) (by decide))⟩
theorem ok_pfN_0_4_inb : ∀ i : grid0.Coords, ∀ a, (cc0_transform_4 k0_off1_inb numel1_S1 pfN i a + 1) * S1x4096x128.size a ≤ S2x16384x2048.size a := by decide +kernel
theorem ok_pfN_0_4 : (∀ i : grid0.Coords, ∃ h : (∀ a, (cc0_transform_4 k0_off1_inb numel1_S1 pfN i a + 1) * S1x4096x128.size a ≤ S2x16384x2048.size a), EltTy.bits .bf16 = 32 ∨ (Rect.block (s := S2x16384x2048) S1x4096x128.size (cc0_transform_4 k0_off1_inb numel1_S1 pfN i) h).WholeWords (EltTy.packing .bf16)) := fun i => ⟨ok_pfN_0_4_inb i, .inr (Affine.block_words_dvd (s := S2x16384x2048) (p := EltTy.packing .bf16) (by decide) (by decide))⟩
theorem ok_pfN : ok0 (F := Bits) pfN := ⟨ok_pfN_0_0, ok_pfN_0_1, ok_pfN_0_2, ok_pfN_0_3, ok_pfN_0_4⟩

end Cert.Kernel.Attn

end
-- ==== Proof.Attn.Kernel.Runs.lean ====
module

public import proofs.«01_k».proof.Proof.Attn.Kernel.Tables

@[expose] public section

set_option maxRecDepth 16384
set_option Elab.async false

noncomputable section

namespace Cert.Kernel.Attn

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

abbrev VO0_4 : View sig .tc .vmem S1x4096x128 .bf16 := (Memref.whole cc0_stg4_0 : Memref sig .tc .vmem S1x4096x128 .bf16).view

set_option backward.proofsInPublic true in
set_option maxHeartbeats 8000000 in
noncomputable def kernelRun0_A (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (hc0 : cFirst T0 T1 i) (hc1 : ¬(cFull T0 T1 i)) (hc2 : cDiag0 T0 T1 i) (hc3 : ¬(cDiag1 T0 T1 i)) (k0_h5 : ¬(cLast T0 T1 i)) :
    Σ' (out0 : Buf (Elt Bits) ((c : Thread nD τ).loc cc0_scratch0)), { out1 : Buf (Elt Bits) ((c : Thread nD τ).loc cc0_scratch1) //
      ∀ (y4 : (S1x4096x128.Idx → Elt Bits .bf16)) (xa0 : Buf (Elt Bits) ((c : Thread nD τ).loc cc0_scratch0)) (xa1 : Buf (Elt Bits) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Bits .bf16)) (xa0 : Buf (Elt Bits) ((c : Thread nD τ).loc cc0_scratch0)) (xa1 : Buf (Elt Bits) ((c : Thread nD τ).loc cc0_scratch1)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
noncomputable def kernelRun0_B (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (xa0 : Buf (Elt Bits) ((c : Thread nD τ).loc cc0_scratch0)) (xa1 : Buf (Elt Bits) ((c : Thread nD τ).loc cc0_scratch1)) (hc0 : ¬(cFirst T0 T1 i)) (hc1 : ¬(cFull T0 T1 i)) (hc2 : ¬(cDiag0 T0 T1 i)) (hc3 : cDiag1 T0 T1 i) (k0_h5 : cLast T0 T1 i) :
    Σ' (out0 : List (View.Piece (Elt Bits) S1x4096x128 .bf16)) (out1 : Buf (Elt Bits) ((c : Thread nD τ).loc cc0_scratch0)), { out2 : Buf (Elt Bits) ((c : Thread nD τ).loc cc0_scratch1) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Bits) f out0)
              ∗ (scM0_0.view.loc (c : Thread nD τ) ↦{fullShare} out1)
              ∗ (scM0_1.view.loc (c : Thread nD τ) ↦{fullShare} out2)) -∗ K ⟨⟩))
          ⊢ wp frame (wpE (defs₀ (F := Bits)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, _, fun K => by
    unfold owns
    rw [cc0_mla_attention_eq_skeleton]; unfold cc0_mla_attention_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = Scalar.cmpi = _; exact hc3) | (guard_target = k0_cond5 _ _ = _; exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_B_4 (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (xa0 : Buf (Elt Bits) ((c : Thread nD τ).loc cc0_scratch0)) (xa1 : Buf (Elt Bits) ((c : Thread nD τ).loc cc0_scratch1)) (hc0 : ¬(cFirst T0 T1 i)) (hc1 : ¬(cFull T0 T1 i)) (hc2 : ¬(cDiag0 T0 T1 i)) (hc3 : cDiag1 T0 T1 i) (k0_h5 : cLast T0 T1 i) (y : S1x4096x128.Idx) :
    ∃ pc ∈ (kernelRun0_B c i arg5 harg5 arg6 harg6 arg7 harg7 arg8 harg8 arg9 harg9 T0 T1 x0 x1 x2 x3 xa0 xa1 hc0 hc1 hc2 hc3 k0_h5).1, y ∈ pc.1.set :=
  View.cover_of_tiledL (kernelRun0_B c i arg5 harg5 arg6 harg6 arg7 harg7 arg8 harg8 arg9 harg9 T0 T1 x0 x1 x2 x3 xa0 xa1 hc0 hc1 hc2 hc3 k0_h5).1 S1x4096x128.size (by sl_kernel_rfl) y

def out0_B_4 (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (xa0 : Buf (Elt Bits) ((c : Thread nD τ).loc cc0_scratch0)) (xa1 : Buf (Elt Bits) ((c : Thread nD τ).loc cc0_scratch1)) (hc0 : ¬(cFirst T0 T1 i)) (hc1 : ¬(cFull T0 T1 i)) (hc2 : ¬(cDiag0 T0 T1 i)) (hc3 : cDiag1 T0 T1 i) (k0_h5 : cLast T0 T1 i) : (S1x4096x128.Idx → Elt Bits .bf16) :=
  VO0_4.read (Elt Bits) (VO0_4.writes (Elt Bits) VO0_4.junk (kernelRun0_B c i arg5 harg5 arg6 harg6 arg7 harg7 arg8 harg8 arg9 harg9 T0 T1 x0 x1 x2 x3 xa0 xa1 hc0 hc1 hc2 hc3 k0_h5).1)

set_option backward.proofsInPublic true in
set_option maxHeartbeats 8000000 in
noncomputable def kernelRun0_C (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (hc0 : cFirst T0 T1 i) (hc1 : cFull T0 T1 i) (hc2 : ¬(cDiag0 T0 T1 i)) (hc3 : ¬(cDiag1 T0 T1 i)) (k0_h5 : ¬(cLast T0 T1 i)) :
    Σ' (out0 : Buf (Elt Bits) ((c : Thread nD τ).loc cc0_scratch0)), { out1 : Buf (Elt Bits) ((c : Thread nD τ).loc cc0_scratch1) //
      ∀ (y4 : (S1x4096x128.Idx → Elt Bits .bf16)) (xa0 : Buf (Elt Bits) ((c : Thread nD τ).loc cc0_scratch0)) (xa1 : Buf (Elt Bits) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Bits .bf16)) (xa0 : Buf (Elt Bits) ((c : Thread nD τ).loc cc0_scratch0)) (xa1 : Buf (Elt Bits) ((c : Thread nD τ).loc cc0_scratch1)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
noncomputable def kernelRun0_D (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (xa0 : Buf (Elt Bits) ((c : Thread nD τ).loc cc0_scratch0)) (xa1 : Buf (Elt Bits) ((c : Thread nD τ).loc cc0_scratch1)) (hc0 : ¬(cFirst T0 T1 i)) (hc1 : cFull T0 T1 i) (hc2 : ¬(cDiag0 T0 T1 i)) (hc3 : ¬(cDiag1 T0 T1 i)) (k0_h5 : ¬(cLast T0 T1 i)) :
    Σ' (out0 : Buf (Elt Bits) ((c : Thread nD τ).loc cc0_scratch0)), { out1 : Buf (Elt Bits) ((c : Thread nD τ).loc cc0_scratch1) //
      ∀ (y4 : (S1x4096x128.Idx → Elt Bits .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Bits .bf16)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
noncomputable def kernelRun0_E (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Bits .i32)) (T1 : (S20.Idx → Elt Bits .i32))
     (x0 : (S1x4096x256.Idx → Elt Bits .bf16)) (x1 : (S1x128x2048.Idx → Elt Bits .bf16)) (x2 : (S1x128x2048.Idx → Elt Bits .bf16)) (x3 : (S1x2048x128.Idx → Elt Bits .bf16)) (xa0 : Buf (Elt Bits) ((c : Thread nD τ).loc cc0_scratch0)) (xa1 : Buf (Elt Bits) ((c : Thread nD τ).loc cc0_scratch1)) (hc0 : ¬(cFirst T0 T1 i)) (hc1 : ¬(cFull T0 T1 i)) (hc2 : cDiag0 T0 T1 i) (hc3 : ¬(cDiag1 T0 T1 i)) (k0_h5 : ¬(cLast T0 T1 i)) :
    Σ' (out0 : Buf (Elt Bits) ((c : Thread nD τ).loc cc0_scratch0)), { out1 : Buf (Elt Bits) ((c : Thread nD τ).loc cc0_scratch1) //
      ∀ (y4 : (S1x4096x128.Idx → Elt Bits .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Bits)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Bits .bf16)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

end Cert.Kernel.Attn

end
-- ==== Proof.Attn.KernelIdeal.Tables.lean ====
module

public import proofs.«01_k».proof.Defs
public import proofs.«01_k».proof.Proof.Gen.KernelIdeal
public import proofs.«01_k».proof.Proof.Gen.KernelIdeal.Launch
public import proofs.«01_k».proof.Proof.Gen.KernelIdeal.Skeleton
public import Idealize.ShloMosaic.Lib.Pipeline.Kit
public import Idealize.ShloMosaic.Lib.Pipeline.TableIdle
public import Idealize.ShloMosaic.Lib.Pipeline.FrameBody
public import Idealize.ShloMosaic.Lib.Pipeline.Frame
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Quiescent
public import Idealize.ShloMosaic.Lib.Claim
public import Idealize.ShloMosaic.PureOps.Ideal
public import Idealize.ShloMosaic.Adequacy
public import Idealize.ShloMosaic.Init

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev tbM0_0 : Memref sig .tc .smem S20 .i32 := Memref.whole main_c
abbrev tbM0_1 : Memref sig .tc .smem S20 .i32 := Memref.whole main_c_0
abbrev scM0_0 : Memref sig .tc .vmem S4096x128 .f32 := Memref.whole cc0_scratch0
abbrev scM0_1 : Memref sig .tc .vmem S4096x256 .f32 := Memref.whole cc0_scratch1

def pinT_0 : S20.Idx → BitVec 32 := fun x => (([0#32, 0#32, 1#32, 1#32, 1#32, 1#32, 2#32, 2#32, 2#32, 2#32, 2#32, 2#32, 3#32, 3#32, 3#32, 3#32, 3#32, 3#32, 3#32, 3#32] : List (BitVec 32)).getD ((x 0).val) 0#32)

def pinT_1 : S20.Idx → BitVec 32 := fun x => (([0#32, 1#32, 0#32, 1#32, 2#32, 3#32, 0#32, 1#32, 2#32, 3#32, 4#32, 5#32, 0#32, 1#32, 2#32, 3#32, 4#32, 5#32, 6#32, 7#32] : List (BitVec 32)).getD ((x 0).val) 0#32)

set_option backward.proofsInPublic true in
def pfN : pre0.Contents (Elt Ideal) := fun | ⟨0, _⟩ => pinT_0 | ⟨1, _⟩ => pinT_1 | ⟨_ + 2, h⟩ => absurd h (by simp)
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- At this point the pair table names the first key block of a row block: the accumulators start afresh. -/
abbrev cFirst (T0 T1 : S20.Idx → BitVec 32) (i : grid0.Coords) : Prop :=
  Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) 0#32)) 0#32 = 1#1

/-- At this point the pair table names a key block wholly below the diagonal. -/
abbrev cFull (T0 T1 : S20.Idx → BitVec 32) (i : grid0.Coords) : Prop :=
  Scalar.cmpi .ne (Scalar.extui (Scalar.cmpi .slt (View.readAt (Elt Ideal) (tbM0_1).view (Rect.unit (s := S20) (k0_off1 i) S1.size (k0_off1_inb i)).toLoadRect T1 (Shape.Idx.first (numel1_S1.symm ▸ Nat.one_pos))) (Scalar.muli (View.readAt (Elt Ideal) (tbM0_0).view (Rect.unit (s := S20) (k0_off1 i) S1.size (k0_off1_inb i)).toLoadRect T0 (Shape.Idx.first (numel1_S1.symm ▸ Nat.one_pos))) 2#32))) 0#32 = 1#1

/-- At this point the pair table names the first key block on the diagonal. -/
abbrev cDiag0 (T0 T1 : S20.Idx → BitVec 32) (i : grid0.Coords) : Prop :=
  Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) (Scalar.addi (Scalar.muli (View.readAt (Elt Ideal) (tbM0_0).view (Rect.unit (s := S20) (k0_off1 i) S1.size (k0_off1_inb i)).toLoadRect T0 (Shape.Idx.first (numel1_S1.symm ▸ Nat.one_pos))) 2#32) 0#32))) 0#32 = 1#1

/-- At this point the pair table names the second key block on the diagonal. -/
abbrev cDiag1 (T0 T1 : S20.Idx → BitVec 32) (i : grid0.Coords) : Prop :=
  Scalar.cmpi .ne (Scalar.extui (Scalar.cmpi .eq (View.readAt (Elt Ideal) (tbM0_1).view (Rect.unit (s := S20) (k0_off1 i) S1.size (k0_off1_inb i)).toLoadRect T1 (Shape.Idx.first (numel1_S1.symm ▸ Nat.one_pos))) (Scalar.addi (Scalar.muli (View.readAt (Elt Ideal) (tbM0_0).view (Rect.unit (s := S20) (k0_off1 i) S1.size (k0_off1_inb i)).toLoadRect T0 (Shape.Idx.first (numel1_S1.symm ▸ Nat.one_pos))) 2#32) 1#32))) 0#32 = 1#1

/-- At this point the pair table names the last key block of a row block: the result is stored. -/
abbrev cLast (T0 T1 : S20.Idx → BitVec 32) (i : grid0.Coords) : Prop :=
  k0_cond5 (View.readAt (Elt Ideal) (tbM0_0).view (Rect.unit (s := S20) (k0_off1 i) S1.size (k0_off1_inb i)).toLoadRect T0 (Shape.Idx.first (numel1_S1.symm ▸ Nat.one_pos))) (View.readAt (Elt Ideal) (tbM0_1).view (Rect.unit (s := S20) (k0_off1 i) S1.size (k0_off1_inb i)).toLoadRect T1 (Shape.Idx.first (numel1_S1.symm ▸ Nat.one_pos))) = 1#1

theorem ok_pfN_0_0_inb : ∀ i : grid0.Coords, ∀ a, (cc0_transform_0 k0_off1_inb numel1_S1 pfN i a + 1) * S1x4096x256.size a ≤ S2x16384x4096.size a := by decide +kernel
theorem ok_pfN_0_0 : (∀ i : grid0.Coords, ∃ h : (∀ a, (cc0_transform_0 k0_off1_inb numel1_S1 pfN i a + 1) * S1x4096x256.size a ≤ S2x16384x4096.size a), EltTy.bits .bf16 = 32 ∨ (Rect.block (s := S2x16384x4096) S1x4096x256.size (cc0_transform_0 k0_off1_inb numel1_S1 pfN i) h).WholeWords (EltTy.packing .bf16)) := fun i => ⟨ok_pfN_0_0_inb i, .inr (Affine.block_words_dvd (s := S2x16384x4096) (p := EltTy.packing .bf16) (by decide) (by decide))⟩
theorem ok_pfN_0_1_inb : ∀ i : grid0.Coords, ∀ a, (cc0_transform_1 k0_off1_inb numel1_S1 pfN i a + 1) * S1x128x2048.size a ≤ S2x2048x16384.size a := by decide +kernel
theorem ok_pfN_0_1 : (∀ i : grid0.Coords, ∃ h : (∀ a, (cc0_transform_1 k0_off1_inb numel1_S1 pfN i a + 1) * S1x128x2048.size a ≤ S2x2048x16384.size a), EltTy.bits .bf16 = 32 ∨ (Rect.block (s := S2x2048x16384) S1x128x2048.size (cc0_transform_1 k0_off1_inb numel1_S1 pfN i) h).WholeWords (EltTy.packing .bf16)) := fun i => ⟨ok_pfN_0_1_inb i, .inr (Affine.block_words_dvd (s := S2x2048x16384) (p := EltTy.packing .bf16) (by decide) (by decide))⟩
theorem ok_pfN_0_2_inb : ∀ i : grid0.Coords, ∀ a, (cc0_transform_2 k0_off1_inb numel1_S1 pfN i a + 1) * S1x128x2048.size a ≤ S2x128x16384.size a := by decide +kernel
theorem ok_pfN_0_2 : (∀ i : grid0.Coords, ∃ h : (∀ a, (cc0_transform_2 k0_off1_inb numel1_S1 pfN i a + 1) * S1x128x2048.size a ≤ S2x128x16384.size a), EltTy.bits .bf16 = 32 ∨ (Rect.block (s := S2x128x16384) S1x128x2048.size (cc0_transform_2 k0_off1_inb numel1_S1 pfN i) h).WholeWords (EltTy.packing .bf16)) := fun i => ⟨ok_pfN_0_2_inb i, .inr (Affine.block_words_dvd (s := S2x128x16384) (p := EltTy.packing .bf16) (by decide) (by decide))⟩
theorem ok_pfN_0_3_inb : ∀ i : grid0.Coords, ∀ a, (cc0_transform_3 k0_off1_inb numel1_S1 pfN i a + 1) * S1x2048x128.size a ≤ S2x16384x2048.size a := by decide +kernel
theorem ok_pfN_0_3 : (∀ i : grid0.Coords, ∃ h : (∀ a, (cc0_transform_3 k0_off1_inb numel1_S1 pfN i a + 1) * S1x2048x128.size a ≤ S2x16384x2048.size a), EltTy.bits .bf16 = 32 ∨ (Rect.block (s := S2x16384x2048) S1x2048x128.size (cc0_transform_3 k0_off1_inb numel1_S1 pfN i) h).WholeWords (EltTy.packing .bf16)) := fun i => ⟨ok_pfN_0_3_inb i, .inr (Affine.block_words_dvd (s := S2x16384x2048) (p := EltTy.packing .bf16) (by decide) (by decide))⟩
theorem ok_pfN_0_4_inb : ∀ i : grid0.Coords, ∀ a, (cc0_transform_4 k0_off1_inb numel1_S1 pfN i a + 1) * S1x4096x128.size a ≤ S2x16384x2048.size a := by decide +kernel
theorem ok_pfN_0_4 : (∀ i : grid0.Coords, ∃ h : (∀ a, (cc0_transform_4 k0_off1_inb numel1_S1 pfN i a + 1) * S1x4096x128.size a ≤ S2x16384x2048.size a), EltTy.bits .bf16 = 32 ∨ (Rect.block (s := S2x16384x2048) S1x4096x128.size (cc0_transform_4 k0_off1_inb numel1_S1 pfN i) h).WholeWords (EltTy.packing .bf16)) := fun i => ⟨ok_pfN_0_4_inb i, .inr (Affine.block_words_dvd (s := S2x16384x2048) (p := EltTy.packing .bf16) (by decide) (by decide))⟩
theorem ok_pfN : ok0 (F := Ideal) pfN := ⟨ok_pfN_0_0, ok_pfN_0_1, ok_pfN_0_2, ok_pfN_0_3, ok_pfN_0_4⟩

end Cert.KernelIdeal.Attn

end
-- ==== Proof.Attn.KernelIdeal.Runs.lean ====
module

public import proofs.«01_k».proof.Proof.Attn.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev VO0_4 : View sig .tc .vmem S1x4096x128 .bf16 := (Memref.whole cc0_stg4_0 : Memref sig .tc .vmem S1x4096x128 .bf16).view

set_option backward.proofsInPublic true in
set_option maxHeartbeats 8000000 in
noncomputable def kernelRun0_A (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (hc0 : cFirst T0 T1 i) (hc1 : ¬(cFull T0 T1 i)) (hc2 : cDiag0 T0 T1 i) (hc3 : ¬(cDiag1 T0 T1 i)) (k0_h5 : ¬(cLast T0 T1 i)) :
    Σ' (out0 : Buf (Elt Ideal) ((c : Thread nD τ).loc cc0_scratch0)), { out1 : Buf (Elt Ideal) ((c : Thread nD τ).loc cc0_scratch1) //
      ∀ (y4 : (S1x4096x128.Idx → Elt Ideal .bf16)) (xa0 : Buf (Elt Ideal) ((c : Thread nD τ).loc cc0_scratch0)) (xa1 : Buf (Elt Ideal) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Ideal .bf16)) (xa0 : Buf (Elt Ideal) ((c : Thread nD τ).loc cc0_scratch0)) (xa1 : Buf (Elt Ideal) ((c : Thread nD τ).loc cc0_scratch1)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(Scalar.cmpi = _); exact hc1) | (guard_target = Scalar.cmpi = _; exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
noncomputable def kernelRun0_B (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (xa0 : Buf (Elt Ideal) ((c : Thread nD τ).loc cc0_scratch0)) (xa1 : Buf (Elt Ideal) ((c : Thread nD τ).loc cc0_scratch1)) (hc0 : ¬(cFirst T0 T1 i)) (hc1 : ¬(cFull T0 T1 i)) (hc2 : ¬(cDiag0 T0 T1 i)) (hc3 : cDiag1 T0 T1 i) (k0_h5 : cLast T0 T1 i) :
    Σ' (out0 : List (View.Piece (Elt Ideal) S1x4096x128 .bf16)) (out1 : Buf (Elt Ideal) ((c : Thread nD τ).loc cc0_scratch0)), { out2 : Buf (Elt Ideal) ((c : Thread nD τ).loc cc0_scratch1) //
      ∀ (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ (∃ d, owns (c : Thread nD τ) arg9 fullShare d)
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ (∃ f, arg9.view.loc (c : Thread nD τ) ↦[arg9.view.set]{fullShare} arg9.view.writes (Elt Ideal) f out0)
              ∗ (scM0_0.view.loc (c : Thread nD τ) ↦{fullShare} out1)
              ∗ (scM0_1.view.loc (c : Thread nD τ) ↦{fullShare} out2)) -∗ K ⟨⟩))
          ⊢ wp frame (wpE (defs₀ (F := Ideal)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, _, fun K => by
    unfold owns
    rw [cc0_mla_attention_eq_skeleton]; unfold cc0_mla_attention_skel
    iintro ⟨H0, H1, H2, H3, HT0, HT1, ⟨%d4, %f4, -, HO4⟩, HS0, HS1, Hk⟩
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = ¬(Scalar.cmpi = _); exact hc2) | (guard_target = Scalar.cmpi = _; exact hc3) | (guard_target = k0_cond5 _ _ = _; exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

theorem cover0_B_4 (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (xa0 : Buf (Elt Ideal) ((c : Thread nD τ).loc cc0_scratch0)) (xa1 : Buf (Elt Ideal) ((c : Thread nD τ).loc cc0_scratch1)) (hc0 : ¬(cFirst T0 T1 i)) (hc1 : ¬(cFull T0 T1 i)) (hc2 : ¬(cDiag0 T0 T1 i)) (hc3 : cDiag1 T0 T1 i) (k0_h5 : cLast T0 T1 i) (y : S1x4096x128.Idx) :
    ∃ pc ∈ (kernelRun0_B c i arg5 harg5 arg6 harg6 arg7 harg7 arg8 harg8 arg9 harg9 T0 T1 x0 x1 x2 x3 xa0 xa1 hc0 hc1 hc2 hc3 k0_h5).1, y ∈ pc.1.set :=
  View.cover_of_tiledL (kernelRun0_B c i arg5 harg5 arg6 harg6 arg7 harg7 arg8 harg8 arg9 harg9 T0 T1 x0 x1 x2 x3 xa0 xa1 hc0 hc1 hc2 hc3 k0_h5).1 S1x4096x128.size (by sl_kernel_rfl) y

def out0_B_4 (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (xa0 : Buf (Elt Ideal) ((c : Thread nD τ).loc cc0_scratch0)) (xa1 : Buf (Elt Ideal) ((c : Thread nD τ).loc cc0_scratch1)) (hc0 : ¬(cFirst T0 T1 i)) (hc1 : ¬(cFull T0 T1 i)) (hc2 : ¬(cDiag0 T0 T1 i)) (hc3 : cDiag1 T0 T1 i) (k0_h5 : cLast T0 T1 i) : (S1x4096x128.Idx → Elt Ideal .bf16) :=
  VO0_4.read (Elt Ideal) (VO0_4.writes (Elt Ideal) VO0_4.junk (kernelRun0_B c i arg5 harg5 arg6 harg6 arg7 harg7 arg8 harg8 arg9 harg9 T0 T1 x0 x1 x2 x3 xa0 xa1 hc0 hc1 hc2 hc3 k0_h5).1)

set_option backward.proofsInPublic true in
set_option maxHeartbeats 8000000 in
noncomputable def kernelRun0_C (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (hc0 : cFirst T0 T1 i) (hc1 : cFull T0 T1 i) (hc2 : ¬(cDiag0 T0 T1 i)) (hc3 : ¬(cDiag1 T0 T1 i)) (k0_h5 : ¬(cLast T0 T1 i)) :
    Σ' (out0 : Buf (Elt Ideal) ((c : Thread nD τ).loc cc0_scratch0)), { out1 : Buf (Elt Ideal) ((c : Thread nD τ).loc cc0_scratch1) //
      ∀ (y4 : (S1x4096x128.Idx → Elt Ideal .bf16)) (xa0 : Buf (Elt Ideal) ((c : Thread nD τ).loc cc0_scratch0)) (xa1 : Buf (Elt Ideal) ((c : Thread nD τ).loc cc0_scratch1)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Ideal .bf16)) (xa0 : Buf (Elt Ideal) ((c : Thread nD τ).loc cc0_scratch0)) (xa1 : Buf (Elt Ideal) ((c : Thread nD τ).loc cc0_scratch1)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = Scalar.cmpi = _; exact hc1) | (guard_target = ¬(Scalar.cmpi = _); exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
noncomputable def kernelRun0_D (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (xa0 : Buf (Elt Ideal) ((c : Thread nD τ).loc cc0_scratch0)) (xa1 : Buf (Elt Ideal) ((c : Thread nD τ).loc cc0_scratch1)) (hc0 : ¬(cFirst T0 T1 i)) (hc1 : cFull T0 T1 i) (hc2 : ¬(cDiag0 T0 T1 i)) (hc3 : ¬(cDiag1 T0 T1 i)) (k0_h5 : ¬(cLast T0 T1 i)) :
    Σ' (out0 : Buf (Elt Ideal) ((c : Thread nD τ).loc cc0_scratch0)), { out1 : Buf (Elt Ideal) ((c : Thread nD τ).loc cc0_scratch1) //
      ∀ (y4 : (S1x4096x128.Idx → Elt Ideal .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Ideal .bf16)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = Scalar.cmpi = _; exact hc1) | (guard_target = ¬(Scalar.cmpi = _); exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

set_option backward.proofsInPublic true in
set_option maxHeartbeats 8000000 in
noncomputable def kernelRun0_E (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 : (S20.Idx → Elt Ideal .i32)) (T1 : (S20.Idx → Elt Ideal .i32))
     (x0 : (S1x4096x256.Idx → Elt Ideal .bf16)) (x1 : (S1x128x2048.Idx → Elt Ideal .bf16)) (x2 : (S1x128x2048.Idx → Elt Ideal .bf16)) (x3 : (S1x2048x128.Idx → Elt Ideal .bf16)) (xa0 : Buf (Elt Ideal) ((c : Thread nD τ).loc cc0_scratch0)) (xa1 : Buf (Elt Ideal) ((c : Thread nD τ).loc cc0_scratch1)) (hc0 : ¬(cFirst T0 T1 i)) (hc1 : ¬(cFull T0 T1 i)) (hc2 : cDiag0 T0 T1 i) (hc3 : ¬(cDiag1 T0 T1 i)) (k0_h5 : ¬(cLast T0 T1 i)) :
    Σ' (out0 : Buf (Elt Ideal) ((c : Thread nD τ).loc cc0_scratch0)), { out1 : Buf (Elt Ideal) ((c : Thread nD τ).loc cc0_scratch1) //
      ∀ (y4 : (S1x4096x128.Idx → Elt Ideal .bf16)) (K : PUnit → sProp 𝕄),
        iprop((arg5.view.loc (c : Thread nD τ) ↦[arg5.view.set]{fullShare} arg5.view.rep x0)
          ∗ (arg6.view.loc (c : Thread nD τ) ↦[arg6.view.set]{fullShare} arg6.view.rep x1)
          ∗ (arg7.view.loc (c : Thread nD τ) ↦[arg7.view.set]{fullShare} arg7.view.rep x2)
          ∗ (arg8.view.loc (c : Thread nD τ) ↦[arg8.view.set]{fullShare} arg8.view.rep x3)
          ∗ (tbM0_0.view.loc (c : Thread nD τ) ↦{fullShare.right} T0)
          ∗ (tbM0_1.view.loc (c : Thread nD τ) ↦{fullShare.right} T1)
          ∗ owns (c : Thread nD τ) arg9 fullShare y4
          ∗ (scM0_0.view.loc (c : Thread nD τ) ↦{fullShare} xa0)
          ∗ (scM0_1.view.loc (c : Thread nD τ) ↦{fullShare} xa1)
          ∗ (iprop((arg5.view.loc (c : Thread nD τ) ↦[arg5.view.set]{fullShare} arg5.view.rep x0)
              ∗ (arg6.view.loc (c : Thread nD τ) ↦[arg6.view.set]{fullShare} arg6.view.rep x1)
              ∗ (arg7.view.loc (c : Thread nD τ) ↦[arg7.view.set]{fullShare} arg7.view.rep x2)
              ∗ (arg8.view.loc (c : Thread nD τ) ↦[arg8.view.set]{fullShare} arg8.view.rep x3)
              ∗ (tbM0_0.view.loc (c : Thread nD τ) ↦{fullShare.right} T0)
              ∗ (tbM0_1.view.loc (c : Thread nD τ) ↦{fullShare.right} T1)
              ∗ owns (c : Thread nD τ) arg9 fullShare y4
              ∗ (scM0_0.view.loc (c : Thread nD τ) ↦{fullShare} out0)
              ∗ (scM0_1.view.loc (c : Thread nD τ) ↦{fullShare} out1)) -∗ K ⟨⟩))
          ⊢ wp frame (wpE (defs₀ (F := Ideal)) Variants.none c none) Set.univ (cc0_mla_attention i tbM0_0 (Memref.isWhole_whole _) tbM0_1 (Memref.isWhole_whole _) arg5 harg5 arg6 harg6 arg7 harg7 arg8 harg8 arg9 harg9 scM0_0 (Memref.isWhole_whole _) scM0_1 (Memref.isWhole_whole _)) K } :=
  ⟨_, _, fun (y4 : (S1x4096x128.Idx → Elt Ideal .bf16)) K => by
    unfold owns
    rw [cc0_mla_attention_eq_skeleton]; unfold cc0_mla_attention_skel
    iintro ⟨H0, H1, H2, H3, HT0, HT1, ⟨%f4, %hf4, HO4⟩, HS0, HS1, Hk⟩
    obtain rfl := harg9.eq_unread hf4
    have hS0 : scM0_0.IsWhole := Memref.isWhole_whole _
    have hS1 : scM0_1.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(Scalar.cmpi = _); exact hc1) | (guard_target = Scalar.cmpi = _; exact hc2) | (guard_target = ¬(Scalar.cmpi = _); exact hc3) | (guard_target = ¬(k0_cond5 _ _ = _); exact k0_h5))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg9.read_unread _
      iexact HO4
    isplitl [HS0]; · iexact HS0
    iexact HS1⟩

end Cert.KernelIdeal.Attn

end
-- ==== Proof.Attn.Block.lean ====
module

public import proofs.«01_k».proof.Proof.Attn.Softmax
public import Idealize.ShloMosaic.Lib.Pointwise
public import Idealize.ShloMosaic.Lib.MatmulPlain
public import Idealize.ShloMosaic.Lib.WordCmp
public import Idealize.ShloMosaic.Lib.Pipeline.Value

/-! One step of the online softmax on a block of rows, as the kernel writes it, at any number of rows and columns, and
what its results hold at an index. -/

@[expose] public section

set_option maxRecDepth 16384

noncomputable section

namespace Cert.Attn

open Idealize.ShloMosaic

/-- A matrix of `R` rows and `C` columns. -/
abbrev mat (R C : ℕ) : Shape := ⟨2, ![R, C]⟩

/-- What the operations on a block of `R` rows and `C = 128 (n + 1)` columns ask of their shapes. -/
structure Fits (R n C : ℕ) : Prop where
  cols : C = 128 * (n + 1)
  tile : ∀ j, j < n + 1 → (mat R C).Slices ![0, 128 * j] (mat R 128)
  red : (mat R 128).Reduces [1] ⟨1, ![R]⟩
  col : (⟨1, ![R]⟩ : Shape).ShapeCasts (mat R 1)
  spread : (mat R 1).Broadcasts (mat R 128)
  wide : ∀ f : Fin (n + 1) → ((mat R 128).Idx → EReal),
    Shape.Concatenates ((List.ofFn fun j => (⟨mat R 128, f j⟩ : (s : Shape) × (s.Idx → EReal))).map (·.1)) (mat R C) 1
  twice : Shape.Concatenates [mat R 128, mat R 128] (mat R 256) 1
  same : (mat R 256).ShapeCasts (mat R 256)

variable {R n C : ℕ} (h : Fits R n C)

/-- The 128 columns from `128 j`. -/
def tile (s : FVec Ideal (mat R C) .f32) (j : ℕ) (hj : j < n + 1) : FVec Ideal (mat R 128) .f32 :=
  extractStridedSlice (mat R 128) ![0, 128 * j] s (h.tile j hj)

/-- The running maximum of the rows with the block's scores taken in. -/
def newMax (s : FVec Ideal (mat R C) .f32) (mp : FVec Ideal (mat R 128) .f32) : FVec Ideal (mat R 128) .f32 :=
  maximumf mp (broadcastTo (mat R 128) (shapeCast (mat R 1)
    (multiReduction .maximumf [1] ⟨1, ![R]⟩
      ((List.ofFn fun j : Fin n => tile h s (j.val + 1) (Nat.succ_lt_succ j.isLt)).foldl maximumf (tile h s 0 (Nat.succ_pos n)))
      0xFF800000#32 h.red (.inl rfl) rfl) h.col) h.spread)

/-- The block's weights under the maximum `M`. -/
def weights (s : FVec Ideal (mat R C) .f32) (M : FVec Ideal (mat R 128) .f32) : FVec Ideal (mat R C) .bf16 :=
  concatenate (mat R C) 1 (List.ofFn fun j : Fin (n + 1) =>
    ⟨mat R 128, exp (truncf .bf16 (subf (tile h s j.val j.isLt) M) (by decide))⟩) (h.wide _)

/-- The running sums of the rows, rescaled, with the block's weights taken in. -/
def newAcc (s : FVec Ideal (mat R C) .f32) (mp M : FVec Ideal (mat R 128) .f32) (ap : FVec Ideal (mat R 256) .f32)
    (v : FVec Ideal (mat C 256) .bf16) : FVec Ideal (mat R 256) .f32 :=
  shapeCast (mat R 256) (addf (mulf ap (concatenate (mat R 256) 1 [⟨mat R 128, exp (subf mp M)⟩, ⟨mat R 128, exp (subf mp M)⟩] h.twice))
    (matmul (DotDims.plain R C 256) none (weights h s M) v (constant (mat R 256) .f32 0x00000000#32))) h.same

theorem tile_apply (s : FVec Ideal (mat R C) .f32) (j : ℕ) (hj : j < n + 1) (r : Fin R) (l : Fin 128) (k : Fin C)
    (hk : k.val = 128 * j + l.val) : tile h s j hj (ix2 r l) = s (ix2 r k) :=
  extractStridedSlice_apply _ s _ _ _ (Fin.forall_fin_two.mpr ⟨(Nat.zero_add _).symm, hk⟩)

theorem foldl_maximumf_apply {S : Shape} (L : List (FVec Ideal S .f32)) (a : FVec Ideal S .f32) (i : S.Idx) :
    L.foldl maximumf a i = (L.map (· i)).foldl max (a i) := by
  induction L generalizing a with
  | nil => rfl
  | cons b L ih => exact ih _

theorem foldl_max_ofFn (a : EReal) : ∀ (n : ℕ) (g : Fin n → EReal), (List.ofFn g).foldl max a = max a (Finset.univ.sup g) := by
  intro n
  induction n generalizing a with
  | zero => intro g; simp
  | succ n ih =>
    intro g
    rw [List.ofFn_succ, List.foldl_cons, ih, Fin.univ_succ, Finset.sup_cons, Finset.sup_map, max_assoc]
    rfl

theorem ofBits_negInf : FloatOps.ofBits (F := Ideal) .f32 0xFF800000#32 = (⊥ : EReal) := by
  show Ideal.ofBits .f32 0xFF800000#32 = ⊥
  simp [Ideal.ofBits, Ideal.ieee]

theorem fold_max_bot {ι : Type} (t : Finset ι) (f : ι → EReal) : t.fold max ⊥ f = t.sup f := rfl

theorem newMax_apply (s : FVec Ideal (mat R C) .f32) (mp : FVec Ideal (mat R 128) .f32) (r : Fin R) (l : Fin 128) :
    newMax h s mp (ix2 r l) = max (mp (ix2 r l)) (Finset.univ.sup fun k : Fin C => s (ix2 r k)) := by
  have hC := h.cols
  unfold newMax
  show max (mp (ix2 r l)) _ = _
  congr 1
  rw [broadcastTo_apply _ _ _ (ix2 r 0) (Fin.forall_fin_two.mpr ⟨by
      show r.val = if R = 1 then 0 else r.val
      split
      · have := r.isLt; omega
      · rfl, rfl⟩)]
  rw [shapeCast_apply _ _ _ (ix1 r) (by
    rw [Shape.rowMajor_val_one, Shape.rowMajor_val_two]; show r.val = r.val * 1 + 0; omega)]
  refine (Ideal.multiReduction_maximumf_single _ _ _ _ _ _).trans ?_
  rw [ofBits_negInf, fold_max_bot]
  apply le_antisymm
  · refine Finset.sup_le fun (l' : Fin 128) _ => ?_
    have hl : h.red.lift (ix1 r) l' = ix2 r l' := by
      funext a; apply Fin.ext; match a with | ⟨0, _⟩ => rfl | ⟨1, _⟩ => rfl
    show List.foldl maximumf _ _ (h.red.lift (ix1 r) l') ≤ _
    rw [hl, foldl_maximumf_apply, List.map_ofFn, foldl_max_ofFn]
    refine max_le ?_ (Finset.sup_le fun j _ => ?_)
    · rw [tile_apply h s 0 _ r l' ⟨l'.val, by omega⟩ (by simp)]
      exact Finset.le_sup (f := fun k : Fin C => s (ix2 r k)) (Finset.mem_univ _)
    · show tile h s (j.val + 1) (Nat.succ_lt_succ j.isLt) _ ≤ _
      rw [tile_apply h s _ _ r l' ⟨128 * (j.val + 1) + l'.val, by have := j.isLt; have := l'.isLt; omega⟩ rfl]
      exact Finset.le_sup (f := fun k : Fin C => s (ix2 r k)) (Finset.mem_univ _)
  · refine Finset.sup_le fun k _ => ?_
    have hk := k.isLt
    let l' : Fin 128 := ⟨k.val % 128, Nat.mod_lt _ (by omega)⟩
    refine le_trans ?_ (Finset.le_sup (Finset.mem_univ l'))
    have hl : h.red.lift (ix1 r) l' = ix2 r l' := by
      funext a; apply Fin.ext; match a with | ⟨0, _⟩ => rfl | ⟨1, _⟩ => rfl
    show _ ≤ List.foldl maximumf _ _ (h.red.lift (ix1 r) l')
    rw [hl, foldl_maximumf_apply, List.map_ofFn, foldl_max_ofFn]
    rcases Nat.eq_zero_or_pos (k.val / 128) with h0 | h0
    · refine le_max_of_le_left (le_of_eq ?_)
      rw [tile_apply h s 0 _ r l' k (by show k.val = 128 * 0 + k.val % 128; omega)]
    · refine le_max_of_le_right ?_
      have hj : k.val / 128 - 1 < n := by omega
      refine le_trans (le_of_eq ?_) (Finset.le_sup (Finset.mem_univ (⟨k.val / 128 - 1, hj⟩ : Fin n)))
      show _ = tile h s (k.val / 128 - 1 + 1) (Nat.succ_lt_succ hj) _
      rw [tile_apply h s _ _ r l' k (by show k.val = 128 * (k.val / 128 - 1 + 1) + k.val % 128; omega)]

/-- The lane of a column. -/
abbrev lane (c : ℕ) : Fin 128 := ⟨c % 128, Nat.mod_lt _ (by decide)⟩

theorem weights_apply (s : FVec Ideal (mat R C) .f32) (M : FVec Ideal (mat R 128) .f32) (r : Fin R) (k : Fin C) :
    weights h s M (ix2 r k) = Ideal.exp (s (ix2 r k) - M (ix2 r (lane k))) := by
  have hC := h.cols
  have hk := k.isLt
  unfold weights
  rw [concatenate_ofFn_apply (t := mat R C) (s₁ := mat R 128) 1 (N := n + 1) _ _ rfl 128 rfl (ix2 r k) ⟨k.val / 128, by omega⟩ rfl
    (ix2 r (lane k)) rfl (by
      intro b hb
      match b with
      | ⟨0, _⟩ => rfl
      | ⟨1, _⟩ => exact absurd rfl hb)]
  show Ideal.exp (tile h s _ _ (ix2 r (lane k)) - _) = _
  rw [tile_apply h s _ _ r (lane k) k (by show k.val = 128 * (k.val / 128) + k.val % 128; omega)]

theorem newAcc_apply (s : FVec Ideal (mat R C) .f32) (mp M : FVec Ideal (mat R 128) .f32) (ap : FVec Ideal (mat R 256) .f32)
    (v : FVec Ideal (mat C 256) .bf16) (r : Fin R) (c : Fin 256) :
    newAcc h s mp M ap v (ix2 r c) = ap (ix2 r c) * Ideal.exp (mp (ix2 r (lane c)) - M (ix2 r (lane c)))
      + ∑ k : Fin C, Ideal.exp (s (ix2 r k) - M (ix2 r (lane k))) * v (ix2 k c) := by
  unfold newAcc
  rw [shapeCast_self]
  show ap (ix2 r c) * _ + FloatOps.matmul _ _ _ _ _ _ = _
  congr 1
  · congr 1
    by_cases hc : c.val < 128
    · refine concatenate_pair_apply_left (t := mat R 256) (s₁ := mat R 128) (s₂ := mat R 128) 1 _ _ h.twice (ix2 r c) rfl
        (ix2 r (lane c)) fun b => ?_
      match b with
      | ⟨0, _⟩ => rfl
      | ⟨1, _⟩ => exact Nat.mod_eq_of_lt hc
    · refine concatenate_pair_apply_right (t := mat R 256) (s₁ := mat R 128) (s₂ := mat R 128) 1 _ _ h.twice (ix2 r c) rfl rfl
        (ix2 r (lane c)) (fun b hb => ?_) ?_
      · match b with
        | ⟨0, _⟩ => rfl
        | ⟨1, _⟩ => exact absurd rfl hb
      · show c.val % 128 + 128 = c.val
        have := c.isLt; omega
  · refine (Ideal.matmul_plain_apply none _ _ _ r c).trans ?_
    show Ideal.ofBits .f32 0x00000000#32 + _ = _
    rw [Ideal.ofBits_zero_f32, zero_add]
    exact Finset.sum_congr rfl fun k _ => congrArg (· * _) (weights_apply h s M r k)

theorem fits (R n : ℕ) (hn : 0 < n) : Fits R n (128 * (n + 1)) where
  cols := rfl
  tile j hj := ⟨rfl, Fin.forall_fin_two.mpr ⟨by show 0 + R ≤ R; omega, by show 128 * j + 128 ≤ 128 * (n + 1); omega⟩⟩
  red := ⟨rfl, Nat.one_pos, fun b => by match b with | ⟨0, _⟩ => rfl⟩
  col := by show Shape.numel _ = Shape.numel _; simp [Shape.numel]
  spread := ⟨Nat.le_refl _, Fin.forall_fin_two.mpr ⟨.inr fun _ => rfl, .inl rfl⟩⟩
  wide f := by
    refine ⟨by simp; omega, fun s hs => ?_, ?_⟩
    · simp only [List.map_ofFn, List.mem_ofFn, Function.comp] at hs
      obtain ⟨_, rfl⟩ := hs
      exact ⟨rfl, Fin.forall_fin_two.mpr ⟨fun _ => rfl, fun h => absurd rfl h⟩⟩
    · simp only [List.map_ofFn, Function.comp_def]
      show (List.ofFn fun _ : Fin (n + 1) => 128).sum = 128 * (n + 1)
      simp [List.sum_ofFn]; omega
  twice := ⟨Nat.le_refl _, fun s hs => by
    have : s = mat R 128 := by simpa using hs
    subst this
    exact ⟨rfl, Fin.forall_fin_two.mpr ⟨fun _ => rfl, fun h => absurd rfl h⟩⟩, rfl⟩
  same := rfl

/-- The scores of a block of query rows against the columns of `kc`. -/
def scoresOf (q : FVec Ideal ⟨3, ![1, R, 256]⟩ .bf16) (hq : (⟨3, ![1, R, 256]⟩ : Shape).ShapeCasts (mat R 256))
    (kc : FVec Ideal (mat 256 C) .bf16) : FVec Ideal (mat R C) .f32 :=
  matmul (DotDims.plain R 256 C) none (shapeCast (mat R 256) q hq) kc (constant (mat R C) .f32 0x00000000#32)

theorem scoresOf_apply (q : FVec Ideal ⟨3, ![1, R, 256]⟩ .bf16) (hq : (⟨3, ![1, R, 256]⟩ : Shape).ShapeCasts (mat R 256))
    (kc : FVec Ideal (mat 256 C) .bf16) (r : Fin R) (k : Fin C) :
    scoresOf q hq kc (ix2 r k) = ∑ d : Fin 256, q (ix3 0 r d) * kc (ix2 d k) := by
  refine (Ideal.matmul_plain_apply none _ _ _ r k).trans ?_
  show Ideal.ofBits .f32 0x00000000#32 + _ = _
  rw [Ideal.ofBits_zero_f32, zero_add]
  refine Finset.sum_congr rfl fun d _ => congrArg (· * _) ?_
  refine shapeCast_apply _ _ _ (ix3 0 r d) ?_
  rw [Shape.rowMajor_val_two, Shape.rowMajor_val_three]
  show (0 * R + r.val) * 256 + d.val = r.val * 256 + d.val
  rw [Nat.zero_mul, Nat.zero_add]

/-- The scores with the columns after the row's own left out: rows count from `r0`, columns from `c0`. -/
def masked (s : FVec Ideal (mat R C) .f32) (h0 : (mat R C).Iotas .tc 32 [0]) (h1 : (mat R C).Iotas .tc 32 [1]) (r0 c0 : BitVec 32) :
    FVec Ideal (mat R C) .f32 :=
  select (cmpi .sle (addi (broadcast (mat R C) c0) (iota .tc (mat R C) 32 [1] h1)) (addi (broadcast (mat R C) r0) (iota .tc (mat R C) 32 [0] h0))) s
    (broadcast (mat R C) (Scalar.ofBits .f32 0xFF800000#32))

theorem masked_apply (s : FVec Ideal (mat R C) .f32) (h0 : (mat R C).Iotas .tc 32 [0]) (h1 : (mat R C).Iotas .tc 32 [1])
    (r0 c0 : ℕ) (hr : r0 + R ≤ 2 ^ 20) (hc : c0 + C ≤ 2 ^ 20) (r : Fin R) (k : Fin C) :
    masked s h0 h1 (BitVec.ofNat 32 r0) (BitVec.ofNat 32 c0) (ix2 r k) = if c0 + k.val ≤ r0 + r.val then s (ix2 r k) else ⊥ := by
  have hr' := r.isLt
  have hk' := k.isLt
  have e1 : iota .tc (mat R C) 32 [1] h1 (ix2 r k) = BitVec.ofNat 32 k.val := iota_single_apply _ _ _ _ _ _
  have e0 : iota .tc (mat R C) 32 [0] h0 (ix2 r k) = BitVec.ofNat 32 r.val := iota_single_apply _ _ _ _ _ _
  have hle : IntOp.cmpi .sle (BitVec.ofNat 32 c0 + BitVec.ofNat 32 k.val) (BitVec.ofNat 32 r0 + BitVec.ofNat 32 r.val)
      = if c0 + k.val ≤ r0 + r.val then 1#1 else 0#1 := by
    rw [← BitVec.ofNat_add, ← BitVec.ofNat_add, WordCmp.cmpi_sle_ofNat (by omega) (by omega)]
    by_cases hh : c0 + k.val ≤ r0 + r.val <;> simp [hh]
  show Scalar.select (IntOp.cmpi .sle (BitVec.ofNat 32 c0 + iota .tc (mat R C) 32 [1] h1 (ix2 r k)) (BitVec.ofNat 32 r0 + iota .tc (mat R C) 32 [0] h0 (ix2 r k)))
    (s (ix2 r k)) (FloatOps.ofBits (F := Ideal) .f32 0xFF800000#32) = _
  rw [e1, e0, hle, ofBits_negInf]
  split <;> rfl

end Cert.Attn

end
-- ==== Proof.Attn.KernelIdeal.Steps.lean ====
module

public import proofs.«01_k».proof.Proof.Attn.KernelIdeal.Runs
public import proofs.«01_k».proof.Proof.Attn.Block
public import Idealize.ShloMosaic.Lib.WritesUnit
public import Idealize.ShloMosaic.Lib.VecWindow
public import Idealize.ShloMosaic.Lib.IdealHost
import all proofs.«01_k».proof.Proof.Attn.KernelIdeal.Runs

/-! The blocks of rows that a grid step works on: what its loads hold, and how the written pieces add up. -/

@[expose] public section

set_option maxRecDepth 65536

noncomputable section

namespace Cert.KernelIdeal.Attn

open Cert.KernelIdeal Cert.KernelIdeal.Gen
open Idealize.ShloMosaic Cert.Attn
open Idealize.ShloMosaic.TcCoe

def kcat (a b : FVec Ideal S1x128x2048 .bf16) : FVec Ideal (mat 256 2048) .bf16 := k0_pay6 a b
def vcat (a : FVec Ideal S1x2048x128 .bf16) : FVec Ideal (mat 2048 256) .bf16 := k0_pay7 a

theorem inbQ (o R : ℕ) (h : o + R ≤ 4096) : ∀ a, (![0, o, 0] : Fin 3 → ℕ) a + (![1, R, 256] : Fin 3 → ℕ) a ≤ S1x4096x256.size a := by
  intro a; match a with
  | ⟨0, _⟩ => exact Nat.le_refl 1
  | ⟨1, _⟩ => exact h
  | ⟨2, _⟩ => exact Nat.le_refl 256

theorem inbM (o R L W : ℕ) (h : o + R ≤ L) : ∀ a, (![o, 0] : Fin 2 → ℕ) a + (![R, W] : Fin 2 → ℕ) a ≤ (mat L W).size a := by
  intro a; match a with
  | ⟨0, _⟩ => exact h
  | ⟨1, _⟩ => exact Nat.le_of_eq (Nat.zero_add W)

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

/-- The query rows from `o` as the body loads them. -/
abbrev qAt (o R : ℕ) (h : o + R ≤ 4096) : FVec Ideal ⟨3, ![1, R, 256]⟩ .bf16 :=
  View.readAt (Elt Ideal) arg5.view (Rect.unit (s := S1x4096x256) ![0, o, 0] ![1, R, 256] (inbQ o R h)).toLoadRect (arg5.view.rep x0)

/-- The key columns as the body loads them, both parts under one another. -/
abbrev kAt : FVec Ideal (mat 256 2048) .bf16 := kcat
    (View.readAt (Elt Ideal) arg6.view (Rect.unit (s := S1x128x2048) ![0, 0, 0] S1x128x2048.size inb_S1x128x2048_S1x128x2048_0_0_0).toLoadRect (arg6.view.rep x1))
    (View.readAt (Elt Ideal) arg7.view (Rect.unit (s := S1x128x2048) ![0, 0, 0] S1x128x2048.size inb_S1x128x2048_S1x128x2048_0_0_0).toLoadRect (arg7.view.rep x2))

/-- The value rows as the body loads them, with their columns of ones. -/
abbrev vAt : FVec Ideal (mat 2048 256) .bf16 := vcat
    (View.readAt (Elt Ideal) arg8.view (Rect.unit (s := S1x2048x128) ![0, 0, 0] S1x2048x128.size inb_S1x2048x128_S1x2048x128_0_0_0).toLoadRect (arg8.view.rep x3))

/-- A block of the maxima's rows before the step. -/
abbrev mAt (o R : ℕ) (h : o + R ≤ 4096) : FVec Ideal (mat R 128) .f32 :=
  View.readAt (Elt Ideal) scM0_0.view (Rect.unit (s := S4096x128) ![o, 0] ![R, 128] (inbM o R 4096 128 h)).toLoadRect xa0

/-- A block of the sums' rows before the step. -/
abbrev aAt (o R : ℕ) (h : o + R ≤ 4096) : FVec Ideal (mat R 256) .f32 :=
  View.readAt (Elt Ideal) scM0_1.view (Rect.unit (s := S4096x256) ![o, 0] ![R, 256] (inbM o R 4096 256 h)).toLoadRect xa1

/-- A block of `R` rows of scores, every column. -/
abbrev sAll (o R : ℕ) (h : o + R ≤ 4096) (hq : (⟨3, ![1, R, 256]⟩ : Shape).ShapeCasts (mat R 256)) : FVec Ideal (mat R 2048) .f32 :=
  scoresOf (qAt arg5 x0 o R h) hq (kAt arg6 arg7 x1 x2)

theorem slk (C : ℕ) (hC : C ≤ 2048) : (mat 256 2048).Slices ![0, 0] (mat 256 C) :=
  ⟨rfl, Fin.forall_fin_two.mpr ⟨Nat.le_refl 256, by show 0 + C ≤ 2048; omega⟩⟩

theorem slv (C : ℕ) (hC : C ≤ 2048) : (mat 2048 256).Slices ![0, 0] (mat C 256) :=
  ⟨rfl, Fin.forall_fin_two.mpr ⟨by show 0 + C ≤ 2048; omega, Nat.le_refl 256⟩⟩

/-- The first `C` key columns. -/
abbrev kCut (C : ℕ) (hC : C ≤ 2048) : FVec Ideal (mat 256 C) .bf16 :=
  extractStridedSlice (mat 256 C) ![0, 0] (kAt arg6 arg7 x1 x2) (slk C hC)

/-- The first `C` value rows. -/
abbrev vCut (C : ℕ) (hC : C ≤ 2048) : FVec Ideal (mat C 256) .bf16 :=
  extractStridedSlice (mat C 256) ![0, 0] (vAt arg8 x3) (slv C hC)

/-- A block of `R` rows of scores, the first `C` columns. -/
abbrev sCut (o R C : ℕ) (h : o + R ≤ 4096) (hC : C ≤ 2048) (hq : (⟨3, ![1, R, 256]⟩ : Shape).ShapeCasts (mat R 256)) : FVec Ideal (mat R C) .f32 :=
  scoresOf (qAt arg5 x0 o R h) hq (kCut arg6 arg7 x1 x2 C hC)

/-- The score of a window's query row against a window's key column. -/
def dotQK (x0 : (S1x4096x256.Idx → Elt Ideal .bf16)) (x1 x2 : (S1x128x2048.Idx → Elt Ideal .bf16)) (row : Fin 4096) (k : Fin 2048) : EReal :=
  ∑ d : Fin 256, x0 (ix3 0 row d) * (if h : d.val < 128 then x1 (ix3 0 ⟨d.val, h⟩ k) else x2 (ix3 0 ⟨d.val - 128, by omega⟩ k))

/-- The value of a window's key, or one beyond the 128 value columns. -/
def valOf (x3 : (S1x2048x128.Idx → Elt Ideal .bf16)) (k : Fin 2048) (c : Fin 256) : EReal :=
  if h : c.val < 128 then x3 (ix3 0 k ⟨c.val, h⟩) else 1

theorem qAt_apply (o R : ℕ) (h : o + R ≤ 4096) (r : Fin R) (d : Fin 256) :
    qAt arg5 x0 o R h (ix3 0 r d) = x0 (ix3 0 ⟨o + r.val, by omega⟩ d) := by
  show View.readAt (Elt Ideal) arg5.view _ (arg5.view.rep x0) _ = _
  rw [View.readAt_rep]
  refine congrArg x0 (funext fun a => Fin.ext ?_)
  match a with
  | ⟨0, _⟩ => rfl
  | ⟨1, _⟩ => show o + 1 * r.val = o + r.val; omega
  | ⟨2, _⟩ => show 0 + 1 * d.val = d.val; omega

theorem kcat_apply (a b : FVec Ideal S1x128x2048 .bf16) (d : Fin 256) (k : Fin 2048) :
    kcat a b (ix2 d k) = if h : d.val < 128 then a (ix3 0 ⟨d.val, h⟩ k) else b (ix3 0 ⟨d.val - 128, by omega⟩ k) := by
  unfold kcat k0_pay6
  split
  · next hd =>
    refine (concatenate_pair_apply_left (t := S256x2048) (s₁ := S128x2048) (s₂ := S128x2048) 0 _ _ _ (ix2 d k) rfl
        (ix2 ⟨d.val, hd⟩ k) fun b => ?_).trans ?_
    · match b with
      | ⟨0, _⟩ => rfl
      | ⟨1, _⟩ => rfl
    · refine shapeCast_apply _ _ _ (ix3 0 ⟨d.val, hd⟩ k) ?_
      rw [Shape.rowMajor_val_two, Shape.rowMajor_val_three]
      show (0 * 128 + d.val) * 2048 + k.val = d.val * 2048 + k.val
      omega
  · next hd =>
    have hlt := d.isLt
    refine (concatenate_pair_apply_right (t := S256x2048) (s₁ := S128x2048) (s₂ := S128x2048) 0 _ _ _ (ix2 d k) rfl rfl
        (ix2 ⟨d.val - 128, by omega⟩ k) (fun b hb => ?_) ?_).trans ?_
    · match b with
      | ⟨0, _⟩ => exact absurd rfl hb
      | ⟨1, _⟩ => rfl
    · show d.val - 128 + 128 = d.val; omega
    · refine shapeCast_apply _ _ _ (ix3 0 ⟨d.val - 128, by omega⟩ k) ?_
      rw [Shape.rowMajor_val_two, Shape.rowMajor_val_three]
      show (0 * 128 + (d.val - 128)) * 2048 + k.val = (d.val - 128) * 2048 + k.val
      omega

theorem vcat_apply (a : FVec Ideal S1x2048x128 .bf16) (k : Fin 2048) (c : Fin 256) : vcat a (ix2 k c) = valOf a k c := by
  unfold vcat k0_pay7 valOf
  split
  · next hd =>
    refine (concatenate_pair_apply_left (t := S2048x256) (s₁ := S2048x128) (s₂ := S2048x128) 1 _ _ _ (ix2 k c) rfl
        (ix2 k ⟨c.val, hd⟩) fun b => ?_).trans ?_
    · match b with
      | ⟨0, _⟩ => rfl
      | ⟨1, _⟩ => rfl
    · refine shapeCast_apply _ _ _ (ix3 0 k ⟨c.val, hd⟩) ?_
      rw [Shape.rowMajor_val_two, Shape.rowMajor_val_three]
      show (0 * 2048 + k.val) * 128 + c.val = k.val * 128 + c.val
      omega
  · next hd =>
    have hlt := c.isLt
    refine (concatenate_pair_apply_right (t := S2048x256) (s₁ := S2048x128) (s₂ := S2048x128) 1 _ _ _ (ix2 k c) rfl rfl
        (ix2 k ⟨c.val - 128, by omega⟩) (fun b hb => ?_) ?_).trans ?_
    · match b with
      | ⟨0, _⟩ => rfl
      | ⟨1, _⟩ => exact absurd rfl hb
    · show c.val - 128 + 128 = c.val; omega
    · show FloatOps.ofBits (F := Ideal) .bf16 0x3F80#16 = (1 : EReal)
      show Ideal.ofBits .bf16 0x3F80#16 = 1
      exact Ideal.ofBits_one_bf16

theorem kAt_apply (d : Fin 256) (k : Fin 2048) : kAt arg6 arg7 x1 x2 (ix2 d k)
    = if h : d.val < 128 then x1 (ix3 0 ⟨d.val, h⟩ k) else x2 (ix3 0 ⟨d.val - 128, by omega⟩ k) := by
  show kcat _ _ _ = _
  rw [kcat_apply, View.readAt_rep_full, View.readAt_rep_full]

theorem vAt_apply (k : Fin 2048) (c : Fin 256) : vAt arg8 x3 (ix2 k c) = valOf x3 k c := by
  show vcat _ _ = _
  rw [vcat_apply, View.readAt_rep_full]

theorem sAll_apply (o R : ℕ) (h : o + R ≤ 4096) (hq) (r : Fin R) (k : Fin 2048) :
    sAll arg5 arg6 arg7 x0 x1 x2 o R h hq (ix2 r k) = dotQK x0 x1 x2 ⟨o + r.val, by omega⟩ k := by
  refine (scoresOf_apply _ _ _ r k).trans (Finset.sum_congr rfl fun d _ => ?_)
  rw [qAt_apply, kAt_apply]

theorem sCut_apply (o R C : ℕ) (h : o + R ≤ 4096) (hC : C ≤ 2048) (hq) (r : Fin R) (k : Fin C) :
    sCut arg5 arg6 arg7 x0 x1 x2 o R C h hC hq (ix2 r k) = dotQK x0 x1 x2 ⟨o + r.val, by omega⟩ ⟨k.val, by omega⟩ := by
  refine (scoresOf_apply _ _ _ r k).trans (Finset.sum_congr rfl fun d _ => ?_)
  rw [qAt_apply]
  refine congrArg (_ * ·) ?_
  refine (extractStridedSlice_apply _ _ _ _ (ix2 d ⟨k.val, by omega⟩)
    (Fin.forall_fin_two.mpr ⟨(Nat.zero_add _).symm, (Nat.zero_add _).symm⟩)).trans ?_
  exact kAt_apply arg6 arg7 x1 x2 d _

theorem vCut_apply (C : ℕ) (hC : C ≤ 2048) (k : Fin C) (c : Fin 256) : vCut arg8 x3 C hC (ix2 k c) = valOf x3 ⟨k.val, by omega⟩ c := by
  refine (extractStridedSlice_apply _ _ _ _ (ix2 ⟨k.val, by omega⟩ c)
    (Fin.forall_fin_two.mpr ⟨(Nat.zero_add _).symm, (Nat.zero_add _).symm⟩)).trans ?_
  exact vAt_apply arg8 x3 _ c

/-- On the rows `P`, the maxima `gm` and the sums `ga` are those of the row's first `n` scores. -/
def HoldsOn (P : ℕ → Prop) (σ : Fin 4096 → ℕ → EReal) (ν : ℕ → Fin 256 → EReal) (n : ℕ)
    (gm : S4096x128.Idx → EReal) (ga : S4096x256.Idx → EReal) : Prop :=
  ∀ row : Fin 4096, P row.val → (∀ l : Fin 128, gm (ix2 row l) = rowMax (σ row) n) ∧ ∀ c : Fin 256, ga (ix2 row c) = rowSum (σ row) (fun k => ν k c) n

/-- The same for a block of rows from `o`. -/
def BlockHolds (o : ℕ) {R : ℕ} (h : o + R ≤ 4096) (σ : Fin 4096 → ℕ → EReal) (ν : ℕ → Fin 256 → EReal) (n : ℕ)
    (gm : (mat R 128).Idx → EReal) (ga : (mat R 256).Idx → EReal) : Prop :=
  ∀ r : Fin R, (∀ l : Fin 128, gm (ix2 r l) = rowMax (σ ⟨o + r.val, by omega⟩) n) ∧
    ∀ c : Fin 256, ga (ix2 r c) = rowSum (σ ⟨o + r.val, by omega⟩) (fun k => ν k c) n

variable {σ : Fin 4096 → ℕ → EReal} {ν : ℕ → Fin 256 → EReal} {n o R : ℕ}

/-- One block of rows takes in `C` columns of a step's 2048, the columns after them being masked. -/
theorem block_step {k C : ℕ} (hf : Fits R k C) (hC : C ≤ 2048) {ho : o + R ≤ 4096} {S : FVec Ideal (mat R C) .f32} {mp : FVec Ideal (mat R 128) .f32}
    {ap : FVec Ideal (mat R 256) .f32} {v : FVec Ideal (mat C 256) .bf16}
    (hp : BlockHolds o ho σ ν n mp ap)
    (hS : ∀ (r : Fin R) (j : Fin C), S (ix2 r j) = σ ⟨o + r.val, by omega⟩ (n + j.val))
    (hskip : ∀ (r : Fin R) (j : ℕ), C ≤ j → j < 2048 → σ ⟨o + r.val, by omega⟩ (n + j) = ⊥)
    (hv : ∀ (j : Fin C) (c : Fin 256), v (ix2 j c) = ν (n + j.val) c) :
    BlockHolds o ho σ ν (n + 2048) (newMax hf S mp) (newAcc hf S mp (newMax hf S mp) ap v) := by
  intro r
  have hsk : ∀ j < 2048 - C, σ ⟨o + r.val, by omega⟩ (n + C + j) = ⊥ := fun j hj => by
    rw [Nat.add_assoc]; exact hskip r (C + j) (by omega) (by omega)
  have hn : n + 2048 = n + C + (2048 - C) := by omega
  have hmax : ∀ l, newMax hf S mp (ix2 r l) = rowMax (σ ⟨o + r.val, by omega⟩) (n + C) := fun l => by
    rw [newMax_apply, (hp r).1, rowMax_add]
    congr 1
    apply le_antisymm
    · refine Finset.sup_le fun j _ => ?_
      rw [hS r j]
      exact Finset.le_sup (f := fun j => σ ⟨o + r.val, by omega⟩ (n + j)) (Finset.mem_range.mpr j.isLt)
    · refine Finset.sup_le fun j hj => ?_
      refine le_trans (le_of_eq ?_) (Finset.le_sup (f := fun j => S (ix2 r j)) (Finset.mem_univ (⟨j, Finset.mem_range.mp hj⟩ : Fin C)))
      exact (hS r ⟨j, Finset.mem_range.mp hj⟩).symm
  refine ⟨fun l => ?_, fun c => ?_⟩
  · rw [hn, rowMax_skip _ _ _ hsk, hmax]
  · rw [hn, rowSum_skip _ _ _ _ hsk, newAcc_apply, hmax, (hp r).1, (hp r).2, rowSum_add, Finset.sum_range]
    congr 1
    refine Finset.sum_congr rfl fun j _ => ?_
    rw [hmax, hS, hv]

/-- One block of rows against every column of the step. -/
theorem step_all {k : ℕ} (hf : Fits R k 2048) (h : o + R ≤ 4096) (hq : (⟨3, ![1, R, 256]⟩ : Shape).ShapeCasts (mat R 256))
    {mp : FVec Ideal (mat R 128) .f32} {ap : FVec Ideal (mat R 256) .f32} (hp : BlockHolds o h σ ν n mp ap)
    (hσ : ∀ (row : Fin 4096) (j : Fin 2048), o ≤ row.val → σ row (n + j.val) = dotQK x0 x1 x2 row j)
    (hν : ∀ (j : Fin 2048) (c : Fin 256), ν (n + j.val) c = valOf x3 j c) :
    BlockHolds o h σ ν (n + 2048) (newMax hf (sAll arg5 arg6 arg7 x0 x1 x2 o R h hq) mp)
      (newAcc hf (sAll arg5 arg6 arg7 x0 x1 x2 o R h hq) mp (newMax hf (sAll arg5 arg6 arg7 x0 x1 x2 o R h hq) mp) ap (vAt arg8 x3)) :=
  block_step hf (Nat.le_refl _) hp
    (fun r j => (sAll_apply arg5 arg6 arg7 x0 x1 x2 o R h hq r j).trans (hσ _ j (Nat.le_add_right _ _)).symm)
    (fun _ j h1 h2 => absurd h1 (Nat.not_le.mpr h2))
    (fun j c => (vAt_apply arg8 x3 j c).trans (hν j c).symm)

/-- One block of rows against every column of the step, the columns after the row's own masked. -/
theorem step_masked {k : ℕ} (c0 : ℕ) (hc0 : c0 ≤ 4096) (hf : Fits R k 2048) (h : o + R ≤ 4096) (hq : (⟨3, ![1, R, 256]⟩ : Shape).ShapeCasts (mat R 256))
    (i0 : (mat R 2048).Iotas .tc 32 [0]) (i1 : (mat R 2048).Iotas .tc 32 [1])
    {mp : FVec Ideal (mat R 128) .f32} {ap : FVec Ideal (mat R 256) .f32} (hp : BlockHolds o h σ ν n mp ap)
    (hσ : ∀ (row : Fin 4096) (j : Fin 2048), σ row (n + j.val) = if c0 + j.val ≤ row.val then dotQK x0 x1 x2 row j else ⊥)
    (hν : ∀ (j : Fin 2048) (c : Fin 256), ν (n + j.val) c = valOf x3 j c) :
    BlockHolds o h σ ν (n + 2048) (newMax hf (masked (sAll arg5 arg6 arg7 x0 x1 x2 o R h hq) i0 i1 (BitVec.ofNat 32 o) (BitVec.ofNat 32 c0)) mp)
      (newAcc hf (masked (sAll arg5 arg6 arg7 x0 x1 x2 o R h hq) i0 i1 (BitVec.ofNat 32 o) (BitVec.ofNat 32 c0)) mp
        (newMax hf (masked (sAll arg5 arg6 arg7 x0 x1 x2 o R h hq) i0 i1 (BitVec.ofNat 32 o) (BitVec.ofNat 32 c0)) mp) ap (vAt arg8 x3)) :=
  block_step hf (Nat.le_refl _) hp
    (fun r j => by
      rw [masked_apply _ _ _ _ _ (by omega) (by omega), sAll_apply, hσ])
    (fun _ j h1 h2 => absurd h1 (Nat.not_le.mpr h2))
    (fun j c => (vAt_apply arg8 x3 j c).trans (hν j c).symm)

/-- One block of rows against the step's first `C` columns, the columns after the row's own masked. -/
theorem step_cut {k C : ℕ} (c0 : ℕ) (hc0 : c0 ≤ 4096) (hf : Fits R k C) (hC : C ≤ 2048) (hoC : o + R ≤ c0 + C) (h : o + R ≤ 4096)
    (hq : (⟨3, ![1, R, 256]⟩ : Shape).ShapeCasts (mat R 256)) (i0 : (mat R C).Iotas .tc 32 [0]) (i1 : (mat R C).Iotas .tc 32 [1])
    {mp : FVec Ideal (mat R 128) .f32} {ap : FVec Ideal (mat R 256) .f32} (hp : BlockHolds o h σ ν n mp ap)
    (hσ : ∀ (row : Fin 4096) (j : Fin 2048), σ row (n + j.val) = if c0 + j.val ≤ row.val then dotQK x0 x1 x2 row j else ⊥)
    (hν : ∀ (j : Fin 2048) (c : Fin 256), ν (n + j.val) c = valOf x3 j c) :
    BlockHolds o h σ ν (n + 2048) (newMax hf (masked (sCut arg5 arg6 arg7 x0 x1 x2 o R C h hC hq) i0 i1 (BitVec.ofNat 32 o) (BitVec.ofNat 32 c0)) mp)
      (newAcc hf (masked (sCut arg5 arg6 arg7 x0 x1 x2 o R C h hC hq) i0 i1 (BitVec.ofNat 32 o) (BitVec.ofNat 32 c0)) mp
        (newMax hf (masked (sCut arg5 arg6 arg7 x0 x1 x2 o R C h hC hq) i0 i1 (BitVec.ofNat 32 o) (BitVec.ofNat 32 c0)) mp) ap (vCut arg8 x3 C hC)) :=
  block_step hf hC hp
    (fun r j => by
      rw [masked_apply _ _ _ _ _ (by omega) (by omega), sCut_apply]
      exact (hσ ⟨o + r.val, by omega⟩ ⟨j.val, by omega⟩).symm)
    (fun r j h1 h2 => by
      rw [hσ _ ⟨j, h2⟩, if_neg]
      have := r.isLt
      show ¬ (c0 + j ≤ o + r.val)
      omega)
    (fun j c => (vCut_apply arg8 x3 C hC j c).trans (hν ⟨j.val, by omega⟩ c).symm)

/-- A block of rows of the maxima as a written piece. -/
abbrev pM (o R : ℕ) (h : o + R ≤ 4096) (w : FVec Ideal (mat R 128) .f32) : View.Piece (Elt Ideal) S4096x128 .f32 :=
  ⟨Rect.unit (s := S4096x128) ![o, 0] ![R, 128] (inbM o R 4096 128 h), w⟩

/-- A block of rows of the sums as a written piece. -/
abbrev pA (o R : ℕ) (h : o + R ≤ 4096) (w : FVec Ideal (mat R 256) .f32) : View.Piece (Elt Ideal) S4096x256 .f32 :=
  ⟨Rect.unit (s := S4096x256) ![o, 0] ![R, 256] (inbM o R 4096 256 h), w⟩

abbrev rdM (f : scM0_0.view.ty.Contents (Elt Ideal)) (L : List (View.Piece (Elt Ideal) S4096x128 .f32)) : S4096x128.Idx → EReal :=
  scM0_0.view.read (Elt Ideal) (scM0_0.view.writes (Elt Ideal) f L)

abbrev rdA (f : scM0_1.view.ty.Contents (Elt Ideal)) (L : List (View.Piece (Elt Ideal) S4096x256 .f32)) : S4096x256.Idx → EReal :=
  scM0_1.view.read (Elt Ideal) (scM0_1.view.writes (Elt Ideal) f L)

variable {f0 : scM0_0.view.ty.Contents (Elt Ideal)} {f1 : scM0_1.view.ty.Contents (Elt Ideal)}
  {L0 : List (View.Piece (Elt Ideal) S4096x128 .f32)} {L1 : List (View.Piece (Elt Ideal) S4096x256 .f32)}

theorem push_done {h : o + R ≤ 4096} {wm : FVec Ideal (mat R 128) .f32} {wa : FVec Ideal (mat R 256) .f32}
    (hL : HoldsOn (· < o) σ ν n (rdM f0 L0) (rdA f1 L1)) (hw : BlockHolds o h σ ν n wm wa) :
    HoldsOn (· < o + R) σ ν n (rdM f0 (pM o R h wm :: L0)) (rdA f1 (pA o R h wa :: L1)) := by
  intro row hrow
  by_cases hr : row.val < o
  · refine ⟨fun l => ?_, fun c => ?_⟩
    · exact (View.read_writes_cons_rows_of_not_mem (W := R) scM0_0.view f0 _ wm L0 _ rfl rfl (.inl hr)).trans ((hL row hr).1 l)
    · exact (View.read_writes_cons_rows_of_not_mem (W := R) scM0_1.view f1 _ wa L1 _ rfl rfl (.inl hr)).trans ((hL row hr).2 c)
  · have hrow' : row.val < o + R := hrow
    have he : row = ⟨o + (row.val - o), by omega⟩ := Fin.ext (by show row.val = o + (row.val - o); omega)
    have hb := hw ⟨row.val - o, by omega⟩
    simp only [← he] at hb
    refine ⟨fun l => ?_, fun c => ?_⟩
    · exact (View.read_writes_cons_rows_of_mem scM0_0.view f0 _ wm L0 _ (ix2 ⟨row.val - o, by omega⟩ l) rfl
        (by show row.val = o + (row.val - o); omega) rfl).trans (hb.1 l)
    · exact (View.read_writes_cons_rows_of_mem scM0_1.view f1 _ wa L1 _ (ix2 ⟨row.val - o, by omega⟩ c) rfl
        (by show row.val = o + (row.val - o); omega) rfl).trans (hb.2 c)

theorem push_rest {h : o + R ≤ 4096} {wm : FVec Ideal (mat R 128) .f32} {wa : FVec Ideal (mat R 256) .f32}
    (hL : HoldsOn (o ≤ ·) σ ν n (rdM f0 L0) (rdA f1 L1)) :
    HoldsOn (o + R ≤ ·) σ ν n (rdM f0 (pM o R h wm :: L0)) (rdA f1 (pA o R h wa :: L1)) := by
  intro row hrow
  have hr : o ≤ row.val := Nat.le_trans (Nat.le_add_right _ _) hrow
  refine ⟨fun l => ?_, fun c => ?_⟩
  · exact (View.read_writes_cons_rows_of_not_mem (W := R) scM0_0.view f0 _ wm L0 _ rfl rfl (.inr hrow)).trans ((hL row hr).1 l)
  · exact (View.read_writes_cons_rows_of_not_mem (W := R) scM0_1.view f1 _ wa L1 _ rfl rfl (.inr hrow)).trans ((hL row hr).2 c)

/-- What a block's load of the maxima and the sums holds. -/
theorem load_block {P : ℕ → Prop} (h : o + R ≤ 4096) {g0 : scM0_0.view.ty.Contents (Elt Ideal)} {g1 : scM0_1.view.ty.Contents (Elt Ideal)}
    (hL : HoldsOn P σ ν n (scM0_0.view.read (Elt Ideal) g0) (scM0_1.view.read (Elt Ideal) g1)) (hP : ∀ r < R, P (o + r)) :
    BlockHolds o h σ ν n
      (View.readAt (Elt Ideal) scM0_0.view (Rect.unit (s := S4096x128) ![o, 0] ![R, 128] (inbM o R 4096 128 h)).toLoadRect g0 : (mat R 128).Idx → EReal)
      (View.readAt (Elt Ideal) scM0_1.view (Rect.unit (s := S4096x256) ![o, 0] ![R, 256] (inbM o R 4096 256 h)).toLoadRect g1 : (mat R 256).Idx → EReal) := by
  intro r
  have hb := hL ⟨o + r.val, by omega⟩ (hP r.val r.isLt)
  refine ⟨fun l => ?_, fun c => ?_⟩
  · refine Eq.trans (congrArg (scM0_0.view.read (Elt Ideal) g0) (funext fun a => Fin.ext ?_)) (hb.1 l)
    match a with
    | ⟨0, _⟩ => show o + 1 * r.val = o + r.val; omega
    | ⟨1, _⟩ => show 0 + 1 * l.val = l.val; omega
  · refine Eq.trans (congrArg (scM0_1.view.read (Elt Ideal) g1) (funext fun a => Fin.ext ?_)) (hb.2 c)
    match a with
    | ⟨0, _⟩ => show o + 1 * r.val = o + r.val; omega
    | ⟨1, _⟩ => show 0 + 1 * c.val = c.val; omega

end Cert.KernelIdeal.Attn

end
-- ==== Proof.Attn.KernelIdeal.Blocks.lean ====
module

public import proofs.«01_k».proof.Proof.Attn.KernelIdeal.Steps
import all proofs.«01_k».proof.Proof.Attn.KernelIdeal.Runs

/-! Every grid step takes in its 2048 columns: the maxima and the sums held for a row's first `n` scores hold after the
step for its first `n + 2048`. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

abbrev f1024 : Fits 1024 15 2048 := fits 1024 15 (by decide)
abbrev f512 : Fits 512 3 512 := fits 512 3 (by decide)
abbrev f512w2 : Fits 512 7 1024 := fits 512 7 (by decide)
abbrev f512w3 : Fits 512 11 1536 := fits 512 11 (by decide)
abbrev f512w4 : Fits 512 15 2048 := fits 512 15 (by decide)

/-- A block's load of the maxima from what the pieces left. -/
abbrev ldM (f : scM0_0.view.ty.Contents (Elt Ideal)) (L : List (View.Piece (Elt Ideal) S4096x128 .f32)) (o R : ℕ) (h : o + R ≤ 4096) : FVec Ideal (mat R 128) .f32 :=
  View.readAt (Elt Ideal) scM0_0.view (Rect.unit (s := S4096x128) ![o, 0] ![R, 128] (inbM o R 4096 128 h)).toLoadRect (scM0_0.view.writes (Elt Ideal) f L)

/-- A block's load of the sums from what the pieces left. -/
abbrev ldA (f : scM0_1.view.ty.Contents (Elt Ideal)) (L : List (View.Piece (Elt Ideal) S4096x256 .f32)) (o R : ℕ) (h : o + R ≤ 4096) : FVec Ideal (mat R 256) .f32 :=
  View.readAt (Elt Ideal) scM0_1.view (Rect.unit (s := S4096x256) ![o, 0] ![R, 256] (inbM o R 4096 256 h)).toLoadRect (scM0_1.view.writes (Elt Ideal) f L)

theorem consM {o R : ℕ} {h : o + R ≤ 4096} {w w' : FVec Ideal (mat R 128) .f32} {L L' : List (View.Piece (Elt Ideal) S4096x128 .f32)}
    (hw : w = w') (hL : L = L') : pM o R h w :: L = pM o R h w' :: L' := by rw [hw, hL]

theorem consA {o R : ℕ} {h : o + R ≤ 4096} {w w' : FVec Ideal (mat R 256) .f32} {L L' : List (View.Piece (Elt Ideal) S4096x256 .f32)}
    (hw : w = w') (hL : L = L') : pA o R h w :: L = pA o R h w' :: L' := by rw [hw, hL]

end Cert.KernelIdeal.Attn

end
-- ==== Proof.Attn.KernelIdeal.PathA.lean ====
module

public import proofs.«01_k».proof.Proof.Attn.KernelIdeal.Blocks
import all proofs.«01_k».proof.Proof.Attn.KernelIdeal.Runs

/-! Every grid step takes in its 2048 columns: the maxima and the sums held for a row's first `n` scores hold after the
step for its first `n + 2048`. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

theorem listM_A_2 : (kernelRun0_A.sl.HS0_2 arg5 arg6 arg7 x0 x1 x2) =
    pM 0 512 (by decide) (newMax f512 (masked (sCut arg5 arg6 arg7 x0 x1 x2 0 512 512 (by decide) (by decide) shapeCasts_S1x512x256_S512x256) iota_S512x512_d0_w32 iota_S512x512_d1_w32 (BitVec.ofNat 32 0) (BitVec.ofNat 32 0)) (ldM scM0_0.view.junk (kernelRun0_A.sl.HS0_1) 0 512 (by decide))) :: (kernelRun0_A.sl.HS0_1) := by
  unfold kernelRun0_A.sl.HS0_2
  exact consM ((shapeCast_self _ _).trans (by rfl)) rfl

theorem listA_A_2 : (kernelRun0_A.sl.HS1_2 arg5 arg6 arg7 arg8 x0 x1 x2 x3) =
    pA 0 512 (by decide) (newAcc f512 (masked (sCut arg5 arg6 arg7 x0 x1 x2 0 512 512 (by decide) (by decide) shapeCasts_S1x512x256_S512x256) iota_S512x512_d0_w32 iota_S512x512_d1_w32 (BitVec.ofNat 32 0) (BitVec.ofNat 32 0)) (ldM scM0_0.view.junk (kernelRun0_A.sl.HS0_1) 0 512 (by decide)) (newMax f512 (masked (sCut arg5 arg6 arg7 x0 x1 x2 0 512 512 (by decide) (by decide) shapeCasts_S1x512x256_S512x256) iota_S512x512_d0_w32 iota_S512x512_d1_w32 (BitVec.ofNat 32 0) (BitVec.ofNat 32 0)) (ldM scM0_0.view.junk (kernelRun0_A.sl.HS0_1) 0 512 (by decide))) (ldA scM0_1.view.junk (kernelRun0_A.sl.HS1_1) 0 512 (by decide)) (vCut arg8 x3 512 (by decide))) :: (kernelRun0_A.sl.HS1_1) := by
  unfold kernelRun0_A.sl.HS1_2
  exact consA (by rfl) rfl

theorem listM_A_3 : (kernelRun0_A.sl.HS0_3 arg5 arg6 arg7 x0 x1 x2) =
    pM 512 512 (by decide) (newMax f512w2 (masked (sCut arg5 arg6 arg7 x0 x1 x2 512 512 1024 (by decide) (by decide) shapeCasts_S1x512x256_S512x256) iota_S512x1024_d0_w32 iota_S512x1024_d1_w32 (BitVec.ofNat 32 512) (BitVec.ofNat 32 0)) (ldM scM0_0.view.junk (kernelRun0_A.sl.HS0_2 arg5 arg6 arg7 x0 x1 x2) 512 512 (by decide))) :: (kernelRun0_A.sl.HS0_2 arg5 arg6 arg7 x0 x1 x2) := by
  unfold kernelRun0_A.sl.HS0_3
  exact consM ((shapeCast_self _ _).trans (by rfl)) rfl

theorem listA_A_3 : (kernelRun0_A.sl.HS1_3 arg5 arg6 arg7 arg8 x0 x1 x2 x3) =
    pA 512 512 (by decide) (newAcc f512w2 (masked (sCut arg5 arg6 arg7 x0 x1 x2 512 512 1024 (by decide) (by decide) shapeCasts_S1x512x256_S512x256) iota_S512x1024_d0_w32 iota_S512x1024_d1_w32 (BitVec.ofNat 32 512) (BitVec.ofNat 32 0)) (ldM scM0_0.view.junk (kernelRun0_A.sl.HS0_2 arg5 arg6 arg7 x0 x1 x2) 512 512 (by decide)) (newMax f512w2 (masked (sCut arg5 arg6 arg7 x0 x1 x2 512 512 1024 (by decide) (by decide) shapeCasts_S1x512x256_S512x256) iota_S512x1024_d0_w32 iota_S512x1024_d1_w32 (BitVec.ofNat 32 512) (BitVec.ofNat 32 0)) (ldM scM0_0.view.junk (kernelRun0_A.sl.HS0_2 arg5 arg6 arg7 x0 x1 x2) 512 512 (by decide))) (ldA scM0_1.view.junk (kernelRun0_A.sl.HS1_2 arg5 arg6 arg7 arg8 x0 x1 x2 x3) 512 512 (by decide)) (vCut arg8 x3 1024 (by decide))) :: (kernelRun0_A.sl.HS1_2 arg5 arg6 arg7 arg8 x0 x1 x2 x3) := by
  unfold kernelRun0_A.sl.HS1_3
  exact consA (by rfl) rfl

theorem listM_A_4 : (kernelRun0_A.sl.HS0_4 arg5 arg6 arg7 x0 x1 x2) =
    pM 1024 512 (by decide) (newMax f512w3 (masked (sCut arg5 arg6 arg7 x0 x1 x2 1024 512 1536 (by decide) (by decide) shapeCasts_S1x512x256_S512x256) iota_S512x1536_d0_w32 iota_S512x1536_d1_w32 (BitVec.ofNat 32 1024) (BitVec.ofNat 32 0)) (ldM scM0_0.view.junk (kernelRun0_A.sl.HS0_3 arg5 arg6 arg7 x0 x1 x2) 1024 512 (by decide))) :: (kernelRun0_A.sl.HS0_3 arg5 arg6 arg7 x0 x1 x2) := by
  unfold kernelRun0_A.sl.HS0_4
  exact consM ((shapeCast_self _ _).trans (by rfl)) rfl

theorem listA_A_4 : (kernelRun0_A.sl.HS1_4 arg5 arg6 arg7 arg8 x0 x1 x2 x3) =
    pA 1024 512 (by decide) (newAcc f512w3 (masked (sCut arg5 arg6 arg7 x0 x1 x2 1024 512 1536 (by decide) (by decide) shapeCasts_S1x512x256_S512x256) iota_S512x1536_d0_w32 iota_S512x1536_d1_w32 (BitVec.ofNat 32 1024) (BitVec.ofNat 32 0)) (ldM scM0_0.view.junk (kernelRun0_A.sl.HS0_3 arg5 arg6 arg7 x0 x1 x2) 1024 512 (by decide)) (newMax f512w3 (masked (sCut arg5 arg6 arg7 x0 x1 x2 1024 512 1536 (by decide) (by decide) shapeCasts_S1x512x256_S512x256) iota_S512x1536_d0_w32 iota_S512x1536_d1_w32 (BitVec.ofNat 32 1024) (BitVec.ofNat 32 0)) (ldM scM0_0.view.junk (kernelRun0_A.sl.HS0_3 arg5 arg6 arg7 x0 x1 x2) 1024 512 (by decide))) (ldA scM0_1.view.junk (kernelRun0_A.sl.HS1_3 arg5 arg6 arg7 arg8 x0 x1 x2 x3) 1024 512 (by decide)) (vCut arg8 x3 1536 (by decide))) :: (kernelRun0_A.sl.HS1_3 arg5 arg6 arg7 arg8 x0 x1 x2 x3) := by
  unfold kernelRun0_A.sl.HS1_4
  exact consA (by rfl) rfl

theorem listM_A_5 : (kernelRun0_A.sl.HS0_5 arg5 arg6 arg7 x0 x1 x2) =
    pM 1536 512 (by decide) (newMax f512w4 (masked (sAll arg5 arg6 arg7 x0 x1 x2 1536 512 (by decide) shapeCasts_S1x512x256_S512x256) iota_S512x2048_d0_w32 iota_S512x2048_d1_w32 (BitVec.ofNat 32 1536) (BitVec.ofNat 32 0)) (ldM scM0_0.view.junk (kernelRun0_A.sl.HS0_4 arg5 arg6 arg7 x0 x1 x2) 1536 512 (by decide))) :: (kernelRun0_A.sl.HS0_4 arg5 arg6 arg7 x0 x1 x2) := by
  unfold kernelRun0_A.sl.HS0_5
  exact consM ((shapeCast_self _ _).trans (by rfl)) rfl

theorem listA_A_5 : (kernelRun0_A.sl.HS1_5 arg5 arg6 arg7 arg8 x0 x1 x2 x3) =
    pA 1536 512 (by decide) (newAcc f512w4 (masked (sAll arg5 arg6 arg7 x0 x1 x2 1536 512 (by decide) shapeCasts_S1x512x256_S512x256) iota_S512x2048_d0_w32 iota_S512x2048_d1_w32 (BitVec.ofNat 32 1536) (BitVec.ofNat 32 0)) (ldM scM0_0.view.junk (kernelRun0_A.sl.HS0_4 arg5 arg6 arg7 x0 x1 x2) 1536 512 (by decide)) (newMax f512w4 (masked (sAll arg5 arg6 arg7 x0 x1 x2 1536 512 (by decide) shapeCasts_S1x512x256_S512x256) iota_S512x2048_d0_w32 iota_S512x2048_d1_w32 (BitVec.ofNat 32 1536) (BitVec.ofNat 32 0)) (ldM scM0_0.view.junk (kernelRun0_A.sl.HS0_4 arg5 arg6 arg7 x0 x1 x2) 1536 512 (by decide))) (ldA scM0_1.view.junk (kernelRun0_A.sl.HS1_4 arg5 arg6 arg7 arg8 x0 x1 x2 x3) 1536 512 (by decide)) (vAt arg8 x3)) :: (kernelRun0_A.sl.HS1_4 arg5 arg6 arg7 arg8 x0 x1 x2 x3) := by
  unfold kernelRun0_A.sl.HS1_5
  exact consA (by rfl) rfl

theorem listM_A_6 : (kernelRun0_A.sl.HS0_6 arg5 arg6 arg7 x0 x1 x2) =
    pM 2048 512 (by decide) (newMax f512w4 (sAll arg5 arg6 arg7 x0 x1 x2 2048 512 (by decide) shapeCasts_S1x512x256_S512x256) (ldM scM0_0.view.junk (kernelRun0_A.sl.HS0_5 arg5 arg6 arg7 x0 x1 x2) 2048 512 (by decide))) :: (kernelRun0_A.sl.HS0_5 arg5 arg6 arg7 x0 x1 x2) := by
  unfold kernelRun0_A.sl.HS0_6
  exact consM ((shapeCast_self _ _).trans (by rfl)) rfl

theorem listA_A_6 : (kernelRun0_A.sl.HS1_6 arg5 arg6 arg7 arg8 x0 x1 x2 x3) =
    pA 2048 512 (by decide) (newAcc f512w4 (sAll arg5 arg6 arg7 x0 x1 x2 2048 512 (by decide) shapeCasts_S1x512x256_S512x256) (ldM scM0_0.view.junk (kernelRun0_A.sl.HS0_5 arg5 arg6 arg7 x0 x1 x2) 2048 512 (by decide)) (newMax f512w4 (sAll arg5 arg6 arg7 x0 x1 x2 2048 512 (by decide) shapeCasts_S1x512x256_S512x256) (ldM scM0_0.view.junk (kernelRun0_A.sl.HS0_5 arg5 arg6 arg7 x0 x1 x2) 2048 512 (by decide))) (ldA scM0_1.view.junk (kernelRun0_A.sl.HS1_5 arg5 arg6 arg7 arg8 x0 x1 x2 x3) 2048 512 (by decide)) (vAt arg8 x3)) :: (kernelRun0_A.sl.HS1_5 arg5 arg6 arg7 arg8 x0 x1 x2 x3) := by
  unfold kernelRun0_A.sl.HS1_6
  exact consA (by rfl) rfl

theorem listM_A_7 : (kernelRun0_A.sl.HS0_7 arg5 arg6 arg7 x0 x1 x2) =
    pM 2560 512 (by decide) (newMax f512w4 (sAll arg5 arg6 arg7 x0 x1 x2 2560 512 (by decide) shapeCasts_S1x512x256_S512x256) (ldM scM0_0.view.junk (kernelRun0_A.sl.HS0_6 arg5 arg6 arg7 x0 x1 x2) 2560 512 (by decide))) :: (kernelRun0_A.sl.HS0_6 arg5 arg6 arg7 x0 x1 x2) := by
  unfold kernelRun0_A.sl.HS0_7
  exact consM ((shapeCast_self _ _).trans (by rfl)) rfl

theorem listA_A_7 : (kernelRun0_A.sl.HS1_7 arg5 arg6 arg7 arg8 x0 x1 x2 x3) =
    pA 2560 512 (by decide) (newAcc f512w4 (sAll arg5 arg6 arg7 x0 x1 x2 2560 512 (by decide) shapeCasts_S1x512x256_S512x256) (ldM scM0_0.view.junk (kernelRun0_A.sl.HS0_6 arg5 arg6 arg7 x0 x1 x2) 2560 512 (by decide)) (newMax f512w4 (sAll arg5 arg6 arg7 x0 x1 x2 2560 512 (by decide) shapeCasts_S1x512x256_S512x256) (ldM scM0_0.view.junk (kernelRun0_A.sl.HS0_6 arg5 arg6 arg7 x0 x1 x2) 2560 512 (by decide))) (ldA scM0_1.view.junk (kernelRun0_A.sl.HS1_6 arg5 arg6 arg7 arg8 x0 x1 x2 x3) 2560 512 (by decide)) (vAt arg8 x3)) :: (kernelRun0_A.sl.HS1_6 arg5 arg6 arg7 arg8 x0 x1 x2 x3) := by
  unfold kernelRun0_A.sl.HS1_7
  exact consA (by rfl) rfl

theorem listM_A_8 : (kernelRun0_A.sl.HS0_8 arg5 arg6 arg7 x0 x1 x2) =
    pM 3072 512 (by decide) (newMax f512w4 (sAll arg5 arg6 arg7 x0 x1 x2 3072 512 (by decide) shapeCasts_S1x512x256_S512x256) (ldM scM0_0.view.junk (kernelRun0_A.sl.HS0_7 arg5 arg6 arg7 x0 x1 x2) 3072 512 (by decide))) :: (kernelRun0_A.sl.HS0_7 arg5 arg6 arg7 x0 x1 x2) := by
  unfold kernelRun0_A.sl.HS0_8
  exact consM ((shapeCast_self _ _).trans (by rfl)) rfl

theorem listA_A_8 : (kernelRun0_A.sl.HS1_8 arg5 arg6 arg7 arg8 x0 x1 x2 x3) =
    pA 3072 512 (by decide) (newAcc f512w4 (sAll arg5 arg6 arg7 x0 x1 x2 3072 512 (by decide) shapeCasts_S1x512x256_S512x256) (ldM scM0_0.view.junk (kernelRun0_A.sl.HS0_7 arg5 arg6 arg7 x0 x1 x2) 3072 512 (by decide)) (newMax f512w4 (sAll arg5 arg6 arg7 x0 x1 x2 3072 512 (by decide) shapeCasts_S1x512x256_S512x256) (ldM scM0_0.view.junk (kernelRun0_A.sl.HS0_7 arg5 arg6 arg7 x0 x1 x2) 3072 512 (by decide))) (ldA scM0_1.view.junk (kernelRun0_A.sl.HS1_7 arg5 arg6 arg7 arg8 x0 x1 x2 x3) 3072 512 (by decide)) (vAt arg8 x3)) :: (kernelRun0_A.sl.HS1_7 arg5 arg6 arg7 arg8 x0 x1 x2 x3) := by
  unfold kernelRun0_A.sl.HS1_8
  exact consA (by rfl) rfl

theorem listM_A_9 : (kernelRun0_A.sl.HS0_9 arg5 arg6 arg7 x0 x1 x2) =
    pM 3584 512 (by decide) (newMax f512w4 (sAll arg5 arg6 arg7 x0 x1 x2 3584 512 (by decide) shapeCasts_S1x512x256_S512x256) (ldM scM0_0.view.junk (kernelRun0_A.sl.HS0_8 arg5 arg6 arg7 x0 x1 x2) 3584 512 (by decide))) :: (kernelRun0_A.sl.HS0_8 arg5 arg6 arg7 x0 x1 x2) := by
  unfold kernelRun0_A.sl.HS0_9
  exact consM ((shapeCast_self _ _).trans (by rfl)) rfl

theorem listA_A_9 : (kernelRun0_A.sl.HS1_9 arg5 arg6 arg7 arg8 x0 x1 x2 x3) =
    pA 3584 512 (by decide) (newAcc f512w4 (sAll arg5 arg6 arg7 x0 x1 x2 3584 512 (by decide) shapeCasts_S1x512x256_S512x256) (ldM scM0_0.view.junk (kernelRun0_A.sl.HS0_8 arg5 arg6 arg7 x0 x1 x2) 3584 512 (by decide)) (newMax f512w4 (sAll arg5 arg6 arg7 x0 x1 x2 3584 512 (by decide) shapeCasts_S1x512x256_S512x256) (ldM scM0_0.view.junk (kernelRun0_A.sl.HS0_8 arg5 arg6 arg7 x0 x1 x2) 3584 512 (by decide))) (ldA scM0_1.view.junk (kernelRun0_A.sl.HS1_8 arg5 arg6 arg7 arg8 x0 x1 x2 x3) 3584 512 (by decide)) (vAt arg8 x3)) :: (kernelRun0_A.sl.HS1_8 arg5 arg6 arg7 arg8 x0 x1 x2 x3) := by
  unfold kernelRun0_A.sl.HS1_9
  exact consA (by rfl) rfl

theorem init_A (σ : Fin 4096 → ℕ → EReal) (ν : ℕ → Fin 256 → EReal) :
    HoldsOn (0 ≤ ·) σ ν 0 (rdM scM0_0.view.junk kernelRun0_A.sl.HS0_1) (rdA scM0_1.view.junk kernelRun0_A.sl.HS1_1) := by
  intro row _
  refine ⟨fun l => ?_, fun c => ?_⟩
  · rw [rowMax_zero]
    refine (View.read_writes_cons_rows_of_mem (Val := Elt Ideal) (o := 0) scM0_0.view _ inb_S4096x128_S4096x128_0_0 (k0_pay1 (F := Ideal)) [] _ (ix2 row l) rfl (Nat.zero_add _).symm rfl).trans ?_
    exact ofBits_negInf
  · rw [rowSum_zero]
    refine (View.read_writes_cons_rows_of_mem (Val := Elt Ideal) (o := 0) scM0_1.view _ inb_S4096x256_S4096x256_0_0 (k0_pay2 (F := Ideal)) [] _ (ix2 row c) rfl (Nat.zero_add _).symm rfl).trans ?_
    exact Ideal.ofBits_zero_f32

theorem holds_A {σ : Fin 4096 → ℕ → EReal} {ν : ℕ → Fin 256 → EReal} {n : ℕ} (hn : n = 0)
    (hσ : ∀ (row : Fin 4096) (j : Fin 2048), σ row (n + j.val) = if 0 + j.val ≤ row.val then dotQK x0 x1 x2 row j else ⊥) (hν : ∀ (j : Fin 2048) (c : Fin 256), ν (n + j.val) c = valOf x3 j c) :
    HoldsOn (· < 4096) σ ν (n + 2048) (rdM scM0_0.view.junk (kernelRun0_A.sl.HS0_9 arg5 arg6 arg7 x0 x1 x2)) (rdA scM0_1.view.junk (kernelRun0_A.sl.HS1_9 arg5 arg6 arg7 arg8 x0 x1 x2 x3)) := by
  have r0 : HoldsOn (0 ≤ ·) σ ν n (rdM scM0_0.view.junk (kernelRun0_A.sl.HS0_1)) (rdA scM0_1.view.junk (kernelRun0_A.sl.HS1_1)) := hn ▸ init_A σ ν
  have h0 : HoldsOn (· < 0) σ ν (n + 2048) (rdM scM0_0.view.junk (kernelRun0_A.sl.HS0_1)) (rdA scM0_1.view.junk (kernelRun0_A.sl.HS1_1)) := fun _ h => absurd h (Nat.not_lt_zero _)
  have h1 : HoldsOn (· < 512) σ ν (n + 2048) (rdM scM0_0.view.junk (kernelRun0_A.sl.HS0_2 arg5 arg6 arg7 x0 x1 x2)) (rdA scM0_1.view.junk (kernelRun0_A.sl.HS1_2 arg5 arg6 arg7 arg8 x0 x1 x2 x3)) := by
    rw [listM_A_2, listA_A_2]
    exact push_done (R := 512) h0 (step_cut arg5 arg6 arg7 arg8 x0 x1 x2 x3 0 (by decide) f512 (by decide) (by decide) (by decide) shapeCasts_S1x512x256_S512x256 iota_S512x512_d0_w32 iota_S512x512_d1_w32 (load_block (R := 512) (by decide) r0 (fun _ _ => Nat.le_add_right _ _)) hσ hν)
  have r1 : HoldsOn (512 ≤ ·) σ ν n (rdM scM0_0.view.junk (kernelRun0_A.sl.HS0_2 arg5 arg6 arg7 x0 x1 x2)) (rdA scM0_1.view.junk (kernelRun0_A.sl.HS1_2 arg5 arg6 arg7 arg8 x0 x1 x2 x3)) := by
    rw [listM_A_2, listA_A_2]
    exact push_rest (R := 512) r0
  have h2 : HoldsOn (· < 1024) σ ν (n + 2048) (rdM scM0_0.view.junk (kernelRun0_A.sl.HS0_3 arg5 arg6 arg7 x0 x1 x2)) (rdA scM0_1.view.junk (kernelRun0_A.sl.HS1_3 arg5 arg6 arg7 arg8 x0 x1 x2 x3)) := by
    rw [listM_A_3, listA_A_3]
    exact push_done (R := 512) h1 (step_cut arg5 arg6 arg7 arg8 x0 x1 x2 x3 0 (by decide) f512w2 (by decide) (by decide) (by decide) shapeCasts_S1x512x256_S512x256 iota_S512x1024_d0_w32 iota_S512x1024_d1_w32 (load_block (R := 512) (by decide) r1 (fun _ _ => Nat.le_add_right _ _)) hσ hν)
  have r2 : HoldsOn (1024 ≤ ·) σ ν n (rdM scM0_0.view.junk (kernelRun0_A.sl.HS0_3 arg5 arg6 arg7 x0 x1 x2)) (rdA scM0_1.view.junk (kernelRun0_A.sl.HS1_3 arg5 arg6 arg7 arg8 x0 x1 x2 x3)) := by
    rw [listM_A_3, listA_A_3]
    exact push_rest (R := 512) r1
  have h3 : HoldsOn (· < 1536) σ ν (n + 2048) (rdM scM0_0.view.junk (kernelRun0_A.sl.HS0_4 arg5 arg6 arg7 x0 x1 x2)) (rdA scM0_1.view.junk (kernelRun0_A.sl.HS1_4 arg5 arg6 arg7 arg8 x0 x1 x2 x3)) := by
    rw [listM_A_4, listA_A_4]
    exact push_done (R := 512) h2 (step_cut arg5 arg6 arg7 arg8 x0 x1 x2 x3 0 (by decide) f512w3 (by decide) (by decide) (by decide) shapeCasts_S1x512x256_S512x256 iota_S512x1536_d0_w32 iota_S512x1536_d1_w32 (load_block (R := 512) (by decide) r2 (fun _ _ => Nat.le_add_right _ _)) hσ hν)
  have r3 : HoldsOn (1536 ≤ ·) σ ν n (rdM scM0_0.view.junk (kernelRun0_A.sl.HS0_4 arg5 arg6 arg7 x0 x1 x2)) (rdA scM0_1.view.junk (kernelRun0_A.sl.HS1_4 arg5 arg6 arg7 arg8 x0 x1 x2 x3)) := by
    rw [listM_A_4, listA_A_4]
    exact push_rest (R := 512) r2
  have h4 : HoldsOn (· < 2048) σ ν (n + 2048) (rdM scM0_0.view.junk (kernelRun0_A.sl.HS0_5 arg5 arg6 arg7 x0 x1 x2)) (rdA scM0_1.view.junk (kernelRun0_A.sl.HS1_5 arg5 arg6 arg7 arg8 x0 x1 x2 x3)) := by
    rw [listM_A_5, listA_A_5]
    exact push_done (R := 512) h3 (step_masked arg5 arg6 arg7 arg8 x0 x1 x2 x3 0 (by decide) f512w4 (by decide) shapeCasts_S1x512x256_S512x256 iota_S512x2048_d0_w32 iota_S512x2048_d1_w32 (load_block (R := 512) (by decide) r3 (fun _ _ => Nat.le_add_right _ _)) hσ hν)
  have r4 : HoldsOn (2048 ≤ ·) σ ν n (rdM scM0_0.view.junk (kernelRun0_A.sl.HS0_5 arg5 arg6 arg7 x0 x1 x2)) (rdA scM0_1.view.junk (kernelRun0_A.sl.HS1_5 arg5 arg6 arg7 arg8 x0 x1 x2 x3)) := by
    rw [listM_A_5, listA_A_5]
    exact push_rest (R := 512) r3
  have h5 : HoldsOn (· < 2560) σ ν (n + 2048) (rdM scM0_0.view.junk (kernelRun0_A.sl.HS0_6 arg5 arg6 arg7 x0 x1 x2)) (rdA scM0_1.view.junk (kernelRun0_A.sl.HS1_6 arg5 arg6 arg7 arg8 x0 x1 x2 x3)) := by
    rw [listM_A_6, listA_A_6]
    exact push_done (R := 512) h4 (step_all arg5 arg6 arg7 arg8 x0 x1 x2 x3 f512w4 (by decide) shapeCasts_S1x512x256_S512x256 (load_block (R := 512) (by decide) r4 (fun _ _ => Nat.le_add_right _ _)) (fun row j hr => (hσ row j).trans (if_pos (by have := j.isLt; omega))) hν)
  have r5 : HoldsOn (2560 ≤ ·) σ ν n (rdM scM0_0.view.junk (kernelRun0_A.sl.HS0_6 arg5 arg6 arg7 x0 x1 x2)) (rdA scM0_1.view.junk (kernelRun0_A.sl.HS1_6 arg5 arg6 arg7 arg8 x0 x1 x2 x3)) := by
    rw [listM_A_6, listA_A_6]
    exact push_rest (R := 512) r4
  have h6 : HoldsOn (· < 3072) σ ν (n + 2048) (rdM scM0_0.view.junk (kernelRun0_A.sl.HS0_7 arg5 arg6 arg7 x0 x1 x2)) (rdA scM0_1.view.junk (kernelRun0_A.sl.HS1_7 arg5 arg6 arg7 arg8 x0 x1 x2 x3)) := by
    rw [listM_A_7, listA_A_7]
    exact push_done (R := 512) h5 (step_all arg5 arg6 arg7 arg8 x0 x1 x2 x3 f512w4 (by decide) shapeCasts_S1x512x256_S512x256 (load_block (R := 512) (by decide) r5 (fun _ _ => Nat.le_add_right _ _)) (fun row j hr => (hσ row j).trans (if_pos (by have := j.isLt; omega))) hν)
  have r6 : HoldsOn (3072 ≤ ·) σ ν n (rdM scM0_0.view.junk (kernelRun0_A.sl.HS0_7 arg5 arg6 arg7 x0 x1 x2)) (rdA scM0_1.view.junk (kernelRun0_A.sl.HS1_7 arg5 arg6 arg7 arg8 x0 x1 x2 x3)) := by
    rw [listM_A_7, listA_A_7]
    exact push_rest (R := 512) r5
  have h7 : HoldsOn (· < 3584) σ ν (n + 2048) (rdM scM0_0.view.junk (kernelRun0_A.sl.HS0_8 arg5 arg6 arg7 x0 x1 x2)) (rdA scM0_1.view.junk (kernelRun0_A.sl.HS1_8 arg5 arg6 arg7 arg8 x0 x1 x2 x3)) := by
    rw [listM_A_8, listA_A_8]
    exact push_done (R := 512) h6 (step_all arg5 arg6 arg7 arg8 x0 x1 x2 x3 f512w4 (by decide) shapeCasts_S1x512x256_S512x256 (load_block (R := 512) (by decide) r6 (fun _ _ => Nat.le_add_right _ _)) (fun row j hr => (hσ row j).trans (if_pos (by have := j.isLt; omega))) hν)
  have r7 : HoldsOn (3584 ≤ ·) σ ν n (rdM scM0_0.view.junk (kernelRun0_A.sl.HS0_8 arg5 arg6 arg7 x0 x1 x2)) (rdA scM0_1.view.junk (kernelRun0_A.sl.HS1_8 arg5 arg6 arg7 arg8 x0 x1 x2 x3)) := by
    rw [listM_A_8, listA_A_8]
    exact push_rest (R := 512) r6
  have h8 : HoldsOn (· < 4096) σ ν (n + 2048) (rdM scM0_0.view.junk (kernelRun0_A.sl.HS0_9 arg5 arg6 arg7 x0 x1 x2)) (rdA scM0_1.view.junk (kernelRun0_A.sl.HS1_9 arg5 arg6 arg7 arg8 x0 x1 x2 x3)) := by
    rw [listM_A_9, listA_A_9]
    exact push_done (R := 512) h7 (step_all arg5 arg6 arg7 arg8 x0 x1 x2 x3 f512w4 (by decide) shapeCasts_S1x512x256_S512x256 (load_block (R := 512) (by decide) r7 (fun _ _ => Nat.le_add_right _ _)) (fun row j hr => (hσ row j).trans (if_pos (by have := j.isLt; omega))) hν)
  have r8 : HoldsOn (4096 ≤ ·) σ ν n (rdM scM0_0.view.junk (kernelRun0_A.sl.HS0_9 arg5 arg6 arg7 x0 x1 x2)) (rdA scM0_1.view.junk (kernelRun0_A.sl.HS1_9 arg5 arg6 arg7 arg8 x0 x1 x2 x3)) := by
    rw [listM_A_9, listA_A_9]
    exact push_rest (R := 512) r7
  exact h8

end Cert.KernelIdeal.Attn

end
-- ==== Proof.Attn.KernelIdeal.PathB.lean ====
module

public import proofs.«01_k».proof.Proof.Attn.KernelIdeal.Blocks
import all proofs.«01_k».proof.Proof.Attn.KernelIdeal.Runs

/-! Every grid step takes in its 2048 columns: the maxima and the sums held for a row's first `n` scores hold after the
step for its first `n + 2048`. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

/-- The pieces of the maxima that a last step writes. -/
abbrev lastM : List (View.Piece (Elt Ideal) S4096x128 .f32) := [
    pM 3584 512 (by decide) (newMax f512w4 (masked (sAll arg5 arg6 arg7 x0 x1 x2 3584 512 (by decide) shapeCasts_S1x512x256_S512x256) iota_S512x2048_d0_w32 iota_S512x2048_d1_w32 (BitVec.ofNat 32 3584) (BitVec.ofNat 32 2048)) (mAt c xa0 3584 512 (by decide))),
    pM 3072 512 (by decide) (newMax f512w3 (masked (sCut arg5 arg6 arg7 x0 x1 x2 3072 512 1536 (by decide) (by decide) shapeCasts_S1x512x256_S512x256) iota_S512x1536_d0_w32 iota_S512x1536_d1_w32 (BitVec.ofNat 32 3072) (BitVec.ofNat 32 2048)) (mAt c xa0 3072 512 (by decide))),
    pM 2560 512 (by decide) (newMax f512w2 (masked (sCut arg5 arg6 arg7 x0 x1 x2 2560 512 1024 (by decide) (by decide) shapeCasts_S1x512x256_S512x256) iota_S512x1024_d0_w32 iota_S512x1024_d1_w32 (BitVec.ofNat 32 2560) (BitVec.ofNat 32 2048)) (mAt c xa0 2560 512 (by decide))),
    pM 2048 512 (by decide) (newMax f512 (masked (sCut arg5 arg6 arg7 x0 x1 x2 2048 512 512 (by decide) (by decide) shapeCasts_S1x512x256_S512x256) iota_S512x512_d0_w32 iota_S512x512_d1_w32 (BitVec.ofNat 32 2048) (BitVec.ofNat 32 2048)) (mAt c xa0 2048 512 (by decide)))]

theorem listA_B : (kernelRun0_B.sl.HS1_4 c arg5 arg6 arg7 arg8 x0 x1 x2 x3 xa0 xa1) = [
    pA 3584 512 (by decide) (newAcc f512w4 (masked (sAll arg5 arg6 arg7 x0 x1 x2 3584 512 (by decide) shapeCasts_S1x512x256_S512x256) iota_S512x2048_d0_w32 iota_S512x2048_d1_w32 (BitVec.ofNat 32 3584) (BitVec.ofNat 32 2048)) (mAt c xa0 3584 512 (by decide)) (newMax f512w4 (masked (sAll arg5 arg6 arg7 x0 x1 x2 3584 512 (by decide) shapeCasts_S1x512x256_S512x256) iota_S512x2048_d0_w32 iota_S512x2048_d1_w32 (BitVec.ofNat 32 3584) (BitVec.ofNat 32 2048)) (mAt c xa0 3584 512 (by decide))) (aAt c xa1 3584 512 (by decide)) (vAt arg8 x3)),
    pA 3072 512 (by decide) (newAcc f512w3 (masked (sCut arg5 arg6 arg7 x0 x1 x2 3072 512 1536 (by decide) (by decide) shapeCasts_S1x512x256_S512x256) iota_S512x1536_d0_w32 iota_S512x1536_d1_w32 (BitVec.ofNat 32 3072) (BitVec.ofNat 32 2048)) (mAt c xa0 3072 512 (by decide)) (newMax f512w3 (masked (sCut arg5 arg6 arg7 x0 x1 x2 3072 512 1536 (by decide) (by decide) shapeCasts_S1x512x256_S512x256) iota_S512x1536_d0_w32 iota_S512x1536_d1_w32 (BitVec.ofNat 32 3072) (BitVec.ofNat 32 2048)) (mAt c xa0 3072 512 (by decide))) (aAt c xa1 3072 512 (by decide)) (vCut arg8 x3 1536 (by decide))),
    pA 2560 512 (by decide) (newAcc f512w2 (masked (sCut arg5 arg6 arg7 x0 x1 x2 2560 512 1024 (by decide) (by decide) shapeCasts_S1x512x256_S512x256) iota_S512x1024_d0_w32 iota_S512x1024_d1_w32 (BitVec.ofNat 32 2560) (BitVec.ofNat 32 2048)) (mAt c xa0 2560 512 (by decide)) (newMax f512w2 (masked (sCut arg5 arg6 arg7 x0 x1 x2 2560 512 1024 (by decide) (by decide) shapeCasts_S1x512x256_S512x256) iota_S512x1024_d0_w32 iota_S512x1024_d1_w32 (BitVec.ofNat 32 2560) (BitVec.ofNat 32 2048)) (mAt c xa0 2560 512 (by decide))) (aAt c xa1 2560 512 (by decide)) (vCut arg8 x3 1024 (by decide))),
    pA 2048 512 (by decide) (newAcc f512 (masked (sCut arg5 arg6 arg7 x0 x1 x2 2048 512 512 (by decide) (by decide) shapeCasts_S1x512x256_S512x256) iota_S512x512_d0_w32 iota_S512x512_d1_w32 (BitVec.ofNat 32 2048) (BitVec.ofNat 32 2048)) (mAt c xa0 2048 512 (by decide)) (newMax f512 (masked (sCut arg5 arg6 arg7 x0 x1 x2 2048 512 512 (by decide) (by decide) shapeCasts_S1x512x256_S512x256) iota_S512x512_d0_w32 iota_S512x512_d1_w32 (BitVec.ofNat 32 2048) (BitVec.ofNat 32 2048)) (mAt c xa0 2048 512 (by decide))) (aAt c xa1 2048 512 (by decide)) (vCut arg8 x3 512 (by decide)))] := by
  unfold kernelRun0_B.sl.HS1_4
  exact consA (by rfl) (consA (by rfl) (consA (by rfl) (consA (by rfl) (rfl))))

theorem holds_B {σ : Fin 4096 → ℕ → EReal} {ν : ℕ → Fin 256 → EReal} {n : ℕ} (hp : HoldsOn (fun _ => True) σ ν n (scM0_0.view.read (Elt Ideal) xa0) (scM0_1.view.read (Elt Ideal) xa1))
    (hσ : ∀ (row : Fin 4096) (j : Fin 2048), σ row (n + j.val) = if 2048 + j.val ≤ row.val then dotQK x0 x1 x2 row j else ⊥) (hν : ∀ (j : Fin 2048) (c : Fin 256), ν (n + j.val) c = valOf x3 j c) :
    HoldsOn (· < 4096) σ ν (n + 2048) (rdM xa0 (lastM c arg5 arg6 arg7 x0 x1 x2 xa0)) (rdA xa1 (kernelRun0_B.sl.HS1_4 c arg5 arg6 arg7 arg8 x0 x1 x2 x3 xa0 xa1)) := by
  rw [listA_B]
  have h0 : HoldsOn (· < 2048) σ ν (n + 2048) (rdM xa0 []) (rdA xa1 []) := fun row hr => by
    have hr : row.val < 2048 := hr
    have hsk : ∀ j < 2048, σ row (n + j) = ⊥ := fun j hj => (hσ row ⟨j, hj⟩).trans (if_neg (by show ¬ (2048 + j ≤ row.val); omega))
    refine ⟨fun l => ?_, fun c => ?_⟩
    · rw [rowMax_skip _ _ _ hsk]; exact (hp row trivial).1 l
    · rw [rowSum_skip _ _ _ _ hsk]; exact (hp row trivial).2 c
  have h1 := push_done h0 (step_cut arg5 arg6 arg7 arg8 x0 x1 x2 x3 2048 (by decide) f512 (by decide) (by decide) (by decide) shapeCasts_S1x512x256_S512x256 iota_S512x512_d0_w32 iota_S512x512_d1_w32 (load_block (R := 512) (by decide) hp (fun _ _ => trivial)) hσ hν)
  have h2 := push_done h1 (step_cut arg5 arg6 arg7 arg8 x0 x1 x2 x3 2048 (by decide) f512w2 (by decide) (by decide) (by decide) shapeCasts_S1x512x256_S512x256 iota_S512x1024_d0_w32 iota_S512x1024_d1_w32 (load_block (R := 512) (by decide) hp (fun _ _ => trivial)) hσ hν)
  have h3 := push_done h2 (step_cut arg5 arg6 arg7 arg8 x0 x1 x2 x3 2048 (by decide) f512w3 (by decide) (by decide) (by decide) shapeCasts_S1x512x256_S512x256 iota_S512x1536_d0_w32 iota_S512x1536_d1_w32 (load_block (R := 512) (by decide) hp (fun _ _ => trivial)) hσ hν)
  have h4 := push_done h3 (step_masked arg5 arg6 arg7 arg8 x0 x1 x2 x3 2048 (by decide) f512w4 (by decide) shapeCasts_S1x512x256_S512x256 iota_S512x2048_d0_w32 iota_S512x2048_d1_w32 (load_block (R := 512) (by decide) hp (fun _ _ => trivial)) hσ hν)
  exact h4

end Cert.KernelIdeal.Attn

end
-- ==== Proof.Attn.KernelIdeal.Sched.lean ====
module

public import proofs.«01_k».proof.Proof.Attn.KernelIdeal.Tables

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

def adm : (pcfg0 (F := Ideal)).Adm := ⟨pfN, ok_pfN⟩
abbrev cfgA : Pipeline.Cfg sig Λ₀ := cfg0 (F := Ideal) adm
abbrev pcs : Fin 1 → Pipeline.Cfg sig Λ₀ := Pipeline.pin (pcfgs (F := Ideal)) fun _ => adm

variable (m : (ℓ : Loc nD τ sig) → Buf (Elt Ideal) ℓ)

abbrev crd (t : Fin cfgA.N) : cfgA.grid.Coords := cfgA.grid.coords t

abbrev ms0_0 (t : Fin cfgA.N) : Memref sig .tc .vmem S1x4096x256 .bf16 := spec0_0.stage (cfgA.slots t (0 : Fin 5))
abbrev hs0_0 (t : Fin cfgA.N) : (ms0_0 t).IsWhole := hstage0_0 ((cfgA.slots t (0 : Fin 5)).cast nbuf0_0)
abbrev ms0_1 (t : Fin cfgA.N) : Memref sig .tc .vmem S1x128x2048 .bf16 := spec0_1.stage (cfgA.slots t (1 : Fin 5))
abbrev hs0_1 (t : Fin cfgA.N) : (ms0_1 t).IsWhole := hstage0_1 ((cfgA.slots t (1 : Fin 5)).cast nbuf0_1)
abbrev ms0_2 (t : Fin cfgA.N) : Memref sig .tc .vmem S1x128x2048 .bf16 := spec0_2.stage (cfgA.slots t (2 : Fin 5))
abbrev hs0_2 (t : Fin cfgA.N) : (ms0_2 t).IsWhole := hstage0_2 ((cfgA.slots t (2 : Fin 5)).cast nbuf0_2)
abbrev ms0_3 (t : Fin cfgA.N) : Memref sig .tc .vmem S1x2048x128 .bf16 := spec0_3.stage (cfgA.slots t (3 : Fin 5))
abbrev hs0_3 (t : Fin cfgA.N) : (ms0_3 t).IsWhole := hstage0_3 ((cfgA.slots t (3 : Fin 5)).cast nbuf0_3)
abbrev ms0_4 (t : Fin cfgA.N) : Memref sig .tc .vmem S1x4096x128 .bf16 := spec0_4.stage (cfgA.slots t (4 : Fin 5))
abbrev hs0_4 (t : Fin cfgA.N) : (ms0_4 t).IsWhole := hstage0_4 ((cfgA.slots t (4 : Fin 5)).cast nbuf0_4)

def iblk (c : Dev nD) (w : Fin cfgA.W) (t : Fin cfgA.N) : ((cfgA.win w).xblock (crd t)).Idx → Elt Ideal (cfgA.win w).elt :=
  ((cfgA.win w).blk t).view.read (Elt Ideal) (m ((cfgA.win w).arr.view.loc (c : Thread nD τ)))

abbrev P0_0 (t : Fin cfgA.N) : Prop := cFirst pinT_0 pinT_1 (crd t)
abbrev P0_1 (t : Fin cfgA.N) : Prop := cFull pinT_0 pinT_1 (crd t)
abbrev P0_2 (t : Fin cfgA.N) : Prop := cDiag0 pinT_0 pinT_1 (crd t)

def sfresh0_0 : ℕ → Bool
  | 0 => true
  | n + 1 => if h : n < cfgA.N then (if P0_0 ⟨n, h⟩ then (if P0_1 ⟨n, h⟩ then false else false) else (if P0_1 ⟨n, h⟩ then sfresh0_0 n else (if P0_2 ⟨n, h⟩ then sfresh0_0 n else sfresh0_0 n))) else true

def sfirst0_0 : ℕ := 0
def sfrTab0_0 : ℕ → Bool := fun n => decide (n ≤ sfirst0_0)

def sfresh0_1 : ℕ → Bool
  | 0 => true
  | n + 1 => if h : n < cfgA.N then (if P0_0 ⟨n, h⟩ then (if P0_1 ⟨n, h⟩ then false else false) else (if P0_1 ⟨n, h⟩ then sfresh0_1 n else (if P0_2 ⟨n, h⟩ then sfresh0_1 n else sfresh0_1 n))) else true

def sfirst0_1 : ℕ := 0
def sfrTab0_1 : ℕ → Bool := fun n => decide (n ≤ sfirst0_1)

def frMask0_4 : ℕ := 0xffffffffffffffffffffffffffffffffffffffffffffffffffffffffffffffffffffffffffffffffffffffffffffffffffffffffffffffffffffffffffffffffffffffffffffffffffffffffffffffff
def frTab0_4 : ℕ → Bool
  | 0 => true
  | n + 1 => frMask0_4.testBit n

abbrev FactsAt (t : Fin cfgA.N) : Prop :=
  (sfrTab0_0 (t.val + 1) = (if P0_0 t then (if P0_1 t then false else false) else (if P0_1 t then sfrTab0_0 t.val else (if P0_2 t then sfrTab0_0 t.val else sfrTab0_0 t.val))))
  ∧ (sfrTab0_1 (t.val + 1) = (if P0_0 t then (if P0_1 t then false else false) else (if P0_1 t then sfrTab0_1 t.val else (if P0_2 t then sfrTab0_1 t.val else sfrTab0_1 t.val))))
  ∧ (frTab0_4 (t.val + 1) = ((cfgA.win (4 : Fin 5)).flush t || (cfgA.idle (4 : Fin 5) (cfgA.grid.coords t) && frTab0_4 t.val)))
  ∧ (P0_0 t → ¬P0_1 t → (cFirst pinT_0 pinT_1 (crd t)) ∧ ((¬(cFull pinT_0 pinT_1 (crd t))) ∧ ((cDiag0 pinT_0 pinT_1 (crd t)) ∧ ((¬(cDiag1 pinT_0 pinT_1 (crd t))) ∧ ((¬(cLast pinT_0 pinT_1 (crd t))) ∧ (True))))))
  ∧ (P0_0 t → ¬P0_1 t → cfgA.idle (4 : Fin 5) (cfgA.grid.coords t) = true ∧ (cfgA.win (4 : Fin 5)).flush t = false ∧ frTab0_4 t.val = true ∧ sfrTab0_0 (t.val + 1) = false ∧ sfrTab0_1 (t.val + 1) = false)
  ∧ (¬P0_0 t → ¬P0_1 t → ¬P0_2 t → (¬(cFirst pinT_0 pinT_1 (crd t))) ∧ ((¬(cFull pinT_0 pinT_1 (crd t))) ∧ ((¬(cDiag0 pinT_0 pinT_1 (crd t))) ∧ ((cDiag1 pinT_0 pinT_1 (crd t)) ∧ ((cLast pinT_0 pinT_1 (crd t)) ∧ (True))))))
  ∧ (¬P0_0 t → ¬P0_1 t → ¬P0_2 t → cfgA.idle (4 : Fin 5) (cfgA.grid.coords t) = false ∧ (cfgA.win (4 : Fin 5)).flush t = true ∧ frTab0_4 t.val = true ∧ sfrTab0_0 t.val = false ∧ sfrTab0_0 (t.val + 1) = false ∧ sfrTab0_1 t.val = false ∧ sfrTab0_1 (t.val + 1) = false)
  ∧ (P0_0 t → P0_1 t → (cFirst pinT_0 pinT_1 (crd t)) ∧ ((cFull pinT_0 pinT_1 (crd t)) ∧ ((¬(cDiag0 pinT_0 pinT_1 (crd t))) ∧ ((¬(cDiag1 pinT_0 pinT_1 (crd t))) ∧ ((¬(cLast pinT_0 pinT_1 (crd t))) ∧ (True))))))
  ∧ (P0_0 t → P0_1 t → cfgA.idle (4 : Fin 5) (cfgA.grid.coords t) = true ∧ (cfgA.win (4 : Fin 5)).flush t = false ∧ frTab0_4 t.val = true ∧ sfrTab0_0 t.val = false ∧ sfrTab0_0 (t.val + 1) = false ∧ sfrTab0_1 t.val = false ∧ sfrTab0_1 (t.val + 1) = false)
  ∧ (¬P0_0 t → P0_1 t → (¬(cFirst pinT_0 pinT_1 (crd t))) ∧ ((cFull pinT_0 pinT_1 (crd t)) ∧ ((¬(cDiag0 pinT_0 pinT_1 (crd t))) ∧ ((¬(cDiag1 pinT_0 pinT_1 (crd t))) ∧ ((¬(cLast pinT_0 pinT_1 (crd t))) ∧ (True))))))
  ∧ (¬P0_0 t → P0_1 t → cfgA.idle (4 : Fin 5) (cfgA.grid.coords t) = true ∧ (cfgA.win (4 : Fin 5)).flush t = false ∧ frTab0_4 t.val = true ∧ sfrTab0_0 t.val = false ∧ sfrTab0_0 (t.val + 1) = false ∧ sfrTab0_1 t.val = false ∧ sfrTab0_1 (t.val + 1) = false)
  ∧ (¬P0_0 t → ¬P0_1 t → P0_2 t → (¬(cFirst pinT_0 pinT_1 (crd t))) ∧ ((¬(cFull pinT_0 pinT_1 (crd t))) ∧ ((cDiag0 pinT_0 pinT_1 (crd t)) ∧ ((¬(cDiag1 pinT_0 pinT_1 (crd t))) ∧ ((¬(cLast pinT_0 pinT_1 (crd t))) ∧ (True))))))
  ∧ (¬P0_0 t → ¬P0_1 t → P0_2 t → cfgA.idle (4 : Fin 5) (cfgA.grid.coords t) = true ∧ (cfgA.win (4 : Fin 5)).flush t = false ∧ frTab0_4 t.val = true ∧ sfrTab0_0 t.val = false ∧ sfrTab0_0 (t.val + 1) = false ∧ sfrTab0_1 t.val = false ∧ sfrTab0_1 (t.val + 1) = false)

set_option synthInstance.maxSize 65536 in
instance FactsAt.dec (t : Fin cfgA.N) : Decidable (FactsAt t) :=
  @instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (@instDecidableAnd _ _ inferInstance
    (inferInstance))))))))))))

theorem allFacts_0 : ∀ t : Fin cfgA.N, 0 ≤ t.val → t.val < 80 → FactsAt t := by decide +kernel
theorem allFacts_1 : ∀ t : Fin cfgA.N, 80 ≤ t.val → t.val < 160 → FactsAt t := by decide +kernel
theorem allFacts_2 : ∀ t : Fin cfgA.N, 160 ≤ t.val → t.val < 240 → FactsAt t := by decide +kernel
theorem allFacts_3 : ∀ t : Fin cfgA.N, 240 ≤ t.val → t.val < 320 → FactsAt t := by decide +kernel
theorem allFacts_4 : ∀ t : Fin cfgA.N, 320 ≤ t.val → t.val < 400 → FactsAt t := by decide +kernel
theorem allFacts_5 : ∀ t : Fin cfgA.N, 400 ≤ t.val → t.val < 480 → FactsAt t := by decide +kernel
theorem allFacts_6 : ∀ t : Fin cfgA.N, 480 ≤ t.val → t.val < 560 → FactsAt t := by decide +kernel
theorem allFacts_7 : ∀ t : Fin cfgA.N, 560 ≤ t.val → t.val < 640 → FactsAt t := by decide +kernel
theorem allFacts : ∀ t : Fin cfgA.N, FactsAt t := fun t => by
  have h0 : 0 ≤ t.val := Nat.zero_le _
  rcases Nat.lt_or_ge t.val 80 with h1 | h1; · exact allFacts_0 t h0 h1
  rcases Nat.lt_or_ge t.val 160 with h2 | h2; · exact allFacts_1 t h1 h2
  rcases Nat.lt_or_ge t.val 240 with h3 | h3; · exact allFacts_2 t h2 h3
  rcases Nat.lt_or_ge t.val 320 with h4 | h4; · exact allFacts_3 t h3 h4
  rcases Nat.lt_or_ge t.val 400 with h5 | h5; · exact allFacts_4 t h4 h5
  rcases Nat.lt_or_ge t.val 480 with h6 | h6; · exact allFacts_5 t h5 h6
  rcases Nat.lt_or_ge t.val 560 with h7 | h7; · exact allFacts_6 t h6 h7
  exact allFacts_7 t h7 t.isLt

end Cert.KernelIdeal.Attn

end
-- ==== Proof.Attn.KernelIdeal.Frame.lean ====
module

public import proofs.«01_k».proof.Proof.Attn.KernelIdeal.Runs
public import proofs.«01_k».proof.Proof.Attn.KernelIdeal.Sched

@[expose] public section

set_option maxRecDepth 16384
set_option Elab.async false

noncomputable section

namespace Cert.KernelIdeal.Attn

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev EP : Emb (UR sig nD τ) 𝕄 := emb₁

variable (m : (ℓ : Loc nD τ sig) → Buf (Elt Ideal) ℓ)

theorem sfrTab0_0_step : ∀ (t : Fin cfgA.N), sfrTab0_0 (t.val + 1) = (if P0_0 t then (if P0_1 t then false else false) else (if P0_1 t then sfrTab0_0 t.val else (if P0_2 t then sfrTab0_0 t.val else sfrTab0_0 t.val))) := fun t => (allFacts t).1
theorem sfresh0_0_eq : ∀ n, n ≤ cfgA.N → sfresh0_0 n = sfrTab0_0 n
  | 0, _ => by simp only [sfresh0_0, sfrTab0_0, Nat.zero_le, decide_true]
  | n + 1, h => by simp only [sfresh0_0, dif_pos (show n < cfgA.N from h), sfresh0_0_eq n (Nat.le_of_lt h), sfrTab0_0_step ⟨n, h⟩]
theorem sfreshF0_0 (t : Fin cfgA.N) : sfresh0_0 t.val = sfrTab0_0 t.val := sfresh0_0_eq t.val (Nat.le_of_lt t.isLt)
theorem sfreshS0_0 (t : Fin cfgA.N) : sfresh0_0 (t.val + 1) = sfrTab0_0 (t.val + 1) := sfresh0_0_eq (t.val + 1) t.isLt

theorem sfrTab0_1_step : ∀ (t : Fin cfgA.N), sfrTab0_1 (t.val + 1) = (if P0_0 t then (if P0_1 t then false else false) else (if P0_1 t then sfrTab0_1 t.val else (if P0_2 t then sfrTab0_1 t.val else sfrTab0_1 t.val))) := fun t => (allFacts t).2.1
theorem sfresh0_1_eq : ∀ n, n ≤ cfgA.N → sfresh0_1 n = sfrTab0_1 n
  | 0, _ => by simp only [sfresh0_1, sfrTab0_1, Nat.zero_le, decide_true]
  | n + 1, h => by simp only [sfresh0_1, dif_pos (show n < cfgA.N from h), sfresh0_1_eq n (Nat.le_of_lt h), sfrTab0_1_step ⟨n, h⟩]
theorem sfreshF0_1 (t : Fin cfgA.N) : sfresh0_1 t.val = sfrTab0_1 t.val := sfresh0_1_eq t.val (Nat.le_of_lt t.isLt)
theorem sfreshS0_1 (t : Fin cfgA.N) : sfresh0_1 (t.val + 1) = sfrTab0_1 (t.val + 1) := sfresh0_1_eq (t.val + 1) t.isLt

theorem frTab0_4_step : ∀ (t : Fin cfgA.N),
    frTab0_4 (t.val + 1) = ((cfgA.win (4 : Fin 5)).flush t || (cfgA.idle (4 : Fin 5) (cfgA.grid.coords t) && frTab0_4 t.val)) := fun t => (allFacts t).2.2.1
theorem freshF0_4 (t : Fin cfgA.N) : cfgA.fresh (4 : Fin 5) t.val = frTab0_4 t.val :=
  Pipeline.Cfg.fresh_tab cfgA (4 : Fin 5) (frTab0_4) rfl (frTab0_4_step) t.val (Nat.le_of_lt t.isLt)

theorem hyps0_A : ∀ (t : Fin cfgA.N), P0_0 t → ¬P0_1 t →
    (cFirst pinT_0 pinT_1 (crd t)) ∧ ((¬(cFull pinT_0 pinT_1 (crd t))) ∧ ((cDiag0 pinT_0 pinT_1 (crd t)) ∧ ((¬(cDiag1 pinT_0 pinT_1 (crd t))) ∧ ((¬(cLast pinT_0 pinT_1 (crd t))) ∧ (True))))) := fun t => (allFacts t).2.2.2.1

theorem hypsR0_A : ∀ (t : Fin cfgA.N), P0_0 t → ¬P0_1 t →
    (cFirst pinT_0 pinT_1 (crd t)) ∧ ((¬(cFull pinT_0 pinT_1 (crd t))) ∧ ((cDiag0 pinT_0 pinT_1 (crd t)) ∧ ((¬(cDiag1 pinT_0 pinT_1 (crd t))) ∧ ((¬(cLast pinT_0 pinT_1 (crd t))) ∧ (True))))) := hyps0_A

theorem sched0_A : ∀ (t : Fin cfgA.N), P0_0 t → ¬P0_1 t →
    cfgA.idle (4 : Fin 5) (cfgA.grid.coords t) = true ∧ (cfgA.win (4 : Fin 5)).flush t = false ∧ cfgA.fresh (4 : Fin 5) t.val = true ∧ sfresh0_0 (t.val + 1) = false ∧ sfresh0_1 (t.val + 1) = false := by
  intro t; rw [freshF0_4 t, sfreshS0_0 t, sfreshS0_1 t]; exact (fun t => (allFacts t).2.2.2.2.1) t

theorem hyps0_B : ∀ (t : Fin cfgA.N), ¬P0_0 t → ¬P0_1 t → ¬P0_2 t →
    (¬(cFirst pinT_0 pinT_1 (crd t))) ∧ ((¬(cFull pinT_0 pinT_1 (crd t))) ∧ ((¬(cDiag0 pinT_0 pinT_1 (crd t))) ∧ ((cDiag1 pinT_0 pinT_1 (crd t)) ∧ ((cLast pinT_0 pinT_1 (crd t)) ∧ (True))))) := fun t => (allFacts t).2.2.2.2.2.1

theorem hypsR0_B : ∀ (t : Fin cfgA.N), ¬P0_0 t → ¬P0_1 t → ¬P0_2 t →
    (¬(cFirst pinT_0 pinT_1 (crd t))) ∧ ((¬(cFull pinT_0 pinT_1 (crd t))) ∧ ((¬(cDiag0 pinT_0 pinT_1 (crd t))) ∧ ((cDiag1 pinT_0 pinT_1 (crd t)) ∧ ((cLast pinT_0 pinT_1 (crd t)) ∧ (True))))) := hyps0_B

theorem sched0_B : ∀ (t : Fin cfgA.N), ¬P0_0 t → ¬P0_1 t → ¬P0_2 t →
    cfgA.idle (4 : Fin 5) (cfgA.grid.coords t) = false ∧ (cfgA.win (4 : Fin 5)).flush t = true ∧ cfgA.fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.1) t

theorem hyps0_C : ∀ (t : Fin cfgA.N), P0_0 t → P0_1 t →
    (cFirst pinT_0 pinT_1 (crd t)) ∧ ((cFull pinT_0 pinT_1 (crd t)) ∧ ((¬(cDiag0 pinT_0 pinT_1 (crd t))) ∧ ((¬(cDiag1 pinT_0 pinT_1 (crd t))) ∧ ((¬(cLast pinT_0 pinT_1 (crd t))) ∧ (True))))) := fun t => (allFacts t).2.2.2.2.2.2.2.1

theorem hypsR0_C : ∀ (t : Fin cfgA.N), P0_0 t → P0_1 t →
    (cFirst pinT_0 pinT_1 (crd t)) ∧ ((cFull pinT_0 pinT_1 (crd t)) ∧ ((¬(cDiag0 pinT_0 pinT_1 (crd t))) ∧ ((¬(cDiag1 pinT_0 pinT_1 (crd t))) ∧ ((¬(cLast pinT_0 pinT_1 (crd t))) ∧ (True))))) := hyps0_C

theorem sched0_C : ∀ (t : Fin cfgA.N), P0_0 t → P0_1 t →
    cfgA.idle (4 : Fin 5) (cfgA.grid.coords t) = true ∧ (cfgA.win (4 : Fin 5)).flush t = false ∧ cfgA.fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.1) t

theorem hyps0_D : ∀ (t : Fin cfgA.N), ¬P0_0 t → P0_1 t →
    (¬(cFirst pinT_0 pinT_1 (crd t))) ∧ ((cFull pinT_0 pinT_1 (crd t)) ∧ ((¬(cDiag0 pinT_0 pinT_1 (crd t))) ∧ ((¬(cDiag1 pinT_0 pinT_1 (crd t))) ∧ ((¬(cLast pinT_0 pinT_1 (crd t))) ∧ (True))))) := fun t => (allFacts t).2.2.2.2.2.2.2.2.2.1

theorem hypsR0_D : ∀ (t : Fin cfgA.N), ¬P0_0 t → P0_1 t →
    (¬(cFirst pinT_0 pinT_1 (crd t))) ∧ ((cFull pinT_0 pinT_1 (crd t)) ∧ ((¬(cDiag0 pinT_0 pinT_1 (crd t))) ∧ ((¬(cDiag1 pinT_0 pinT_1 (crd t))) ∧ ((¬(cLast pinT_0 pinT_1 (crd t))) ∧ (True))))) := hyps0_D

theorem sched0_D : ∀ (t : Fin cfgA.N), ¬P0_0 t → P0_1 t →
    cfgA.idle (4 : Fin 5) (cfgA.grid.coords t) = true ∧ (cfgA.win (4 : Fin 5)).flush t = false ∧ cfgA.fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.2.2.1) t

theorem hyps0_E : ∀ (t : Fin cfgA.N), ¬P0_0 t → ¬P0_1 t → P0_2 t →
    (¬(cFirst pinT_0 pinT_1 (crd t))) ∧ ((¬(cFull pinT_0 pinT_1 (crd t))) ∧ ((cDiag0 pinT_0 pinT_1 (crd t)) ∧ ((¬(cDiag1 pinT_0 pinT_1 (crd t))) ∧ ((¬(cLast pinT_0 pinT_1 (crd t))) ∧ (True))))) := fun t => (allFacts t).2.2.2.2.2.2.2.2.2.2.2.1

theorem hypsR0_E : ∀ (t : Fin cfgA.N), ¬P0_0 t → ¬P0_1 t → P0_2 t →
    (¬(cFirst pinT_0 pinT_1 (crd t))) ∧ ((¬(cFull pinT_0 pinT_1 (crd t))) ∧ ((cDiag0 pinT_0 pinT_1 (crd t)) ∧ ((¬(cDiag1 pinT_0 pinT_1 (crd t))) ∧ ((¬(cLast pinT_0 pinT_1 (crd t))) ∧ (True))))) := hyps0_E

theorem sched0_E : ∀ (t : Fin cfgA.N), ¬P0_0 t → ¬P0_1 t → P0_2 t →
    cfgA.idle (4 : Fin 5) (cfgA.grid.coords t) = true ∧ (cfgA.win (4 : Fin 5)).flush t = false ∧ cfgA.fresh (4 : Fin 5) t.val = true ∧ sfresh0_0 t.val = false ∧ sfresh0_0 (t.val + 1) = false ∧ sfresh0_1 t.val = false ∧ sfresh0_1 (t.val + 1) = false := by
  intro t; rw [freshF0_4 t, sfreshF0_0 t, sfreshS0_0 t, sfreshF0_1 t, sfreshS0_1 t]; exact (fun t => (allFacts t).2.2.2.2.2.2.2.2.2.2.2.2) t

def step0 (c : Dev nD) (t : Fin cfgA.N) (prev : (S1x4096x128.Idx → Elt Ideal .bf16) × Buf (Elt Ideal) ((c : Thread nD τ).loc cc0_scratch0) × Buf (Elt Ideal) ((c : Thread nD τ).loc cc0_scratch1)) : (S1x4096x128.Idx → Elt Ideal .bf16) × Buf (Elt Ideal) ((c : Thread nD τ).loc cc0_scratch0) × Buf (Elt Ideal) ((c : Thread nD τ).loc cc0_scratch1) :=
  if q0 : P0_0 t then
    if q1 : P0_1 t then
      ((if cfgA.fresh (4 : Fin 5) t.val then default else prev.1), (kernelRun0_C c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_C t q0 q1).1 (hypsR0_C t q0 q1).2.1 (hypsR0_C t q0 q1).2.2.1 (hypsR0_C t q0 q1).2.2.2.1 (hypsR0_C t q0 q1).2.2.2.2.1).1, (kernelRun0_C c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_C t q0 q1).1 (hypsR0_C t q0 q1).2.1 (hypsR0_C t q0 q1).2.2.1 (hypsR0_C t q0 q1).2.2.2.1 (hypsR0_C t q0 q1).2.2.2.2.1).2.1)
    else
      ((if cfgA.fresh (4 : Fin 5) t.val then default else prev.1), (kernelRun0_A c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_A t q0 q1).1 (hypsR0_A t q0 q1).2.1 (hypsR0_A t q0 q1).2.2.1 (hypsR0_A t q0 q1).2.2.2.1 (hypsR0_A t q0 q1).2.2.2.2.1).1, (kernelRun0_A c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_A t q0 q1).1 (hypsR0_A t q0 q1).2.1 (hypsR0_A t q0 q1).2.2.1 (hypsR0_A t q0 q1).2.2.2.1 (hypsR0_A t q0 q1).2.2.2.2.1).2.1)
  else
    if q1 : P0_1 t then
      ((if cfgA.fresh (4 : Fin 5) t.val then default else prev.1), (kernelRun0_D c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_D t q0 q1).1 (hypsR0_D t q0 q1).2.1 (hypsR0_D t q0 q1).2.2.1 (hypsR0_D t q0 q1).2.2.2.1 (hypsR0_D t q0 q1).2.2.2.2.1).1, (kernelRun0_D c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_D t q0 q1).1 (hypsR0_D t q0 q1).2.1 (hypsR0_D t q0 q1).2.2.1 (hypsR0_D t q0 q1).2.2.2.1 (hypsR0_D t q0 q1).2.2.2.2.1).2.1)
    else
      if q2 : P0_2 t then
        ((if cfgA.fresh (4 : Fin 5) t.val then default else prev.1), (kernelRun0_E c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_E t q0 q1 q2).1 (hypsR0_E t q0 q1 q2).2.1 (hypsR0_E t q0 q1 q2).2.2.1 (hypsR0_E t q0 q1 q2).2.2.2.1 (hypsR0_E t q0 q1 q2).2.2.2.2.1).1, (kernelRun0_E c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_E t q0 q1 q2).1 (hypsR0_E t q0 q1 q2).2.1 (hypsR0_E t q0 q1 q2).2.2.1 (hypsR0_E t q0 q1 q2).2.2.2.1 (hypsR0_E t q0 q1 q2).2.2.2.2.1).2.1)
      else
        (out0_B_4 c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_B t q0 q1 q2).1 (hypsR0_B t q0 q1 q2).2.1 (hypsR0_B t q0 q1 q2).2.2.1 (hypsR0_B t q0 q1 q2).2.2.2.1 (hypsR0_B t q0 q1 q2).2.2.2.2.1, (kernelRun0_B c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_B t q0 q1 q2).1 (hypsR0_B t q0 q1 q2).2.1 (hypsR0_B t q0 q1 q2).2.2.1 (hypsR0_B t q0 q1 q2).2.2.2.1 (hypsR0_B t q0 q1 q2).2.2.2.2.1).2.1, (kernelRun0_B c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_B t q0 q1 q2).1 (hypsR0_B t q0 q1 q2).2.1 (hypsR0_B t q0 q1 q2).2.2.1 (hypsR0_B t q0 q1 q2).2.2.2.1 (hypsR0_B t q0 q1 q2).2.2.2.2.1).2.2.1)

def traj0 (c : Dev nD) : (n : ℕ) → n < cfgA.N → (S1x4096x128.Idx → Elt Ideal .bf16) × Buf (Elt Ideal) ((c : Thread nD τ).loc cc0_scratch0) × Buf (Elt Ideal) ((c : Thread nD τ).loc cc0_scratch1)
  | 0, h => step0 m c ⟨0, h⟩ (default, default, default)
  | n + 1, h => step0 m c ⟨n + 1, h⟩ (traj0 c n (Nat.lt_of_succ_lt h))

def prev0 (c : Dev nD) (t : Fin cfgA.N) : (S1x4096x128.Idx → Elt Ideal .bf16) × Buf (Elt Ideal) ((c : Thread nD τ).loc cc0_scratch0) × Buf (Elt Ideal) ((c : Thread nD τ).loc cc0_scratch1) :=
  if h : t.val = 0 then (default, default, default) else traj0 m c (t.val - 1) (by omega)

theorem traj0_eq (c : Dev nD) (t : Fin cfgA.N) : traj0 m c t.val t.isLt = step0 m c t (prev0 m c t) := by
  obtain ⟨n, hn⟩ := t
  cases n with
  | zero => rfl
  | succ n => unfold prev0; simp only [Nat.add_one_ne_zero, dif_neg, not_false_eq_true]; rfl

theorem step0_A (c : Dev nD) (t : Fin cfgA.N) (prev : (S1x4096x128.Idx → Elt Ideal .bf16) × Buf (Elt Ideal) ((c : Thread nD τ).loc cc0_scratch0) × Buf (Elt Ideal) ((c : Thread nD τ).loc cc0_scratch1)) (q0 : P0_0 t) (q1 : ¬P0_1 t) :
    step0 m c t prev = ((if cfgA.fresh (4 : Fin 5) t.val then default else prev.1), (kernelRun0_A c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_A t q0 q1).1 (hypsR0_A t q0 q1).2.1 (hypsR0_A t q0 q1).2.2.1 (hypsR0_A t q0 q1).2.2.2.1 (hypsR0_A t q0 q1).2.2.2.2.1).1, (kernelRun0_A c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_A t q0 q1).1 (hypsR0_A t q0 q1).2.1 (hypsR0_A t q0 q1).2.2.1 (hypsR0_A t q0 q1).2.2.2.1 (hypsR0_A t q0 q1).2.2.2.2.1).2.1) := by
  unfold step0; simp only [dif_pos q0, dif_neg q1]

theorem step0_B (c : Dev nD) (t : Fin cfgA.N) (prev : (S1x4096x128.Idx → Elt Ideal .bf16) × Buf (Elt Ideal) ((c : Thread nD τ).loc cc0_scratch0) × Buf (Elt Ideal) ((c : Thread nD τ).loc cc0_scratch1)) (q0 : ¬P0_0 t) (q1 : ¬P0_1 t) (q2 : ¬P0_2 t) :
    step0 m c t prev = (out0_B_4 c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_B t q0 q1 q2).1 (hypsR0_B t q0 q1 q2).2.1 (hypsR0_B t q0 q1 q2).2.2.1 (hypsR0_B t q0 q1 q2).2.2.2.1 (hypsR0_B t q0 q1 q2).2.2.2.2.1, (kernelRun0_B c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_B t q0 q1 q2).1 (hypsR0_B t q0 q1 q2).2.1 (hypsR0_B t q0 q1 q2).2.2.1 (hypsR0_B t q0 q1 q2).2.2.2.1 (hypsR0_B t q0 q1 q2).2.2.2.2.1).2.1, (kernelRun0_B c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_B t q0 q1 q2).1 (hypsR0_B t q0 q1 q2).2.1 (hypsR0_B t q0 q1 q2).2.2.1 (hypsR0_B t q0 q1 q2).2.2.2.1 (hypsR0_B t q0 q1 q2).2.2.2.2.1).2.2.1) := by
  unfold step0; simp only [dif_neg q0, dif_neg q1, dif_neg q2]

theorem step0_C (c : Dev nD) (t : Fin cfgA.N) (prev : (S1x4096x128.Idx → Elt Ideal .bf16) × Buf (Elt Ideal) ((c : Thread nD τ).loc cc0_scratch0) × Buf (Elt Ideal) ((c : Thread nD τ).loc cc0_scratch1)) (q0 : P0_0 t) (q1 : P0_1 t) :
    step0 m c t prev = ((if cfgA.fresh (4 : Fin 5) t.val then default else prev.1), (kernelRun0_C c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_C t q0 q1).1 (hypsR0_C t q0 q1).2.1 (hypsR0_C t q0 q1).2.2.1 (hypsR0_C t q0 q1).2.2.2.1 (hypsR0_C t q0 q1).2.2.2.2.1).1, (kernelRun0_C c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) (hypsR0_C t q0 q1).1 (hypsR0_C t q0 q1).2.1 (hypsR0_C t q0 q1).2.2.1 (hypsR0_C t q0 q1).2.2.2.1 (hypsR0_C t q0 q1).2.2.2.2.1).2.1) := by
  unfold step0; simp only [dif_pos q0, dif_pos q1]

theorem step0_D (c : Dev nD) (t : Fin cfgA.N) (prev : (S1x4096x128.Idx → Elt Ideal .bf16) × Buf (Elt Ideal) ((c : Thread nD τ).loc cc0_scratch0) × Buf (Elt Ideal) ((c : Thread nD τ).loc cc0_scratch1)) (q0 : ¬P0_0 t) (q1 : P0_1 t) :
    step0 m c t prev = ((if cfgA.fresh (4 : Fin 5) t.val then default else prev.1), (kernelRun0_D c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_D t q0 q1).1 (hypsR0_D t q0 q1).2.1 (hypsR0_D t q0 q1).2.2.1 (hypsR0_D t q0 q1).2.2.2.1 (hypsR0_D t q0 q1).2.2.2.2.1).1, (kernelRun0_D c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_D t q0 q1).1 (hypsR0_D t q0 q1).2.1 (hypsR0_D t q0 q1).2.2.1 (hypsR0_D t q0 q1).2.2.2.1 (hypsR0_D t q0 q1).2.2.2.2.1).2.1) := by
  unfold step0; simp only [dif_neg q0, dif_pos q1]

theorem step0_E (c : Dev nD) (t : Fin cfgA.N) (prev : (S1x4096x128.Idx → Elt Ideal .bf16) × Buf (Elt Ideal) ((c : Thread nD τ).loc cc0_scratch0) × Buf (Elt Ideal) ((c : Thread nD τ).loc cc0_scratch1)) (q0 : ¬P0_0 t) (q1 : ¬P0_1 t) (q2 : P0_2 t) :
    step0 m c t prev = ((if cfgA.fresh (4 : Fin 5) t.val then default else prev.1), (kernelRun0_E c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_E t q0 q1 q2).1 (hypsR0_E t q0 q1 q2).2.1 (hypsR0_E t q0 q1 q2).2.2.1 (hypsR0_E t q0 q1 q2).2.2.2.1 (hypsR0_E t q0 q1 q2).2.2.2.2.1).1, (kernelRun0_E c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) prev.2.1 prev.2.2 (hypsR0_E t q0 q1 q2).1 (hypsR0_E t q0 q1 q2).2.1 (hypsR0_E t q0 q1 q2).2.2.1 (hypsR0_E t q0 q1 q2).2.2.2.1 (hypsR0_E t q0 q1 q2).2.2.2.2.1).2.1) := by
  unfold step0; simp only [dif_neg q0, dif_neg q1, dif_pos q2]

def prev0T (c : Dev nD) (t : Fin (cfgA.N + 1)) : (S1x4096x128.Idx → Elt Ideal .bf16) × Buf (Elt Ideal) ((c : Thread nD τ).loc cc0_scratch0) × Buf (Elt Ideal) ((c : Thread nD τ).loc cc0_scratch1) :=
  if h : t.val = 0 then (default, default, default) else traj0 m c (t.val - 1) (by omega)

theorem prev0T_castSucc (c : Dev nD) (t : Fin cfgA.N) : prev0T m c t.castSucc = prev0 m c t := by
  unfold prev0T prev0; simp only [Fin.val_castSucc]
theorem prev0T_succ (c : Dev nD) (t : Fin cfgA.N) : prev0T m c t.succ = traj0 m c t.val t.isLt := by
  unfold prev0T; simp only [Fin.val_succ, Nat.add_one_ne_zero, ↓reduceDIte, Nat.add_one_sub_one]

def Phi (m : (ℓ : Loc nD τ sig) → Buf (Elt Ideal) ℓ) (c : Dev nD) (t : Fin (cfgA.N + 1)) : sProp 𝕄 :=
  iprop((∃ a, ⌜sfresh0_0 t.val = false → a = (prev0T m c t).2.1⌝ ∗ (scM0_0.view.loc (c : Thread nD τ) ↦{fullShare} a)) ∗ (∃ a, ⌜sfresh0_1 t.val = false → a = (prev0T m c t).2.2⌝ ∗ (scM0_1.view.loc (c : Thread nD τ) ↦{fullShare} a)) ∗ (tbM0_0.view.loc (c : Thread nD τ) ↦{fullShare.right} pinT_0) ∗ (tbM0_1.view.loc (c : Thread nD τ) ↦{fullShare.right} pinT_1) ∗ ∃ r, prngReg c r)

def dats (_ : Fin 1) (c : Dev nD) : Dat τ (Elt Ideal) Unit ℕ (UR sig nD τ) ℕ cfgA c where
  A w := m ((cfgA.win w).arr.view.loc (c : Thread nD τ))
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => (traj0 m c t.val t.isLt).1
  Φ t := Phi m c t
  q _ := fullShare
  owed _ := 0

theorem after0_0 (c : Dev nD) (t : Fin cfgA.N) : (dats m 0 c).after (0 : Fin 5) t = iblk m c (0 : Fin 5) t := rfl
theorem after0_1 (c : Dev nD) (t : Fin cfgA.N) : (dats m 0 c).after (1 : Fin 5) t = iblk m c (1 : Fin 5) t := rfl
theorem after0_2 (c : Dev nD) (t : Fin cfgA.N) : (dats m 0 c).after (2 : Fin 5) t = iblk m c (2 : Fin 5) t := rfl
theorem after0_3 (c : Dev nD) (t : Fin cfgA.N) : (dats m 0 c).after (3 : Fin 5) t = iblk m c (3 : Fin 5) t := rfl
theorem after0_4 (c : Dev nD) (t : Fin cfgA.N) : (dats m 0 c).after (4 : Fin 5) t = (traj0 m c t.val t.isLt).1 := rfl

theorem before0_0 (c : Dev nD) (t : Fin cfgA.N) (d) : (dats m 0 c).before (0 : Fin 5) t d = iblk m c (0 : Fin 5) t :=
  ((dats m 0 c).before_in_eq_fetched (0 : Fin 5) rfl (fun _ => rfl) (fun _ _ _ => rfl) (fun t => by rw [after0_0]; unfold Dat.blockOf iblk; rfl) t d).trans
    (by unfold Dat.fetched Dat.blockOf iblk; rfl)

theorem before0_1 (c : Dev nD) (t : Fin cfgA.N) (d) : (dats m 0 c).before (1 : Fin 5) t d = iblk m c (1 : Fin 5) t :=
  ((dats m 0 c).before_in_eq_fetched (1 : Fin 5) rfl (fun _ => rfl) (fun _ _ _ => rfl) (fun t => by rw [after0_1]; unfold Dat.blockOf iblk; rfl) t d).trans
    (by unfold Dat.fetched Dat.blockOf iblk; rfl)

theorem before0_2 (c : Dev nD) (t : Fin cfgA.N) (d) : (dats m 0 c).before (2 : Fin 5) t d = iblk m c (2 : Fin 5) t :=
  ((dats m 0 c).before_in_eq_fetched (2 : Fin 5) rfl (fun _ => rfl) (fun _ _ _ => rfl) (fun t => by rw [after0_2]; unfold Dat.blockOf iblk; rfl) t d).trans
    (by unfold Dat.fetched Dat.blockOf iblk; rfl)

theorem before0_3 (c : Dev nD) (t : Fin cfgA.N) (d) : (dats m 0 c).before (3 : Fin 5) t d = iblk m c (3 : Fin 5) t :=
  ((dats m 0 c).before_in_eq_fetched (3 : Fin 5) rfl (fun _ => rfl) (fun _ _ _ => rfl) (fun t => by rw [after0_3]; unfold Dat.blockOf iblk; rfl) t d).trans
    (by unfold Dat.fetched Dat.blockOf iblk; rfl)

theorem hcarry0_4 (c : Dev nD) : ∀ (t : Fin cfgA.N) (ht : t.val ≠ 0), cfgA.idle (4 : Fin 5) (cfgA.grid.coords t) = true → cfgA.fresh (4 : Fin 5) t.val = false →
    (dats m 0 c).after (4 : Fin 5) t = (dats m 0 c).after (4 : Fin 5) ⟨t.val - 1, by omega⟩ := by
  intro t ht hi hf
  rw [after0_4, after0_4, traj0_eq]
  by_cases q0 : P0_0 t
  · by_cases q1 : P0_1 t
    · rw [step0_C m c t _ q0 q1]
      simp only [hf, Bool.false_eq_true, ↓reduceIte]
      unfold prev0; rw [dif_neg ht]
    · rw [step0_A m c t _ q0 q1]
      simp only [hf, Bool.false_eq_true, ↓reduceIte]
      unfold prev0; rw [dif_neg ht]
  · by_cases q1 : P0_1 t
    · rw [step0_D m c t _ q0 q1]
      simp only [hf, Bool.false_eq_true, ↓reduceIte]
      unfold prev0; rw [dif_neg ht]
    · by_cases q2 : P0_2 t
      · rw [step0_E m c t _ q0 q1 q2]
        simp only [hf, Bool.false_eq_true, ↓reduceIte]
        unfold prev0; rw [dif_neg ht]
      · obtain ⟨i4, -, -, -, -, -, -⟩ := sched0_B t q0 q1 q2
        rw [i4] at hi; exact absurd hi (by decide)

theorem before0_4 (c : Dev nD) (t : Fin cfgA.N) (d) :
    (dats m 0 c).before (4 : Fin 5) t d = if cfgA.fresh (4 : Fin 5) t.val then d else (prev0 m c t).1 := by
  rw [(dats m 0 c).before_out_traj (4 : Fin 5) rfl (fun _ _ => rfl) (hcarry0_4 m c) t.val t rfl d]
  by_cases hf : cfgA.fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

abbrev bodyAt0 (t : Fin cfgA.N) : Prog (TpuEff nD τ sig (Elt Ideal) Λ₀ .tc) PUnit :=
  cc0_mla_attention (crd t) (Memref.whole main_c) (Memref.isWhole_whole _) (Memref.whole main_c_0) (Memref.isWhole_whole _) (ms0_0 t) (hs0_0 t) (ms0_1 t) (hs0_1 t) (ms0_2 t) (hs0_2 t) (ms0_3 t) (hs0_3 t) (ms0_4 t) (hs0_4 t) (Memref.whole cc0_scratch0) (Memref.isWhole_whole _) (Memref.whole cc0_scratch1) (Memref.isWhole_whole _)

set_option maxHeartbeats 4000000 in
theorem sound_body (c : Dev nD) (t : Fin cfgA.N) :
    iprop((dats m 0 c).Φ t.castSucc ∗ (dats m 0 c).owesAt () t.castSucc
        ∗ (∃ d, owns (c : Thread nD τ) (ms0_0 t) fullShare ((dats m 0 c).before (0 : Fin 5) t d))
        ∗ (∃ d, owns (c : Thread nD τ) (ms0_1 t) fullShare ((dats m 0 c).before (1 : Fin 5) t d))
        ∗ (∃ d, owns (c : Thread nD τ) (ms0_2 t) fullShare ((dats m 0 c).before (2 : Fin 5) t d))
        ∗ (∃ d, owns (c : Thread nD τ) (ms0_3 t) fullShare ((dats m 0 c).before (3 : Fin 5) t d))
        ∗ (∃ d, owns (c : Thread nD τ) (ms0_4 t) fullShare ((dats m 0 c).before (4 : Fin 5) t d)))
      ⊢ wp frame (wpE (defs₀ (F := Ideal)) Variants.none c none) Set.univ (bodyAt0 t) fun _ =>
          iprop((dats m 0 c).Φ t.succ ∗ (dats m 0 c).owesAt () t.succ
            ∗ bigSep Finset.univ fun w : Fin cfgA.W =>
                match cfgA.idle w (cfgA.grid.coords t) with
                | true =>
                  match (cfgA.win w).flush t with
                  | false => iprop(∃ d, owns (c : Thread nD τ) ((cfgA.win w).stage (cfgA.slots t w)) fullShare ((dats m 0 c).before w t d))
                  | true => owns (c : Thread nD τ) ((cfgA.win w).stage (cfgA.slots t w)) fullShare ((dats m 0 c).after w t)
                | false => owns (c : Thread nD τ) ((cfgA.win w).stage (cfgA.slots t w)) fullShare ((dats m 0 c).after w t)) := by
  rw [bigSep_W0]
  by_cases q0 : P0_0 t
  · by_cases q1 : P0_1 t
    · obtain ⟨i4, f4, fr4, sf0, sfn0, sf1, sfn1⟩ := sched0_C t q0 q1
      have F0 := hypsR0_C t q0 q1
      have hc0 := F0.1; have F1 := F0.2
      have hc1 := F1.1; have F2 := F1.2
      have hc2 := F2.1; have F3 := F2.2
      have hc3 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_C m c t _ q0 q1]
      unfold Phi; simp only [prev0T_castSucc, prev0T_succ, traj0_eq, step0_C m c t _ q0 q1, Fin.val_castSucc, Fin.val_succ]
      iintro ⟨⟨⟨%a0, %ha0, HS0⟩, ⟨%a1, %ha1, HS1⟩, HT0, HT1, Hpr⟩, Ho, ⟨%d0, H0⟩, ⟨%d1, H1⟩, ⟨%d2, H2⟩, ⟨%d3, H3⟩, ⟨%d4, H4⟩⟩
      iapply ((kernelRun0_C c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) hc0 hc1 hc2 hc3 k0_h5).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · obtain ⟨i4, f4, fr4, sfn0, sfn1⟩ := sched0_A t q0 q1
      have F0 := hypsR0_A t q0 q1
      have hc0 := F0.1; have F1 := F0.2
      have hc1 := F1.1; have F2 := F1.2
      have hc2 := F2.1; have F3 := F2.2
      have hc3 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_A m c t _ q0 q1]
      unfold Phi; simp only [prev0T_castSucc, prev0T_succ, traj0_eq, step0_A m c t _ q0 q1, Fin.val_castSucc, Fin.val_succ]
      iintro ⟨⟨⟨%a0, %ha0, HS0⟩, ⟨%a1, %ha1, HS1⟩, HT0, HT1, Hpr⟩, Ho, ⟨%d0, H0⟩, ⟨%d1, H1⟩, ⟨%d2, H2⟩, ⟨%d3, H3⟩, ⟨%d4, H4⟩⟩
      iapply ((kernelRun0_A c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) hc0 hc1 hc2 hc3 k0_h5).2.2 _ a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
  · by_cases q1 : P0_1 t
    · obtain ⟨i4, f4, fr4, sf0, sfn0, sf1, sfn1⟩ := sched0_D t q0 q1
      have F0 := hypsR0_D t q0 q1
      have hc0 := F0.1; have F1 := F0.2
      have hc1 := F1.1; have F2 := F1.2
      have hc2 := F2.1; have F3 := F2.2
      have hc3 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats m 0 c).Φ t.succ = Phi m c t.succ from rfl, show (dats m 0 c).Φ t.castSucc = Phi m c t.castSucc from rfl,
        show (dats m 0 c).owesAt () t.succ = (dats m 0 c).owesAt () t.castSucc from rfl]
      try rewrite [traj0_eq, step0_D m c t _ q0 q1]
      unfold Phi; simp only [prev0T_castSucc, prev0T_succ, traj0_eq, step0_D m c t _ q0 q1, Fin.val_castSucc, Fin.val_succ]
      simp only [exists_held sf0, exists_held sf1]
      iintro ⟨⟨HS0, HS1, HT0, HT1, Hpr⟩, Ho, ⟨%d0, H0⟩, ⟨%d1, H1⟩, ⟨%d2, H2⟩, ⟨%d3, H3⟩, ⟨%d4, H4⟩⟩
      iapply ((kernelRun0_D c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) _ _ hc0 hc1 hc2 hc3 k0_h5).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1 Hpr]
      · isplitl [HS0]
        · iexists _; isplitr; swap
          · iexact HS0
          · ipureintro; intro hn; first | rfl | exact absurd hn (by first | (rw [sfn0]; decide) | decide)
        isplitl [HS1]
        · iexists _; isplitr; swap
          · iexact HS1
          · ipureintro; intro hn; first | rfl | exact absurd hn (by first | (rw [sfn1]; decide) | decide)
        isplitl [HT0]
        · iexact HT0
        isplitl [HT1]
        · iexact HT1
        iexact Hpr
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4
    · by_cases q2 : P0_2 t
      · obtain ⟨i4, f4, fr4, sf0, sfn0, sf1, sfn1⟩ := sched0_E t q0 q1 q2
        have F0 := hypsR0_E t q0 q1 q2
        have hc0 := F0.1; have F1 := F0.2
        have hc1 := F1.1; have F2 := F1.2
        have hc2 := F2.1; have F3 := F2.2
        have hc3 := F3.1; have F4 := F3.2
        have k0_h5 := F4.1; have F5 := F4.2
        clear F0 F1 F2 F3 F4 F5
        rewrite [i4]
        simp only [before0_0, before0_1, before0_2, before0_3, before0_4, after0_0, after0_1, after0_2, after0_3, after0_4, f4]
        simp only [fr4, Bool.false_eq_true, ↓reduceIte]
        rewrite [show (dats m 0 c).Φ t.succ = Phi m c t.succ from rfl, show (dats m 0 c).Φ t.castSucc = Phi m c t.castSucc from rfl,
          show (dats m 0 c).owesAt () t.succ = (dats m 0 c).owesAt () t.castSucc from rfl]
        try rewrite [traj0_eq, step0_E m c t _ q0 q1 q2]
        unfold Phi; simp only [prev0T_castSucc, prev0T_succ, traj0_eq, step0_E m c t _ q0 q1 q2, Fin.val_castSucc, Fin.val_succ]
        simp only [exists_held sf0, exists_held sf1]
        iintro ⟨⟨HS0, HS1, HT0, HT1, Hpr⟩, Ho, ⟨%d0, H0⟩, ⟨%d1, H1⟩, ⟨%d2, H2⟩, ⟨%d3, H3⟩, ⟨%d4, H4⟩⟩
        iapply ((kernelRun0_E c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) _ _ hc0 hc1 hc2 hc3 k0_h5).2.2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        isplitl [HS1]; · iexact HS1
        iintro ⟨H0, H1, H2, H3, HT0, HT1, H4, HS0, HS1⟩
        isplitl [HS0 HS1 HT0 HT1 Hpr]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          isplitl [HT1]
          · iexact HT1
          iexact Hpr
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4
      · obtain ⟨i4, f4, fr4, sf0, sfn0, sf1, sfn1⟩ := sched0_B t q0 q1 q2
        have F0 := hypsR0_B t q0 q1 q2
        have hc0 := F0.1; have F1 := F0.2
        have hc1 := F1.1; have F2 := F1.2
        have hc2 := F2.1; have F3 := F2.2
        have hc3 := F3.1; have F4 := F3.2
        have k0_h5 := F4.1; have F5 := F4.2
        clear F0 F1 F2 F3 F4 F5
        rewrite [i4]
        simp only [before0_0, before0_1, before0_2, before0_3, before0_4, after0_0, after0_1, after0_2, after0_3, after0_4, f4]
        simp only [fr4, Bool.false_eq_true, ↓reduceIte]
        rewrite [show (dats m 0 c).Φ t.succ = Phi m c t.succ from rfl, show (dats m 0 c).Φ t.castSucc = Phi m c t.castSucc from rfl,
          show (dats m 0 c).owesAt () t.succ = (dats m 0 c).owesAt () t.castSucc from rfl]
        try rewrite [traj0_eq, step0_B m c t _ q0 q1 q2]
        unfold Phi; simp only [prev0T_castSucc, prev0T_succ, traj0_eq, step0_B m c t _ q0 q1 q2, Fin.val_castSucc, Fin.val_succ]
        simp only [exists_held sf0, exists_held sf1]
        iintro ⟨⟨HS0, HS1, HT0, HT1, Hpr⟩, Ho, ⟨%d0, H0⟩, ⟨%d1, H1⟩, ⟨%d2, H2⟩, ⟨%d3, H3⟩, ⟨%d4, H4⟩⟩
        iapply ((kernelRun0_B c (crd t) (ms0_0 t) (hs0_0 t) (ms0_1 t) (hs0_1 t) (ms0_2 t) (hs0_2 t) (ms0_3 t) (hs0_3 t) (ms0_4 t) (hs0_4 t) pinT_0 pinT_1 (iblk m c (0 : Fin 5) t) (iblk m c (1 : Fin 5) t) (iblk m c (2 : Fin 5) t) (iblk m c (3 : Fin 5) t) _ _ hc0 hc1 hc2 hc3 k0_h5).2.2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        isplitl [HS1]; · iexact HS1
        iintro ⟨H0, H1, H2, H3, HT0, HT1, ⟨%e4, H4⟩, HS0, HS1⟩
        isplitl [HS0 HS1 HT0 HT1 Hpr]
        · isplitl [HS0]
          · iexists _; isplitr; swap
            · iexact HS0
            · ipureintro; intro hn; first | rfl | exact absurd hn (by first | (rw [sfn0]; decide) | decide)
          isplitl [HS1]
          · iexists _; isplitr; swap
            · iexact HS1
            · ipureintro; intro hn; first | rfl | exact absurd hn (by first | (rw [sfn1]; decide) | decide)
          isplitl [HT0]
          · iexact HT0
          isplitl [HT1]
          · iexact HT1
          iexact Hpr
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_B_4 c _ _ _ _ _ _ _ _ _ _ _ _ _ _ _ _ _ _ _ _ _ _ _ _)

theorem body_obligation (c : Dev nD) : BodyObligation (dats m 0 c) (defs₀ (F := Ideal)) Variants.none () Set.univ := fun t => by
  rw [bigSep_W0]
  exact sound_body m c t

theorem share_eq (c : Dev nD) (w : Fin cfgA.W) : (dats m 0 c).share w = fullShare := by unfold Dat.share; split <;> rfl

theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_c) ↦{q 0} v 0) ∗ (((c : Thread nD τ).loc main_c_0) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(Pipeline.ΦA spec0 c ∗ Pipeline.ΦT pre0 adm.1 c) ⊢ (dats m 0 c).Φ 0 := by
  unfold Pipeline.ΦA Pipeline.ΦT
  rw [prefHeld_eq, scopedRest0_eq, show (dats m 0 c).Φ 0 = Phi m c 0 from rfl]
  unfold Phi
  iintro ⟨⟨⟨⟨%a0, HS0⟩, ⟨%a1, HS1⟩⟩, Hpr⟩, ⟨HT0, HT1⟩⟩
  isplitl [HS0]
  · iexists a0; isplitr; swap
    · iexact HS0
    · ipureintro; intro h; exact absurd (h.symm.trans (show sfresh0_0 0 = true from rfl)) Bool.false_ne_true
  isplitl [HS1]
  · iexists a1; isplitr; swap
    · iexact HS1
    · ipureintro; intro h; exact absurd (h.symm.trans (show sfresh0_1 0 = true from rfl)) Bool.false_ne_true
  isplitl [HT0]
  · iexact HT0
  isplitl [HT1]
  · iexact HT1
  iexact Hpr

theorem phiN_exit (c : Dev nD) : (dats m 0 c).Φ (Fin.last cfgA.N) ⊢ Pipeline.ΦA spec0 c := by
  unfold Pipeline.ΦA
  rw [scopedRest0_eq, show (dats m 0 c).Φ (Fin.last cfgA.N) = Phi m c (Fin.last _) from rfl]
  unfold Phi
  iintro ⟨⟨%a0, -, HS0⟩, ⟨%a1, -, HS1⟩, -, -, Hpr⟩
  isplitr [Hpr]
  · isplitl [HS0]
    · iexists a0; iexact HS0
    iexists a1; iexact HS1
  iexact Hpr

/-- The buffers' contents where the call begins: the pair tables written, everything else as launched. -/
abbrev Ventry (c : Dev nD) (b : Ref sig .tc) : Buf (Elt Ideal) ((c : Thread nD τ).loc b) :=
  StableHlo.after (hostOps0 (F := Ideal)) (fun b => m (c, b)) b

theorem table0_eq : ∀ x : S20.Idx, lit0 (S20.rowMajor x) = pinT_0 x := by decide +kernel
theorem table1_eq : ∀ x : S20.Idx, lit1 (S20.rowMajor x) = pinT_1 x := by decide +kernel

theorem entry_tables (c : Dev nD) (k : Fin 2) : Ventry m c (pre0.ref k) = adm.1 k := by
  fin_cases k
  · funext x; exact table0_eq x
  · funext x; exact table1_eq x

theorem entry_arrays (c : Dev nD) (w : Fin cfgA.W) : (dats m 0 c).A w = Ventry m c (Pipeline.arrRef spec0 w) := by
  fin_cases w <;> rfl

theorem hostOps0_fresh : (hostOps0 (F := Ideal)).Forall fun op => op.fresh = ∅ := ⟨rfl, rfl⟩

set_option backward.isDefEq.respectTransparency.types false in
set_option maxHeartbeats 4000000 in
/-- The program runs, and ends with every window's array at what the body left in it. -/
theorem run_main (ρ : Dev nD → PrngReg) : θ_run (defs (F := Ideal)) (onTc (τ := τ) (main (F := Ideal))) ⟨m, fun _ => 0, ρ⟩
    (fun r => Pipeline.FramePost pcs (dats m) 0 (Ventry m) r ∧ r.2.sem = fun _ => 0) :=
  Pipeline.θ_run_frameP_track pcfgs (fun _ => adm) (dats m) 0 launch0 defs₀ Variants.none m ρ main
    (fun c => (body_obligation m c).loose) (share_eq m) (fun _ _ => rfl) (Ventry m)
    (Pipeline.hmainP_prefix pcfgs 0 defs₀ Variants.none m main hostOps0 hostOps0_sub hostOps0_fresh main_chain)
    (entry_arrays m) (entry_tables m) (phi0_intro m) (phiN_exit m) _ (fun _ h => h)

theorem frame (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).1 (0 : Fin 5)).trans ((dats m 0 c).arrAt_in (0 : Fin 5) rfl _), ((h.1 c).1 (1 : Fin 5)).trans ((dats m 0 c).arrAt_in (1 : Fin 5) rfl _), ((h.1 c).1 (2 : Fin 5)).trans ((dats m 0 c).arrAt_in (2 : Fin 5) rfl _), ((h.1 c).1 (3 : Fin 5)).trans ((dats m 0 c).arrAt_in (3 : Fin 5) rfl _)⟩, h.2⟩) (run_main m ρ)

end Cert.KernelIdeal.Attn

end
-- ==== Proof.Attn.KernelIdeal.Last.lean ====
module

public import proofs.«01_k».proof.Proof.Attn.KernelIdeal.PathB
public import proofs.«01_k».proof.Proof.Attn.KernelIdeal.Frame
import all proofs.«01_k».proof.Proof.Attn.KernelIdeal.Runs

/-! What the last step of a row block leaves and stores. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

variable (hc0 : ¬(cFirst T0 T1 i)) (hc1 : ¬(cFull T0 T1 i)) (hc2 : ¬(cDiag0 T0 T1 i)) (hc3 : cDiag1 T0 T1 i) (k0_h5 : cLast T0 T1 i)

theorem run_B_m : (kernelRun0_B c i arg5 harg5 arg6 harg6 arg7 harg7 arg8 harg8 arg9 harg9 T0 T1 x0 x1 x2 x3 xa0 xa1 hc0 hc1 hc2 hc3 k0_h5).2.1 = scM0_0.view.writes (Elt Ideal) xa0 (lastM c arg5 arg6 arg7 x0 x1 x2 xa0) := by
  dsimp only [kernelRun0_B]
  refine congrArg (scM0_0.view.writes (Elt Ideal) xa0) ?_
  exact consM (by unfold kernelRun0_B.sl.r_45; exact (shapeCast_self _ _).trans (by rfl)) (consM ((shapeCast_self _ _).trans (by rfl)) (consM ((shapeCast_self _ _).trans (by rfl)) (consM ((shapeCast_self _ _).trans (by rfl)) (rfl))))

theorem run_B_a : (kernelRun0_B c i arg5 harg5 arg6 harg6 arg7 harg7 arg8 harg8 arg9 harg9 T0 T1 x0 x1 x2 x3 xa0 xa1 hc0 hc1 hc2 hc3 k0_h5).2.2.1 = scM0_1.view.writes (Elt Ideal) xa1 (kernelRun0_B.sl.HS1_4 c arg5 arg6 arg7 arg8 x0 x1 x2 x3 xa0 xa1) := by
  dsimp only [kernelRun0_B]

/-- The quotient a last step stores, at an index. -/
theorem quot_apply (a b : Vec Ideal S4096x128 .f32) (row : Fin 4096) (d : Fin 128) : k0_pay5 a b (ix3 0 row d) = Ideal.div (a (ix2 row d)) (b (ix2 row d)) := by
  unfold k0_pay5
  refine (shapeCast_apply _ _ (ix3 0 row d) (ix2 row d) ?_).trans rfl
  rw [Shape.rowMajor_val_two, Shape.rowMajor_val_three]
  show row.val * 128 + d.val = (0 * 4096 + row.val) * 128 + d.val
  omega

/-- A load of 128 columns of the sums, from column `o`. -/
theorem load_cols (o : ℕ) (inb) (ho : o + 128 ≤ 256) (g : scM0_1.view.ty.Contents (Elt Ideal)) (row : Fin 4096) (d : Fin 128) :
    View.readAt (Elt Ideal) scM0_1.view (Rect.unit (s := S4096x256) ![0, o] ![4096, 128] inb).toLoadRect g (ix2 row d)
      = scM0_1.view.read (Elt Ideal) g (ix2 row ⟨o + d.val, by omega⟩) := by
  refine congrArg (scM0_1.view.read (Elt Ideal) g) (funext fun a => Fin.ext ?_)
  match a with
  | ⟨0, _⟩ => show 0 + 1 * row.val = row.val; omega
  | ⟨1, _⟩ => show o + 1 * d.val = o + d.val; omega

theorem out_B_apply (row : Fin 4096) (d : Fin 128) :
    out0_B_4 c i arg5 harg5 arg6 harg6 arg7 harg7 arg8 harg8 arg9 harg9 T0 T1 x0 x1 x2 x3 xa0 xa1 hc0 hc1 hc2 hc3 k0_h5 (ix3 0 row d)
      = Ideal.div (rdA xa1 (kernelRun0_B.sl.HS1_4 c arg5 arg6 arg7 arg8 x0 x1 x2 x3 xa0 xa1) (ix2 row ⟨0 + d.val, by omega⟩))
          (rdA xa1 (kernelRun0_B.sl.HS1_4 c arg5 arg6 arg7 arg8 x0 x1 x2 x3 xa0 xa1) (ix2 row ⟨128 + d.val, by omega⟩)) := by
  unfold out0_B_4
  dsimp only [kernelRun0_B]
  unfold kernelRun0_B.sl.HO4_1
  refine (View.read_writes_cons_unit_of_mem _ _ _ _ _ (ix3 0 row d) (ix3 0 row d) rfl fun a => by
    match a with
    | ⟨0, _⟩ => rfl
    | ⟨1, _⟩ => exact (Nat.zero_add _).symm
    | ⟨2, _⟩ => exact (Nat.zero_add _).symm).trans ?_
  refine (quot_apply _ _ row d).trans ?_
  exact congrArg₂ Ideal.div (load_cols 0 _ (by decide) _ row d) (load_cols 128 _ (by decide) _ row d)

end Cert.KernelIdeal.Attn

end
-- ==== Proof.Attn.KernelIdeal.PathC.lean ====
module

public import proofs.«01_k».proof.Proof.Attn.KernelIdeal.Blocks
import all proofs.«01_k».proof.Proof.Attn.KernelIdeal.Runs

/-! Every grid step takes in its 2048 columns: the maxima and the sums held for a row's first `n` scores hold after the
step for its first `n + 2048`. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

theorem listM_C_2 : (kernelRun0_C.sl.HS0_2 arg5 arg6 arg7 x0 x1 x2) =
    pM 0 1024 (by decide) (newMax f1024 (sAll arg5 arg6 arg7 x0 x1 x2 0 1024 (by decide) shapeCasts_S1x1024x256_S1024x256) (ldM scM0_0.view.junk (kernelRun0_C.sl.HS0_1) 0 1024 (by decide))) :: (kernelRun0_C.sl.HS0_1) := by
  unfold kernelRun0_C.sl.HS0_2
  exact consM ((shapeCast_self _ _).trans (by rfl)) rfl

theorem listA_C_2 : (kernelRun0_C.sl.HS1_2 arg5 arg6 arg7 arg8 x0 x1 x2 x3) =
    pA 0 1024 (by decide) (newAcc f1024 (sAll arg5 arg6 arg7 x0 x1 x2 0 1024 (by decide) shapeCasts_S1x1024x256_S1024x256) (ldM scM0_0.view.junk (kernelRun0_C.sl.HS0_1) 0 1024 (by decide)) (newMax f1024 (sAll arg5 arg6 arg7 x0 x1 x2 0 1024 (by decide) shapeCasts_S1x1024x256_S1024x256) (ldM scM0_0.view.junk (kernelRun0_C.sl.HS0_1) 0 1024 (by decide))) (ldA scM0_1.view.junk (kernelRun0_C.sl.HS1_1) 0 1024 (by decide)) (vAt arg8 x3)) :: (kernelRun0_C.sl.HS1_1) := by
  unfold kernelRun0_C.sl.HS1_2
  exact consA (by rfl) rfl

theorem listM_C_3 : (kernelRun0_C.sl.HS0_3 arg5 arg6 arg7 x0 x1 x2) =
    pM 1024 1024 (by decide) (newMax f1024 (sAll arg5 arg6 arg7 x0 x1 x2 1024 1024 (by decide) shapeCasts_S1x1024x256_S1024x256) (ldM scM0_0.view.junk (kernelRun0_C.sl.HS0_2 arg5 arg6 arg7 x0 x1 x2) 1024 1024 (by decide))) :: (kernelRun0_C.sl.HS0_2 arg5 arg6 arg7 x0 x1 x2) := by
  unfold kernelRun0_C.sl.HS0_3
  exact consM ((shapeCast_self _ _).trans (by rfl)) rfl

theorem listA_C_3 : (kernelRun0_C.sl.HS1_3 arg5 arg6 arg7 arg8 x0 x1 x2 x3) =
    pA 1024 1024 (by decide) (newAcc f1024 (sAll arg5 arg6 arg7 x0 x1 x2 1024 1024 (by decide) shapeCasts_S1x1024x256_S1024x256) (ldM scM0_0.view.junk (kernelRun0_C.sl.HS0_2 arg5 arg6 arg7 x0 x1 x2) 1024 1024 (by decide)) (newMax f1024 (sAll arg5 arg6 arg7 x0 x1 x2 1024 1024 (by decide) shapeCasts_S1x1024x256_S1024x256) (ldM scM0_0.view.junk (kernelRun0_C.sl.HS0_2 arg5 arg6 arg7 x0 x1 x2) 1024 1024 (by decide))) (ldA scM0_1.view.junk (kernelRun0_C.sl.HS1_2 arg5 arg6 arg7 arg8 x0 x1 x2 x3) 1024 1024 (by decide)) (vAt arg8 x3)) :: (kernelRun0_C.sl.HS1_2 arg5 arg6 arg7 arg8 x0 x1 x2 x3) := by
  unfold kernelRun0_C.sl.HS1_3
  exact consA (by rfl) rfl

theorem listM_C_4 : (kernelRun0_C.sl.HS0_4 arg5 arg6 arg7 x0 x1 x2) =
    pM 2048 1024 (by decide) (newMax f1024 (sAll arg5 arg6 arg7 x0 x1 x2 2048 1024 (by decide) shapeCasts_S1x1024x256_S1024x256) (ldM scM0_0.view.junk (kernelRun0_C.sl.HS0_3 arg5 arg6 arg7 x0 x1 x2) 2048 1024 (by decide))) :: (kernelRun0_C.sl.HS0_3 arg5 arg6 arg7 x0 x1 x2) := by
  unfold kernelRun0_C.sl.HS0_4
  exact consM ((shapeCast_self _ _).trans (by rfl)) rfl

theorem listA_C_4 : (kernelRun0_C.sl.HS1_4 arg5 arg6 arg7 arg8 x0 x1 x2 x3) =
    pA 2048 1024 (by decide) (newAcc f1024 (sAll arg5 arg6 arg7 x0 x1 x2 2048 1024 (by decide) shapeCasts_S1x1024x256_S1024x256) (ldM scM0_0.view.junk (kernelRun0_C.sl.HS0_3 arg5 arg6 arg7 x0 x1 x2) 2048 1024 (by decide)) (newMax f1024 (sAll arg5 arg6 arg7 x0 x1 x2 2048 1024 (by decide) shapeCasts_S1x1024x256_S1024x256) (ldM scM0_0.view.junk (kernelRun0_C.sl.HS0_3 arg5 arg6 arg7 x0 x1 x2) 2048 1024 (by decide))) (ldA scM0_1.view.junk (kernelRun0_C.sl.HS1_3 arg5 arg6 arg7 arg8 x0 x1 x2 x3) 2048 1024 (by decide)) (vAt arg8 x3)) :: (kernelRun0_C.sl.HS1_3 arg5 arg6 arg7 arg8 x0 x1 x2 x3) := by
  unfold kernelRun0_C.sl.HS1_4
  exact consA (by rfl) rfl

theorem listM_C_5 : (kernelRun0_C.sl.HS0_5 arg5 arg6 arg7 x0 x1 x2) =
    pM 3072 1024 (by decide) (newMax f1024 (sAll arg5 arg6 arg7 x0 x1 x2 3072 1024 (by decide) shapeCasts_S1x1024x256_S1024x256) (ldM scM0_0.view.junk (kernelRun0_C.sl.HS0_4 arg5 arg6 arg7 x0 x1 x2) 3072 1024 (by decide))) :: (kernelRun0_C.sl.HS0_4 arg5 arg6 arg7 x0 x1 x2) := by
  unfold kernelRun0_C.sl.HS0_5
  exact consM ((shapeCast_self _ _).trans (by rfl)) rfl

theorem listA_C_5 : (kernelRun0_C.sl.HS1_5 arg5 arg6 arg7 arg8 x0 x1 x2 x3) =
    pA 3072 1024 (by decide) (newAcc f1024 (sAll arg5 arg6 arg7 x0 x1 x2 3072 1024 (by decide) shapeCasts_S1x1024x256_S1024x256) (ldM scM0_0.view.junk (kernelRun0_C.sl.HS0_4 arg5 arg6 arg7 x0 x1 x2) 3072 1024 (by decide)) (newMax f1024 (sAll arg5 arg6 arg7 x0 x1 x2 3072 1024 (by decide) shapeCasts_S1x1024x256_S1024x256) (ldM scM0_0.view.junk (kernelRun0_C.sl.HS0_4 arg5 arg6 arg7 x0 x1 x2) 3072 1024 (by decide))) (ldA scM0_1.view.junk (kernelRun0_C.sl.HS1_4 arg5 arg6 arg7 arg8 x0 x1 x2 x3) 3072 1024 (by decide)) (vAt arg8 x3)) :: (kernelRun0_C.sl.HS1_4 arg5 arg6 arg7 arg8 x0 x1 x2 x3) := by
  unfold kernelRun0_C.sl.HS1_5
  exact consA (by rfl) rfl

theorem init_C (σ : Fin 4096 → ℕ → EReal) (ν : ℕ → Fin 256 → EReal) :
    HoldsOn (0 ≤ ·) σ ν 0 (rdM scM0_0.view.junk kernelRun0_C.sl.HS0_1) (rdA scM0_1.view.junk kernelRun0_C.sl.HS1_1) := by
  intro row _
  refine ⟨fun l => ?_, fun c => ?_⟩
  · rw [rowMax_zero]
    refine (View.read_writes_cons_rows_of_mem (Val := Elt Ideal) (o := 0) scM0_0.view _ inb_S4096x128_S4096x128_0_0 (k0_pay1 (F := Ideal)) [] _ (ix2 row l) rfl (Nat.zero_add _).symm rfl).trans ?_
    exact ofBits_negInf
  · rw [rowSum_zero]
    refine (View.read_writes_cons_rows_of_mem (Val := Elt Ideal) (o := 0) scM0_1.view _ inb_S4096x256_S4096x256_0_0 (k0_pay2 (F := Ideal)) [] _ (ix2 row c) rfl (Nat.zero_add _).symm rfl).trans ?_
    exact Ideal.ofBits_zero_f32

theorem holds_C {σ : Fin 4096 → ℕ → EReal} {ν : ℕ → Fin 256 → EReal} {n : ℕ} (hn : n = 0)
    (hσ : ∀ (row : Fin 4096) (j : Fin 2048), σ row (n + j.val) = dotQK x0 x1 x2 row j) (hν : ∀ (j : Fin 2048) (c : Fin 256), ν (n + j.val) c = valOf x3 j c) :
    HoldsOn (· < 4096) σ ν (n + 2048) (rdM scM0_0.view.junk (kernelRun0_C.sl.HS0_5 arg5 arg6 arg7 x0 x1 x2)) (rdA scM0_1.view.junk (kernelRun0_C.sl.HS1_5 arg5 arg6 arg7 arg8 x0 x1 x2 x3)) := by
  have r0 : HoldsOn (0 ≤ ·) σ ν n (rdM scM0_0.view.junk (kernelRun0_C.sl.HS0_1)) (rdA scM0_1.view.junk (kernelRun0_C.sl.HS1_1)) := hn ▸ init_C σ ν
  have h0 : HoldsOn (· < 0) σ ν (n + 2048) (rdM scM0_0.view.junk (kernelRun0_C.sl.HS0_1)) (rdA scM0_1.view.junk (kernelRun0_C.sl.HS1_1)) := fun _ h => absurd h (Nat.not_lt_zero _)
  have h1 : HoldsOn (· < 1024) σ ν (n + 2048) (rdM scM0_0.view.junk (kernelRun0_C.sl.HS0_2 arg5 arg6 arg7 x0 x1 x2)) (rdA scM0_1.view.junk (kernelRun0_C.sl.HS1_2 arg5 arg6 arg7 arg8 x0 x1 x2 x3)) := by
    rw [listM_C_2, listA_C_2]
    exact push_done (R := 1024) h0 (step_all arg5 arg6 arg7 arg8 x0 x1 x2 x3 f1024 (by decide) shapeCasts_S1x1024x256_S1024x256 (load_block (R := 1024) (by decide) r0 (fun _ _ => Nat.le_add_right _ _)) (fun row j _ => hσ row j) hν)
  have r1 : HoldsOn (1024 ≤ ·) σ ν n (rdM scM0_0.view.junk (kernelRun0_C.sl.HS0_2 arg5 arg6 arg7 x0 x1 x2)) (rdA scM0_1.view.junk (kernelRun0_C.sl.HS1_2 arg5 arg6 arg7 arg8 x0 x1 x2 x3)) := by
    rw [listM_C_2, listA_C_2]
    exact push_rest (R := 1024) r0
  have h2 : HoldsOn (· < 2048) σ ν (n + 2048) (rdM scM0_0.view.junk (kernelRun0_C.sl.HS0_3 arg5 arg6 arg7 x0 x1 x2)) (rdA scM0_1.view.junk (kernelRun0_C.sl.HS1_3 arg5 arg6 arg7 arg8 x0 x1 x2 x3)) := by
    rw [listM_C_3, listA_C_3]
    exact push_done (R := 1024) h1 (step_all arg5 arg6 arg7 arg8 x0 x1 x2 x3 f1024 (by decide) shapeCasts_S1x1024x256_S1024x256 (load_block (R := 1024) (by decide) r1 (fun _ _ => Nat.le_add_right _ _)) (fun row j _ => hσ row j) hν)
  have r2 : HoldsOn (2048 ≤ ·) σ ν n (rdM scM0_0.view.junk (kernelRun0_C.sl.HS0_3 arg5 arg6 arg7 x0 x1 x2)) (rdA scM0_1.view.junk (kernelRun0_C.sl.HS1_3 arg5 arg6 arg7 arg8 x0 x1 x2 x3)) := by
    rw [listM_C_3, listA_C_3]
    exact push_rest (R := 1024) r1
  have h3 : HoldsOn (· < 3072) σ ν (n + 2048) (rdM scM0_0.view.junk (kernelRun0_C.sl.HS0_4 arg5 arg6 arg7 x0 x1 x2)) (rdA scM0_1.view.junk (kernelRun0_C.sl.HS1_4 arg5 arg6 arg7 arg8 x0 x1 x2 x3)) := by
    rw [listM_C_4, listA_C_4]
    exact push_done (R := 1024) h2 (step_all arg5 arg6 arg7 arg8 x0 x1 x2 x3 f1024 (by decide) shapeCasts_S1x1024x256_S1024x256 (load_block (R := 1024) (by decide) r2 (fun _ _ => Nat.le_add_right _ _)) (fun row j _ => hσ row j) hν)
  have r3 : HoldsOn (3072 ≤ ·) σ ν n (rdM scM0_0.view.junk (kernelRun0_C.sl.HS0_4 arg5 arg6 arg7 x0 x1 x2)) (rdA scM0_1.view.junk (kernelRun0_C.sl.HS1_4 arg5 arg6 arg7 arg8 x0 x1 x2 x3)) := by
    rw [listM_C_4, listA_C_4]
    exact push_rest (R := 1024) r2
  have h4 : HoldsOn (· < 4096) σ ν (n + 2048) (rdM scM0_0.view.junk (kernelRun0_C.sl.HS0_5 arg5 arg6 arg7 x0 x1 x2)) (rdA scM0_1.view.junk (kernelRun0_C.sl.HS1_5 arg5 arg6 arg7 arg8 x0 x1 x2 x3)) := by
    rw [listM_C_5, listA_C_5]
    exact push_done (R := 1024) h3 (step_all arg5 arg6 arg7 arg8 x0 x1 x2 x3 f1024 (by decide) shapeCasts_S1x1024x256_S1024x256 (load_block (R := 1024) (by decide) r3 (fun _ _ => Nat.le_add_right _ _)) (fun row j _ => hσ row j) hν)
  have r4 : HoldsOn (4096 ≤ ·) σ ν n (rdM scM0_0.view.junk (kernelRun0_C.sl.HS0_5 arg5 arg6 arg7 x0 x1 x2)) (rdA scM0_1.view.junk (kernelRun0_C.sl.HS1_5 arg5 arg6 arg7 arg8 x0 x1 x2 x3)) := by
    rw [listM_C_5, listA_C_5]
    exact push_rest (R := 1024) r3
  exact h4

end Cert.KernelIdeal.Attn

end
-- ==== Proof.Attn.KernelIdeal.PathD.lean ====
module

public import proofs.«01_k».proof.Proof.Attn.KernelIdeal.Blocks
import all proofs.«01_k».proof.Proof.Attn.KernelIdeal.Runs

/-! Every grid step takes in its 2048 columns: the maxima and the sums held for a row's first `n` scores hold after the
step for its first `n + 2048`. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

theorem listM_D : (kernelRun0_D.sl.HS0_4 c arg5 arg6 arg7 x0 x1 x2 xa0) = [
    pM 3072 1024 (by decide) (newMax f1024 (sAll arg5 arg6 arg7 x0 x1 x2 3072 1024 (by decide) shapeCasts_S1x1024x256_S1024x256) (mAt c xa0 3072 1024 (by decide))),
    pM 2048 1024 (by decide) (newMax f1024 (sAll arg5 arg6 arg7 x0 x1 x2 2048 1024 (by decide) shapeCasts_S1x1024x256_S1024x256) (mAt c xa0 2048 1024 (by decide))),
    pM 1024 1024 (by decide) (newMax f1024 (sAll arg5 arg6 arg7 x0 x1 x2 1024 1024 (by decide) shapeCasts_S1x1024x256_S1024x256) (mAt c xa0 1024 1024 (by decide))),
    pM 0 1024 (by decide) (newMax f1024 (sAll arg5 arg6 arg7 x0 x1 x2 0 1024 (by decide) shapeCasts_S1x1024x256_S1024x256) (mAt c xa0 0 1024 (by decide)))] := by
  unfold kernelRun0_D.sl.HS0_4
  exact consM ((shapeCast_self _ _).trans (by rfl)) (consM ((shapeCast_self _ _).trans (by rfl)) (consM ((shapeCast_self _ _).trans (by rfl)) (consM ((shapeCast_self _ _).trans (by rfl)) (rfl))))

theorem listA_D : (kernelRun0_D.sl.HS1_4 c arg5 arg6 arg7 arg8 x0 x1 x2 x3 xa0 xa1) = [
    pA 3072 1024 (by decide) (newAcc f1024 (sAll arg5 arg6 arg7 x0 x1 x2 3072 1024 (by decide) shapeCasts_S1x1024x256_S1024x256) (mAt c xa0 3072 1024 (by decide)) (newMax f1024 (sAll arg5 arg6 arg7 x0 x1 x2 3072 1024 (by decide) shapeCasts_S1x1024x256_S1024x256) (mAt c xa0 3072 1024 (by decide))) (aAt c xa1 3072 1024 (by decide)) (vAt arg8 x3)),
    pA 2048 1024 (by decide) (newAcc f1024 (sAll arg5 arg6 arg7 x0 x1 x2 2048 1024 (by decide) shapeCasts_S1x1024x256_S1024x256) (mAt c xa0 2048 1024 (by decide)) (newMax f1024 (sAll arg5 arg6 arg7 x0 x1 x2 2048 1024 (by decide) shapeCasts_S1x1024x256_S1024x256) (mAt c xa0 2048 1024 (by decide))) (aAt c xa1 2048 1024 (by decide)) (vAt arg8 x3)),
    pA 1024 1024 (by decide) (newAcc f1024 (sAll arg5 arg6 arg7 x0 x1 x2 1024 1024 (by decide) shapeCasts_S1x1024x256_S1024x256) (mAt c xa0 1024 1024 (by decide)) (newMax f1024 (sAll arg5 arg6 arg7 x0 x1 x2 1024 1024 (by decide) shapeCasts_S1x1024x256_S1024x256) (mAt c xa0 1024 1024 (by decide))) (aAt c xa1 1024 1024 (by decide)) (vAt arg8 x3)),
    pA 0 1024 (by decide) (newAcc f1024 (sAll arg5 arg6 arg7 x0 x1 x2 0 1024 (by decide) shapeCasts_S1x1024x256_S1024x256) (mAt c xa0 0 1024 (by decide)) (newMax f1024 (sAll arg5 arg6 arg7 x0 x1 x2 0 1024 (by decide) shapeCasts_S1x1024x256_S1024x256) (mAt c xa0 0 1024 (by decide))) (aAt c xa1 0 1024 (by decide)) (vAt arg8 x3))] := by
  unfold kernelRun0_D.sl.HS1_4
  exact consA (by rfl) (consA (by rfl) (consA (by rfl) (consA (by rfl) (rfl))))

theorem holds_D {σ : Fin 4096 → ℕ → EReal} {ν : ℕ → Fin 256 → EReal} {n : ℕ} (hp : HoldsOn (fun _ => True) σ ν n (scM0_0.view.read (Elt Ideal) xa0) (scM0_1.view.read (Elt Ideal) xa1))
    (hσ : ∀ (row : Fin 4096) (j : Fin 2048), σ row (n + j.val) = dotQK x0 x1 x2 row j) (hν : ∀ (j : Fin 2048) (c : Fin 256), ν (n + j.val) c = valOf x3 j c) :
    HoldsOn (· < 4096) σ ν (n + 2048) (rdM scM0_0.view.junk (kernelRun0_D.sl.HS0_4 c arg5 arg6 arg7 x0 x1 x2 xa0)) (rdA scM0_1.view.junk (kernelRun0_D.sl.HS1_4 c arg5 arg6 arg7 arg8 x0 x1 x2 x3 xa0 xa1)) := by
  rw [listM_D, listA_D]
  have h0 : HoldsOn (· < 0) σ ν (n + 2048) (rdM scM0_0.view.junk []) (rdA scM0_1.view.junk []) := fun _ h => absurd h (Nat.not_lt_zero _)
  have h1 := push_done h0 (step_all arg5 arg6 arg7 arg8 x0 x1 x2 x3 f1024 (by decide) shapeCasts_S1x1024x256_S1024x256 (load_block (R := 1024) (by decide) hp (fun _ _ => trivial)) (fun row j _ => hσ row j) hν)
  have h2 := push_done h1 (step_all arg5 arg6 arg7 arg8 x0 x1 x2 x3 f1024 (by decide) shapeCasts_S1x1024x256_S1024x256 (load_block (R := 1024) (by decide) hp (fun _ _ => trivial)) (fun row j _ => hσ row j) hν)
  have h3 := push_done h2 (step_all arg5 arg6 arg7 arg8 x0 x1 x2 x3 f1024 (by decide) shapeCasts_S1x1024x256_S1024x256 (load_block (R := 1024) (by decide) hp (fun _ _ => trivial)) (fun row j _ => hσ row j) hν)
  have h4 := push_done h3 (step_all arg5 arg6 arg7 arg8 x0 x1 x2 x3 f1024 (by decide) shapeCasts_S1x1024x256_S1024x256 (load_block (R := 1024) (by decide) hp (fun _ _ => trivial)) (fun row j _ => hσ row j) hν)
  exact h4

end Cert.KernelIdeal.Attn

end
-- ==== Proof.Attn.KernelIdeal.PathE.lean ====
module

public import proofs.«01_k».proof.Proof.Attn.KernelIdeal.Blocks
import all proofs.«01_k».proof.Proof.Attn.KernelIdeal.Runs

/-! Every grid step takes in its 2048 columns: the maxima and the sums held for a row's first `n` scores hold after the
step for its first `n + 2048`. -/

@[expose] public section

set_option maxRecDepth 65536

noncomputable section

namespace Cert.KernelIdeal.Attn

open Cert.KernelIdeal Cert.KernelIdeal.Gen
open Idealize.ShloMosaic Cert.Attn
open Idealize.ShloMosaic.TcCoe

variable (c : Dev nD) (i : grid0.Coords) (arg5 : Memref sig .tc .vmem S1x4096x256 .bf16) (harg5 : arg5.IsWhole) (arg6 : Memref sig .tc .vmem S1x128x2048 .bf16) (harg6 : arg6.IsWhole) (arg7 : Memref sig .tc .vmem S1x128x2048 .bf16) (harg7 : arg7.IsWhole) (arg8 : Memref sig .tc .vmem S1x2048x128 .bf16) (harg8 : arg8.IsWhole) (arg9 : Memref sig .tc .vmem S1x4096x128 .bf16) (harg9 : arg9.IsWhole) (T0 T1 : (S20.Idx → Elt Ideal .i32))
     (x0 : (S1x4096x256.Idx → Elt Ideal .bf16)) (x1 x2 : (S1x128x2048.Idx → Elt Ideal .bf16)) (x3 : (S1x2048x128.Idx → Elt Ideal .bf16))
     (xa0 : Buf (Elt Ideal) ((c : Thread nD τ).loc cc0_scratch0)) (xa1 : Buf (Elt Ideal) ((c : Thread nD τ).loc cc0_scratch1))

theorem listM_E : (kernelRun0_E.sl.HS0_8 c arg5 arg6 arg7 x0 x1 x2 xa0) = [
    pM 3584 512 (by decide) (newMax f512w4 (sAll arg5 arg6 arg7 x0 x1 x2 3584 512 (by decide) shapeCasts_S1x512x256_S512x256) (mAt c xa0 3584 512 (by decide))),
    pM 3072 512 (by decide) (newMax f512w4 (sAll arg5 arg6 arg7 x0 x1 x2 3072 512 (by decide) shapeCasts_S1x512x256_S512x256) (mAt c xa0 3072 512 (by decide))),
    pM 2560 512 (by decide) (newMax f512w4 (sAll arg5 arg6 arg7 x0 x1 x2 2560 512 (by decide) shapeCasts_S1x512x256_S512x256) (mAt c xa0 2560 512 (by decide))),
    pM 2048 512 (by decide) (newMax f512w4 (sAll arg5 arg6 arg7 x0 x1 x2 2048 512 (by decide) shapeCasts_S1x512x256_S512x256) (mAt c xa0 2048 512 (by decide))),
    pM 1536 512 (by decide) (newMax f512w4 (masked (sAll arg5 arg6 arg7 x0 x1 x2 1536 512 (by decide) shapeCasts_S1x512x256_S512x256) iota_S512x2048_d0_w32 iota_S512x2048_d1_w32 (BitVec.ofNat 32 1536) (BitVec.ofNat 32 0)) (mAt c xa0 1536 512 (by decide))),
    pM 1024 512 (by decide) (newMax f512w3 (masked (sCut arg5 arg6 arg7 x0 x1 x2 1024 512 1536 (by decide) (by decide) shapeCasts_S1x512x256_S512x256) iota_S512x1536_d0_w32 iota_S512x1536_d1_w32 (BitVec.ofNat 32 1024) (BitVec.ofNat 32 0)) (mAt c xa0 1024 512 (by decide))),
    pM 512 512 (by decide) (newMax f512w2 (masked (sCut arg5 arg6 arg7 x0 x1 x2 512 512 1024 (by decide) (by decide) shapeCasts_S1x512x256_S512x256) iota_S512x1024_d0_w32 iota_S512x1024_d1_w32 (BitVec.ofNat 32 512) (BitVec.ofNat 32 0)) (mAt c xa0 512 512 (by decide))),
    pM 0 512 (by decide) (newMax f512 (masked (sCut arg5 arg6 arg7 x0 x1 x2 0 512 512 (by decide) (by decide) shapeCasts_S1x512x256_S512x256) iota_S512x512_d0_w32 iota_S512x512_d1_w32 (BitVec.ofNat 32 0) (BitVec.ofNat 32 0)) (mAt c xa0 0 512 (by decide)))] := by
  unfold kernelRun0_E.sl.HS0_8
  exact consM ((shapeCast_self _ _).trans (by rfl)) (consM ((shapeCast_self _ _).trans (by rfl)) (consM ((shapeCast_self _ _).trans (by rfl)) (consM ((shapeCast_self _ _).trans (by rfl)) (consM ((shapeCast_self _ _).trans (by rfl)) (consM ((shapeCast_self _ _).trans (by rfl)) (consM ((shapeCast_self _ _).trans (by rfl)) (consM ((shapeCast_self _ _).trans (by rfl)) (rfl))))))))

theorem listA_E : (kernelRun0_E.sl.HS1_8 c arg5 arg6 arg7 arg8 x0 x1 x2 x3 xa0 xa1) = [
    pA 3584 512 (by decide) (newAcc f512w4 (sAll arg5 arg6 arg7 x0 x1 x2 3584 512 (by decide) shapeCasts_S1x512x256_S512x256) (mAt c xa0 3584 512 (by decide)) (newMax f512w4 (sAll arg5 arg6 arg7 x0 x1 x2 3584 512 (by decide) shapeCasts_S1x512x256_S512x256) (mAt c xa0 3584 512 (by decide))) (aAt c xa1 3584 512 (by decide)) (vAt arg8 x3)),
    pA 3072 512 (by decide) (newAcc f512w4 (sAll arg5 arg6 arg7 x0 x1 x2 3072 512 (by decide) shapeCasts_S1x512x256_S512x256) (mAt c xa0 3072 512 (by decide)) (newMax f512w4 (sAll arg5 arg6 arg7 x0 x1 x2 3072 512 (by decide) shapeCasts_S1x512x256_S512x256) (mAt c xa0 3072 512 (by decide))) (aAt c xa1 3072 512 (by decide)) (vAt arg8 x3)),
    pA 2560 512 (by decide) (newAcc f512w4 (sAll arg5 arg6 arg7 x0 x1 x2 2560 512 (by decide) shapeCasts_S1x512x256_S512x256) (mAt c xa0 2560 512 (by decide)) (newMax f512w4 (sAll arg5 arg6 arg7 x0 x1 x2 2560 512 (by decide) shapeCasts_S1x512x256_S512x256) (mAt c xa0 2560 512 (by decide))) (aAt c xa1 2560 512 (by decide)) (vAt arg8 x3)),
    pA 2048 512 (by decide) (newAcc f512w4 (sAll arg5 arg6 arg7 x0 x1 x2 2048 512 (by decide) shapeCasts_S1x512x256_S512x256) (mAt c xa0 2048 512 (by decide)) (newMax f512w4 (sAll arg5 arg6 arg7 x0 x1 x2 2048 512 (by decide) shapeCasts_S1x512x256_S512x256) (mAt c xa0 2048 512 (by decide))) (aAt c xa1 2048 512 (by decide)) (vAt arg8 x3)),
    pA 1536 512 (by decide) (newAcc f512w4 (masked (sAll arg5 arg6 arg7 x0 x1 x2 1536 512 (by decide) shapeCasts_S1x512x256_S512x256) iota_S512x2048_d0_w32 iota_S512x2048_d1_w32 (BitVec.ofNat 32 1536) (BitVec.ofNat 32 0)) (mAt c xa0 1536 512 (by decide)) (newMax f512w4 (masked (sAll arg5 arg6 arg7 x0 x1 x2 1536 512 (by decide) shapeCasts_S1x512x256_S512x256) iota_S512x2048_d0_w32 iota_S512x2048_d1_w32 (BitVec.ofNat 32 1536) (BitVec.ofNat 32 0)) (mAt c xa0 1536 512 (by decide))) (aAt c xa1 1536 512 (by decide)) (vAt arg8 x3)),
    pA 1024 512 (by decide) (newAcc f512w3 (masked (sCut arg5 arg6 arg7 x0 x1 x2 1024 512 1536 (by decide) (by decide) shapeCasts_S1x512x256_S512x256) iota_S512x1536_d0_w32 iota_S512x1536_d1_w32 (BitVec.ofNat 32 1024) (BitVec.ofNat 32 0)) (mAt c xa0 1024 512 (by decide)) (newMax f512w3 (masked (sCut arg5 arg6 arg7 x0 x1 x2 1024 512 1536 (by decide) (by decide) shapeCasts_S1x512x256_S512x256) iota_S512x1536_d0_w32 iota_S512x1536_d1_w32 (BitVec.ofNat 32 1024) (BitVec.ofNat 32 0)) (mAt c xa0 1024 512 (by decide))) (aAt c xa1 1024 512 (by decide)) (vCut arg8 x3 1536 (by decide))),
    pA 512 512 (by decide) (newAcc f512w2 (masked (sCut arg5 arg6 arg7 x0 x1 x2 512 512 1024 (by decide) (by decide) shapeCasts_S1x512x256_S512x256) iota_S512x1024_d0_w32 iota_S512x1024_d1_w32 (BitVec.ofNat 32 512) (BitVec.ofNat 32 0)) (mAt c xa0 512 512 (by decide)) (newMax f512w2 (masked (sCut arg5 arg6 arg7 x0 x1 x2 512 512 1024 (by decide) (by decide) shapeCasts_S1x512x256_S512x256) iota_S512x1024_d0_w32 iota_S512x1024_d1_w32 (BitVec.ofNat 32 512) (BitVec.ofNat 32 0)) (mAt c xa0 512 512 (by decide))) (aAt c xa1 512 512 (by decide)) (vCut arg8 x3 1024 (by decide))),
    pA 0 512 (by decide) (newAcc f512 (masked (sCut arg5 arg6 arg7 x0 x1 x2 0 512 512 (by decide) (by decide) shapeCasts_S1x512x256_S512x256) iota_S512x512_d0_w32 iota_S512x512_d1_w32 (BitVec.ofNat 32 0) (BitVec.ofNat 32 0)) (mAt c xa0 0 512 (by decide)) (newMax f512 (masked (sCut arg5 arg6 arg7 x0 x1 x2 0 512 512 (by decide) (by decide) shapeCasts_S1x512x256_S512x256) iota_S512x512_d0_w32 iota_S512x512_d1_w32 (BitVec.ofNat 32 0) (BitVec.ofNat 32 0)) (mAt c xa0 0 512 (by decide))) (aAt c xa1 0 512 (by decide)) (vCut arg8 x3 512 (by decide)))] := by
  unfold kernelRun0_E.sl.HS1_8
  exact consA (by rfl) (consA (by rfl) (consA (by rfl) (consA (by rfl) (consA (by rfl) (consA (by rfl) (consA (by rfl) (consA (by rfl) (rfl))))))))

theorem holds_E {σ : Fin 4096 → ℕ → EReal} {ν : ℕ → Fin 256 → EReal} {n : ℕ} (hp : HoldsOn (fun _ => True) σ ν n (scM0_0.view.read (Elt Ideal) xa0) (scM0_1.view.read (Elt Ideal) xa1))
    (hσ : ∀ (row : Fin 4096) (j : Fin 2048), σ row (n + j.val) = if 0 + j.val ≤ row.val then dotQK x0 x1 x2 row j else ⊥) (hν : ∀ (j : Fin 2048) (c : Fin 256), ν (n + j.val) c = valOf x3 j c) :
    HoldsOn (· < 4096) σ ν (n + 2048) (rdM scM0_0.view.junk (kernelRun0_E.sl.HS0_8 c arg5 arg6 arg7 x0 x1 x2 xa0)) (rdA scM0_1.view.junk (kernelRun0_E.sl.HS1_8 c arg5 arg6 arg7 arg8 x0 x1 x2 x3 xa0 xa1)) := by
  rw [listM_E, listA_E]
  have h0 : HoldsOn (· < 0) σ ν (n + 2048) (rdM scM0_0.view.junk []) (rdA scM0_1.view.junk []) := fun _ h => absurd h (Nat.not_lt_zero _)
  have h1 := push_done h0 (step_cut arg5 arg6 arg7 arg8 x0 x1 x2 x3 0 (by decide) f512 (by decide) (by decide) (by decide) shapeCasts_S1x512x256_S512x256 iota_S512x512_d0_w32 iota_S512x512_d1_w32 (load_block (R := 512) (by decide) hp (fun _ _ => trivial)) hσ hν)
  have h2 := push_done h1 (step_cut arg5 arg6 arg7 arg8 x0 x1 x2 x3 0 (by decide) f512w2 (by decide) (by decide) (by decide) shapeCasts_S1x512x256_S512x256 iota_S512x1024_d0_w32 iota_S512x1024_d1_w32 (load_block (R := 512) (by decide) hp (fun _ _ => trivial)) hσ hν)
  have h3 := push_done h2 (step_cut arg5 arg6 arg7 arg8 x0 x1 x2 x3 0 (by decide) f512w3 (by decide) (by decide) (by decide) shapeCasts_S1x512x256_S512x256 iota_S512x1536_d0_w32 iota_S512x1536_d1_w32 (load_block (R := 512) (by decide) hp (fun _ _ => trivial)) hσ hν)
  have h4 := push_done h3 (step_masked arg5 arg6 arg7 arg8 x0 x1 x2 x3 0 (by decide) f512w4 (by decide) shapeCasts_S1x512x256_S512x256 iota_S512x2048_d0_w32 iota_S512x2048_d1_w32 (load_block (R := 512) (by decide) hp (fun _ _ => trivial)) hσ hν)
  have h5 := push_done h4 (step_all arg5 arg6 arg7 arg8 x0 x1 x2 x3 f512w4 (by decide) shapeCasts_S1x512x256_S512x256 (load_block (R := 512) (by decide) hp (fun _ _ => trivial)) (fun row j hr => (hσ row j).trans (if_pos (by have := j.isLt; omega))) hν)
  have h6 := push_done h5 (step_all arg5 arg6 arg7 arg8 x0 x1 x2 x3 f512w4 (by decide) shapeCasts_S1x512x256_S512x256 (load_block (R := 512) (by decide) hp (fun _ _ => trivial)) (fun row j hr => (hσ row j).trans (if_pos (by have := j.isLt; omega))) hν)
  have h7 := push_done h6 (step_all arg5 arg6 arg7 arg8 x0 x1 x2 x3 f512w4 (by decide) shapeCasts_S1x512x256_S512x256 (load_block (R := 512) (by decide) hp (fun _ _ => trivial)) (fun row j hr => (hσ row j).trans (if_pos (by have := j.isLt; omega))) hν)
  have h8 := push_done h7 (step_all arg5 arg6 arg7 arg8 x0 x1 x2 x3 f512w4 (by decide) shapeCasts_S1x512x256_S512x256 (load_block (R := 512) (by decide) hp (fun _ _ => trivial)) (fun row j hr => (hσ row j).trans (if_pos (by have := j.isLt; omega))) hν)
  exact h8

end Cert.KernelIdeal.Attn

end
-- ==== Proof.Attn.KernelIdeal.Points.lean ====
module

public import proofs.«01_k».proof.Proof.Attn.KernelIdeal.Frame
public import Idealize.ShloMosaic.Lib.Pipeline.Value
public import Idealize.ShloMosaic.Lib.Pointwise

/-! Where each grid point stands: which blocks of the arrays its windows hold, and which case of the kernel it runs. -/

@[expose] public section

set_option maxRecDepth 65536

noncomputable section

namespace Cert.KernelIdeal.Attn

open Cert.KernelIdeal Cert.KernelIdeal.Gen
open Idealize.ShloMosaic
open Idealize.ShloMosaic.TcCoe

/-- The row block of a step of the pair table. -/
def rowBlk (s : ℕ) : ℕ := [0, 0, 1, 1, 1, 1, 2, 2, 2, 2, 2, 2, 3, 3, 3, 3, 3, 3, 3, 3].getD s 0

/-- The key block of a step of the pair table. -/
def keyBlk (s : ℕ) : ℕ := [0, 1, 0, 1, 2, 3, 0, 1, 2, 3, 4, 5, 0, 1, 2, 3, 4, 5, 6, 7].getD s 0

theorem blk_bounds : ∀ s < 20, rowBlk s < 4 ∧ keyBlk s < 8 ∧ keyBlk s ≤ 2 * rowBlk s + 1 := by decide

theorem blk_pred : ∀ s < 20, keyBlk s ≠ 0 → s ≠ 0 ∧ rowBlk (s - 1) = rowBlk s ∧ keyBlk (s - 1) + 1 = keyBlk s := by decide

/-- The last step of a row block. -/
def lastOf (q : ℕ) : ℕ := [1, 5, 11, 19].getD q 0

theorem last_blk : ∀ q < 4, lastOf q < 20 ∧ rowBlk (lastOf q) = q ∧ keyBlk (lastOf q) = 2 * q + 1 := by decide

abbrev qOf (t : Fin cfgA.N) : ℕ := rowBlk (t.val % 20)
abbrev kOf (t : Fin cfgA.N) : ℕ := keyBlk (t.val % 20)
abbrev bOf (t : Fin cfgA.N) : ℕ := t.val / 320
abbrev hOf (t : Fin cfgA.N) : ℕ := t.val / 20 % 16

/-- The windows' blocks and the case, at one grid point. -/
abbrev PointAt (t : Fin cfgA.N) : Prop :=
  cc0_transform_0 k0_off1_inb numel1_S1 pfN (crd t) = ![bOf t, qOf t, hOf t]
  ∧ cc0_transform_1 k0_off1_inb numel1_S1 pfN (crd t) = ![bOf t, hOf t, kOf t]
  ∧ cc0_transform_2 k0_off1_inb numel1_S1 pfN (crd t) = ![bOf t, 0, kOf t]
  ∧ cc0_transform_3 k0_off1_inb numel1_S1 pfN (crd t) = ![bOf t, kOf t, hOf t]
  ∧ cc0_transform_4 k0_off1_inb numel1_S1 pfN (crd t) = ![bOf t, qOf t, hOf t]
  ∧ (P0_0 t ↔ kOf t = 0) ∧ (P0_1 t ↔ kOf t < 2 * qOf t) ∧ (P0_2 t ↔ kOf t = 2 * qOf t)
  ∧ (cfgA.win (4 : Fin 5)).flush t = decide (kOf t = 2 * qOf t + 1)

theorem points_0 : ∀ t : Fin cfgA.N, 0 ≤ t.val → t.val < 80 → PointAt t := by decide +kernel
theorem points_1 : ∀ t : Fin cfgA.N, 80 ≤ t.val → t.val < 160 → PointAt t := by decide +kernel
theorem points_2 : ∀ t : Fin cfgA.N, 160 ≤ t.val → t.val < 240 → PointAt t := by decide +kernel
theorem points_3 : ∀ t : Fin cfgA.N, 240 ≤ t.val → t.val < 320 → PointAt t := by decide +kernel
theorem points_4 : ∀ t : Fin cfgA.N, 320 ≤ t.val → t.val < 400 → PointAt t := by decide +kernel
theorem points_5 : ∀ t : Fin cfgA.N, 400 ≤ t.val → t.val < 480 → PointAt t := by decide +kernel
theorem points_6 : ∀ t : Fin cfgA.N, 480 ≤ t.val → t.val < 560 → PointAt t := by decide +kernel
theorem points_7 : ∀ t : Fin cfgA.N, 560 ≤ t.val → t.val < 640 → PointAt t := by decide +kernel

theorem cfgA_N : cfgA.N = 640 := by decide +kernel

theorem points : ∀ t : Fin cfgA.N, PointAt t := fun t => by
  have h0 : 0 ≤ t.val := Nat.zero_le _
  rcases Nat.lt_or_ge t.val 80 with h1 | h1; · exact points_0 t h0 h1
  rcases Nat.lt_or_ge t.val 160 with h2 | h2; · exact points_1 t h1 h2
  rcases Nat.lt_or_ge t.val 240 with h3 | h3; · exact points_2 t h2 h3
  rcases Nat.lt_or_ge t.val 320 with h4 | h4; · exact points_3 t h3 h4
  rcases Nat.lt_or_ge t.val 400 with h5 | h5; · exact points_4 t h4 h5
  rcases Nat.lt_or_ge t.val 480 with h6 | h6; · exact points_5 t h5 h6
  rcases Nat.lt_or_ge t.val 560 with h7 | h7; · exact points_6 t h6 h7
  exact points_7 t h7 t.isLt

theorem index_0 (t : Fin cfgA.N) : (cfgA.win (0 : Fin 5)).index t = ![bOf t, qOf t, hOf t] := (points t).1
theorem index_1 (t : Fin cfgA.N) : (cfgA.win (1 : Fin 5)).index t = ![bOf t, hOf t, kOf t] := (points t).2.1
theorem index_2 (t : Fin cfgA.N) : (cfgA.win (2 : Fin 5)).index t = ![bOf t, 0, kOf t] := (points t).2.2.1
theorem index_3 (t : Fin cfgA.N) : (cfgA.win (3 : Fin 5)).index t = ![bOf t, kOf t, hOf t] := (points t).2.2.2.1
theorem index_4 (t : Fin cfgA.N) : (cfgA.win (4 : Fin 5)).index t = ![bOf t, qOf t, hOf t] := (points t).2.2.2.2.1

theorem b_lt (t : Fin cfgA.N) : bOf t < 2 := by have := t.isLt; have := cfgA_N; show t.val / 320 < 2; omega
theorem h_lt (t : Fin cfgA.N) : hOf t < 16 := Nat.mod_lt _ (by decide)
theorem q_lt (t : Fin cfgA.N) : qOf t < 4 := (blk_bounds _ (Nat.mod_lt _ (by decide))).1
theorem k_lt (t : Fin cfgA.N) : kOf t < 8 := (blk_bounds _ (Nat.mod_lt _ (by decide))).2.1
theorem k_le (t : Fin cfgA.N) : kOf t ≤ 2 * qOf t + 1 := (blk_bounds _ (Nat.mod_lt _ (by decide))).2.2

variable (m : (ℓ : Loc nD τ sig) → Buf (Elt Ideal) ℓ) (c : Dev nD)

theorem iblk_0 (t : Fin cfgA.N) (row : Fin 4096) (d : Fin 256) :
    iblk m c (0 : Fin 5) t (ix3 0 row d)
      = m ((c.tc : Thread nD τ).loc main_arg0) (ix3 ⟨bOf t, b_lt t⟩ ⟨qOf t * 4096 + row.val, by have := q_lt t; omega⟩ ⟨hOf t * 256 + d.val, by have := h_lt t; omega⟩) := by
  refine congrArg (m ((c.tc : Thread nD τ).loc main_arg0)) (funext fun a => Fin.ext ?_)
  refine ((cfgA.win (0 : Fin 5)).rect_emb_val t (ix3 0 row d) a).trans ?_
  rw [index_0]
  match a with
  | ⟨0, _⟩ => exact Nat.mul_one _
  | ⟨1, _⟩ => rfl
  | ⟨2, _⟩ => rfl

theorem iblk_1 (t : Fin cfgA.N) (d : Fin 128) (k : Fin 2048) :
    iblk m c (1 : Fin 5) t (ix3 0 d k)
      = m ((c.tc : Thread nD τ).loc main_arg1) (ix3 ⟨bOf t, b_lt t⟩ ⟨hOf t * 128 + d.val, by have := h_lt t; omega⟩ ⟨kOf t * 2048 + k.val, by have := k_lt t; omega⟩) := by
  refine congrArg (m ((c.tc : Thread nD τ).loc main_arg1)) (funext fun a => Fin.ext ?_)
  refine ((cfgA.win (1 : Fin 5)).rect_emb_val t (ix3 0 d k) a).trans ?_
  rw [index_1]
  match a with
  | ⟨0, _⟩ => exact Nat.mul_one _
  | ⟨1, _⟩ => rfl
  | ⟨2, _⟩ => rfl

theorem iblk_2 (t : Fin cfgA.N) (d : Fin 128) (k : Fin 2048) :
    iblk m c (2 : Fin 5) t (ix3 0 d k)
      = m ((c.tc : Thread nD τ).loc main_arg2) (ix3 ⟨bOf t, b_lt t⟩ d ⟨kOf t * 2048 + k.val, by have := k_lt t; omega⟩) := by
  refine congrArg (m ((c.tc : Thread nD τ).loc main_arg2)) (funext fun a => Fin.ext ?_)
  refine ((cfgA.win (2 : Fin 5)).rect_emb_val t (ix3 0 d k) a).trans ?_
  rw [index_2]
  match a with
  | ⟨0, _⟩ => exact Nat.mul_one _
  | ⟨1, _⟩ => exact (congrArg (· + d.val) (Nat.zero_mul _)).trans (Nat.zero_add _)
  | ⟨2, _⟩ => rfl

theorem iblk_3 (t : Fin cfgA.N) (k : Fin 2048) (d : Fin 128) :
    iblk m c (3 : Fin 5) t (ix3 0 k d)
      = m ((c.tc : Thread nD τ).loc main_arg3) (ix3 ⟨bOf t, b_lt t⟩ ⟨kOf t * 2048 + k.val, by have := k_lt t; omega⟩ ⟨hOf t * 128 + d.val, by have := h_lt t; omega⟩) := by
  refine congrArg (m ((c.tc : Thread nD τ).loc main_arg3)) (funext fun a => Fin.ext ?_)
  refine ((cfgA.win (3 : Fin 5)).rect_emb_val t (ix3 0 k d) a).trans ?_
  rw [index_3]
  match a with
  | ⟨0, _⟩ => exact Nat.mul_one _
  | ⟨1, _⟩ => rfl
  | ⟨2, _⟩ => rfl

/-- Where the result's window puts an element of its block. -/
theorem emb_4 (t : Fin cfgA.N) (row : Fin 4096) (d : Fin 128) :
    ((cfgA.win (4 : Fin 5)).blk t).view.emb (ix3 0 row d)
      = ix3 ⟨bOf t, b_lt t⟩ ⟨qOf t * 4096 + row.val, by have := q_lt t; omega⟩ ⟨hOf t * 128 + d.val, by have := h_lt t; omega⟩ := by
  refine funext fun a => Fin.ext ?_
  refine ((cfgA.win (4 : Fin 5)).rect_emb_val t (ix3 0 row d) a).trans ?_
  rw [index_4]
  match a with
  | ⟨0, _⟩ => exact Nat.mul_one _
  | ⟨1, _⟩ => rfl
  | ⟨2, _⟩ => rfl

end Cert.KernelIdeal.Attn

end
-- ==== Proof.Attn.KernelIdeal.Traj.lean ====
module

public import proofs.«01_k».proof.Proof.Attn.KernelIdeal.PathA
public import proofs.«01_k».proof.Proof.Attn.KernelIdeal.Last
public import proofs.«01_k».proof.Proof.Attn.KernelIdeal.PathC
public import proofs.«01_k».proof.Proof.Attn.KernelIdeal.PathD
public import proofs.«01_k».proof.Proof.Attn.KernelIdeal.PathE
public import proofs.«01_k».proof.Proof.Attn.KernelIdeal.Points
public import proofs.«01_k».proof.Proof.Attn.Spec
import all proofs.«01_k».proof.Proof.Attn.KernelIdeal.Runs

/-! After every grid point the scratch buffers hold the row maxima and sums of the columns taken so far. -/

@[expose] public section

set_option maxRecDepth 65536

noncomputable section

namespace Cert.KernelIdeal.Attn

open Cert.KernelIdeal Cert.KernelIdeal.Gen
open Idealize.ShloMosaic Cert.Attn
open Idealize.ShloMosaic.TcCoe

variable (m : (ℓ : Loc nD τ sig) → Buf (Elt Ideal) ℓ) (c : Dev nD)

abbrev aQ : Arr3 2 16384 4096 := m ((c.tc : Thread nD τ).loc main_arg0)
abbrev aK : Arr3 2 2048 16384 := m ((c.tc : Thread nD τ).loc main_arg1)
abbrev aP : Arr3 2 128 16384 := m ((c.tc : Thread nD τ).loc main_arg2)
abbrev aV : Arr3 2 16384 2048 := m ((c.tc : Thread nD τ).loc main_arg3)

/-- The scores of a row block. -/
def sg (b : Fin 2) (h : Fin 16) (q : Fin 4) (row : Fin 4096) : ℕ → EReal :=
  rowScore (aQ m c) (aK m c) (aP m c) b h ⟨q.val * 4096 + row.val, by omega⟩

/-- The value columns, and ones beside them. -/
def nu (b : Fin 2) (h : Fin 16) (k : ℕ) (l : Fin 256) : EReal :=
  if hl : l.val < 128 then colVal (aV m c) b h ⟨l.val, hl⟩ k else 1

abbrev bF (t : Fin cfgA.N) : Fin 2 := ⟨bOf t, b_lt t⟩
abbrev hF (t : Fin cfgA.N) : Fin 16 := ⟨hOf t, h_lt t⟩
abbrev qF (t : Fin cfgA.N) : Fin 4 := ⟨qOf t, q_lt t⟩

theorem dot_eq (t : Fin cfgA.N) (row : Fin 4096) (j : Fin 2048) :
    dotQK (iblk m c (0 : Fin 5) t) (iblk m c (1 : Fin 5) t) (iblk m c (2 : Fin 5) t) row j
      = scoreAt (aQ m c) (aK m c) (aP m c) (bF t) (hF t) ⟨qOf t * 4096 + row.val, by have := q_lt t; omega⟩ ⟨kOf t * 2048 + j.val, by have := k_lt t; omega⟩ := by
  unfold dotQK scoreAt
  refine Finset.sum_congr rfl fun d _ => congr (congrArg _ (iblk_0 m c t row d)) ?_
  split
  · exact iblk_1 m c t _ j
  · exact iblk_2 m c t _ j

theorem nu_eq (t : Fin cfgA.N) (j : Fin 2048) (l : Fin 256) :
    nu m c (bF t) (hF t) (kOf t * 2048 + j.val) l = valOf (iblk m c (3 : Fin 5) t) j l := by
  unfold nu valOf
  split
  · rw [iblk_3]
    exact dif_pos (by have := k_lt t; omega)
  · rfl

theorem sg_eq (t : Fin cfgA.N) (row : Fin 4096) (j : Fin 2048) :
    sg m c (bF t) (hF t) (qF t) row (kOf t * 2048 + j.val)
      = if kOf t * 2048 + j.val ≤ qOf t * 4096 + row.val then dotQK (iblk m c (0 : Fin 5) t) (iblk m c (1 : Fin 5) t) (iblk m c (2 : Fin 5) t) row j else ⊥ := by
  rw [dot_eq]
  exact rowScore_of _ _ _ _ _ _ ⟨kOf t * 2048 + j.val, by have := k_lt t; omega⟩ _ rfl

theorem sg_full (t : Fin cfgA.N) (hk : kOf t < 2 * qOf t) (row : Fin 4096) (j : Fin 2048) :
    sg m c (bF t) (hF t) (qF t) row (kOf t * 2048 + j.val) = dotQK (iblk m c (0 : Fin 5) t) (iblk m c (1 : Fin 5) t) (iblk m c (2 : Fin 5) t) row j := by
  rw [sg_eq, if_pos (by omega)]

theorem sg_diag0 (t : Fin cfgA.N) (hk : kOf t = 2 * qOf t) (row : Fin 4096) (j : Fin 2048) :
    sg m c (bF t) (hF t) (qF t) row (kOf t * 2048 + j.val) = if 0 + j.val ≤ row.val then dotQK (iblk m c (0 : Fin 5) t) (iblk m c (1 : Fin 5) t) (iblk m c (2 : Fin 5) t) row j else ⊥ := by
  rw [sg_eq]
  exact if_congr (by omega) rfl rfl

theorem sg_diag1 (t : Fin cfgA.N) (hk : kOf t = 2 * qOf t + 1) (row : Fin 4096) (j : Fin 2048) :
    sg m c (bF t) (hF t) (qF t) row (kOf t * 2048 + j.val) = if 2048 + j.val ≤ row.val then dotQK (iblk m c (0 : Fin 5) t) (iblk m c (1 : Fin 5) t) (iblk m c (2 : Fin 5) t) row j else ⊥ := by
  rw [sg_eq]
  exact if_congr (by omega) rfl rfl

/-- The scratch buffers hold the maxima and the sums of the row block's first `n` columns. -/
def Inv (b : Fin 2) (h : Fin 16) (q : Fin 4) (n : ℕ) (g0 : Buf (Elt Ideal) ((c : Thread nD τ).loc cc0_scratch0)) (g1 : Buf (Elt Ideal) ((c : Thread nD τ).loc cc0_scratch1)) : Prop :=
  HoldsOn (fun _ => True) (sg m c b h q) (nu m c b h) n (scM0_0.view.read (Elt Ideal) g0) (scM0_1.view.read (Elt Ideal) g1)

theorem all_rows {σ : Fin 4096 → ℕ → EReal} {ν : ℕ → Fin 256 → EReal} {n : ℕ} {gm : S4096x128.Idx → EReal} {ga : S4096x256.Idx → EReal}
    (h : HoldsOn (· < 4096) σ ν n gm ga) : HoldsOn (fun _ => True) σ ν n gm ga := fun row _ => h row row.isLt

theorem step_A (t : Fin cfgA.N) (prev) (q0 : P0_0 t) (q1 : ¬P0_1 t) :
    Inv m c (bF t) (hF t) (qF t) (kOf t * 2048 + 2048) (step0 m c t prev).2.1 (step0 m c t prev).2.2 := by
  obtain ⟨-, -, -, -, -, p0, p1, -, -⟩ := points t
  have hk := p0.mp q0
  have h1 : ¬ kOf t < 2 * qOf t := fun h => q1 (p1.mpr h)
  rw [step0_A m c t prev q0 q1]
  dsimp only [kernelRun0_A]
  exact all_rows (holds_A (ms0_0 t) (ms0_1 t) (ms0_2 t) (ms0_3 t) _ _ _ _ (by omega) (sg_diag0 m c t (by omega)) (nu_eq m c t))

theorem step_C (t : Fin cfgA.N) (prev) (q0 : P0_0 t) (q1 : P0_1 t) :
    Inv m c (bF t) (hF t) (qF t) (kOf t * 2048 + 2048) (step0 m c t prev).2.1 (step0 m c t prev).2.2 := by
  obtain ⟨-, -, -, -, -, p0, p1, -, -⟩ := points t
  have hk := p0.mp q0
  rw [step0_C m c t prev q0 q1]
  dsimp only [kernelRun0_C]
  exact all_rows (holds_C (ms0_0 t) (ms0_1 t) (ms0_2 t) (ms0_3 t) _ _ _ _ (by omega) (sg_full m c t (p1.mp q1)) (nu_eq m c t))

theorem step_D (t : Fin cfgA.N) (prev) (q0 : ¬P0_0 t) (q1 : P0_1 t)
    (hp : Inv m c (bF t) (hF t) (qF t) (kOf t * 2048) prev.2.1 prev.2.2) :
    Inv m c (bF t) (hF t) (qF t) (kOf t * 2048 + 2048) (step0 m c t prev).2.1 (step0 m c t prev).2.2 := by
  obtain ⟨-, -, -, -, -, p0, p1, -, -⟩ := points t
  rw [step0_D m c t prev q0 q1]
  dsimp only [kernelRun0_D]
  exact all_rows (holds_D c (ms0_0 t) (ms0_1 t) (ms0_2 t) (ms0_3 t) _ _ _ _ _ _ hp (sg_full m c t (p1.mp q1)) (nu_eq m c t))

theorem step_E (t : Fin cfgA.N) (prev) (q0 : ¬P0_0 t) (q1 : ¬P0_1 t) (q2 : P0_2 t)
    (hp : Inv m c (bF t) (hF t) (qF t) (kOf t * 2048) prev.2.1 prev.2.2) :
    Inv m c (bF t) (hF t) (qF t) (kOf t * 2048 + 2048) (step0 m c t prev).2.1 (step0 m c t prev).2.2 := by
  obtain ⟨-, -, -, -, -, p0, p1, p2, -⟩ := points t
  rw [step0_E m c t prev q0 q1 q2]
  dsimp only [kernelRun0_E]
  exact all_rows (holds_E c (ms0_0 t) (ms0_1 t) (ms0_2 t) (ms0_3 t) _ _ _ _ _ _ hp (sg_diag0 m c t (p2.mp q2)) (nu_eq m c t))

theorem last_k (t : Fin cfgA.N) (q1 : ¬P0_1 t) (q2 : ¬P0_2 t) : kOf t = 2 * qOf t + 1 := by
  obtain ⟨-, -, -, -, -, p0, p1, p2, -⟩ := points t
  have h1 : ¬ kOf t < 2 * qOf t := fun h => q1 (p1.mpr h)
  have h2 : ¬ kOf t = 2 * qOf t := fun h => q2 (p2.mpr h)
  have := k_le t
  omega

theorem holds_last (t : Fin cfgA.N) (xa0) (xa1) (q1 : ¬P0_1 t) (q2 : ¬P0_2 t)
    (hp : Inv m c (bF t) (hF t) (qF t) (kOf t * 2048) xa0 xa1) :
    HoldsOn (· < 4096) (sg m c (bF t) (hF t) (qF t)) (nu m c (bF t) (hF t)) (kOf t * 2048 + 2048)
      (rdM xa0 (lastM c (ms0_0 t) (ms0_1 t) (ms0_2 t) (iblk m c (0 : Fin 5) t) (iblk m c (1 : Fin 5) t) (iblk m c (2 : Fin 5) t) xa0))
      (rdA xa1 (kernelRun0_B.sl.HS1_4 c (ms0_0 t) (ms0_1 t) (ms0_2 t) (ms0_3 t) (iblk m c (0 : Fin 5) t) (iblk m c (1 : Fin 5) t) (iblk m c (2 : Fin 5) t) (iblk m c (3 : Fin 5) t) xa0 xa1)) :=
  holds_B c (ms0_0 t) (ms0_1 t) (ms0_2 t) (ms0_3 t) _ _ _ _ _ _ hp (sg_diag1 m c t (last_k t q1 q2)) (nu_eq m c t)

/-- What a last point stores: the weighted values over the sum of the weights. -/
theorem out_last (t : Fin cfgA.N) (prev) (q0 : ¬P0_0 t) (q1 : ¬P0_1 t) (q2 : ¬P0_2 t)
    (hp : Inv m c (bF t) (hF t) (qF t) (kOf t * 2048) prev.2.1 prev.2.2) (row : Fin 4096) (d : Fin 128) :
    (step0 m c t prev).1 (ix3 0 row d)
      = attnAt (aQ m c) (aK m c) (aP m c) (aV m c) (bF t) (hF t) ⟨qOf t * 4096 + row.val, by have := q_lt t; omega⟩ d := by
  have hl := last_k t q1 q2
  have hq := q_lt t
  have hb := (holds_last m c t _ _ q1 q2 hp row row.isLt).2
  rw [step0_B m c t prev q0 q1 q2]
  dsimp only
  refine (out_B_apply c _ _ _ _ _ _ _ _ _ _ _ _ _ _ _ _ _ _ _ _ _ _ _ _ row d).trans ?_
  refine Eq.trans (congrArg₂ Ideal.div (hb ⟨0 + d.val, by omega⟩) (hb ⟨128 + d.val, by omega⟩)) ?_
  · refine Eq.trans ?_ (attnAt_eq (aQ m c) (aK m c) (aP m c) (aV m c) (bF t) (hF t) ⟨qOf t * 4096 + row.val, by omega⟩ d (kOf t * 2048 + 2048) (by show qOf t * 4096 + row.val < _; omega) (by omega))
    refine congrArg₂ Ideal.div (congrArg (fun w => rowSum _ w _) (funext fun k => ?_)) (congrArg (fun w => rowSum _ w _) (funext fun k => ?_))
    · refine (dif_pos (show 0 + d.val < 128 by omega)).trans (congrArg (fun d => colVal _ _ _ d k) (Fin.ext (Nat.zero_add _)))
    · exact dif_neg (by show ¬ (128 + d.val < 128); omega)

theorem inv_of {b : Fin 2} {h : Fin 16} {q : Fin 4} {n : ℕ} {X : (S1x4096x128.Idx → Elt Ideal .bf16) × Buf (Elt Ideal) ((c : Thread nD τ).loc cc0_scratch0) × Buf (Elt Ideal) ((c : Thread nD τ).loc cc0_scratch1)}
    {o : S1x4096x128.Idx → Elt Ideal .bf16} {g0 g0' : Buf (Elt Ideal) ((c : Thread nD τ).loc cc0_scratch0)} {g1 g1' : Buf (Elt Ideal) ((c : Thread nD τ).loc cc0_scratch1)}
    (e : X = (o, g0, g1)) (e0 : g0 = g0') (e1 : g1 = g1') (hI : Inv m c b h q n g0' g1') : Inv m c b h q n X.2.1 X.2.2 := by
  subst e e0 e1
  exact hI

theorem step_B (t : Fin cfgA.N) (prev) (q0 : ¬P0_0 t) (q1 : ¬P0_1 t) (q2 : ¬P0_2 t)
    (hp : Inv m c (bF t) (hF t) (qF t) (kOf t * 2048) prev.2.1 prev.2.2) :
    Inv m c (bF t) (hF t) (qF t) (kOf t * 2048 + 2048) (step0 m c t prev).2.1 (step0 m c t prev).2.2 := by
  exact inv_of m c (step0_B m c t prev q0 q1 q2) (run_B_m c _ _ _ _ _ _ _ _ _ _ _ _ _ _ _ _ _ _ _ _ _ _ _ _) (run_B_a c _ _ _ _ _ _ _ _ _ _ _ _ _ _ _ _ _ _ _ _ _ _ _ _) (all_rows (holds_last m c t _ _ q1 q2 hp))

/-- Before a point that is not a row block's first, the scratch buffers stand as the point before left them. -/
theorem before_step (t : Fin cfgA.N) (q0 : ¬P0_0 t)
    (ih : ∀ h0 : t.val ≠ 0, Inv m c (bF ⟨t.val - 1, by omega⟩) (hF ⟨t.val - 1, by omega⟩) (qF ⟨t.val - 1, by omega⟩)
      (kOf ⟨t.val - 1, by omega⟩ * 2048 + 2048) (traj0 m c (t.val - 1) (by omega)).2.1 (traj0 m c (t.val - 1) (by omega)).2.2) :
    Inv m c (bF t) (hF t) (qF t) (kOf t * 2048) (prev0 m c t).2.1 (prev0 m c t).2.2 := by
  have hk : kOf t ≠ 0 := fun h => q0 ((points t).2.2.2.2.2.1.mpr h)
  obtain ⟨hs, e1, e2⟩ := blk_pred (t.val % 20) (Nat.mod_lt _ (by decide)) hk
  have ht : t.val ≠ 0 := fun h => hs (by rw [h])
  have em : (t.val - 1) % 20 = t.val % 20 - 1 := by omega
  have eb : bF ⟨t.val - 1, by omega⟩ = bF t := Fin.ext (by show (t.val - 1) / 320 = t.val / 320; omega)
  have eh : hF ⟨t.val - 1, by omega⟩ = hF t := Fin.ext (by show (t.val - 1) / 20 % 16 = t.val / 20 % 16; omega)
  have eq : qF ⟨t.val - 1, by omega⟩ = qF t := Fin.ext (by show rowBlk ((t.val - 1) % 20) = rowBlk (t.val % 20); rw [em, e1])
  have ek : kOf ⟨t.val - 1, by omega⟩ * 2048 + 2048 = kOf t * 2048 := by
    show keyBlk ((t.val - 1) % 20) * 2048 + 2048 = keyBlk (t.val % 20) * 2048
    rw [em]; omega
  have h := ih ht
  rw [eb, eh, eq, ek] at h
  unfold prev0
  rw [dif_neg ht]
  exact h

/-- The scratch buffers after a grid point. -/
theorem inv (n : ℕ) (hn : n < cfgA.N) : Inv m c (bF ⟨n, hn⟩) (hF ⟨n, hn⟩) (qF ⟨n, hn⟩) (kOf ⟨n, hn⟩ * 2048 + 2048) (traj0 m c n hn).2.1 (traj0 m c n hn).2.2 := by
  induction n with
  | zero =>
    rw [traj0_eq m c ⟨0, hn⟩]
    have q0 : P0_0 ⟨0, hn⟩ := (points ⟨0, hn⟩).2.2.2.2.2.1.mpr rfl
    by_cases q1 : P0_1 ⟨0, hn⟩
    · exact step_C m c ⟨0, hn⟩ _ q0 q1
    · exact step_A m c ⟨0, hn⟩ _ q0 q1
  | succ n ih =>
    have hn' : n < cfgA.N := Nat.lt_of_succ_lt hn
    rw [traj0_eq m c ⟨n + 1, hn⟩]
    by_cases q0 : P0_0 ⟨n + 1, hn⟩
    · by_cases q1 : P0_1 ⟨n + 1, hn⟩
      · exact step_C m c ⟨n + 1, hn⟩ _ q0 q1
      · exact step_A m c ⟨n + 1, hn⟩ _ q0 q1
    · have hp := before_step m c ⟨n + 1, hn⟩ q0 (fun _ => ih hn')
      by_cases q1 : P0_1 ⟨n + 1, hn⟩
      · exact step_D m c ⟨n + 1, hn⟩ _ q0 q1 hp
      · by_cases q2 : P0_2 ⟨n + 1, hn⟩
        · exact step_E m c ⟨n + 1, hn⟩ _ q0 q1 q2 hp
        · exact step_B m c ⟨n + 1, hn⟩ _ q0 q1 q2 hp

/-- What a last point leaves in the result's window. -/
theorem stored (t : Fin cfgA.N) (hf : kOf t = 2 * qOf t + 1) (row : Fin 4096) (d : Fin 128) :
    (traj0 m c t.val t.isLt).1 (ix3 0 row d)
      = attnAt (aQ m c) (aK m c) (aP m c) (aV m c) (bF t) (hF t) ⟨qOf t * 4096 + row.val, by have := q_lt t; omega⟩ d := by
  obtain ⟨-, -, -, -, -, p0, p1, p2, -⟩ := points t
  have q0 : ¬P0_0 t := fun h => by have := p0.mp h; omega
  have q1 : ¬P0_1 t := fun h => by have := p1.mp h; omega
  have q2 : ¬P0_2 t := fun h => by have := p2.mp h; omega
  rw [traj0_eq]
  exact out_last m c t _ q0 q1 q2 (before_step m c t q0 (fun h => inv m c _ _)) row d

/-- The result array. -/
theorem result : (dats m 0 c).arrAt (4 : Fin 5) cfgA.N = attn (aQ m c) (aK m c) (aP m c) (aV m c) := by
  refine (dats m 0 c).arrAt_eq_of_cover (4 : Fin 5) (attn (aQ m c) (aK m c) (aP m c) (aV m c)) (fun t hf => ?_) (fun i => ?_)
  · have hk : kOf t = 2 * qOf t + 1 := of_decide_eq_true ((points t).2.2.2.2.2.2.2.2.symm.trans hf)
    funext y
    obtain ⟨row, d, rfl⟩ : ∃ (row : Fin 4096) (d : Fin 128), y = ix3 0 row d := ⟨y 1, y 2, funext fun a => by
      match a with
      | ⟨0, _⟩ => exact Fin.ext (by have h : (y 0).val < 1 := (y 0).isLt; show (y 0).val = 0; omega)
      | ⟨1, _⟩ => rfl
      | ⟨2, _⟩ => rfl⟩
    refine (stored m c t hk row d).trans ?_
    refine Eq.trans ?_ (congrArg (attn (aQ m c) (aK m c) (aP m c) (aV m c)) (emb_4 t row d)).symm
    exact (attn_ix3 _ _ _ _ (bF t) _ (hF t) d).symm
  · obtain ⟨b, r, l, rfl⟩ : ∃ (b : Fin 2) (r : Fin 16384) (l : Fin 2048), i = ix3 b r l := ⟨i 0, i 1, i 2, funext fun a => by
      match a with
      | ⟨0, _⟩ => rfl
      | ⟨1, _⟩ => rfl
      | ⟨2, _⟩ => rfl⟩
    obtain ⟨l1, l2, l3⟩ := last_blk (r.val / 4096) (by omega)
    have hN := cfgA_N
    have ht : (b.val * 16 + l.val / 128) * 20 + lastOf (r.val / 4096) < cfgA.N := by omega
    have e1 : ((b.val * 16 + l.val / 128) * 20 + lastOf (r.val / 4096)) % 20 = lastOf (r.val / 4096) := by omega
    have eq : qOf ⟨_, ht⟩ = r.val / 4096 := (congrArg rowBlk e1).trans l2
    have ek : kOf ⟨_, ht⟩ = 2 * (r.val / 4096) + 1 := (congrArg keyBlk e1).trans l3
    have eb : bOf ⟨_, ht⟩ = b.val := by show ((b.val * 16 + l.val / 128) * 20 + lastOf (r.val / 4096)) / 320 = b.val; omega
    have eh : hOf ⟨_, ht⟩ = l.val / 128 := by show ((b.val * 16 + l.val / 128) * 20 + lastOf (r.val / 4096)) / 20 % 16 = _; omega
    refine ⟨⟨_, ht⟩, (points ⟨_, ht⟩).2.2.2.2.2.2.2.2.trans (decide_eq_true (by omega)), ?_⟩
    have hm := ((cfgA.win (4 : Fin 5)).blk ⟨_, ht⟩).view.emb_mem_set (ix3 0 ⟨r.val % 4096, Nat.mod_lt _ (by decide)⟩ ⟨l.val % 128, Nat.mod_lt _ (by decide)⟩)
    rw [emb_4] at hm
    refine Eq.mp (congrArg (· ∈ _) (funext fun a => Fin.ext ?_)) hm
    match a with
    | ⟨0, _⟩ => exact eb
    | ⟨1, _⟩ => show qOf ⟨_, ht⟩ * 4096 + r.val % 4096 = r.val; omega
    | ⟨2, _⟩ => show hOf ⟨_, ht⟩ * 128 + l.val % 128 = l.val; omega

end Cert.KernelIdeal.Attn

end
-- ==== Proof.Attn.RefTerm.lean ====
module

public import proofs.«01_k».proof.Proof.Gen.ReferenceIdeal
public import proofs.«01_k».proof.Proof.Attn.Spec
public import proofs.«01_k».proof.Proof.Attn.Block
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen Cert.Attn
open Idealize.ShloMosaic

/-- The reference's masked scores. -/
def masked (Q : FVec Ideal S2x16384x4096 .bf16) (K : FVec Ideal S2x2048x16384 .bf16) (P : FVec Ideal S2x128x16384 .bf16) :
    FVec Ideal S2x16x16384x16384 .f32 :=
  select
    (broadcastInDim S2x16x16384x16384 ![2, 3] bcast_S16384x16384_S2x16x16384x16384_2_3
      (cmpi CmpIPredicate.sle
        (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0)))))
    (extf .f32 (addf
      (truncf .bf16 (Host.dotGeneral dot_S2x16384x16x128_S2x16x128x16384_S2x16x16384x16384_3_2_1_3_02_01 none
        (extractStridedSlice S2x16384x16x128 ![0, 0, 0, 0] (shapeCast S2x16384x16x256 (extf .f32 Q bitsLt_bf16_f32) shapeCasts_S2x16384x4096_S2x16384x16x256) slices_S2x16384x16x256_S2x16384x16x128_0_0_0_0)
        (shapeCast S2x16x128x16384 (extf .f32 K bitsLt_bf16_f32) shapeCasts_S2x2048x16384_S2x16x128x16384)) bitsLt_bf16_f32)
      (truncf .bf16 (transpose S2x16x16384x16384 [0, 3, 2, 1]
        (Host.dotGeneral dot_S2x128x16384_S2x16384x16x128_S2x16384x16384x16_1_3_2_12_0_0 none (extf .f32 P bitsLt_bf16_f32)
          (extractStridedSlice S2x16384x16x128 ![0, 0, 0, 128] (shapeCast S2x16384x16x256 (extf .f32 Q bitsLt_bf16_f32) shapeCasts_S2x16384x4096_S2x16384x16x256) slices_S2x16384x16x256_S2x16384x16x128_0_0_0_128))
        transposes_S2x16384x16384x16_S2x16x16384x16384_0_3_2_1) bitsLt_bf16_f32)) bitsLt_bf16_f32)
    (broadcastInDim S2x16x16384x16384 ![] bcast_S_S2x16x16384x16384 (constant (F := Ideal) S_ .f32 0xFF800000#32))

/-- The largest score of each row. -/
def rmax (s : FVec Ideal S2x16x16384x16384 .f32) : FVec Ideal S2x16x16384 .f32 :=
  maximumf (broadcastInDim S2x16x16384 ![] bcast_S_S2x16x16384 (constant (F := Ideal) S_ .f32 0xFF800000#32))
    (Host.reduce FloatOps.maximumf s (constant (F := Ideal) S_ .f32 0xFF800000#32) reducesTo_S2x16x16384x16384_S2x16x16384_d3 h_S_)

/-- A row's number at each of its columns. -/
def spread (v : FVec Ideal S2x16x16384 .f32) : FVec Ideal S2x16x16384x16384 .f32 :=
  broadcastInDim S2x16x16384x16384 ![0, 1, 2, 3] bcast_S2x16x16384x1_S2x16x16384x16384_0_1_2_3
    (broadcastInDim S2x16x16384x1 ![0, 1, 2] bcast_S2x16x16384_S2x16x16384x1_0_1_2 v)

/-- The exponentials. -/
def expd (s : FVec Ideal S2x16x16384x16384 .f32) : FVec Ideal S2x16x16384x16384 .f32 := Host.exp (subf s (spread (rmax s)))

/-- The probabilities. -/
def probs (e : FVec Ideal S2x16x16384x16384 .f32) : FVec Ideal S2x16x16384x16384 .f32 :=
  extf .f32 (truncf .bf16 (Host.divf e (spread (Host.reduceAdd e (constant (F := Ideal) S_ .f32 0x00000000#32) reducesTo_S2x16x16384x16384_S2x16x16384_d3 h_S_))) bitsLt_bf16_f32) bitsLt_bf16_f32

/-- The weighted values. -/
def weighted (p : FVec Ideal S2x16x16384x16384 .f32) (V : FVec Ideal S2x16384x2048 .bf16) : FVec Ideal S2x16384x2048 .bf16 :=
  truncf .bf16 (shapeCast S2x16384x2048 (transpose S2x16384x16x128 [0, 3, 1, 2]
    (Host.dotGeneral dot_S2x16384x16x128_S2x16x16384x16384_S2x16x128x16384_1_3_3_2_02_01 none
      (shapeCast S2x16384x16x128 (extf .f32 V bitsLt_bf16_f32) shapeCasts_S2x16384x2048_S2x16384x16x128) p)
    transposes_S2x16x128x16384_S2x16384x16x128_0_3_1_2) shapeCasts_S2x16384x16x128_S2x16384x2048) bitsLt_bf16_f32

/-- The reference's result. -/
def term (Q : FVec Ideal S2x16384x4096 .bf16) (K : FVec Ideal S2x2048x16384 .bf16) (P : FVec Ideal S2x128x16384 .bf16)
    (V : FVec Ideal S2x16384x2048 .bf16) : FVec Ideal S2x16384x2048 .bf16 :=
  weighted (probs (expd (masked Q K P))) V

end Cert.ReferenceIdeal.Attn

end
-- ==== Proof.Attn.Ref.lean ====
module

public import proofs.«01_k».proof.Defs
public import proofs.«01_k».proof.Proof.Gen.ReferenceIdeal
public import proofs.«01_k».proof.Proof.Attn.RefTerm
public import Idealize.ShloMosaic.Lib.Claim
public import Idealize.ShloMosaic.Lib.Quiescent
public import Idealize.ShloMosaic.PureOps.Ideal
public import Idealize.ShloMosaic.Adequacy
public import Idealize.ShloMosaic.Init

@[expose] public section

set_option maxRecDepth 16384

noncomputable section

namespace Cert.ReferenceIdeal.Attn

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

theorem value :
    θ_run (defs (F := Ideal)) (onTc (τ := τ) (main (F := Ideal))) ⟨m, fun _ => 0, ρ⟩ (fun r => ∀ c : Dev nD,
      r.2.mem ((c.tc : Thread nD τ).loc main_v39) = term (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  rfl

theorem frame :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (value m ρ)

end Cert.ReferenceIdeal.Attn

end
-- ==== Proof.Attn.RefScore.lean ====
module

public import proofs.«01_k».proof.Proof.Attn.RefTerm
public import proofs.«01_k».proof.Proof.Attn.Spec
public import proofs.«01_k».proof.Proof.Attn.Block
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen Cert.Attn
open Idealize.ShloMosaic

theorem select_one {α : Type} (x y : α) : Scalar.select 1#1 x y = x := rfl

theorem masked_ix4 (Q : FVec Ideal S2x16384x4096 .bf16) (K : FVec Ideal S2x2048x16384 .bf16) (P : FVec Ideal S2x128x16384 .bf16)
    (b : Fin 2) (h : Fin 16) (r k : Fin 16384) : masked Q K P (ix4 b h r k) = rowScore Q K P b h r k.val := by
  pointwise [masked]
  have hr := r.isLt
  have hk := k.isLt
  have hle : IntOp.cmpi .sle (BitVec.ofNat 32 k.val) (BitVec.ofNat 32 r.val) = if k.val ≤ r.val then 1#1 else 0#1 := by
    rw [WordCmp.cmpi_sle_ofNat (by omega) (by omega)]
    by_cases hh : k.val ≤ r.val <;> simp [hh]
  have hb : Ideal.ofBits .f32 0xFF800000#32 = ⊥ := ofBits_negInf
  rw [rowScore_of Q K P b h r k k.val rfl, hle, hb]
  by_cases hh : k.val ≤ r.val
  · rw [if_pos hh, if_pos hh]
    unfold scoreAt
    rw [Fin.sum_univ_two_halves 128 128 rfl]
    refine (select_one _ _).trans (congrArg₂ (· + ·) (Finset.sum_congr rfl fun x _ => ?_) (Finset.sum_congr rfl fun x _ => ?_))
    · refine congrArg (_ * ·) ?_
      symm
      exact dif_pos x.isLt
    · have hx : ¬ (128 + x.val < 128) := by omega
      refine (mul_comm _ _).trans (congrArg (_ * ·) ?_)
      symm
      refine (dif_neg hx).trans ?_
      have e : (⟨128 + x.val - 128, by omega⟩ : Fin 128) = x := Fin.ext (by show 128 + x.val - 128 = x.val; omega)
      exact congrArg (fun y : Fin 128 => P (ix3 b y k)) e
  · rw [if_neg hh, if_neg hh]; rfl

end Cert.ReferenceIdeal.Attn

end
-- ==== Proof.Attn.RefSoft.lean ====
module

public import proofs.«01_k».proof.Proof.Attn.RefTerm
public import proofs.«01_k».proof.Proof.Attn.Spec
public import proofs.«01_k».proof.Proof.Attn.Block
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen Cert.Attn
open Idealize.ShloMosaic

theorem hostMax_ix3 {n0 n1 n2 n3 : ℕ} (v : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (a : Fin n0) (b : Fin n1) (r : Fin n2) :
    Host.reduce FloatOps.maximumf v c h hu (ix3 a b r) = Finset.univ.fold max (c (Shape.Idx.first hu)) fun k : Fin n3 => v (ix4 a b r k) := by
  simp only [pointwise]

theorem hostSum_ix3 {n0 n1 n2 n3 : ℕ} (v : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (a : Fin n0) (b : Fin n1) (r : Fin n2) :
    Host.reduceAdd v c h hu (ix3 a b r) = c (Shape.Idx.first hu) + ∑ k : Fin n3, v (ix4 a b r k) := by
  simp only [pointwise, Ideal.hostReduceAdd_def]

theorem tmax_ix3 (s : FVec Ideal S2x16x16384x16384 .f32) (c : FVec Ideal S_ .f32) (b : Fin 2) (h : Fin 16) (r : Fin 16384) :
    Host.reduce FloatOps.maximumf s c reducesTo_S2x16x16384x16384_S2x16x16384_d3 h_S_ (ix3 b h r) = Finset.univ.fold max (c (Shape.Idx.first h_S_)) fun k : Fin 16384 => s (ix4 b h r k) :=
  hostMax_ix3 s c _ _ b h r

theorem tsum_ix3 (e : FVec Ideal S2x16x16384x16384 .f32) (c : FVec Ideal S_ .f32) (b : Fin 2) (h : Fin 16) (r : Fin 16384) :
    Host.reduceAdd e c reducesTo_S2x16x16384x16384_S2x16x16384_d3 h_S_ (ix3 b h r) = c (Shape.Idx.first h_S_) + ∑ k : Fin 16384, e (ix4 b h r k) :=
  hostSum_ix3 e c _ _ b h r

theorem maximumf_at {s : Shape} (x y : FVec Ideal s .f32) (i : s.Idx) : maximumf x y i = max (x i : EReal) (y i) := rfl

theorem bcast_at {s : Shape} (w : BitVec 32) (h : S_.BroadcastsInDim s ![]) (i : s.Idx) :
    broadcastInDim s ![] h (constant (F := Ideal) S_ .f32 w) i = FloatOps.ofBits .f32 w := rfl

theorem const_at {s : Shape} (w : BitVec 32) (i : s.Idx) : constant (F := Ideal) s .f32 w i = FloatOps.ofBits .f32 w := rfl

theorem round_at {s : Shape} (x y : FVec Ideal s .f32) (i : s.Idx) :
    extf .f32 (truncf .bf16 (Host.divf x y) bitsLt_bf16_f32) bitsLt_bf16_f32 i = Ideal.div (x i) (y i) := rfl

theorem exp_at {s : Shape} (x y : FVec Ideal s .f32) (i : s.Idx) : Host.exp (subf x y) i = Ideal.exp (x i - y i) := rfl

theorem rmax_ix3 (s : FVec Ideal S2x16x16384x16384 .f32) (b : Fin 2) (h : Fin 16) (r : Fin 16384) :
    rmax s (ix3 b h r) = Finset.univ.sup fun k : Fin 16384 => s (ix4 b h r k) := by
  unfold rmax
  rw [maximumf_at, bcast_at, tmax_ix3, const_at, ofBits_negInf, fold_max_bot]
  exact max_eq_right bot_le

theorem spread_ix4 (v : FVec Ideal S2x16x16384 .f32) (b : Fin 2) (h : Fin 16) (r k : Fin 16384) :
    spread v (ix4 b h r k) = v (ix3 b h r) := by
  pointwise [spread]

theorem expd_ix4 (s : FVec Ideal S2x16x16384x16384 .f32) (b : Fin 2) (h : Fin 16) (r k : Fin 16384) :
    expd s (ix4 b h r k) = Ideal.exp (s (ix4 b h r k) - rmax s (ix3 b h r)) := by
  unfold expd
  rw [exp_at, spread_ix4]

theorem probs_ix4 (e : FVec Ideal S2x16x16384x16384 .f32) (b : Fin 2) (h : Fin 16) (r k : Fin 16384) :
    probs e (ix4 b h r k) = Ideal.div (e (ix4 b h r k)) (∑ j : Fin 16384, e (ix4 b h r j)) := by
  unfold probs
  rw [round_at, spread_ix4, tsum_ix3, const_at]
  rw [show FloatOps.ofBits (F := Ideal) .f32 0x00000000#32 = (0 : EReal) from Ideal.ofBits_zero_f32, zero_add]

end Cert.ReferenceIdeal.Attn

end
-- ==== Proof.Attn.RefOut.lean ====
module

public import proofs.«01_k».proof.Proof.Attn.RefTerm
public import proofs.«01_k».proof.Proof.Attn.Spec
public import proofs.«01_k».proof.Proof.Attn.Block
public import Idealize.ShloMosaic.Lib.Pointwise
public import Idealize.ShloMosaic.Lib.IdealHost

@[expose] public section

set_option maxRecDepth 16384

noncomputable section

namespace Cert.ReferenceIdeal.Attn

open Cert.ReferenceIdeal Cert.ReferenceIdeal.Gen Cert.Attn
open Idealize.ShloMosaic

theorem weighted_ix3 (p : FVec Ideal S2x16x16384x16384 .f32) (V : FVec Ideal S2x16384x2048 .bf16)
    (b : Fin 2) (r : Fin 16384) (h : Fin 16) (d : Fin 128) :
    weighted p V (ix3 b r ⟨h.val * 128 + d.val, by omega⟩)
      = ∑ k : Fin 16384, V (ix3 b k ⟨h.val * 128 + d.val, by omega⟩) * p (ix4 b h r k) := by
  pointwise [weighted]

end Cert.ReferenceIdeal.Attn

end
-- ==== Proof.Attn.RefValue.lean ====
module

public import proofs.«01_k».proof.Proof.Attn.RefScore
public import proofs.«01_k».proof.Proof.Attn.RefSoft
public import proofs.«01_k».proof.Proof.Attn.RefOut

@[expose] public section

set_option maxRecDepth 16384

noncomputable section

namespace Cert.ReferenceIdeal.Attn

open Cert.ReferenceIdeal Cert.ReferenceIdeal.Gen Cert.Attn
open Idealize.ShloMosaic

theorem sup_range {n : ℕ} (f : Fin n → EReal) (g : ℕ → EReal) (h : ∀ k : Fin n, f k = g k.val) :
    Finset.univ.sup f = (Finset.range n).sup g := by
  apply le_antisymm
  · exact Finset.sup_le fun k _ => (h k).le.trans (Finset.le_sup (f := g) (Finset.mem_range.mpr k.isLt))
  · refine Finset.sup_le fun k hk => ?_
    rw [Finset.mem_range] at hk
    exact (h ⟨k, hk⟩).ge.trans (Finset.le_sup (f := f) (Finset.mem_univ _))

theorem sum_range_of {n : ℕ} (f : Fin n → EReal) (g : ℕ → EReal) (h : ∀ k : Fin n, f k = g k.val) :
    ∑ k, f k = ∑ k ∈ Finset.range n, g k :=
  (Finset.sum_congr rfl fun k _ => h k).trans (Fin.sum_univ_eq_sum_range g n)

variable (Q : FVec Ideal S2x16384x4096 .bf16) (K : FVec Ideal S2x2048x16384 .bf16) (P : FVec Ideal S2x128x16384 .bf16)
  (V : FVec Ideal S2x16384x2048 .bf16)

theorem expd_masked (b : Fin 2) (h : Fin 16) (r k : Fin 16384) :
    expd (masked Q K P) (ix4 b h r k) = Ideal.exp (rowScore Q K P b h r k.val - rowMax (rowScore Q K P b h r) 16384) := by
  rw [expd_ix4, masked_ix4, rmax_ix3, sup_range _ (rowScore Q K P b h r) (fun k => masked_ix4 Q K P b h r k)]
  rfl

theorem den_masked (b : Fin 2) (h : Fin 16) (r : Fin 16384) :
    ∑ k : Fin 16384, expd (masked Q K P) (ix4 b h r k) = rowSum (rowScore Q K P b h r) (fun _ => 1) 16384 := by
  rw [sum_range_of _ (fun k => Ideal.exp (rowScore Q K P b h r k - rowMax (rowScore Q K P b h r) 16384) * 1)
    (fun k => by rw [expd_masked, mul_one])]
  rfl

theorem colVal_of (b : Fin 2) (h : Fin 16) (d : Fin 128) (k : Fin 16384) :
    colVal V b h d k.val = V (ix3 b k ⟨h.val * 128 + d.val, by omega⟩) := dif_pos k.isLt

theorem term_ix3 (hf : ∀ b h r k, scoreAt Q K P b h r k ≠ ⊥ ∧ scoreAt Q K P b h r k ≠ ⊤)
    (b : Fin 2) (r : Fin 16384) (h : Fin 16) (d : Fin 128) :
    term Q K P V (ix3 b r ⟨h.val * 128 + d.val, by omega⟩) = attnAt Q K P V b h r d := by
  obtain ⟨x, hx, hs⟩ := rowSum_one_pos (rowScore Q K P b h r) 16384 (by decide)
    (by
      rw [rowScore_of Q K P b h r 0 0 rfl, if_pos (show (0 : Fin 16384).val ≤ r.val from Nat.zero_le _)]
      exact (hf b h r 0).1)
    (fun k hk => by
      rw [rowScore_of Q K P b h r ⟨k, hk⟩ k rfl]
      split
      · exact (hf b h r ⟨k, hk⟩).2
      · exact bot_ne_top)
  unfold term attnAt
  rw [weighted_ix3, hs, div_rowSum _ _ _ hx]
  refine sum_range_of _ _ fun k => ?_
  rw [probs_ix4, den_masked, hs, expd_masked, colVal_of]

theorem term_eq (hf : ∀ b h r k, scoreAt Q K P b h r k ≠ ⊥ ∧ scoreAt Q K P b h r k ≠ ⊤) : term Q K P V = attn Q K P V := by
  funext i
  have h2 : (i 2).val < 2048 := (i 2).isLt
  have e : i = ix3 (i 0) (i 1) ⟨(i 2).val / 128 * 128 + (i 2).val % 128, by omega⟩ := by
    funext a; apply Fin.ext
    match a with
    | ⟨0, _⟩ => rfl
    | ⟨1, _⟩ => rfl
    | ⟨2, _⟩ => show (i 2).val = (i 2).val / 128 * 128 + (i 2).val % 128; omega
  rw [e]
  exact (term_ix3 Q K P V hf (i 0) (i 1) ⟨(i 2).val / 128, by omega⟩ ⟨(i 2).val % 128, Nat.mod_lt _ (by decide)⟩).trans
    (attn_ix3 Q K P V (i 0) (i 1) ⟨(i 2).val / 128, by omega⟩ ⟨(i 2).val % 128, Nat.mod_lt _ (by decide)⟩).symm

end Cert.ReferenceIdeal.Attn

end
-- ==== Proof.lean ====
module

public import proofs.«01_k».proof.Defs
public import proofs.«01_k».proof.Proof.Gen.Proj.Value
public import proofs.«01_k».proof.Proof.InProj.Kernel
public import proofs.«01_k».proof.Proof.InProj.Ref
public import proofs.«01_k».proof.Proof.Gen.Ffn.Value
public import proofs.«01_k».proof.Proof.Dense.Kernel
public import proofs.«01_k».proof.Proof.Dense.Ref
public import proofs.«01_k».proof.Proof.Gen.ProjB.Value
public import proofs.«01_k».proof.Proof.InProjB.Kernel
public import proofs.«01_k».proof.Proof.InProjB.Ref
public import proofs.«01_k».proof.Proof.Gen.Merge.Value
public import proofs.«01_k».proof.Proof.Merge.Kernel
public import proofs.«01_k».proof.Proof.Merge.Ref
public import proofs.«01_k».proof.Proof.Gen.Misc.Value
public import proofs.«01_k».proof.Proof.Misc.Kernel
public import proofs.«01_k».proof.Proof.Misc.Pre
public import proofs.«01_k».proof.Proof.Misc.Ref
public import proofs.«01_k».proof.Proof.Gen.MiscB.Value
public import proofs.«01_k».proof.Proof.MiscB.Kernel
public import proofs.«01_k».proof.Proof.MiscB.Pre
public import proofs.«01_k».proof.Proof.MiscB.Ref
public import proofs.«01_k».proof.Proof.Gen.Rope.Value
public import proofs.«01_k».proof.Proof.Rope.Kernel
public import proofs.«01_k».proof.Proof.Rope.Ref
public import proofs.«01_k».proof.Proof.Attn.Kernel.Frame
public import proofs.«01_k».proof.Proof.Attn.KernelIdeal.Traj
public import proofs.«01_k».proof.Proof.Attn.Pre
public import proofs.«01_k».proof.Proof.Attn.Ref
public import proofs.«01_k».proof.Proof.Attn.RefValue

@[expose] public section

noncomputable section

namespace Cert.Proof

open Idealize.ShloMosaic Idealize.ShloMosaic.TcCoe Idealize.SL.Sem Cert.Attn

/-- The kernel's run: the result is the attention of the arguments. -/
theorem kernel_value (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0)
        = attn (Cert.KernelIdeal.Attn.aQ m c) (Cert.KernelIdeal.Attn.aK m c) (Cert.KernelIdeal.Attn.aP m c) (Cert.KernelIdeal.Attn.aV m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run _ _ _).mono (fun _ h c => ⟨((h.1 c).1 (4 : Fin 5)).trans (Cert.KernelIdeal.Attn.result m c),
    ((h.1 c).1 (0 : Fin 5)).trans ((Cert.KernelIdeal.Attn.dats m 0 c).arrAt_in (0 : Fin 5) rfl _),
    ((h.1 c).1 (1 : Fin 5)).trans ((Cert.KernelIdeal.Attn.dats m 0 c).arrAt_in (1 : Fin 5) rfl _),
    ((h.1 c).1 (2 : Fin 5)).trans ((Cert.KernelIdeal.Attn.dats m 0 c).arrAt_in (2 : Fin 5) rfl _),
    ((h.1 c).1 (3 : Fin 5)).trans ((Cert.KernelIdeal.Attn.dats m 0 c).arrAt_in (3 : Fin 5) rfl _)⟩) (Cert.KernelIdeal.Attn.run_main m g)

theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.facts) := by
  intro m g m' g' hpre hagree
  refine ⟨_, kernel_value m g, (θ_run _ _ _).mono (fun r h c => ⟨(h c).1.trans ?_, (h c).2⟩) (Cert.ReferenceIdeal.Attn.value m' g')⟩
  obtain ⟨e0, e1, e2, e3⟩ := hagree c
  rw [e0, e1, e2, e3]
  refine Cert.ReferenceIdeal.Attn.term_eq _ _ _ _ fun b h r k => ?_
  haveI := Cert.Pre_finite_scores.facts
  exact Cert.Pre_finite_scores.scores _ _ _ _ (Shape.Idx.first Cert.Pre_finite_scores.facts.h_S_) (congrFun (hpre c) _) b h r k

/-- The projection's kernel and its reference end at the same product. -/
theorem algebraic_proj : Cert.algebraic_ProjIdeal_RefProjIdeal (hProjIdeal := Cert.ProjIdeal.Gen.facts) (hRefProjIdeal := Cert.RefProjIdeal.Gen.facts) := by
  intro m g m' g' _ hagree
  refine ⟨_, (θ_run _ _ _).mono (fun r h c => ⟨(h c).1.trans (Cert.ProjIdeal.InProj.result m c), (h c).2⟩) (Cert.ProjIdeal.Value.run_blocks m g),
    (θ_run _ _ _).mono (fun r h c => ⟨(h c).1.trans ?_, (h c).2⟩) (Cert.RefProjIdeal.InProj.value m' g')⟩
  obtain ⟨e0, e1⟩ := hagree c
  rw [e0, e1]

/-- The dense layer's kernel and its reference end at the same two results. -/
theorem algebraic_ffn : Cert.algebraic_FfnIdeal_RefFfnIdeal (hFfnIdeal := Cert.FfnIdeal.Gen.facts) (hRefFfnIdeal := Cert.RefFfnIdeal.Gen.facts) := by
  intro m g m' g' _ hagree
  refine ⟨fun c => Cert.Dense.dense (Cert.FfnIdeal.Dense.aX m c) (Cert.FfnIdeal.Dense.aW1 m c) (Cert.FfnIdeal.Dense.aW3 m c) (Cert.FfnIdeal.Dense.aW2 m c) (Cert.FfnIdeal.Dense.aG m c) (Cert.FfnIdeal.Dense.aB m c),
    fun c => Cert.Dense.dense (Cert.FfnIdeal.Dense.aX m c) (Cert.FfnIdeal.Dense.aW1 m c) (Cert.FfnIdeal.Dense.aW3 m c) (Cert.FfnIdeal.Dense.aW2 m c) (Cert.FfnIdeal.Dense.aG m c) (Cert.FfnIdeal.Dense.aB m c),
    (θ_run _ _ _).mono (fun r h c => ⟨(h c).1.trans (Cert.FfnIdeal.Dense.result_7 m c), (h c).2.1.trans (Cert.FfnIdeal.Dense.result_8 m c), (h c).2.2⟩) (Cert.FfnIdeal.Value.run_blocks m g),
    (θ_run _ _ _).mono (fun r h c => ⟨(h c).1.trans ?_, (h c).2.1.trans ?_, (h c).2.2⟩) (Cert.RefFfnIdeal.Dense.value m' g')⟩
  all_goals
    obtain ⟨e0, e1, e2, e3, e4, e5⟩ := hagree c
    rw [e0, e1, e2, e3, e4, e5]

/-- The second layer's projection and its reference end at the same product. -/
theorem algebraic_proj_rows : Cert.algebraic_ProjBIdeal_RefProjBIdeal (hProjBIdeal := Cert.ProjBIdeal.Gen.facts) (hRefProjBIdeal := Cert.RefProjBIdeal.Gen.facts) := by
  intro m g m' g' _ hagree
  refine ⟨_, (θ_run _ _ _).mono (fun r h c => ⟨(h c).1.trans (Cert.ProjBIdeal.InProj.result m c), (h c).2⟩) (Cert.ProjBIdeal.Value.run_blocks m g),
    (θ_run _ _ _).mono (fun r h c => ⟨(h c).1.trans ?_, (h c).2⟩) (Cert.RefProjBIdeal.InProj.value m' g')⟩
  obtain ⟨e0, e1, e2⟩ := hagree c
  rw [e0, e1]

/-- The merge's kernel and its reference end at the same two results. -/
theorem algebraic_merge : Cert.algebraic_MergeIdeal_RefMergeIdeal (hMergeIdeal := Cert.MergeIdeal.Gen.facts) (hRefMergeIdeal := Cert.RefMergeIdeal.Gen.facts) := by
  intro m g m' g' _ hagree
  refine ⟨fun c => Cert.MergeIdeal.Merge.whole m c, fun c => Cert.MergeIdeal.Merge.whole m c,
    (θ_run _ _ _).mono (fun r h c => ⟨(h c).1.trans (Cert.MergeIdeal.Merge.result_10 m c), (h c).2.1.trans (Cert.MergeIdeal.Merge.result_11 m c), (h c).2.2⟩) (Cert.MergeIdeal.Value.run_blocks m g),
    (θ_run _ _ _).mono (fun r h c => ⟨(h c).1.trans ?_, (h c).2.1.trans ?_, (h c).2.2⟩) (Cert.RefMergeIdeal.Merge.value m' g')⟩
  all_goals
    obtain ⟨e0, e1, e2, e3, e4, e5, e6, e7⟩ := hagree c
    rw [e0, e1, e2, e3, e4, e5, e6, e7]

/-- The projection's other call, of the last columns, and its reference end at the same columns. -/
theorem algebraic_misc : Cert.algebraic_MiscIdeal_RefMiscIdeal_pre_finite_rows (hMiscIdeal := Cert.MiscIdeal.Gen.facts)
    (hRefMiscIdeal := Cert.RefMiscIdeal.Gen.facts) (hPre_finite_rows := Cert.Pre_finite_rows.facts) := by
  intro m g m' g' hpre hagree
  haveI := Cert.Pre_finite_rows.facts
  have real := fun c => Cert.Pre_finite_rows.reals _ _ (Shape.Idx.first Cert.Pre_finite_rows.facts.h_S_) (congrFun (hpre c) _)
  refine ⟨_, (θ_run _ _ _).mono (fun r h c => ⟨(h c).1.trans (Cert.MiscIdeal.Misc.result m c), (h c).2⟩) (Cert.MiscIdeal.Value.run_blocks m g),
    (θ_run _ _ _).mono (fun r h c => ⟨(h c).1.trans ?_, (h c).2⟩) (Cert.RefMiscIdeal.Misc.value m' g' (fun c i => ?_) (fun c i => ?_))⟩
  all_goals
    obtain ⟨e0, e1⟩ := hagree c
  · rw [e0]
    exact (real c).1 i
  · rw [e1]
    exact (real c).2 i
  · rw [e0, e1]

/-- The same of the second layer. -/
theorem algebraic_misc_rows : Cert.algebraic_MiscBIdeal_RefMiscBIdeal_pre_finite_rows1 (hMiscBIdeal := Cert.MiscBIdeal.Gen.facts)
    (hRefMiscBIdeal := Cert.RefMiscBIdeal.Gen.facts) (hPre_finite_rows1 := Cert.Pre_finite_rows1.facts) := by
  intro m g m' g' hpre hagree
  haveI := Cert.Pre_finite_rows1.facts
  have real := fun c => Cert.Pre_finite_rows1.reals _ _ _ (Shape.Idx.first Cert.Pre_finite_rows1.facts.h_S_) (congrFun (hpre c) _)
  refine ⟨_, (θ_run _ _ _).mono (fun r h c => ⟨(h c).1.trans (Cert.MiscBIdeal.Misc.result m c), (h c).2⟩) (Cert.MiscBIdeal.Value.run_blocks m g),
    (θ_run _ _ _).mono (fun r h c => ⟨(h c).1.trans ?_, (h c).2⟩) (Cert.RefMiscBIdeal.Misc.value m' g' (fun c i => ?_) (fun c i => ?_))⟩
  all_goals
    obtain ⟨e0, e1, e2⟩ := hagree c
  · rw [e0]
    exact (real c).1 i
  · rw [e1]
    exact (real c).2 i
  · rw [e0, e1, e2]

/-- The tables' kernel and its reference end at the same two tables. -/
theorem algebraic_rope : Cert.algebraic_RopeIdeal_RefRopeIdeal (hRopeIdeal := Cert.RopeIdeal.Gen.facts) (hRefRopeIdeal := Cert.RefRopeIdeal.Gen.facts) := by
  intro m g m' g' _ hagree
  refine ⟨fun c => Cert.Rope.table Ideal.cos (Cert.RopeIdeal.Rope.aP m c), fun c => Cert.Rope.table Ideal.sin (Cert.RopeIdeal.Rope.aP m c),
    (θ_run _ _ _).mono (fun r h c => ⟨(h c).1.trans (Cert.RopeIdeal.Rope.result_2 m c), (h c).2.1.trans (Cert.RopeIdeal.Rope.result_3 m c), (h c).2.2⟩) (Cert.RopeIdeal.Value.run_blocks m g),
    (θ_run _ _ _).mono (fun r h c => ⟨(h c).1.trans ?_, (h c).2.1.trans ?_, (h c).2.2⟩) (Cert.RefRopeIdeal.Rope.value m' g')⟩
  all_goals
    have e0 := hagree c
    rw [e0]

theorem claim : Cert.Claim :=
  ⟨Cert.Kernel.Gen.facts, Cert.KernelIdeal.Gen.facts, Cert.ReferenceIdeal.Gen.facts, Cert.Proj.Gen.facts, Cert.ProjIdeal.Gen.facts, Cert.RefProjIdeal.Gen.facts,
    Cert.Ffn.Gen.facts, Cert.FfnIdeal.Gen.facts, Cert.RefFfnIdeal.Gen.facts, Cert.ProjB.Gen.facts, Cert.ProjBIdeal.Gen.facts, Cert.RefProjBIdeal.Gen.facts,
    Cert.Merge.Gen.facts, Cert.MergeIdeal.Gen.facts, Cert.RefMergeIdeal.Gen.facts, Cert.Misc.Gen.facts, Cert.MiscIdeal.Gen.facts, Cert.RefMiscIdeal.Gen.facts,
    Cert.MiscB.Gen.facts, Cert.MiscBIdeal.Gen.facts, Cert.RefMiscBIdeal.Gen.facts, Cert.Rope.Gen.facts, Cert.RopeIdeal.Gen.facts, Cert.RefRopeIdeal.Gen.facts, Cert.Pre_finite_scores.facts, Cert.Pre_finite_rows.facts, Cert.Pre_finite_rows1.facts,
    fun m g _ => Cert.Kernel.Attn.frame m g,
    fun m g _ => Cert.KernelIdeal.Attn.frame m g,
    fun m g _ => Cert.KernelIdeal.Attn.frame m g,
    fun m g _ => Cert.ReferenceIdeal.Attn.frame m g,
    fun m g _ => Cert.ReferenceIdeal.Attn.frame m g,
    fun m g _ => Cert.Proj.Gen.frame m g,
    fun m g _ => Cert.ProjIdeal.Gen.frame m g,
    fun m g _ => Cert.RefProjIdeal.InProj.frame m g,
    fun m g _ => Cert.Ffn.Gen.frame m g,
    fun m g _ => Cert.FfnIdeal.Gen.frame m g,
    fun m g _ => Cert.RefFfnIdeal.Dense.frame m g,
    fun m g _ => Cert.ProjB.Gen.frame m g,
    fun m g _ => Cert.ProjBIdeal.Gen.frame m g,
    fun m g _ => Cert.RefProjBIdeal.InProj.frame m g,
    fun m g _ => Cert.Merge.Gen.frame m g,
    fun m g _ => Cert.MergeIdeal.Gen.frame m g,
    fun m g _ => Cert.RefMergeIdeal.Merge.frame m g,
    fun m g _ => Cert.Misc.Gen.frame m g,
    fun m g _ => Cert.MiscIdeal.Gen.frame m g,
    fun m g _ => Cert.MiscIdeal.Gen.frame m g,
    fun m g _ => Cert.RefMiscIdeal.Misc.frame m g,
    fun m g _ => Cert.RefMiscIdeal.Misc.frame m g,
    fun m g _ => Cert.MiscB.Gen.frame m g,
    fun m g _ => Cert.MiscBIdeal.Gen.frame m g,
    fun m g _ => Cert.MiscBIdeal.Gen.frame m g,
    fun m g _ => Cert.RefMiscBIdeal.Misc.frame m g,
    fun m g _ => Cert.RefMiscBIdeal.Misc.frame m g,
    fun m g _ => Cert.Rope.Gen.frame m g,
    fun m g _ => Cert.RopeIdeal.Gen.frame m g,
    fun m g _ => Cert.RefRopeIdeal.Rope.frame m g,
    trivial,
    algebraic,
    trivial,
    algebraic_proj,
    trivial,
    algebraic_ffn,
    trivial,
    algebraic_proj_rows,
    trivial,
    algebraic_merge,
    trivial,
    algebraic_misc,
    trivial,
    algebraic_misc_rows,
    trivial,
    algebraic_rope⟩

end Cert.Proof

end
